-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_RefMemKvIdeal (m : (ℓ : Loc Cert.RefMemKvIdeal.nD Cert.RefMemKvIdeal.τ Cert.RefMemKvIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_Local (m : (ℓ : Loc Cert.Local.nD Cert.Local.τ Cert.Local.sig) → Buf (Elt Bits) ℓ) : Prop :=
  True

def Pre_LocalIdeal (m : (ℓ : Loc Cert.LocalIdeal.nD Cert.LocalIdeal.τ Cert.LocalIdeal.sig) → Buf (Elt Ideal) ℓ) : Prop :=
  True

def Pre_LocalIdeal_finite_scores [hPre_finite_scores : Cert.Pre_finite_scores.Facts] (m : (ℓ : Loc Cert.LocalIdeal.nD Cert.LocalIdeal.τ Cert.LocalIdeal.sig) → Buf (Elt Ideal) ℓ) : Prop :=
  ∀ c : Dev Cert.LocalIdeal.nD,
    (Cert.Pre_finite_scores.fn (F := Ideal) (m ((c.tc : Thread Cert.LocalIdeal.nD Cert.LocalIdeal.τ).loc Cert.LocalIdeal.main_arg0)) (m ((c.tc : Thread Cert.LocalIdeal.nD Cert.LocalIdeal.τ).loc Cert.LocalIdeal.main_arg1)) (m ((c.tc : Thread Cert.LocalIdeal.nD Cert.LocalIdeal.τ).loc Cert.LocalIdeal.main_arg2)) (m ((c.tc : Thread Cert.LocalIdeal.nD Cert.LocalIdeal.τ).loc Cert.LocalIdeal.main_arg3)) (m ((c.tc : Thread Cert.LocalIdeal.nD Cert.LocalIdeal.τ).loc Cert.LocalIdeal.main_arg4)) (m ((c.tc : Thread Cert.LocalIdeal.nD Cert.LocalIdeal.τ).loc Cert.LocalIdeal.main_arg5)) (m ((c.tc : Thread Cert.LocalIdeal.nD Cert.LocalIdeal.τ).loc Cert.LocalIdeal.main_arg6))) = (fun _ => 1#1)

def Pre_RefLocalIdeal (m : (ℓ : Loc Cert.RefLocalIdeal.nD Cert.RefLocalIdeal.τ Cert.RefLocalIdeal.sig) → Buf (Elt Ideal) ℓ) : Prop :=
  True

def Pre_RefLocalIdeal_finite_scores [hPre_finite_scores : Cert.Pre_finite_scores.Facts] (m : (ℓ : Loc Cert.RefLocalIdeal.nD Cert.RefLocalIdeal.τ Cert.RefLocalIdeal.sig) → Buf (Elt Ideal) ℓ) : Prop :=
  ∀ c : Dev Cert.RefLocalIdeal.nD,
    (Cert.Pre_finite_scores.fn (F := Ideal) (m ((c.tc : Thread Cert.RefLocalIdeal.nD Cert.RefLocalIdeal.τ).loc Cert.RefLocalIdeal.main_arg0)) (m ((c.tc : Thread Cert.RefLocalIdeal.nD Cert.RefLocalIdeal.τ).loc Cert.RefLocalIdeal.main_arg1)) (m ((c.tc : Thread Cert.RefLocalIdeal.nD Cert.RefLocalIdeal.τ).loc Cert.RefLocalIdeal.main_arg2)) (m ((c.tc : Thread Cert.RefLocalIdeal.nD Cert.RefLocalIdeal.τ).loc Cert.RefLocalIdeal.main_arg3)) (m ((c.tc : Thread Cert.RefLocalIdeal.nD Cert.RefLocalIdeal.τ).loc Cert.RefLocalIdeal.main_arg4)) (m ((c.tc : Thread Cert.RefLocalIdeal.nD Cert.RefLocalIdeal.τ).loc Cert.RefLocalIdeal.main_arg5)) (m ((c.tc : Thread Cert.RefLocalIdeal.nD Cert.RefLocalIdeal.τ).loc Cert.RefLocalIdeal.main_arg6))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_RefMidIdeal (m : (ℓ : Loc Cert.RefMidIdeal.nD Cert.RefMidIdeal.τ Cert.RefMidIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilIdeal_finite_proj [hPre_finite_proj : Cert.Pre_finite_proj.Facts] (m : (ℓ : Loc Cert.DilIdeal.nD Cert.DilIdeal.τ Cert.DilIdeal.sig) → Buf (Elt Ideal) ℓ) : Prop :=
  ∀ c : Dev Cert.DilIdeal.nD,
    (Cert.Pre_finite_proj.fn (F := Ideal) (m ((c.tc : Thread Cert.DilIdeal.nD Cert.DilIdeal.τ).loc Cert.DilIdeal.main_arg0))) = (fun _ => 1#1)

def Pre_RefDilIdeal (m : (ℓ : Loc Cert.RefDilIdeal.nD Cert.RefDilIdeal.τ Cert.RefDilIdeal.sig) → Buf (Elt Ideal) ℓ) : Prop :=
  True

def Pre_RefDilIdeal_finite_proj [hPre_finite_proj : Cert.Pre_finite_proj.Facts] (m : (ℓ : Loc Cert.RefDilIdeal.nD Cert.RefDilIdeal.τ Cert.RefDilIdeal.sig) → Buf (Elt Ideal) ℓ) : Prop :=
  ∀ c : Dev Cert.RefDilIdeal.nD,
    (Cert.Pre_finite_proj.fn (F := Ideal) (m ((c.tc : Thread Cert.RefDilIdeal.nD Cert.RefDilIdeal.τ).loc Cert.RefDilIdeal.main_arg0))) = (fun _ => 1#1)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_RefMemKvIdeal [hRefMemKvIdeal : Cert.RefMemKvIdeal.Facts] : Prop :=
  ∀ (m : (ℓ : Loc Cert.RefMemKvIdeal.nD Cert.RefMemKvIdeal.τ Cert.RefMemKvIdeal.sig) → Buf (Elt Ideal) ℓ) (g : Dev Cert.RefMemKvIdeal.nD → PrngReg), Pre_RefMemKvIdeal m →
    θ_run (Cert.RefMemKvIdeal.defs (F := Ideal)) (onTc (τ := Cert.RefMemKvIdeal.τ) (Cert.RefMemKvIdeal.main (F := Ideal))) ⟨m, fun _ => 0, g⟩ (fun r => (∀ c : Dev Cert.RefMemKvIdeal.nD,
      r.2.mem ((c.tc : Thread Cert.RefMemKvIdeal.nD Cert.RefMemKvIdeal.τ).loc Cert.RefMemKvIdeal.main_arg0) = m ((c.tc : Thread Cert.RefMemKvIdeal.nD Cert.RefMemKvIdeal.τ).loc Cert.RefMemKvIdeal.main_arg0)
      ∧ r.2.mem ((c.tc : Thread Cert.RefMemKvIdeal.nD Cert.RefMemKvIdeal.τ).loc Cert.RefMemKvIdeal.main_arg1) = m ((c.tc : Thread Cert.RefMemKvIdeal.nD Cert.RefMemKvIdeal.τ).loc Cert.RefMemKvIdeal.main_arg1)
      ∧ r.2.mem ((c.tc : Thread Cert.RefMemKvIdeal.nD Cert.RefMemKvIdeal.τ).loc Cert.RefMemKvIdeal.main_arg2) = m ((c.tc : Thread Cert.RefMemKvIdeal.nD Cert.RefMemKvIdeal.τ).loc Cert.RefMemKvIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3))
      ∧ r.2.sem = fun _ => 0)

def quiescent_Local [hLocal : Cert.Local.Facts] : Prop :=
  ∀ (m : (ℓ : Loc Cert.Local.nD Cert.Local.τ Cert.Local.sig) → Buf (Elt Bits) ℓ) (g : Dev Cert.Local.nD → PrngReg), Pre_Local m →
    θ_run (Cert.Local.defs (F := Bits)) (onTc (τ := Cert.Local.τ) (Cert.Local.main (F := Bits))) ⟨m, fun _ => 0, g⟩ (fun r => (∀ c : Dev Cert.Local.nD,
      r.2.mem ((c.tc : Thread Cert.Local.nD Cert.Local.τ).loc Cert.Local.main_arg0) = m ((c.tc : Thread Cert.Local.nD Cert.Local.τ).loc Cert.Local.main_arg0)
      ∧ r.2.mem ((c.tc : Thread Cert.Local.nD Cert.Local.τ).loc Cert.Local.main_arg1) = m ((c.tc : Thread Cert.Local.nD Cert.Local.τ).loc Cert.Local.main_arg1)
      ∧ r.2.mem ((c.tc : Thread Cert.Local.nD Cert.Local.τ).loc Cert.Local.main_arg2) = m ((c.tc : Thread Cert.Local.nD Cert.Local.τ).loc Cert.Local.main_arg2)
      ∧ r.2.mem ((c.tc : Thread Cert.Local.nD Cert.Local.τ).loc Cert.Local.main_arg3) = m ((c.tc : Thread Cert.Local.nD Cert.Local.τ).loc Cert.Local.main_arg3)
      ∧ r.2.mem ((c.tc : Thread Cert.Local.nD Cert.Local.τ).loc Cert.Local.main_arg4) = m ((c.tc : Thread Cert.Local.nD Cert.Local.τ).loc Cert.Local.main_arg4)
      ∧ r.2.mem ((c.tc : Thread Cert.Local.nD Cert.Local.τ).loc Cert.Local.main_arg5) = m ((c.tc : Thread Cert.Local.nD Cert.Local.τ).loc Cert.Local.main_arg5)
      ∧ r.2.mem ((c.tc : Thread Cert.Local.nD Cert.Local.τ).loc Cert.Local.main_arg6) = m ((c.tc : Thread Cert.Local.nD Cert.Local.τ).loc Cert.Local.main_arg6))
      ∧ r.2.sem = fun _ => 0)

def quiescent_LocalIdeal [hLocalIdeal : Cert.LocalIdeal.Facts] : Prop :=
  ∀ (m : (ℓ : Loc Cert.LocalIdeal.nD Cert.LocalIdeal.τ Cert.LocalIdeal.sig) → Buf (Elt Ideal) ℓ) (g : Dev Cert.LocalIdeal.nD → PrngReg), Pre_LocalIdeal m →
    θ_run (Cert.LocalIdeal.defs (F := Ideal)) (onTc (τ := Cert.LocalIdeal.τ) (Cert.LocalIdeal.main (F := Ideal))) ⟨m, fun _ => 0, g⟩ (fun r => (∀ c : Dev Cert.LocalIdeal.nD,
      r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
      ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
      ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
      ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3)
      ∧ r.2.mem ((c.tc : Thread Cert.LocalIdeal.nD Cert.LocalIdeal.τ).loc Cert.LocalIdeal.main_arg4) = m ((c.tc : Thread Cert.LocalIdeal.nD Cert.LocalIdeal.τ).loc Cert.LocalIdeal.main_arg4)
      ∧ r.2.mem ((c.tc : Thread Cert.LocalIdeal.nD Cert.LocalIdeal.τ).loc Cert.LocalIdeal.main_arg5) = m ((c.tc : Thread Cert.LocalIdeal.nD Cert.LocalIdeal.τ).loc Cert.LocalIdeal.main_arg5)
      ∧ r.2.mem ((c.tc : Thread Cert.LocalIdeal.nD Cert.LocalIdeal.τ).loc Cert.LocalIdeal.main_arg6) = m ((c.tc : Thread Cert.LocalIdeal.nD Cert.LocalIdeal.τ).loc Cert.LocalIdeal.main_arg6))
      ∧ r.2.sem = fun _ => 0)

def quiescent_LocalIdeal_pre_finite_scores [hLocalIdeal : Cert.LocalIdeal.Facts] [hPre_finite_scores : Cert.Pre_finite_scores.Facts] : Prop :=
  ∀ (m : (ℓ : Loc Cert.LocalIdeal.nD Cert.LocalIdeal.τ Cert.LocalIdeal.sig) → Buf (Elt Ideal) ℓ) (g : Dev Cert.LocalIdeal.nD → PrngReg), Pre_LocalIdeal_finite_scores m →
    θ_run (Cert.LocalIdeal.defs (F := Ideal)) (onTc (τ := Cert.LocalIdeal.τ) (Cert.LocalIdeal.main (F := Ideal))) ⟨m, fun _ => 0, g⟩ (fun r => (∀ c : Dev Cert.LocalIdeal.nD,
      r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
      ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
      ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
      ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3)
      ∧ r.2.mem ((c.tc : Thread Cert.LocalIdeal.nD Cert.LocalIdeal.τ).loc Cert.LocalIdeal.main_arg4) = m ((c.tc : Thread Cert.LocalIdeal.nD Cert.LocalIdeal.τ).loc Cert.LocalIdeal.main_arg4)
      ∧ r.2.mem ((c.tc : Thread Cert.LocalIdeal.nD Cert.LocalIdeal.τ).loc Cert.LocalIdeal.main_arg5) = m ((c.tc : Thread Cert.LocalIdeal.nD Cert.LocalIdeal.τ).loc Cert.LocalIdeal.main_arg5)
      ∧ r.2.mem ((c.tc : Thread Cert.LocalIdeal.nD Cert.LocalIdeal.τ).loc Cert.LocalIdeal.main_arg6) = m ((c.tc : Thread Cert.LocalIdeal.nD Cert.LocalIdeal.τ).loc Cert.LocalIdeal.main_arg6))
      ∧ r.2.sem = fun _ => 0)

def quiescent_RefLocalIdeal [hRefLocalIdeal : Cert.RefLocalIdeal.Facts] : Prop :=
  ∀ (m : (ℓ : Loc Cert.RefLocalIdeal.nD Cert.RefLocalIdeal.τ Cert.RefLocalIdeal.sig) → Buf (Elt Ideal) ℓ) (g : Dev Cert.RefLocalIdeal.nD → PrngReg), Pre_RefLocalIdeal m →
    θ_run (Cert.RefLocalIdeal.defs (F := Ideal)) (onTc (τ := Cert.RefLocalIdeal.τ) (Cert.RefLocalIdeal.main (F := Ideal))) ⟨m, fun _ => 0, g⟩ (fun r => (∀ c : Dev Cert.RefLocalIdeal.nD,
      r.2.mem ((c.tc : Thread Cert.RefLocalIdeal.nD Cert.RefLocalIdeal.τ).loc Cert.RefLocalIdeal.main_arg0) = m ((c.tc : Thread Cert.RefLocalIdeal.nD Cert.RefLocalIdeal.τ).loc Cert.RefLocalIdeal.main_arg0)
      ∧ r.2.mem ((c.tc : Thread Cert.RefLocalIdeal.nD Cert.RefLocalIdeal.τ).loc Cert.RefLocalIdeal.main_arg1) = m ((c.tc : Thread Cert.RefLocalIdeal.nD Cert.RefLocalIdeal.τ).loc Cert.RefLocalIdeal.main_arg1)
      ∧ r.2.mem ((c.tc : Thread Cert.RefLocalIdeal.nD Cert.RefLocalIdeal.τ).loc Cert.RefLocalIdeal.main_arg2) = m ((c.tc : Thread Cert.RefLocalIdeal.nD Cert.RefLocalIdeal.τ).loc Cert.RefLocalIdeal.main_arg2)
      ∧ r.2.mem ((c.tc : Thread Cert.RefLocalIdeal.nD Cert.RefLocalIdeal.τ).loc Cert.RefLocalIdeal.main_arg3) = m ((c.tc : Thread Cert.RefLocalIdeal.nD Cert.RefLocalIdeal.τ).loc Cert.RefLocalIdeal.main_arg3)
      ∧ r.2.mem ((c.tc : Thread Cert.RefLocalIdeal.nD Cert.RefLocalIdeal.τ).loc Cert.RefLocalIdeal.main_arg4) = m ((c.tc : Thread Cert.RefLocalIdeal.nD Cert.RefLocalIdeal.τ).loc Cert.RefLocalIdeal.main_arg4)
      ∧ r.2.mem ((c.tc : Thread Cert.RefLocalIdeal.nD Cert.RefLocalIdeal.τ).loc Cert.RefLocalIdeal.main_arg5) = m ((c.tc : Thread Cert.RefLocalIdeal.nD Cert.RefLocalIdeal.τ).loc Cert.RefLocalIdeal.main_arg5)
      ∧ r.2.mem ((c.tc : Thread Cert.RefLocalIdeal.nD Cert.RefLocalIdeal.τ).loc Cert.RefLocalIdeal.main_arg6) = m ((c.tc : Thread Cert.RefLocalIdeal.nD Cert.RefLocalIdeal.τ).loc Cert.RefLocalIdeal.main_arg6))
      ∧ r.2.sem = fun _ => 0)

def quiescent_RefLocalIdeal_pre_finite_scores [hRefLocalIdeal : Cert.RefLocalIdeal.Facts] [hPre_finite_scores : Cert.Pre_finite_scores.Facts] : Prop :=
  ∀ (m : (ℓ : Loc Cert.RefLocalIdeal.nD Cert.RefLocalIdeal.τ Cert.RefLocalIdeal.sig) → Buf (Elt Ideal) ℓ) (g : Dev Cert.RefLocalIdeal.nD → PrngReg), Pre_RefLocalIdeal_finite_scores m →
    θ_run (Cert.RefLocalIdeal.defs (F := Ideal)) (onTc (τ := Cert.RefLocalIdeal.τ) (Cert.RefLocalIdeal.main (F := Ideal))) ⟨m, fun _ => 0, g⟩ (fun r => (∀ c : Dev Cert.RefLocalIdeal.nD,
      r.2.mem ((c.tc : Thread Cert.RefLocalIdeal.nD Cert.RefLocalIdeal.τ).loc Cert.RefLocalIdeal.main_arg0) = m ((c.tc : Thread Cert.RefLocalIdeal.nD Cert.RefLocalIdeal.τ).loc Cert.RefLocalIdeal.main_arg0)
      ∧ r.2.mem ((c.tc : Thread Cert.RefLocalIdeal.nD Cert.RefLocalIdeal.τ).loc Cert.RefLocalIdeal.main_arg1) = m ((c.tc : Thread Cert.RefLocalIdeal.nD Cert.RefLocalIdeal.τ).loc Cert.RefLocalIdeal.main_arg1)
      ∧ r.2.mem ((c.tc : Thread Cert.RefLocalIdeal.nD Cert.RefLocalIdeal.τ).loc Cert.RefLocalIdeal.main_arg2) = m ((c.tc : Thread Cert.RefLocalIdeal.nD Cert.RefLocalIdeal.τ).loc Cert.RefLocalIdeal.main_arg2)
      ∧ r.2.mem ((c.tc : Thread Cert.RefLocalIdeal.nD Cert.RefLocalIdeal.τ).loc Cert.RefLocalIdeal.main_arg3) = m ((c.tc : Thread Cert.RefLocalIdeal.nD Cert.RefLocalIdeal.τ).loc Cert.RefLocalIdeal.main_arg3)
      ∧ r.2.mem ((c.tc : Thread Cert.RefLocalIdeal.nD Cert.RefLocalIdeal.τ).loc Cert.RefLocalIdeal.main_arg4) = m ((c.tc : Thread Cert.RefLocalIdeal.nD Cert.RefLocalIdeal.τ).loc Cert.RefLocalIdeal.main_arg4)
      ∧ r.2.mem ((c.tc : Thread Cert.RefLocalIdeal.nD Cert.RefLocalIdeal.τ).loc Cert.RefLocalIdeal.main_arg5) = m ((c.tc : Thread Cert.RefLocalIdeal.nD Cert.RefLocalIdeal.τ).loc Cert.RefLocalIdeal.main_arg5)
      ∧ r.2.mem ((c.tc : Thread Cert.RefLocalIdeal.nD Cert.RefLocalIdeal.τ).loc Cert.RefLocalIdeal.main_arg6) = m ((c.tc : Thread Cert.RefLocalIdeal.nD Cert.RefLocalIdeal.τ).loc Cert.RefLocalIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_RefMidIdeal [hRefMidIdeal : Cert.RefMidIdeal.Facts] : Prop :=
  ∀ (m : (ℓ : Loc Cert.RefMidIdeal.nD Cert.RefMidIdeal.τ Cert.RefMidIdeal.sig) → Buf (Elt Ideal) ℓ) (g : Dev Cert.RefMidIdeal.nD → PrngReg), Pre_RefMidIdeal m →
    θ_run (Cert.RefMidIdeal.defs (F := Ideal)) (onTc (τ := Cert.RefMidIdeal.τ) (Cert.RefMidIdeal.main (F := Ideal))) ⟨m, fun _ => 0, g⟩ (fun r => (∀ c : Dev Cert.RefMidIdeal.nD,
      r.2.mem ((c.tc : Thread Cert.RefMidIdeal.nD Cert.RefMidIdeal.τ).loc Cert.RefMidIdeal.main_arg0) = m ((c.tc : Thread Cert.RefMidIdeal.nD Cert.RefMidIdeal.τ).loc Cert.RefMidIdeal.main_arg0)
      ∧ r.2.mem ((c.tc : Thread Cert.RefMidIdeal.nD Cert.RefMidIdeal.τ).loc Cert.RefMidIdeal.main_arg1) = m ((c.tc : Thread Cert.RefMidIdeal.nD Cert.RefMidIdeal.τ).loc Cert.RefMidIdeal.main_arg1)
      ∧ r.2.mem ((c.tc : Thread Cert.RefMidIdeal.nD Cert.RefMidIdeal.τ).loc Cert.RefMidIdeal.main_arg2) = m ((c.tc : Thread Cert.RefMidIdeal.nD Cert.RefMidIdeal.τ).loc Cert.RefMidIdeal.main_arg2)
      ∧ r.2.mem ((c.tc : Thread Cert.RefMidIdeal.nD Cert.RefMidIdeal.τ).loc Cert.RefMidIdeal.main_arg3) = m ((c.tc : Thread Cert.RefMidIdeal.nD Cert.RefMidIdeal.τ).loc Cert.RefMidIdeal.main_arg3)
      ∧ r.2.mem ((c.tc : Thread Cert.RefMidIdeal.nD Cert.RefMidIdeal.τ).loc Cert.RefMidIdeal.main_arg4) = m ((c.tc : Thread Cert.RefMidIdeal.nD Cert.RefMidIdeal.τ).loc Cert.RefMidIdeal.main_arg4)
      ∧ r.2.mem ((c.tc : Thread Cert.RefMidIdeal.nD Cert.RefMidIdeal.τ).loc Cert.RefMidIdeal.main_arg5) = m ((c.tc : Thread Cert.RefMidIdeal.nD Cert.RefMidIdeal.τ).loc Cert.RefMidIdeal.main_arg5)
      ∧ r.2.mem ((c.tc : Thread Cert.RefMidIdeal.nD Cert.RefMidIdeal.τ).loc Cert.RefMidIdeal.main_arg6) = m ((c.tc : Thread Cert.RefMidIdeal.nD Cert.RefMidIdeal.τ).loc Cert.RefMidIdeal.main_arg6)
      ∧ r.2.mem ((c.tc : Thread Cert.RefMidIdeal.nD Cert.RefMidIdeal.τ).loc Cert.RefMidIdeal.main_arg7) = m ((c.tc : Thread Cert.RefMidIdeal.nD Cert.RefMidIdeal.τ).loc Cert.RefMidIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6)
      ∧ r.2.mem ((c.tc : Thread Cert.RefOutIdeal.nD Cert.RefOutIdeal.τ).loc Cert.RefOutIdeal.main_arg7) = m ((c.tc : Thread Cert.RefOutIdeal.nD Cert.RefOutIdeal.τ).loc Cert.RefOutIdeal.main_arg7))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ r.2.sem = fun _ => 0)

def quiescent_DilIdeal_pre_finite_proj [hDilIdeal : Cert.DilIdeal.Facts] [hPre_finite_proj : Cert.Pre_finite_proj.Facts] : Prop :=
  ∀ (m : (ℓ : Loc Cert.DilIdeal.nD Cert.DilIdeal.τ Cert.DilIdeal.sig) → Buf (Elt Ideal) ℓ) (g : Dev Cert.DilIdeal.nD → PrngReg), Pre_DilIdeal_finite_proj m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ r.2.sem = fun _ => 0)

def quiescent_RefDilIdeal [hRefDilIdeal : Cert.RefDilIdeal.Facts] : Prop :=
  ∀ (m : (ℓ : Loc Cert.RefDilIdeal.nD Cert.RefDilIdeal.τ Cert.RefDilIdeal.sig) → Buf (Elt Ideal) ℓ) (g : Dev Cert.RefDilIdeal.nD → PrngReg), Pre_RefDilIdeal m →
    θ_run (Cert.RefDilIdeal.defs (F := Ideal)) (onTc (τ := Cert.RefDilIdeal.τ) (Cert.RefDilIdeal.main (F := Ideal))) ⟨m, fun _ => 0, g⟩ (fun r => (∀ c : Dev Cert.RefDilIdeal.nD,
      r.2.mem ((c.tc : Thread Cert.RefDilIdeal.nD Cert.RefDilIdeal.τ).loc Cert.RefDilIdeal.main_arg0) = m ((c.tc : Thread Cert.RefDilIdeal.nD Cert.RefDilIdeal.τ).loc Cert.RefDilIdeal.main_arg0))
      ∧ r.2.sem = fun _ => 0)

def quiescent_RefDilIdeal_pre_finite_proj [hRefDilIdeal : Cert.RefDilIdeal.Facts] [hPre_finite_proj : Cert.Pre_finite_proj.Facts] : Prop :=
  ∀ (m : (ℓ : Loc Cert.RefDilIdeal.nD Cert.RefDilIdeal.τ Cert.RefDilIdeal.sig) → Buf (Elt Ideal) ℓ) (g : Dev Cert.RefDilIdeal.nD → PrngReg), Pre_RefDilIdeal_finite_proj m →
    θ_run (Cert.RefDilIdeal.defs (F := Ideal)) (onTc (τ := Cert.RefDilIdeal.τ) (Cert.RefDilIdeal.main (F := Ideal))) ⟨m, fun _ => 0, g⟩ (fun r => (∀ c : Dev Cert.RefDilIdeal.nD,
      r.2.mem ((c.tc : Thread Cert.RefDilIdeal.nD Cert.RefDilIdeal.τ).loc Cert.RefDilIdeal.main_arg0) = m ((c.tc : Thread Cert.RefDilIdeal.nD Cert.RefDilIdeal.τ).loc Cert.RefDilIdeal.main_arg0))
      ∧ r.2.sem = fun _ => 0)

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v13) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1))

def preserves_MemKv_MemKvIdeal : Prop :=
  True

def algebraic_MemKvIdeal_RefMemKvIdeal [hMemKvIdeal : Cert.MemKvIdeal.Facts] [hRefMemKvIdeal : Cert.RefMemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.RefMemKvIdeal.nD Cert.RefMemKvIdeal.τ Cert.RefMemKvIdeal.sig) → Buf (Elt Ideal) ℓ) (g' : Dev Cert.RefMemKvIdeal.nD → PrngReg), Pre_MemKvIdeal m →
    (∀ c : Dev Cert.MemKvIdeal.nD,
      m' ((c.tc : Thread Cert.RefMemKvIdeal.nD Cert.RefMemKvIdeal.τ).loc Cert.RefMemKvIdeal.main_arg0) = m ((c.tc : Thread Cert.MemKvIdeal.nD Cert.MemKvIdeal.τ).loc Cert.MemKvIdeal.main_arg0)
      ∧ m' ((c.tc : Thread Cert.RefMemKvIdeal.nD Cert.RefMemKvIdeal.τ).loc Cert.RefMemKvIdeal.main_arg1) = m ((c.tc : Thread Cert.MemKvIdeal.nD Cert.MemKvIdeal.τ).loc Cert.MemKvIdeal.main_arg1)
      ∧ m' ((c.tc : Thread Cert.RefMemKvIdeal.nD Cert.RefMemKvIdeal.τ).loc Cert.RefMemKvIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.RefMemKvIdeal.defs (F := Ideal)) (onTc (τ := Cert.RefMemKvIdeal.τ) (Cert.RefMemKvIdeal.main (F := Ideal))) ⟨m', fun _ => 0, g'⟩ (fun r => ∀ c : Dev Cert.RefMemKvIdeal.nD,
          r.2.mem ((c.tc : Thread Cert.RefMemKvIdeal.nD Cert.RefMemKvIdeal.τ).loc Cert.RefMemKvIdeal.main_v39) = v0 c
          ∧ r.2.mem ((c.tc : Thread Cert.RefMemKvIdeal.nD Cert.RefMemKvIdeal.τ).loc Cert.RefMemKvIdeal.main_arg0) = m' ((c.tc : Thread Cert.RefMemKvIdeal.nD Cert.RefMemKvIdeal.τ).loc Cert.RefMemKvIdeal.main_arg0)
          ∧ r.2.mem ((c.tc : Thread Cert.RefMemKvIdeal.nD Cert.RefMemKvIdeal.τ).loc Cert.RefMemKvIdeal.main_arg1) = m' ((c.tc : Thread Cert.RefMemKvIdeal.nD Cert.RefMemKvIdeal.τ).loc Cert.RefMemKvIdeal.main_arg1)
          ∧ r.2.mem ((c.tc : Thread Cert.RefMemKvIdeal.nD Cert.RefMemKvIdeal.τ).loc Cert.RefMemKvIdeal.main_arg2) = m' ((c.tc : Thread Cert.RefMemKvIdeal.nD Cert.RefMemKvIdeal.τ).loc Cert.RefMemKvIdeal.main_arg2))

def preserves_In_InIdeal : Prop :=
  True

def algebraic_InIdeal_RefInIdeal [hInIdeal : Cert.InIdeal.Facts] [hRefInIdeal : Cert.RefInIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.RefInIdeal.nD Cert.RefInIdeal.τ Cert.RefInIdeal.sig) → Buf (Elt Ideal) ℓ) (g' : Dev Cert.RefInIdeal.nD → PrngReg), Pre_InIdeal m →
    (∀ c : Dev Cert.InIdeal.nD,
      m' ((c.tc : Thread Cert.RefInIdeal.nD Cert.RefInIdeal.τ).loc Cert.RefInIdeal.main_arg0) = m ((c.tc : Thread Cert.InIdeal.nD Cert.InIdeal.τ).loc Cert.InIdeal.main_arg0)
      ∧ m' ((c.tc : Thread Cert.RefInIdeal.nD Cert.RefInIdeal.τ).loc Cert.RefInIdeal.main_arg1) = m ((c.tc : Thread Cert.InIdeal.nD Cert.InIdeal.τ).loc Cert.InIdeal.main_arg1)
      ∧ m' ((c.tc : Thread Cert.RefInIdeal.nD Cert.RefInIdeal.τ).loc Cert.RefInIdeal.main_arg2) = m ((c.tc : Thread Cert.InIdeal.nD Cert.InIdeal.τ).loc Cert.InIdeal.main_arg2)
      ∧ m' ((c.tc : Thread Cert.RefInIdeal.nD Cert.RefInIdeal.τ).loc Cert.RefInIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v3_0)) (v1 : (c : Dev Cert.InIdeal.nD) → Buf (Elt Ideal) ((c.tc : Thread Cert.InIdeal.nD Cert.InIdeal.τ).loc Cert.InIdeal.main_v3_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3_0) = v0 c
          ∧ r.2.mem ((c.tc : Thread Cert.InIdeal.nD Cert.InIdeal.τ).loc Cert.InIdeal.main_v3_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v33) = v0 c
          ∧ r.2.mem ((c.tc : Thread Cert.RefInIdeal.nD Cert.RefInIdeal.τ).loc Cert.RefInIdeal.main_v55) = v1 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3))

def preserves_Local_LocalIdeal : Prop :=
  True

def algebraic_LocalIdeal_RefLocalIdeal_pre_finite_scores [hLocalIdeal : Cert.LocalIdeal.Facts] [hRefLocalIdeal : Cert.RefLocalIdeal.Facts] [hPre_finite_scores : Cert.Pre_finite_scores.Facts] : Prop :=
  ∀ (m : (ℓ : Loc Cert.LocalIdeal.nD Cert.LocalIdeal.τ Cert.LocalIdeal.sig) → Buf (Elt Ideal) ℓ) (g : Dev Cert.LocalIdeal.nD → PrngReg)
    (m' : (ℓ : Loc Cert.RefLocalIdeal.nD Cert.RefLocalIdeal.τ Cert.RefLocalIdeal.sig) → Buf (Elt Ideal) ℓ) (g' : Dev Cert.RefLocalIdeal.nD → PrngReg), Pre_LocalIdeal_finite_scores m →
    (∀ c : Dev Cert.LocalIdeal.nD,
      m' ((c.tc : Thread Cert.RefLocalIdeal.nD Cert.RefLocalIdeal.τ).loc Cert.RefLocalIdeal.main_arg0) = m ((c.tc : Thread Cert.LocalIdeal.nD Cert.LocalIdeal.τ).loc Cert.LocalIdeal.main_arg0)
      ∧ m' ((c.tc : Thread Cert.RefLocalIdeal.nD Cert.RefLocalIdeal.τ).loc Cert.RefLocalIdeal.main_arg1) = m ((c.tc : Thread Cert.LocalIdeal.nD Cert.LocalIdeal.τ).loc Cert.LocalIdeal.main_arg1)
      ∧ m' ((c.tc : Thread Cert.RefLocalIdeal.nD Cert.RefLocalIdeal.τ).loc Cert.RefLocalIdeal.main_arg2) = m ((c.tc : Thread Cert.LocalIdeal.nD Cert.LocalIdeal.τ).loc Cert.LocalIdeal.main_arg2)
      ∧ m' ((c.tc : Thread Cert.RefLocalIdeal.nD Cert.RefLocalIdeal.τ).loc Cert.RefLocalIdeal.main_arg3) = m ((c.tc : Thread Cert.LocalIdeal.nD Cert.LocalIdeal.τ).loc Cert.LocalIdeal.main_arg3)
      ∧ m' ((c.tc : Thread Cert.RefLocalIdeal.nD Cert.RefLocalIdeal.τ).loc Cert.RefLocalIdeal.main_arg4) = m ((c.tc : Thread Cert.LocalIdeal.nD Cert.LocalIdeal.τ).loc Cert.LocalIdeal.main_arg4)
      ∧ m' ((c.tc : Thread Cert.RefLocalIdeal.nD Cert.RefLocalIdeal.τ).loc Cert.RefLocalIdeal.main_arg5) = m ((c.tc : Thread Cert.LocalIdeal.nD Cert.LocalIdeal.τ).loc Cert.LocalIdeal.main_arg5)
      ∧ m' ((c.tc : Thread Cert.RefLocalIdeal.nD Cert.RefLocalIdeal.τ).loc Cert.RefLocalIdeal.main_arg6) = m ((c.tc : Thread Cert.LocalIdeal.nD Cert.LocalIdeal.τ).loc Cert.LocalIdeal.main_arg6)) →
    ∃ (v0 : (c : Dev Cert.LocalIdeal.nD) → Buf (Elt Ideal) ((c.tc : Thread Cert.LocalIdeal.nD Cert.LocalIdeal.τ).loc Cert.LocalIdeal.main_v3)),
      θ_run (Cert.LocalIdeal.defs (F := Ideal)) (onTc (τ := Cert.LocalIdeal.τ) (Cert.LocalIdeal.main (F := Ideal))) ⟨m, fun _ => 0, g⟩ (fun r => ∀ c : Dev Cert.LocalIdeal.nD,
          r.2.mem ((c.tc : Thread Cert.LocalIdeal.nD Cert.LocalIdeal.τ).loc Cert.LocalIdeal.main_v3) = v0 c
          ∧ r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
          ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
          ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
          ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3)
          ∧ r.2.mem ((c.tc : Thread Cert.LocalIdeal.nD Cert.LocalIdeal.τ).loc Cert.LocalIdeal.main_arg4) = m ((c.tc : Thread Cert.LocalIdeal.nD Cert.LocalIdeal.τ).loc Cert.LocalIdeal.main_arg4)
          ∧ r.2.mem ((c.tc : Thread Cert.LocalIdeal.nD Cert.LocalIdeal.τ).loc Cert.LocalIdeal.main_arg5) = m ((c.tc : Thread Cert.LocalIdeal.nD Cert.LocalIdeal.τ).loc Cert.LocalIdeal.main_arg5)
          ∧ r.2.mem ((c.tc : Thread Cert.LocalIdeal.nD Cert.LocalIdeal.τ).loc Cert.LocalIdeal.main_arg6) = m ((c.tc : Thread Cert.LocalIdeal.nD Cert.LocalIdeal.τ).loc Cert.LocalIdeal.main_arg6))
      ∧ θ_run (Cert.RefLocalIdeal.defs (F := Ideal)) (onTc (τ := Cert.RefLocalIdeal.τ) (Cert.RefLocalIdeal.main (F := Ideal))) ⟨m', fun _ => 0, g'⟩ (fun r => ∀ c : Dev Cert.RefLocalIdeal.nD,
          r.2.mem ((c.tc : Thread Cert.RefLocalIdeal.nD Cert.RefLocalIdeal.τ).loc Cert.RefLocalIdeal.main_v131) = v0 c
          ∧ r.2.mem ((c.tc : Thread Cert.RefLocalIdeal.nD Cert.RefLocalIdeal.τ).loc Cert.RefLocalIdeal.main_arg0) = m' ((c.tc : Thread Cert.RefLocalIdeal.nD Cert.RefLocalIdeal.τ).loc Cert.RefLocalIdeal.main_arg0)
          ∧ r.2.mem ((c.tc : Thread Cert.RefLocalIdeal.nD Cert.RefLocalIdeal.τ).loc Cert.RefLocalIdeal.main_arg1) = m' ((c.tc : Thread Cert.RefLocalIdeal.nD Cert.RefLocalIdeal.τ).loc Cert.RefLocalIdeal.main_arg1)
          ∧ r.2.mem ((c.tc : Thread Cert.RefLocalIdeal.nD Cert.RefLocalIdeal.τ).loc Cert.RefLocalIdeal.main_arg2) = m' ((c.tc : Thread Cert.RefLocalIdeal.nD Cert.RefLocalIdeal.τ).loc Cert.RefLocalIdeal.main_arg2)
          ∧ r.2.mem ((c.tc : Thread Cert.RefLocalIdeal.nD Cert.RefLocalIdeal.τ).loc Cert.RefLocalIdeal.main_arg3) = m' ((c.tc : Thread Cert.RefLocalIdeal.nD Cert.RefLocalIdeal.τ).loc Cert.RefLocalIdeal.main_arg3)
          ∧ r.2.mem ((c.tc : Thread Cert.RefLocalIdeal.nD Cert.RefLocalIdeal.τ).loc Cert.RefLocalIdeal.main_arg4) = m' ((c.tc : Thread Cert.RefLocalIdeal.nD Cert.RefLocalIdeal.τ).loc Cert.RefLocalIdeal.main_arg4)
          ∧ r.2.mem ((c.tc : Thread Cert.RefLocalIdeal.nD Cert.RefLocalIdeal.τ).loc Cert.RefLocalIdeal.main_arg5) = m' ((c.tc : Thread Cert.RefLocalIdeal.nD Cert.RefLocalIdeal.τ).loc Cert.RefLocalIdeal.main_arg5)
          ∧ r.2.mem ((c.tc : Thread Cert.RefLocalIdeal.nD Cert.RefLocalIdeal.τ).loc Cert.RefLocalIdeal.main_arg6) = m' ((c.tc : Thread Cert.RefLocalIdeal.nD Cert.RefLocalIdeal.τ).loc Cert.RefLocalIdeal.main_arg6))

def preserves_Mid_MidIdeal : Prop :=
  True

def algebraic_MidIdeal_RefMidIdeal [hMidIdeal : Cert.MidIdeal.Facts] [hRefMidIdeal : Cert.RefMidIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.RefMidIdeal.nD Cert.RefMidIdeal.τ Cert.RefMidIdeal.sig) → Buf (Elt Ideal) ℓ) (g' : Dev Cert.RefMidIdeal.nD → PrngReg), Pre_MidIdeal m →
    (∀ c : Dev Cert.MidIdeal.nD,
      m' ((c.tc : Thread Cert.RefMidIdeal.nD Cert.RefMidIdeal.τ).loc Cert.RefMidIdeal.main_arg0) = m ((c.tc : Thread Cert.MidIdeal.nD Cert.MidIdeal.τ).loc Cert.MidIdeal.main_arg0)
      ∧ m' ((c.tc : Thread Cert.RefMidIdeal.nD Cert.RefMidIdeal.τ).loc Cert.RefMidIdeal.main_arg1) = m ((c.tc : Thread Cert.MidIdeal.nD Cert.MidIdeal.τ).loc Cert.MidIdeal.main_arg1)
      ∧ m' ((c.tc : Thread Cert.RefMidIdeal.nD Cert.RefMidIdeal.τ).loc Cert.RefMidIdeal.main_arg2) = m ((c.tc : Thread Cert.MidIdeal.nD Cert.MidIdeal.τ).loc Cert.MidIdeal.main_arg2)
      ∧ m' ((c.tc : Thread Cert.RefMidIdeal.nD Cert.RefMidIdeal.τ).loc Cert.RefMidIdeal.main_arg3) = m ((c.tc : Thread Cert.MidIdeal.nD Cert.MidIdeal.τ).loc Cert.MidIdeal.main_arg3)
      ∧ m' ((c.tc : Thread Cert.RefMidIdeal.nD Cert.RefMidIdeal.τ).loc Cert.RefMidIdeal.main_arg4) = m ((c.tc : Thread Cert.MidIdeal.nD Cert.MidIdeal.τ).loc Cert.MidIdeal.main_arg4)
      ∧ m' ((c.tc : Thread Cert.RefMidIdeal.nD Cert.RefMidIdeal.τ).loc Cert.RefMidIdeal.main_arg5) = m ((c.tc : Thread Cert.MidIdeal.nD Cert.MidIdeal.τ).loc Cert.MidIdeal.main_arg5)
      ∧ m' ((c.tc : Thread Cert.RefMidIdeal.nD Cert.RefMidIdeal.τ).loc Cert.RefMidIdeal.main_arg6) = m ((c.tc : Thread Cert.MidIdeal.nD Cert.MidIdeal.τ).loc Cert.MidIdeal.main_arg6)
      ∧ m' ((c.tc : Thread Cert.RefMidIdeal.nD Cert.RefMidIdeal.τ).loc Cert.RefMidIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v2_0)) (v1 : (c : Dev Cert.MidIdeal.nD) → Buf (Elt Ideal) ((c.tc : Thread Cert.MidIdeal.nD Cert.MidIdeal.τ).loc Cert.MidIdeal.main_v2_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v2_0) = v0 c
          ∧ r.2.mem ((c.tc : Thread Cert.MidIdeal.nD Cert.MidIdeal.τ).loc Cert.MidIdeal.main_v2_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.RefMidIdeal.defs (F := Ideal)) (onTc (τ := Cert.RefMidIdeal.τ) (Cert.RefMidIdeal.main (F := Ideal))) ⟨m', fun _ => 0, g'⟩ (fun r => ∀ c : Dev Cert.RefMidIdeal.nD,
          r.2.mem ((c.tc : Thread Cert.RefMidIdeal.nD Cert.RefMidIdeal.τ).loc Cert.RefMidIdeal.main_v45) = v0 c
          ∧ r.2.mem ((c.tc : Thread Cert.RefMidIdeal.nD Cert.RefMidIdeal.τ).loc Cert.RefMidIdeal.main_v59) = v1 c
          ∧ r.2.mem ((c.tc : Thread Cert.RefMidIdeal.nD Cert.RefMidIdeal.τ).loc Cert.RefMidIdeal.main_arg0) = m' ((c.tc : Thread Cert.RefMidIdeal.nD Cert.RefMidIdeal.τ).loc Cert.RefMidIdeal.main_arg0)
          ∧ r.2.mem ((c.tc : Thread Cert.RefMidIdeal.nD Cert.RefMidIdeal.τ).loc Cert.RefMidIdeal.main_arg1) = m' ((c.tc : Thread Cert.RefMidIdeal.nD Cert.RefMidIdeal.τ).loc Cert.RefMidIdeal.main_arg1)
          ∧ r.2.mem ((c.tc : Thread Cert.RefMidIdeal.nD Cert.RefMidIdeal.τ).loc Cert.RefMidIdeal.main_arg2) = m' ((c.tc : Thread Cert.RefMidIdeal.nD Cert.RefMidIdeal.τ).loc Cert.RefMidIdeal.main_arg2)
          ∧ r.2.mem ((c.tc : Thread Cert.RefMidIdeal.nD Cert.RefMidIdeal.τ).loc Cert.RefMidIdeal.main_arg3) = m' ((c.tc : Thread Cert.RefMidIdeal.nD Cert.RefMidIdeal.τ).loc Cert.RefMidIdeal.main_arg3)
          ∧ r.2.mem ((c.tc : Thread Cert.RefMidIdeal.nD Cert.RefMidIdeal.τ).loc Cert.RefMidIdeal.main_arg4) = m' ((c.tc : Thread Cert.RefMidIdeal.nD Cert.RefMidIdeal.τ).loc Cert.RefMidIdeal.main_arg4)
          ∧ r.2.mem ((c.tc : Thread Cert.RefMidIdeal.nD Cert.RefMidIdeal.τ).loc Cert.RefMidIdeal.main_arg5) = m' ((c.tc : Thread Cert.RefMidIdeal.nD Cert.RefMidIdeal.τ).loc Cert.RefMidIdeal.main_arg5)
          ∧ r.2.mem ((c.tc : Thread Cert.RefMidIdeal.nD Cert.RefMidIdeal.τ).loc Cert.RefMidIdeal.main_arg6) = m' ((c.tc : Thread Cert.RefMidIdeal.nD Cert.RefMidIdeal.τ).loc Cert.RefMidIdeal.main_arg6)
          ∧ r.2.mem ((c.tc : Thread Cert.RefMidIdeal.nD Cert.RefMidIdeal.τ).loc Cert.RefMidIdeal.main_arg7) = m' ((c.tc : Thread Cert.RefMidIdeal.nD Cert.RefMidIdeal.τ).loc Cert.RefMidIdeal.main_arg7))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)
      ∧ m' ((c.tc : Thread Cert.RefOutIdeal.nD Cert.RefOutIdeal.τ).loc Cert.RefOutIdeal.main_arg4) = m ((c.tc : Thread Cert.OutIdeal.nD Cert.OutIdeal.τ).loc Cert.OutIdeal.main_arg4)
      ∧ m' ((c.tc : Thread Cert.RefOutIdeal.nD Cert.RefOutIdeal.τ).loc Cert.RefOutIdeal.main_arg5) = m ((c.tc : Thread Cert.OutIdeal.nD Cert.OutIdeal.τ).loc Cert.OutIdeal.main_arg5)
      ∧ m' ((c.tc : Thread Cert.RefOutIdeal.nD Cert.RefOutIdeal.τ).loc Cert.RefOutIdeal.main_arg6) = m ((c.tc : Thread Cert.OutIdeal.nD Cert.OutIdeal.τ).loc Cert.OutIdeal.main_arg6)
      ∧ m' ((c.tc : Thread Cert.RefOutIdeal.nD Cert.RefOutIdeal.τ).loc Cert.RefOutIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v58) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5)
          ∧ r.2.mem ((c.tc : Thread Cert.RefOutIdeal.nD Cert.RefOutIdeal.τ).loc Cert.RefOutIdeal.main_arg6) = m' ((c.tc : Thread Cert.RefOutIdeal.nD Cert.RefOutIdeal.τ).loc Cert.RefOutIdeal.main_arg6)
          ∧ r.2.mem ((c.tc : Thread Cert.RefOutIdeal.nD Cert.RefOutIdeal.τ).loc Cert.RefOutIdeal.main_arg7) = m' ((c.tc : Thread Cert.RefOutIdeal.nD Cert.RefOutIdeal.τ).loc Cert.RefOutIdeal.main_arg7))

def preserves_Dil_DilIdeal : Prop :=
  IdealRules.named_const.Statement Cert.DilIdeal.κ "mask" .f32 0xF149F2CA#32 ⊥
  ∧ IdealRules.named_const.Statement Cert.DilIdeal.κ "scale2" .f32 0x3E0293EE#32 (((Real.sqrt 128)⁻¹ * (Real.log 2)⁻¹ : ℝ) : EReal)
  ∧ IdealRules.named_const.Statement Cert.DilIdeal.κ "log2e" .f32 0x3FB8AA3B#32 (((Real.log 2)⁻¹ : ℝ) : EReal)

def algebraic_DilIdeal_RefDilIdeal_pre_finite_proj [hDilIdeal : Cert.DilIdeal.Facts] [hRefDilIdeal : Cert.RefDilIdeal.Facts] [hPre_finite_proj : Cert.Pre_finite_proj.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.RefDilIdeal.nD Cert.RefDilIdeal.τ Cert.RefDilIdeal.sig) → Buf (Elt Ideal) ℓ) (g' : Dev Cert.RefDilIdeal.nD → PrngReg), Pre_DilIdeal_finite_proj m →
    (∀ c : Dev Cert.DilIdeal.nD,
      m' ((c.tc : Thread Cert.RefDilIdeal.nD Cert.RefDilIdeal.τ).loc Cert.RefDilIdeal.main_arg0) = m ((c.tc : Thread Cert.DilIdeal.nD Cert.DilIdeal.τ).loc Cert.DilIdeal.main_arg0)) →
    ∃ (v0 : (c : Dev Cert.DilIdeal.nD) → Buf (Elt Ideal) ((c.tc : Thread Cert.DilIdeal.nD Cert.DilIdeal.τ).loc Cert.DilIdeal.main_v0)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v0) = v0 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ θ_run (Cert.RefDilIdeal.defs (F := Ideal)) (onTc (τ := Cert.RefDilIdeal.τ) (Cert.RefDilIdeal.main (F := Ideal))) ⟨m', fun _ => 0, g'⟩ (fun r => ∀ c : Dev Cert.RefDilIdeal.nD,
          r.2.mem ((c.tc : Thread Cert.RefDilIdeal.nD Cert.RefDilIdeal.τ).loc Cert.RefDilIdeal.main_v224) = v0 c
          ∧ r.2.mem ((c.tc : Thread Cert.RefDilIdeal.nD Cert.RefDilIdeal.τ).loc Cert.RefDilIdeal.main_arg0) = m' ((c.tc : Thread Cert.RefDilIdeal.nD Cert.RefDilIdeal.τ).loc Cert.RefDilIdeal.main_arg0))

def Claim : Prop :=
  ∃ (hNorm : Cert.Norm.Facts) (hNormIdeal : Cert.NormIdeal.Facts) (hRefNormIdeal : Cert.RefNormIdeal.Facts) (hMemKv : Cert.MemKv.Facts) (hMemKvIdeal : Cert.MemKvIdeal.Facts) (hRefMemKvIdeal : Cert.RefMemKvIdeal.Facts) (hIn : Cert.In.Facts) (hInIdeal : Cert.InIdeal.Facts) (hRefInIdeal : Cert.RefInIdeal.Facts) (hLocal : Cert.Local.Facts) (hLocalIdeal : Cert.LocalIdeal.Facts) (hRefLocalIdeal : Cert.RefLocalIdeal.Facts) (hMid : Cert.Mid.Facts) (hMidIdeal : Cert.MidIdeal.Facts) (hRefMidIdeal : Cert.RefMidIdeal.Facts) (hOut : Cert.Out.Facts) (hOutIdeal : Cert.OutIdeal.Facts) (hRefOutIdeal : Cert.RefOutIdeal.Facts) (hDil : Cert.Dil.Facts) (hDilIdeal : Cert.DilIdeal.Facts) (hRefDilIdeal : Cert.RefDilIdeal.Facts) (hPre_finite_scores : Cert.Pre_finite_scores.Facts) (hPre_finite_proj : Cert.Pre_finite_proj.Facts),
    quiescent_Norm (hNorm := hNorm)
    ∧ quiescent_NormIdeal (hNormIdeal := hNormIdeal)
    ∧ quiescent_RefNormIdeal (hRefNormIdeal := hRefNormIdeal)
    ∧ quiescent_MemKv (hMemKv := hMemKv)
    ∧ quiescent_MemKvIdeal (hMemKvIdeal := hMemKvIdeal)
    ∧ quiescent_RefMemKvIdeal (hRefMemKvIdeal := hRefMemKvIdeal)
    ∧ quiescent_In (hIn := hIn)
    ∧ quiescent_InIdeal (hInIdeal := hInIdeal)
    ∧ quiescent_RefInIdeal (hRefInIdeal := hRefInIdeal)
    ∧ quiescent_Local (hLocal := hLocal)
    ∧ quiescent_LocalIdeal (hLocalIdeal := hLocalIdeal)
    ∧ quiescent_LocalIdeal_pre_finite_scores (hLocalIdeal := hLocalIdeal) (hPre_finite_scores := hPre_finite_scores)
    ∧ quiescent_RefLocalIdeal (hRefLocalIdeal := hRefLocalIdeal)
    ∧ quiescent_RefLocalIdeal_pre_finite_scores (hRefLocalIdeal := hRefLocalIdeal) (hPre_finite_scores := hPre_finite_scores)
    ∧ quiescent_Mid (hMid := hMid)
    ∧ quiescent_MidIdeal (hMidIdeal := hMidIdeal)
    ∧ quiescent_RefMidIdeal (hRefMidIdeal := hRefMidIdeal)
    ∧ quiescent_Out (hOut := hOut)
    ∧ quiescent_OutIdeal (hOutIdeal := hOutIdeal)
    ∧ quiescent_RefOutIdeal (hRefOutIdeal := hRefOutIdeal)
    ∧ quiescent_Dil (hDil := hDil)
    ∧ quiescent_DilIdeal (hDilIdeal := hDilIdeal)
    ∧ quiescent_DilIdeal_pre_finite_proj (hDilIdeal := hDilIdeal) (hPre_finite_proj := hPre_finite_proj)
    ∧ quiescent_RefDilIdeal (hRefDilIdeal := hRefDilIdeal)
    ∧ quiescent_RefDilIdeal_pre_finite_proj (hRefDilIdeal := hRefDilIdeal) (hPre_finite_proj := hPre_finite_proj)
    ∧ preserves_Norm_NormIdeal
    ∧ algebraic_NormIdeal_RefNormIdeal (hNormIdeal := hNormIdeal) (hRefNormIdeal := hRefNormIdeal)
    ∧ preserves_MemKv_MemKvIdeal
    ∧ algebraic_MemKvIdeal_RefMemKvIdeal (hMemKvIdeal := hMemKvIdeal) (hRefMemKvIdeal := hRefMemKvIdeal)
    ∧ preserves_In_InIdeal
    ∧ algebraic_InIdeal_RefInIdeal (hInIdeal := hInIdeal) (hRefInIdeal := hRefInIdeal)
    ∧ preserves_Local_LocalIdeal
    ∧ algebraic_LocalIdeal_RefLocalIdeal_pre_finite_scores (hLocalIdeal := hLocalIdeal) (hRefLocalIdeal := hRefLocalIdeal) (hPre_finite_scores := hPre_finite_scores)
    ∧ preserves_Mid_MidIdeal
    ∧ algebraic_MidIdeal_RefMidIdeal (hMidIdeal := hMidIdeal) (hRefMidIdeal := hRefMidIdeal)
    ∧ preserves_Out_OutIdeal
    ∧ algebraic_OutIdeal_RefOutIdeal (hOutIdeal := hOutIdeal) (hRefOutIdeal := hRefOutIdeal)
    ∧ preserves_Dil_DilIdeal
    ∧ algebraic_DilIdeal_RefDilIdeal_pre_finite_proj (hDilIdeal := hDilIdeal) (hRefDilIdeal := hRefDilIdeal) (hPre_finite_proj := hPre_finite_proj)
-- ==== Pre_finite_proj.lean ====
abbrev S2x4096x1536 : Shape := ⟨3, ![2, 4096, 1536]⟩
abbrev S2x4096x1024 : Shape := ⟨3, ![2, 4096, 1024]⟩
abbrev S_ : Shape := ⟨0, ![]⟩

class Facts : Prop where
  slices_S2x4096x1536_S2x4096x1024_0_0_0 : S2x4096x1536.Slices ![0, 0, 0] S2x4096x1024
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel

variable [Facts]

def fn {F : FTy → Type} [FloatOps F] (main_arg0 : FVec F S2x4096x1536 .f32) : IVec S_ 1 :=
  let main_v0 : FVec F S2x4096x1024 .f32 := (extractStridedSlice S2x4096x1024 ![0, 0, 0] · slices_S2x4096x1536_S2x4096x1024_0_0_0) main_arg0
  let main_v1 : FVec F S2x4096x1024 .f32 := Host.absf main_v0
  let main_cst : FVec F S_ .f32 := constant S_ .f32 0x7F800000#32
  let main_v2 : FVec F S2x4096x1024 .f32 := broadcastInDim S2x4096x1024 ![] bcast_S_S2x4096x1024 main_cst
  let main_v3 : IVec S2x4096x1024 1 := cmpf .olt main_v1 main_v2
  let main_c : IVec S_ 1 := constantI S_ 1 1#1
  let main_v4 : IVec S_ 1 := (fun x v => Host.reduce IntOp.andi x v reducesTo_S2x4096x1024_S_d0_1_2 h_S_) main_v3 main_c
  main_v4
-- ==== Pre_finite_scores.lean ====
abbrev S2x4096x7168 : Shape := ⟨3, ![2, 4096, 7168]⟩
abbrev S2x2x256x1024 : Shape := ⟨4, ![2, 2, 256, 1024]⟩
abbrev S4x128x128 : Shape := ⟨3, ![4, 128, 128]⟩
abbrev S4x128 : Shape := ⟨2, ![4, 128]⟩
abbrev S512 : Shape := ⟨1, ![512]⟩
abbrev S3x512 : Shape := ⟨2, ![3, 512]⟩
abbrev S2x4096x512 : Shape := ⟨3, ![2, 4096, 512]⟩
abbrev S1x2x256x512 : Shape := ⟨4, ![1, 2, 256, 512]⟩
abbrev S2x256x512 : Shape := ⟨3, ![2, 256, 512]⟩
abbrev S_ : Shape := ⟨0, ![]⟩

class Facts : Prop where
  slices_S2x4096x7168_S2x4096x512_0_0_6144 : S2x4096x7168.Slices ![0, 0, 6144] S2x4096x512
  bitsLt_bf16_f32 : FTy.bits .bf16 < FTy.bits .f32
  slices_S2x2x256x1024_S1x2x256x512_0_0_0_0 : S2x2x256x1024.Slices ![0, 0, 0, 0] S1x2x256x512
  shapeCasts_S1x2x256x512_S2x256x512 : S1x2x256x512.ShapeCasts S2x256x512
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_

variable [Facts]

def fn {F : FTy → Type} [FloatOps F] (main_arg0 : FVec F S2x4096x7168 .bf16) (main_arg1 : FVec F S2x2x256x1024 .bf16) (main_arg2 : FVec F S4x128x128 .f32) (main_arg3 : FVec F S4x128 .f32) (main_arg4 : FVec F S512 .f32) (main_arg5 : FVec F S512 .f32) (main_arg6 : FVec F S3x512 .f32) : IVec S_ 1 :=
  let main_v0 : FVec F S2x4096x512 .bf16 := (extractStridedSlice S2x4096x512 ![0, 0, 6144] · slices_S2x4096x7168_S2x4096x512_0_0_6144) main_arg0
  let main_v1 : FVec F S2x4096x512 .f32 := (extf .f32 · bitsLt_bf16_f32) main_v0
  let main_v2 : FVec F S1x2x256x512 .bf16 := (extractStridedSlice S1x2x256x512 ![0, 0, 0, 0] · slices_S2x2x256x1024_S1x2x256x512_0_0_0_0) main_arg1
  let main_v3 : FVec F S2x256x512 .bf16 := shapeCast S2x256x512 main_v2 shapeCasts_S1x2x256x512_S2x256x512
  let main_v4 : FVec F S2x256x512 .f32 := (extf .f32 · bitsLt_bf16_f32) main_v3
  let main_v5 : FVec F S2x4096x512 .f32 := Host.absf main_v1
  let main_cst : FVec F S_ .f32 := constant S_ .f32 0x7F800000#32
  let main_v6 : FVec F S2x4096x512 .f32 := broadcastInDim S2x4096x512 ![] bcast_S_S2x4096x512 main_cst
  let main_v7 : IVec S2x4096x512 1 := cmpf .olt main_v5 main_v6
  let main_c : IVec S_ 1 := constantI S_ 1 1#1
  let main_v8 : IVec S_ 1 := (fun x v => Host.reduce IntOp.andi x v reducesTo_S2x4096x512_S_d0_1_2 h_S_) main_v7 main_c
  let main_v9 : FVec F S2x256x512 .f32 := Host.absf main_v4
  let main_cst_0 : FVec F S_ .f32 := constant S_ .f32 0x7F800000#32
  let main_v10 : FVec F S2x256x512 .f32 := broadcastInDim S2x256x512 ![] bcast_S_S2x256x512 main_cst_0
  let main_v11 : IVec S2x256x512 1 := cmpf .olt main_v9 main_v10
  let main_c_1 : IVec S_ 1 := constantI S_ 1 1#1
  let main_v12 : IVec S_ 1 := (fun x v => Host.reduce IntOp.andi x v reducesTo_S2x256x512_S_d0_1_2 h_S_) main_v11 main_c_1
  let main_v13 : IVec S_ 1 := andi main_v8 main_v12
  main_v13
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemKv.lean ====
abbrev S2x256x2048 : Shape := ⟨3, ![2, 256, 2048]⟩
abbrev S2x2048 : Shape := ⟨2, ![2, 2048]⟩
abbrev S2x2048x1024 : Shape := ⟨3, ![2, 2048, 1024]⟩
abbrev S2x1x2048 : Shape := ⟨3, ![2, 1, 2048]⟩
abbrev S2x2x256x1024 : Shape := ⟨4, ![2, 2, 256, 1024]⟩
abbrev S1x256x2048 : Shape := ⟨3, ![1, 256, 2048]⟩
abbrev S1x1x2048 : Shape := ⟨3, ![1, 1, 2048]⟩
abbrev S1x2048x1024 : Shape := ⟨3, ![1, 2048, 1024]⟩
abbrev S1x1x256x1024 : Shape := ⟨4, ![1, 1, 256, 1024]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S2048x1024 : Shape := ⟨2, ![2048, 1024]⟩
abbrev S256x1024 : Shape := ⟨2, ![256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x1024, .f32⟩
  | .hbm, ⟨3, _⟩ => ⟨S2x1x2048, .f32⟩
  | .hbm, ⟨4, _⟩ => ⟨S2x2x256x1024, .bf16⟩
  | .local _ .vmem, ⟨0, _⟩ => ⟨S1x256x2048, .f32⟩
  | .local _ .vmem, ⟨1, _⟩ => ⟨S1x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x256x1024, .bf16⟩
  | .local _ .vmem, ⟨7, _⟩ => ⟨S1x1x256x1024, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefMemKvIdeal.lean ====
abbrev S2x256x2048 : Shape := ⟨3, ![2, 256, 2048]⟩
abbrev S2x2048 : Shape := ⟨2, ![2, 2048]⟩
abbrev S2x2048x1024 : Shape := ⟨3, ![2, 2048, 1024]⟩
abbrev S1x2048 : Shape := ⟨2, ![1, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S2x256x1024 : Shape := ⟨3, ![2, 256, 1024]⟩
abbrev S1x2x256x1024 : Shape := ⟨4, ![1, 2, 256, 1024]⟩
abbrev S2x2x256x1024 : Shape := ⟨4, ![2, 2, 256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x1024, .f32⟩
  | .hbm, ⟨3, _⟩ => ⟨S1x2048, .f32⟩
  | .hbm, ⟨4, _⟩ => ⟨S2048, .f32⟩
  | .hbm, ⟨5, _⟩ => ⟨S2x256x2048, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x2048, .f32⟩
  | .hbm, ⟨17, _⟩ => ⟨S2x256x2048, .f32⟩
  | .hbm, ⟨18, _⟩ => ⟨S1x1x2048, .f32⟩
  | .hbm, ⟨19, _⟩ => ⟨S2x256x2048, .f32⟩
  | .hbm, ⟨20, _⟩ => ⟨S2x256x2048, .f32⟩
  | .hbm, ⟨21, _⟩ => ⟨S1x2048x1024, .f32⟩
  | .hbm, ⟨22, _⟩ => ⟨S2048x1024, .f32⟩
  | .hbm, ⟨23, _⟩ => ⟨S2x256x1024, .f32⟩
  | .hbm, ⟨24, _⟩ => ⟨S1x2048, .f32⟩
  | .hbm, ⟨25, _⟩ => ⟨S2048, .f32⟩
  | .hbm, ⟨26, _⟩ => ⟨S2x256x2048, .f32⟩
  | .hbm, ⟨27, _⟩ => ⟨S_, .f32⟩
  | .hbm, ⟨28, _⟩ => ⟨S2x256, .f32⟩
  | .hbm, ⟨29, _⟩ => ⟨S2x256x1, .f32⟩
  | .hbm, ⟨30, _⟩ => ⟨S_, .f32⟩
  | .hbm, ⟨31, _⟩ => ⟨S2x256x1, .f32⟩
  | .hbm, ⟨32, _⟩ => ⟨S2x256x1, .f32⟩
  | .hbm, ⟨33, _⟩ => ⟨S_, .f32⟩
  | .hbm, ⟨34, _⟩ => ⟨S2x256x1, .f32⟩
  | .hbm, ⟨35, _⟩ => ⟨S2x256x1, .f32⟩
  | .hbm, ⟨36, _⟩ => ⟨S2x256x1, .f32⟩
  | .hbm, ⟨37, _⟩ => ⟨S2x256x2048, .f32⟩
  | .hbm, ⟨38, _⟩ => ⟨S2x256x2048, .f32⟩
  | .hbm, ⟨39, _⟩ => ⟨S1x1x2048, .f32⟩
  | .hbm, ⟨40, _⟩ => ⟨S2x256x2048, .f32⟩
  | .hbm, ⟨41, _⟩ => ⟨S2x256x2048, .f32⟩
  | .hbm, ⟨42, _⟩ => ⟨S1x2048x1024, .f32⟩
  | .hbm, ⟨43, _⟩ => ⟨S2048x1024, .f32⟩
  | .hbm, ⟨44, _⟩ => ⟨S2x256x1024, .f32⟩
  | .hbm, ⟨45, _⟩ => ⟨S1x2x256x1024, .f32⟩
  | .hbm, ⟨46, _⟩ => ⟨S1x2x256x1024, .f32⟩
  | .hbm, ⟨47, _⟩ => ⟨S2x2x256x1024, .f32⟩
  | .hbm, ⟨48, _⟩ => ⟨S2x2x256x1024, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== In.lean ====
abbrev S8192x2048 : Shape := ⟨2, ![8192, 2048]⟩
abbrev S2x2048x8704 : Shape := ⟨3, ![2, 2048, 8704]⟩
abbrev S4096x64 : Shape := ⟨2, ![4096, 64]⟩
abbrev S4096x128 : Shape := ⟨2, ![4096, 128]⟩
abbrev S8192x1536 : Shape := ⟨2, ![8192, 1536]⟩
abbrev S8192x7168 : Shape := ⟨2, ![8192, 7168]⟩
abbrev S2048x2048 : Shape := ⟨2, ![2048, 2048]⟩
abbrev S1x2048x512 : Shape := ⟨3, ![1, 2048, 512]⟩
abbrev S2048x128 : Shape := ⟨2, ![2048, 128]⟩
abbrev S2048x512 : Shape := ⟨2, ![2048, 512]⟩
abbrev S128x2048 : Shape := ⟨2, ![128, 2048]⟩
abbrev S128x512 : Shape := ⟨2, ![128, 512]⟩
abbrev S128x128 : Shape := ⟨2, ![128, 128]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2x2048x8704, .f32⟩
  | .hbm, ⟨2, _⟩ => ⟨S4096x64, .f32⟩
  | .hbm, ⟨3, _⟩ => ⟨S4096x64, .f32⟩
  | .hbm, ⟨4, _⟩ => ⟨S4096x128, .f32⟩
  | .hbm, ⟨5, _⟩ => ⟨S4096x64, .f32⟩
  | .hbm, ⟨6, _⟩ => ⟨S4096x128, .f32⟩
  | .hbm, ⟨7, _⟩ => ⟨S8192x1536, .f32⟩
  | .hbm, ⟨8, _⟩ => ⟨S8192x7168, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .eq arg1 c1_i32
  let v2 : BitVec 1 := Scalar.ori v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32 : BitVec 32 := 2#32
  let v5 : BitVec 1 := Scalar.cmpi .eq arg1 c2_i32
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c7_i32 : BitVec 32 := 7#32
  let v8 : BitVec 1 := Scalar.cmpi .eq arg1 c7_i32
  let c8_i32 : BitVec 32 := 8#32
  let v9 : BitVec 1 := Scalar.cmpi .eq arg1 c8_i32
  let v10 : BitVec 1 := Scalar.ori v8 v9
  let v11 : BitVec 32 := Scalar.extui v10
  let c0_i32_2 : BitVec 32 := 0#32
  let v12 : BitVec 1 := Scalar.cmpi .ne v11 c0_i32_2
  v12

def k0_cond4 (i : grid0.Coords) : BitVec 1 :=
  let arg1 : BitVec 32 := BitVec.ofNat 32 (i 1).val
  let c3_i32 : BitVec 32 := 3#32
  let v13 : BitVec 1 := Scalar.cmpi .eq arg1 c3_i32
  let c6_i32 : BitVec 32 := 6#32
  let v14 : BitVec 1 := Scalar.cmpi .eq arg1 c6_i32
  let v18 : BitVec 1 := Scalar.ori v13 v14
  let c10_i32 : BitVec 32 := 10#32
  let v15 : BitVec 1 := Scalar.cmpi .eq arg1 c10_i32
  let v19 : BitVec 1 := Scalar.ori v18 v15
  let c14_i32 : BitVec 32 := 14#32
  let v16 : BitVec 1 := Scalar.cmpi .eq arg1 c14_i32
  let v20 : BitVec 1 := Scalar.ori v19 v16
  let c16_i32 : BitVec 32 := 16#32
  let v17 : BitVec 1 := Scalar.cmpi .eq arg1 c16_i32
  let v21 : BitVec 1 := Scalar.ori v20 v17
  let v22 : BitVec 32 := Scalar.extui v21
  let c0_i32_3 : BitVec 32 := 0#32
  let v23 : BitVec 1 := Scalar.cmpi .ne v22 c0_i32_3
  v23

def k0_cond5 (i : grid0.Coords) : BitVec 1 :=
  let arg1 : BitVec 32 := BitVec.ofNat 32 (i 1).val
  let c4_i32 : BitVec 32 := 4#32
  let v24 : BitVec 1 := Scalar.cmpi .eq arg1 c4_i32
  let c5_i32 : BitVec 32 := 5#32
  let v25 : BitVec 1 := Scalar.cmpi .eq arg1 c5_i32
  let v31 : BitVec 1 := Scalar.ori v24 v25
  let c9_i32 : BitVec 32 := 9#32
  let v26 : BitVec 1 := Scalar.cmpi .eq arg1 c9_i32
  let v32 : BitVec 1 := Scalar.ori v31 v26
  let c11_i32 : BitVec 32 := 11#32
  let v27 : BitVec 1 := Scalar.cmpi .eq arg1 c11_i32
  let v33 : BitVec 1 := Scalar.ori v32 v27
  let c12_i32 : BitVec 32 := 12#32
  let v28 : BitVec 1 := Scalar.cmpi .eq arg1 c12_i32
  let v34 : BitVec 1 := Scalar.ori v33 v28
  let c13_i32 : BitVec 32 := 13#32
  let v29 : BitVec 1 := Scalar.cmpi .eq arg1 c13_i32
  let v35 : BitVec 1 := Scalar.ori v34 v29
  let c15_i32 : BitVec 32 := 15#32
  let v30 : BitVec 1 := Scalar.cmpi .eq arg1 c15_i32
  let v36 : BitVec 1 := Scalar.ori v35 v30
  let v37 : BitVec 32 := Scalar.extui v36
  let c0_i32_4 : BitVec 32 := 0#32
  let v38 : BitVec 1 := Scalar.cmpi .ne v37 c0_i32_4
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefInIdeal.lean ====
abbrev S8192x2048 : Shape := ⟨2, ![8192, 2048]⟩
abbrev S2x2048x8704 : Shape := ⟨3, ![2, 2048, 8704]⟩
abbrev S4096x64 : Shape := ⟨2, ![4096, 64]⟩
abbrev S1x2048x8704 : Shape := ⟨3, ![1, 2048, 8704]⟩
abbrev S2048x8704 : Shape := ⟨2, ![2048, 8704]⟩
abbrev S8192x8704 : Shape := ⟨2, ![8192, 8704]⟩
abbrev S1x4096x1x64 : Shape := ⟨4, ![1, 4096, 1, 64]⟩
abbrev S8192x1024 : Shape := ⟨2, ![8192, 1024]⟩
abbrev S8192x512 : Shape := ⟨2, ![8192, 512]⟩
abbrev S8192x1536 : Shape := ⟨2, ![8192, 1536]⟩
abbrev S2x4096x8x128 : Shape := ⟨4, ![2, 4096, 8, 128]⟩
abbrev S2x4096x8x64 : Shape := ⟨4, ![2, 4096, 8, 64]⟩
abbrev S_ : Shape := ⟨0, ![]⟩
abbrev S8192x7168 : Shape := ⟨2, ![8192, 7168]⟩

abbrev nBuf : Space → Nat
  | .hbm => 100
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x8704, .f32⟩
  | .hbm, ⟨2, _⟩ => ⟨S4096x64, .f32⟩
  | .hbm, ⟨3, _⟩ => ⟨S4096x64, .f32⟩
  | .hbm, ⟨4, _⟩ => ⟨S8192x2048, .f32⟩
  | .hbm, ⟨5, _⟩ => ⟨S1x2048x8704, .f32⟩
  | .hbm, ⟨6, _⟩ => ⟨S2048x8704, .f32⟩
  | .hbm, ⟨7, _⟩ => ⟨S8192x8704, .f32⟩
  | .hbm, ⟨8, _⟩ => ⟨S1x4096x1x64, .f32⟩
  | .hbm, ⟨9, _⟩ => ⟨S1x4096x1x64, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S8192x512, .f32⟩
  | .hbm, ⟨15, _⟩ => ⟨S8192x1024, .f32⟩
  | .hbm, ⟨16, _⟩ => ⟨S8192x512, .f32⟩
  | .hbm, ⟨17, _⟩ => ⟨S8192x512, .f32⟩
  | .hbm, ⟨18, _⟩ => ⟨S8192x1536, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S2x4096x8x128, .f32⟩
  | .hbm, ⟨23, _⟩ => ⟨S2x4096x8x64, .f32⟩
  | .hbm, ⟨24, _⟩ => ⟨S2x4096x8x64, .f32⟩
  | .hbm, ⟨25, _⟩ => ⟨S2x4096x8x64, .f32⟩
  | .hbm, ⟨26, _⟩ => ⟨S2x4096x8x64, .f32⟩
  | .hbm, ⟨27, _⟩ => ⟨S2x4096x8x64, .f32⟩
  | .hbm, ⟨28, _⟩ => ⟨S2x4096x8x64, .f32⟩
  | .hbm, ⟨29, _⟩ => ⟨S2x4096x8x64, .f32⟩
  | .hbm, ⟨30, _⟩ => ⟨S2x4096x8x64, .f32⟩
  | .hbm, ⟨31, _⟩ => ⟨S2x4096x8x64, .f32⟩
  | .hbm, ⟨32, _⟩ => ⟨S2x4096x8x64, .f32⟩
  | .hbm, ⟨33, _⟩ => ⟨S2x4096x8x64, .f32⟩
  | .hbm, ⟨34, _⟩ => ⟨S2x4096x8x64, .f32⟩
  | .hbm, ⟨35, _⟩ => ⟨S2x4096x8x128, .f32⟩
  | .hbm, ⟨36, _⟩ => ⟨S8192x1024, .f32⟩
  | .hbm, ⟨37, _⟩ => ⟨S8192x1536, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S2x4096x8x128, .f32⟩
  | .hbm, ⟨57, _⟩ => ⟨S2x4096x8x64, .f32⟩
  | .hbm, ⟨58, _⟩ => ⟨S2x4096x8x64, .f32⟩
  | .hbm, ⟨59, _⟩ => ⟨S2x4096x8x64, .f32⟩
  | .hbm, ⟨60, _⟩ => ⟨S2x4096x8x64, .f32⟩
  | .hbm, ⟨61, _⟩ => ⟨S2x4096x8x64, .f32⟩
  | .hbm, ⟨62, _⟩ => ⟨S2x4096x8x64, .f32⟩
  | .hbm, ⟨63, _⟩ => ⟨S2x4096x8x64, .f32⟩
  | .hbm, ⟨64, _⟩ => ⟨S2x4096x8x64, .f32⟩
  | .hbm, ⟨65, _⟩ => ⟨S2x4096x8x64, .f32⟩
  | .hbm, ⟨66, _⟩ => ⟨S2x4096x8x64, .f32⟩
  | .hbm, ⟨67, _⟩ => ⟨S2x4096x8x64, .f32⟩
  | .hbm, ⟨68, _⟩ => ⟨S2x4096x8x64, .f32⟩
  | .hbm, ⟨69, _⟩ => ⟨S2x4096x8x128, .f32⟩
  | .hbm, ⟨70, _⟩ => ⟨S8192x1024, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S8192x512, .f32⟩
  | .hbm, ⟨75, _⟩ => ⟨S8192x512, .f32⟩
  | .hbm, ⟨76, _⟩ => ⟨S_, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S8192x512, .f32⟩
  | .hbm, ⟨84, _⟩ => ⟨S8192x512, .f32⟩
  | .hbm, ⟨85, _⟩ => ⟨S_, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S_, .f32⟩
  | .hbm, ⟨92, _⟩ => ⟨S8192x512, .f32⟩
  | .hbm, ⟨93, _⟩ => ⟨S8192x512, .f32⟩
  | .hbm, ⟨94, _⟩ => ⟨S_, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x7168, .f32⟩
  | .hbm, ⟨99, _⟩ => ⟨S8192x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v51 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v52 : Ref sig .tc := ⟨.hbm, 88, rfl⟩
abbrev main_call4_v0 : Ref sig .tc := ⟨.hbm, 89, rfl⟩
abbrev main_call4_v1 : Ref sig .tc := ⟨.hbm, 90, rfl⟩
abbrev main_call4_cst : Ref sig .tc := ⟨.hbm, 91, rfl⟩
abbrev main_call4_v2 : Ref sig .tc := ⟨.hbm, 92, rfl⟩
abbrev main_call4_v3 : Ref sig .tc := ⟨.hbm, 93, rfl⟩
abbrev main_call4_cst_0 : Ref sig .tc := ⟨.hbm, 94, rfl⟩
abbrev main_call4_v4 : Ref sig .tc := ⟨.hbm, 95, rfl⟩
abbrev main_call4_v5 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩

abbrev nD : Nat := 1
abbrev τ : Topo := Topo.v7x

variable {F : FTy → Type} [FloatOps F]
-- ==== Local.lean ====
abbrev S2x4096x7168 : Shape := ⟨3, ![2, 4096, 7168]⟩
abbrev S2x2x256x1024 : Shape := ⟨4, ![2, 2, 256, 1024]⟩
abbrev S4x128x128 : Shape := ⟨3, ![4, 128, 128]⟩
abbrev S4x128 : Shape := ⟨2, ![4, 128]⟩
abbrev S512 : Shape := ⟨1, ![512]⟩
abbrev S3x512 : Shape := ⟨2, ![3, 512]⟩
abbrev S128x4 : Shape := ⟨2, ![128, 4]⟩
abbrev S1x512 : Shape := ⟨2, ![1, 512]⟩
abbrev S2x4096x1536 : Shape := ⟨3, ![2, 4096, 1536]⟩
abbrev S1x512x512 : Shape := ⟨3, ![1, 512, 512]⟩
abbrev S1x16x512 : Shape := ⟨3, ![1, 16, 512]⟩
abbrev S1x1x256x1024 : Shape := ⟨4, ![1, 1, 256, 1024]⟩
abbrev S1x512x1536 : Shape := ⟨3, ![1, 512, 1536]⟩
abbrev S528x512 : Shape := ⟨2, ![528, 512]⟩
abbrev S128x128 : Shape := ⟨2, ![128, 128]⟩
abbrev S1x128x128 : Shape := ⟨3, ![1, 128, 128]⟩
abbrev S512x512 : Shape := ⟨2, ![512, 512]⟩
abbrev S512x1 : Shape := ⟨2, ![512, 1]⟩
abbrev S128x1 : Shape := ⟨2, ![128, 1]⟩
abbrev S16x512 : Shape := ⟨2, ![16, 512]⟩
abbrev S1x1x256x128 : Shape := ⟨4, ![1, 1, 256, 128]⟩
abbrev S256x128 : Shape := ⟨2, ![256, 128]⟩
abbrev S1x512x128 : Shape := ⟨3, ![1, 512, 128]⟩
abbrev S512x128 : Shape := ⟨2, ![512, 128]⟩
abbrev S512x256 : Shape := ⟨2, ![512, 256]⟩

abbrev nBuf : Space → Nat
  | .hbm => 11
  | .vmem => 27
  | .smem => 0
  | _ => 0

abbrev bufTy : (tb : Table) → Fin (tcTables nBuf tb) → BufTy
  | .hbm, ⟨0, _⟩ => ⟨S2x4096x7168, .bf16⟩
  | .hbm, ⟨1, _⟩ => ⟨S2x2x256x1024, .bf16⟩
  | .hbm, ⟨2, _⟩ => ⟨S4x128x128, .f32⟩
  | .hbm, ⟨3, _⟩ => ⟨S4x128, .f32⟩
  | .hbm, ⟨4, _⟩ => ⟨S512, .f32⟩
  | .hbm, ⟨5, _⟩ => ⟨S512, .f32⟩
  | .hbm, ⟨6, _⟩ => ⟨S3x512, .f32⟩
  | .hbm, ⟨7, _⟩ => ⟨S128x4, .f32⟩
  | .hbm, ⟨8, _⟩ => ⟨S1x512, .f32⟩
  | .hbm, ⟨9, _⟩ => ⟨S1x512, .f32⟩
  | .hbm, ⟨10, _⟩ => ⟨S2x4096x1536, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x512x512, .bf16⟩
  | .local _ .vmem, ⟨15, _⟩ => ⟨S1x512x512, .bf16⟩
  | .local _ .vmem, ⟨16, _⟩ => ⟨S4x128x128, .f32⟩
  | .local _ .vmem, ⟨17, _⟩ => ⟨S128x4, .f32⟩
  | .local _ .vmem, ⟨18, _⟩ => ⟨S1x512, .f32⟩
  | .local _ .vmem, ⟨19, _⟩ => ⟨S1x512, .f32⟩
  | .local _ .vmem, ⟨20, _⟩ => ⟨S3x512, .f32⟩
  | .local _ .vmem, ⟨21, _⟩ => ⟨S1x1x256x1024, .bf16⟩
  | .local _ .vmem, ⟨22, _⟩ => ⟨S1x1x256x1024, .bf16⟩
  | .local _ .vmem, ⟨23, _⟩ => ⟨S1x512x1536, .bf16⟩
  | .local _ .vmem, ⟨24, _⟩ => ⟨S1x512x1536, .bf16⟩
  | .local _ .vmem, ⟨25, _⟩ => ⟨S528x512, .f32⟩
  | .local _ .vmem, ⟨26, _⟩ => ⟨S4x128x128, .bf16⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![arg0.toNat, v2.toNat, c9_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![arg0.toNat, v2.toNat, c10_i32.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RefLocalIdeal.lean ====
abbrev S2x4096x7168 : Shape := ⟨3, ![2, 4096, 7168]⟩
abbrev S2x2x256x1024 : Shape := ⟨4, ![2, 2, 256, 1024]⟩
abbrev S4x128x128 : Shape := ⟨3, ![4, 128, 128]⟩
abbrev S4x128 : Shape := ⟨2, ![4, 128]⟩
abbrev S512 : Shape := ⟨1, ![512]⟩
abbrev S3x512 : Shape := ⟨2, ![3, 512]⟩
abbrev S1x2x256x1024 : Shape := ⟨4, ![1, 2, 256, 1024]⟩
abbrev S2x256x1024 : Shape := ⟨3, ![2, 256, 1024]⟩
abbrev S2x256x2x4x128 : Shape := ⟨5, ![2, 256, 2, 4, 128]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x32x128x4x128 : Shape := ⟨5, ![2, 32, 128, 4, 128]⟩
abbrev S128x128 : Shape := ⟨2, ![128, 128]⟩
abbrev S1x128x128 : Shape := ⟨3, ![1, 128, 128]⟩
abbrev S4x2x32x128x128 : Shape := ⟨5, ![4, 2, 32, 128, 128]⟩
abbrev S128x4 : Shape := ⟨2, ![128, 4]⟩
abbrev S1x1x128x4x1 : Shape := ⟨5, ![1, 1, 128, 4, 1]⟩
abbrev S2x4098x512 : Shape := ⟨3, ![2, 4098, 512]⟩
abbrev S1x512 : Shape := ⟨2, ![1, 512]⟩
abbrev S2x4096x4x128 : Shape := ⟨4, ![2, 4096, 4, 128]⟩
abbrev S2x256x1x4x128 : Shape := ⟨5, ![2, 256, 1, 4, 128]⟩
abbrev S2x256x4x128 : Shape := ⟨4, ![2, 256, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S2x4096x1536 : Shape := ⟨3, ![2, 4096, 1536]⟩

abbrev nBuf : Space → Nat
  | .hbm => 168
  | .vmem => 0
  | .smem => 0
  | _ => 0

abbrev hbmTy0_0 (i : Nat) : BufTy := match i % 128 with
  | 0 => ⟨S2x4096x7168, .bf16⟩
  | 1 => ⟨S2x2x256x1024, .bf16⟩
  | 2 => ⟨S4x128x128, .f32⟩
  | 3 => ⟨S4x128, .f32⟩
  | 4 => ⟨S512, .f32⟩
  | 5 => ⟨S512, .f32⟩
  | 6 => ⟨S3x512, .f32⟩
  | 7 => ⟨S2x4096x7168, .f32⟩
  | 8 => ⟨S2x2x256x1024, .f32⟩
  | 9 => ⟨S1x2x256x1024, .f32⟩
  | 10 => ⟨S2x256x1024, .f32⟩
  | 11 => ⟨S2x256x2x4x128, .f32⟩
  | 12 => ⟨S2x4096x512, .f32⟩
  | 13 => ⟨S2x4096x512, .f32⟩
  | 14 => ⟨S2x4096x512, .f32⟩
  | 15 => ⟨S2x4096x512, .f32⟩
  | 16 => ⟨S2x4096x512, .f32⟩
  | 17 => ⟨S2x4096x512, .f32⟩
  | 18 => ⟨S2x4096x512, .f32⟩
  | 19 => ⟨S2x4096x512, .f32⟩
  | 20 => ⟨S2x4096x512, .f32⟩
  | 21 => ⟨S2x4096x512, .f32⟩
  | 22 => ⟨S2x4096x512, .f32⟩
  | 23 => ⟨S2x4096x512, .f32⟩
  | 24 => ⟨S2x4096x512, .f32⟩
  | 25 => ⟨S2x4096x512, .f32⟩
  | 26 => ⟨S2x4096x512, .f32⟩
  | 27 => ⟨S2x4096x512, .f32⟩
  | 28 => ⟨S_, .f32⟩
  | 29 => ⟨S2x4096x512, .f32⟩
  | 30 => ⟨S2x4096x512, .f32⟩
  | 31 => ⟨S2x4096x512, .f32⟩
  | 32 => ⟨S_, .f32⟩
  | 33 => ⟨S2x4096x512, .f32⟩
  | 34 => ⟨S2x4096x512, .f32⟩
  | 35 => ⟨S2x4096x512, .f32⟩
  | 36 => ⟨S_, .f32⟩
  | 37 => ⟨S2x4096x512, .f32⟩
  | 38 => ⟨S2x4096x512, .f32⟩
  | 39 => ⟨S_, .f32⟩
  | 40 => ⟨S2x4096x512, .f32⟩
  | 41 => ⟨S2x4096x512, .f32⟩
  | 42 => ⟨S2x4096x512, .f32⟩
  | 43 => ⟨S2x4096x512, .f32⟩
  | 44 => ⟨S2x4096x512, .f32⟩
  | 45 => ⟨S_, .f32⟩
  | 46 => ⟨S2x4096x512, .f32⟩
  | 47 => ⟨S2x4096x512, .f32⟩
  | 48 => ⟨S2x4096x512, .f32⟩
  | 49 => ⟨S_, .f32⟩
  | 50 => ⟨S2x4096x512, .f32⟩
  | 51 => ⟨S2x4096x512, .f32⟩
  | 52 => ⟨S2x4096x512, .f32⟩
  | 53 => ⟨S_, .f32⟩
  | 54 => ⟨S2x4096x512, .f32⟩
  | 55 => ⟨S2x4096x512, .f32⟩
  | 56 => ⟨S_, .f32⟩
  | 57 => ⟨S2x4096x512, .f32⟩
  | 58 => ⟨S2x4096x512, .f32⟩
  | 59 => ⟨S2x4096x512, .f32⟩
  | 60 => ⟨S_, .f32⟩
  | 61 => ⟨S2x4096, .f32⟩
  | 62 => ⟨S2x4096x1, .f32⟩
  | 63 => ⟨S_, .f32⟩
  | 64 => ⟨S2x4096x1, .f32⟩
  | 65 => ⟨S2x4096x1, .f32⟩
  | 66 => ⟨S2x4096x512, .f32⟩
  | 67 => ⟨S2x4096x512, .f32⟩
  | 68 => ⟨S2x4096x512, .f32⟩
  | 69 => ⟨S_, .f32⟩
  | 70 => ⟨S2x4096, .f32⟩
  | 71 => ⟨S2x4096x1, .f32⟩
  | 72 => ⟨S_, .f32⟩
  | 73 => ⟨S2x4096x1, .f32⟩
  | 74 => ⟨S2x4096x1, .f32⟩
  | 75 => ⟨S2x4096x512, .f32⟩
  | 76 => ⟨S2x4096x512, .f32⟩
  | 77 => ⟨S_, .f32⟩
  | 78 => ⟨S2x4096x1, .f32⟩
  | 79 => ⟨S2x4096x1, .f32⟩
  | 80 => ⟨S2x4096x1, .f32⟩
  | 81 => ⟨S2x4096x512, .f32⟩
  | 82 => ⟨S2x4096x512, .f32⟩
  | 83 => ⟨S1x1x512, .f32⟩
  | 84 => ⟨S2x4096x512, .f32⟩
  | 85 => ⟨S2x4096x512, .f32⟩
  | 86 => ⟨S1x1x512, .f32⟩
  | 87 => ⟨S2x4096x512, .f32⟩
  | 88 => ⟨S2x4096x512, .f32⟩
  | 89 => ⟨S2x32x128x4x128, .f32⟩
  | 90 => ⟨S_, .f32⟩
  | 91 => ⟨S128x128, .f32⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .f32⟩
  | 99 => ⟨S128x128, .f32⟩
  | 100 => ⟨S128x128, .f32⟩
  | 101 => ⟨S1x128x128, .f32⟩
  | 102 => ⟨S4x128x128, .f32⟩
  | 103 => ⟨S4x128x128, .f32⟩
  | 104 => ⟨S4x2x32x128x128, .f32⟩
  | 105 => ⟨S2x32x128x4x128, .f32⟩
  | 106 => ⟨S128x4, .f32⟩
  | 107 => ⟨S1x1x128x4x1, .f32⟩
  | 108 => ⟨S2x32x128x4x128, .f32⟩
  | 109 => ⟨S2x32x128x4x128, .f32⟩
  | 110 => ⟨S2x4096x512, .f32⟩
  | 111 => ⟨S2x4096x512, .f32⟩
  | 112 => ⟨S2x4096x512, .f32⟩
  | 113 => ⟨S_, .i32⟩
  | 114 => ⟨S_, .f32⟩
  | 115 => ⟨S2x4098x512, .f32⟩
  | 116 => ⟨S1x512, .f32⟩
  | 117 => ⟨S512, .f32⟩
  | 118 => ⟨S2x4096x512, .f32⟩
  | 119 => ⟨S1x1x512, .f32⟩
  | 120 => ⟨S2x4096x512, .f32⟩
  | 121 => ⟨S2x4096x512, .f32⟩
  | 122 => ⟨S_, .f32⟩
  | 123 => ⟨S2x4096x512, .f32⟩
  | 124 => ⟨S2x4096x512, .f32⟩
  | 125 => ⟨S1x512, .f32⟩
  | 126 => ⟨S512, .f32⟩
  | 127 => ⟨S2x4096x512, .f32⟩
  | _ => ⟨S2x4096x7168, .bf16⟩

abbrev hbmTy0_1 (i : Nat) : BufTy := match i % 128 with
  | 0 => ⟨S1x1x512, .f32⟩
  | 1 => ⟨S2x4096x512, .f32⟩
  | 2 => ⟨S2x4096x512, .f32⟩
  | 3 => ⟨S2x4096x512, .f32⟩
  | 4 => ⟨S1x512, .f32⟩
  | 5 => ⟨S512, .f32⟩
  | 6 => ⟨S2x4096x512, .f32⟩
  | 7 => ⟨S1x1x512, .f32⟩
  | 8 => ⟨S2x4096x512, .f32⟩
  | 9 => ⟨S2x4096x512, .f32⟩
  | 10 => ⟨S2x4096x512, .f32⟩
  | 11 => ⟨S2x4096x512, .f32⟩
  | 12 => ⟨S2x4096x4x128, .f32⟩
  | 13 => ⟨S2x256x1x4x128, .f32⟩
  | 14 => ⟨S2x256x4x128, .f32⟩
  | 15 => ⟨S2x4x4096x256, .f32⟩
  | 16 => ⟨S_, .f32⟩
  | 17 => ⟨S2x4x4096x256, .f32⟩
  | 18 => ⟨S2x4x4096x256, .f32⟩
  | 19 => ⟨S_, .f32⟩
  | 20 => ⟨S2x4x4096, .f32⟩
  | 21 => ⟨S_, .f32⟩
  | 22 => ⟨S2x4x4096, .f32⟩
  | 23 => ⟨S2x4x4096, .f32⟩
  | 24 => ⟨S2x4x4096x1, .f32⟩
  | 25 => ⟨S2x4x4096x256, .f32⟩
  | 26 => ⟨S2x4x4096x256, .f32⟩
  | 27 => ⟨S2x4x4096x256, .f32⟩
  | 28 => ⟨S_, .f32⟩
  | 29 => ⟨S2x4x4096, .f32⟩
  | 30 => ⟨S2x4x4096x1, .f32⟩
  | 31 => ⟨S2x4x4096x256, .f32⟩
  | 32 => ⟨S2x4x4096x256, .f32⟩
  | 33 => ⟨S2x256x1x4x128, .f32⟩
  | 34 => ⟨S2x256x4x128, .f32⟩
  | 35 => ⟨S2x4x128x4096, .f32⟩
  | 36 => ⟨S2x4096x4x128, .f32⟩
  | 37 => ⟨S2x4096x512, .f32⟩
  | 38 => ⟨S2x4096x1536, .f32⟩
  | 39 => ⟨S2x4096x1536, .bf16⟩
  | _ => ⟨S2x4096x7168, .bf16⟩

abbrev hbmTy (i : Nat) : BufTy := match i / 128 with
  | 0 => hbmTy0_0 i
  | 1 => hbmTy0_1 i
  | _ => ⟨S2x4096x7168, .bf16⟩

abbrev bufTy : (tb : Table) → Fin (tcTables nBuf tb) → BufTy
  | .hbm, ⟨i, _⟩ => hbmTy i
  | _, _ => ⟨S2x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_v70 : Ref sig .tc := ⟨.hbm, 91, rfl⟩
abbrev main_call0_v0 : Ref sig .tc := ⟨.hbm, 92, rfl⟩
abbrev main_call0_c : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_cst : Ref sig .tc := ⟨.hbm, 98, rfl⟩
abbrev main_call0_v5 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c : Ref sig .tc := ⟨.hbm, 113, rfl⟩
abbrev main_call1_v0 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_13 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_14 : Ref sig .tc := ⟨.hbm, 144, rfl⟩
abbrev main_v112 : Ref sig .tc := ⟨.hbm, 145, rfl⟩
abbrev main_v113 : Ref sig .tc := ⟨.hbm, 146, rfl⟩
abbrev main_cst_15 : Ref sig .tc := ⟨.hbm, 147, rfl⟩
abbrev main_v114 : Ref sig .tc := ⟨.hbm, 148, rfl⟩
abbrev main_cst_16 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_17 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩

abbrev nD : Nat := 1
abbrev τ : Topo := Topo.v7x

variable {F : FTy → Type} [FloatOps F]
-- ==== Mid.lean ====
abbrev S8192x512 : Shape := ⟨2, ![8192, 512]⟩
abbrev S8192x1536 : Shape := ⟨2, ![8192, 1536]⟩
abbrev S8192x7168 : Shape := ⟨2, ![8192, 7168]⟩
abbrev S2560 : Shape := ⟨1, ![2560]⟩
abbrev S2x2560x2048 : Shape := ⟨3, ![2, 2560, 2048]⟩
abbrev S8192x2048 : Shape := ⟨2, ![8192, 2048]⟩
abbrev S2048 : Shape := ⟨1, ![2048]⟩
abbrev S1x2560 : Shape := ⟨2, ![1, 2560]⟩
abbrev S1x2048 : Shape := ⟨2, ![1, 2048]⟩
abbrev S256x512 : Shape := ⟨2, ![256, 512]⟩
abbrev S256x1536 : Shape := ⟨2, ![256, 1536]⟩
abbrev S1x2560x2048 : Shape := ⟨3, ![1, 2560, 2048]⟩
abbrev S256x2048 : Shape := ⟨2, ![256, 2048]⟩
abbrev S256 : Shape := ⟨1, ![256]⟩
abbrev S256x1 : Shape := ⟨2, ![256, 1]⟩
abbrev S1x512 : Shape := ⟨2, ![1, 512]⟩
abbrev S1x512x2048 : Shape := ⟨3, ![1, 512, 2048]⟩
abbrev S512x2048 : Shape := ⟨2, ![512, 2048]⟩

abbrev nBuf : Space → Nat
  | .hbm => 12
  | .vmem => 25
  | .smem => 0
  | _ => 0

abbrev bufTy : (tb : Table) → Fin (tcTables nBuf tb) → BufTy
  | .hbm, ⟨0, _⟩ => ⟨S8192x512, .f32⟩
  | .hbm, ⟨1, _⟩ => ⟨S8192x1536, .bf16⟩
  | .hbm, ⟨2, _⟩ => ⟨S8192x512, .bf16⟩
  | .hbm, ⟨3, _⟩ => ⟨S8192x7168, .bf16⟩
  | .hbm, ⟨4, _⟩ => ⟨S2560, .f32⟩
  | .hbm, ⟨5, _⟩ => ⟨S2x2560x2048, .f32⟩
  | .hbm, ⟨6, _⟩ => ⟨S8192x2048, .f32⟩
  | .hbm, ⟨7, _⟩ => ⟨S2048, .f32⟩
  | .hbm, ⟨8, _⟩ => ⟨S1x2560, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S256x512, .f32⟩
  | .local _ .vmem, ⟨1, _⟩ => ⟨S256x512, .f32⟩
  | .local _ .vmem, ⟨2, _⟩ => ⟨S256x1536, .bf16⟩
  | .local _ .vmem, ⟨3, _⟩ => ⟨S256x1536, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S1x2560, .f32⟩
  | .local _ .vmem, ⟨17, _⟩ => ⟨S1x2560x2048, .f32⟩
  | .local _ .vmem, ⟨18, _⟩ => ⟨S256x2048, .f32⟩
  | .local _ .vmem, ⟨19, _⟩ => ⟨S256x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2560x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefMidIdeal.lean ====
abbrev S8192x512 : Shape := ⟨2, ![8192, 512]⟩
abbrev S8192x1536 : Shape := ⟨2, ![8192, 1536]⟩
abbrev S8192x7168 : Shape := ⟨2, ![8192, 7168]⟩
abbrev S2560 : Shape := ⟨1, ![2560]⟩
abbrev S2x2560x2048 : Shape := ⟨3, ![2, 2560, 2048]⟩
abbrev S8192x2048 : Shape := ⟨2, ![8192, 2048]⟩
abbrev S2048 : Shape := ⟨1, ![2048]⟩
abbrev S8192x2560 : Shape := ⟨2, ![8192, 2560]⟩
abbrev S8192x5x512 : Shape := ⟨3, ![8192, 5, 512]⟩
abbrev S5x512 : Shape := ⟨2, ![5, 512]⟩
abbrev S_ : Shape := ⟨0, ![]⟩
abbrev S8192x5 : Shape := ⟨2, ![8192, 5]⟩
abbrev S8192x5x1 : Shape := ⟨3, ![8192, 5, 1]⟩
abbrev S1x5x512 : Shape := ⟨3, ![1, 5, 512]⟩
abbrev S1x2560x2048 : Shape := ⟨3, ![1, 2560, 2048]⟩
abbrev S2560x2048 : Shape := ⟨2, ![2560, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1536, .bf16⟩
  | .hbm, ⟨2, _⟩ => ⟨S8192x512, .bf16⟩
  | .hbm, ⟨3, _⟩ => ⟨S8192x7168, .bf16⟩
  | .hbm, ⟨4, _⟩ => ⟨S2560, .f32⟩
  | .hbm, ⟨5, _⟩ => ⟨S2x2560x2048, .f32⟩
  | .hbm, ⟨6, _⟩ => ⟨S8192x2048, .f32⟩
  | .hbm, ⟨7, _⟩ => ⟨S2048, .f32⟩
  | .hbm, ⟨8, _⟩ => ⟨S8192x1536, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x7168, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x2560, .f32⟩
  | .hbm, ⟨34, _⟩ => ⟨S8192x5x512, .f32⟩
  | .hbm, ⟨35, _⟩ => ⟨S5x512, .f32⟩
  | .hbm, ⟨36, _⟩ => ⟨S8192x5x512, .f32⟩
  | .hbm, ⟨37, _⟩ => ⟨S_, .f32⟩
  | .hbm, ⟨38, _⟩ => ⟨S8192x5, .f32⟩
  | .hbm, ⟨39, _⟩ => ⟨S8192x5x1, .f32⟩
  | .hbm, ⟨40, _⟩ => ⟨S_, .f32⟩
  | .hbm, ⟨41, _⟩ => ⟨S8192x5x1, .f32⟩
  | .hbm, ⟨42, _⟩ => ⟨S8192x5x1, .f32⟩
  | .hbm, ⟨43, _⟩ => ⟨S_, .f32⟩
  | .hbm, ⟨44, _⟩ => ⟨S8192x5x1, .f32⟩
  | .hbm, ⟨45, _⟩ => ⟨S8192x5x1, .f32⟩
  | .hbm, ⟨46, _⟩ => ⟨S8192x5x1, .f32⟩
  | .hbm, ⟨47, _⟩ => ⟨S8192x5x512, .f32⟩
  | .hbm, ⟨48, _⟩ => ⟨S8192x5x512, .f32⟩
  | .hbm, ⟨49, _⟩ => ⟨S1x5x512, .f32⟩
  | .hbm, ⟨50, _⟩ => ⟨S8192x5x512, .f32⟩
  | .hbm, ⟨51, _⟩ => ⟨S8192x5x512, .f32⟩
  | .hbm, ⟨52, _⟩ => ⟨S8192x2560, .f32⟩
  | .hbm, ⟨53, _⟩ => ⟨S1x2560x2048, .f32⟩
  | .hbm, ⟨54, _⟩ => ⟨S2560x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S8192x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Out.lean ====
abbrev S8192x512 : Shape := ⟨2, ![8192, 512]⟩
abbrev S8192x1536 : Shape := ⟨2, ![8192, 1536]⟩
abbrev S8192x7168 : Shape := ⟨2, ![8192, 7168]⟩
abbrev S2560 : Shape := ⟨1, ![2560]⟩
abbrev S2x2560x2048 : Shape := ⟨3, ![2, 2560, 2048]⟩
abbrev S8192x2048 : Shape := ⟨2, ![8192, 2048]⟩
abbrev S2048 : Shape := ⟨1, ![2048]⟩
abbrev S1x2560 : Shape := ⟨2, ![1, 2560]⟩
abbrev S1x2048 : Shape := ⟨2, ![1, 2048]⟩
abbrev S256x512 : Shape := ⟨2, ![256, 512]⟩
abbrev S256x1536 : Shape := ⟨2, ![256, 1536]⟩
abbrev S1x2560x2048 : Shape := ⟨3, ![1, 2560, 2048]⟩
abbrev S256x2048 : Shape := ⟨2, ![256, 2048]⟩
abbrev S256 : Shape := ⟨1, ![256]⟩
abbrev S256x1 : Shape := ⟨2, ![256, 1]⟩
abbrev S1x512 : Shape := ⟨2, ![1, 512]⟩
abbrev S1x512x2048 : Shape := ⟨3, ![1, 512, 2048]⟩
abbrev S512x2048 : Shape := ⟨2, ![512, 2048]⟩

abbrev nBuf : Space → Nat
  | .hbm => 11
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x1536, .bf16⟩
  | .hbm, ⟨2, _⟩ => ⟨S8192x512, .bf16⟩
  | .hbm, ⟨3, _⟩ => ⟨S8192x7168, .bf16⟩
  | .hbm, ⟨4, _⟩ => ⟨S2560, .f32⟩
  | .hbm, ⟨5, _⟩ => ⟨S2x2560x2048, .f32⟩
  | .hbm, ⟨6, _⟩ => ⟨S8192x2048, .f32⟩
  | .hbm, ⟨7, _⟩ => ⟨S2048, .f32⟩
  | .hbm, ⟨8, _⟩ => ⟨S1x2560, .f32⟩
  | .hbm, ⟨9, _⟩ => ⟨S1x2048, .f32⟩
  | .hbm, ⟨10, _⟩ => ⟨S8192x2048, .f32⟩
  | .local _ .vmem, ⟨0, _⟩ => ⟨S256x512, .f32⟩
  | .local _ .vmem, ⟨1, _⟩ => ⟨S256x512, .f32⟩
  | .local _ .vmem, ⟨2, _⟩ => ⟨S256x1536, .bf16⟩
  | .local _ .vmem, ⟨3, _⟩ => ⟨S256x1536, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S1x2560, .f32⟩
  | .local _ .vmem, ⟨17, _⟩ => ⟨S1x2560x2048, .f32⟩
  | .local _ .vmem, ⟨18, _⟩ => ⟨S256x2048, .f32⟩
  | .local _ .vmem, ⟨19, _⟩ => ⟨S256x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2560x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefOutIdeal.lean ====
abbrev S8192x512 : Shape := ⟨2, ![8192, 512]⟩
abbrev S8192x1536 : Shape := ⟨2, ![8192, 1536]⟩
abbrev S8192x7168 : Shape := ⟨2, ![8192, 7168]⟩
abbrev S2560 : Shape := ⟨1, ![2560]⟩
abbrev S2x2560x2048 : Shape := ⟨3, ![2, 2560, 2048]⟩
abbrev S8192x2048 : Shape := ⟨2, ![8192, 2048]⟩
abbrev S2048 : Shape := ⟨1, ![2048]⟩
abbrev S8192x2560 : Shape := ⟨2, ![8192, 2560]⟩
abbrev S8192x5x512 : Shape := ⟨3, ![8192, 5, 512]⟩
abbrev S5x512 : Shape := ⟨2, ![5, 512]⟩
abbrev S_ : Shape := ⟨0, ![]⟩
abbrev S8192x5 : Shape := ⟨2, ![8192, 5]⟩
abbrev S8192x5x1 : Shape := ⟨3, ![8192, 5, 1]⟩
abbrev S1x5x512 : Shape := ⟨3, ![1, 5, 512]⟩
abbrev S1x2560x2048 : Shape := ⟨3, ![1, 2560, 2048]⟩
abbrev S2560x2048 : Shape := ⟨2, ![2560, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1536, .bf16⟩
  | .hbm, ⟨2, _⟩ => ⟨S8192x512, .bf16⟩
  | .hbm, ⟨3, _⟩ => ⟨S8192x7168, .bf16⟩
  | .hbm, ⟨4, _⟩ => ⟨S2560, .f32⟩
  | .hbm, ⟨5, _⟩ => ⟨S2x2560x2048, .f32⟩
  | .hbm, ⟨6, _⟩ => ⟨S8192x2048, .f32⟩
  | .hbm, ⟨7, _⟩ => ⟨S2048, .f32⟩
  | .hbm, ⟨8, _⟩ => ⟨S8192x1536, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x7168, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x2560, .f32⟩
  | .hbm, ⟨34, _⟩ => ⟨S8192x5x512, .f32⟩
  | .hbm, ⟨35, _⟩ => ⟨S5x512, .f32⟩
  | .hbm, ⟨36, _⟩ => ⟨S8192x5x512, .f32⟩
  | .hbm, ⟨37, _⟩ => ⟨S_, .f32⟩
  | .hbm, ⟨38, _⟩ => ⟨S8192x5, .f32⟩
  | .hbm, ⟨39, _⟩ => ⟨S8192x5x1, .f32⟩
  | .hbm, ⟨40, _⟩ => ⟨S_, .f32⟩
  | .hbm, ⟨41, _⟩ => ⟨S8192x5x1, .f32⟩
  | .hbm, ⟨42, _⟩ => ⟨S8192x5x1, .f32⟩
  | .hbm, ⟨43, _⟩ => ⟨S_, .f32⟩
  | .hbm, ⟨44, _⟩ => ⟨S8192x5x1, .f32⟩
  | .hbm, ⟨45, _⟩ => ⟨S8192x5x1, .f32⟩
  | .hbm, ⟨46, _⟩ => ⟨S8192x5x1, .f32⟩
  | .hbm, ⟨47, _⟩ => ⟨S8192x5x512, .f32⟩
  | .hbm, ⟨48, _⟩ => ⟨S8192x5x512, .f32⟩
  | .hbm, ⟨49, _⟩ => ⟨S1x5x512, .f32⟩
  | .hbm, ⟨50, _⟩ => ⟨S8192x5x512, .f32⟩
  | .hbm, ⟨51, _⟩ => ⟨S8192x5x512, .f32⟩
  | .hbm, ⟨52, _⟩ => ⟨S8192x2560, .f32⟩
  | .hbm, ⟨53, _⟩ => ⟨S1x2560x2048, .f32⟩
  | .hbm, ⟨54, _⟩ => ⟨S2560x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Dil.lean ====
abbrev S2x4096x1536 : Shape := ⟨3, ![2, 4096, 1536]⟩
abbrev S2x4096x512 : Shape := ⟨3, ![2, 4096, 512]⟩
abbrev S1x2048x128 : Shape := ⟨3, ![1, 2048, 128]⟩
abbrev S2048x128 : Shape := ⟨2, ![2048, 128]⟩
abbrev S4096x128 : Shape := ⟨2, ![4096, 128]⟩
abbrev S1x512x128 : Shape := ⟨3, ![1, 512, 128]⟩
abbrev S512x128 : Shape := ⟨2, ![512, 128]⟩
abbrev S128x256 : Shape := ⟨2, ![128, 256]⟩
abbrev S256x128 : Shape := ⟨2, ![256, 128]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S256x256 : Shape := ⟨2, ![256, 256]⟩
abbrev S1x256x128 : Shape := ⟨3, ![1, 256, 128]⟩

abbrev nBuf : Space → Nat
  | .hbm => 2
  | .vmem => 21
  | .smem => 0
  | _ => 0

abbrev bufTy : (tb : Table) → Fin (tcTables nBuf tb) → BufTy
  | .hbm, ⟨0, _⟩ => ⟨S2x4096x1536, .f32⟩
  | .hbm, ⟨1, _⟩ => ⟨S2x4096x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S2048x128, .f32⟩
  | .local _ .vmem, ⟨13, _⟩ => ⟨S4096x128, .f32⟩
  | .local _ .vmem, ⟨14, _⟩ => ⟨S4096x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 4], ![false, false, false]⟩

@[reducible] def k0_t1_loop : Scf.Loop 32 :=
  let c0_i32_835 : BitVec 32 := 0#32
  let c8_i32 : BitVec 32 := 8#32
  let v1730 : BitVec 32 := Scalar.addi c0_i32_835 c8_i32
  let c1_i32 : BitVec 32 := 1#32
  ⟨c0_i32_835, v1730, c1_i32⟩
def k0_mult1 (k0_t1 : Fin k0_t1_loop.trips) : BitVec 32 :=
  let c0_i32_835 : BitVec 32 := 0#32
  let c1_i32 : BitVec 32 := 1#32
  let arg18 : BitVec 32 := Scf.iv c0_i32_835 c1_i32 k0_t1
  let c0_i32_837 : BitVec 32 := 0#32
  let v1732 : BitVec 1 := Scalar.cmpi .sgt arg18 c0_i32_837
  let v1733 : BitVec 32 := Scalar.extui v1732
  let c0_i32_838 : BitVec 32 := 0#32
  let v1734 : BitVec 1 := Scalar.cmpi .slt arg18 c0_i32_838
  let v1735 : BitVec 32 := Scalar.extui v1734
  let v1736 : BitVec 32 := Scalar.subi v1733 v1735
  let c2_i32 : BitVec 32 := 2#32
  let c0_i32_839 : BitVec 32 := 0#32
  let v1737 : BitVec 1 := Scalar.cmpi .sgt c2_i32 c0_i32_839
  let v1738 : BitVec 32 := Scalar.extui v1737
  let c0_i32_840 : BitVec 32 := 0#32
  let v1739 : BitVec 1 := Scalar.cmpi .slt c2_i32 c0_i32_840
  let v1740 : BitVec 32 := Scalar.extui v1739
  let v1741 : BitVec 32 := Scalar.subi v1738 v1740
  let v1742 : BitVec 1 := Scalar.cmpi .ne v1736 v1741
  let v1743 : BitVec 32 := Scalar.remsi arg18 c2_i32
  let c0_i32_841 : BitVec 32 := 0#32
  let v1744 : BitVec 1 := Scalar.cmpi .ne v1743 c0_i32_841
  let v1745 : BitVec 1 := Scalar.andi v1742 v1744
  let v1731 : BitVec 32 := Scalar.divsi arg18 c2_i32
  let c1_i32_842 : BitVec 32 := 1#32
  let v1746 : BitVec 32 := Scalar.subi v1731 c1_i32_842
  let v1747 : BitVec 32 := Scalar.select v1745 v1746 v1731
  let c512_i32 : BitVec 32 := 512#32
  let v1759 : BitVec 32 := Scalar.muli v1747 c512_i32
  let c2_i32_843 : BitVec 32 := 2#32
  let c0_i32_844 : BitVec 32 := 0#32
  let v1748 : BitVec 1 := Scalar.cmpi .eq c2_i32_843 c0_i32_844
  let c1_i32_845 : BitVec 32 := 1#32
  let v1749 : BitVec 32 := Scalar.select v1748 c1_i32_845 c2_i32_843
  let v1750 : BitVec 32 := Scalar.remsi arg18 v1749
  let c0_i32_847 : BitVec 32 := 0#32
  let v1752 : BitVec 1 := Scalar.cmpi .slt v1750 c0_i32_847
  let c0_i32_848 : BitVec 32 := 0#32
  let v1753 : BitVec 1 := Scalar.cmpi .slt v1749 c0_i32_848
  let v1754 : BitVec 1 := Scalar.xori v1752 v1753
  let c0_i32_846 : BitVec 32 := 0#32
  let v1751 : BitVec 1 := Scalar.cmpi .ne v1750 c0_i32_846
  let v1755 : BitVec 1 := Scalar.andi v1754 v1751
  let v1756 : BitVec 32 := Scalar.addi v1750 v1749
  let v1757 : BitVec 32 := Scalar.select v1755 v1756 v1750
  let c256_i32 : BitVec 32 := 256#32
  let v1758 : BitVec 32 := Scalar.muli v1757 c256_i32
  let v1760 : BitVec 32 := Scalar.addi v1759 v1758
  v1760
def k0_off1 (k0_t1 : Fin k0_t1_loop.trips) : Fin 2 → Nat :=
  let c0_i32_835 : BitVec 32 := 0#32
  let c1_i32 : BitVec 32 := 1#32
  let arg18 : BitVec 32 := Scf.iv c0_i32_835 c1_i32 k0_t1
  let c2_i32_843 : BitVec 32 := 2#32
  let c0_i32_844 : BitVec 32 := 0#32
  let v1748 : BitVec 1 := Scalar.cmpi .eq c2_i32_843 c0_i32_844
  let c1_i32_845 : BitVec 32 := 1#32
  let v1749 : BitVec 32 := Scalar.select v1748 c1_i32_845 c2_i32_843
  let v1750 : BitVec 32 := Scalar.remsi arg18 v1749
  let c0_i32_847 : BitVec 32 := 0#32
  let v1752 : BitVec 1 := Scalar.cmpi .slt v1750 c0_i32_847
  let c0_i32_848 : BitVec 32 := 0#32
  let v1753 : BitVec 1 := Scalar.cmpi .slt v1749 c0_i32_848
  let v1754 : BitVec 1 := Scalar.xori v1752 v1753
  let c0_i32_846 : BitVec 32 := 0#32
  let v1751 : BitVec 1 := Scalar.cmpi .ne v1750 c0_i32_846
  let v1755 : BitVec 1 := Scalar.andi v1754 v1751
  let v1756 : BitVec 32 := Scalar.addi v1750 v1749
  let v1757 : BitVec 32 := Scalar.select v1755 v1756 v1750
  let c256_i32 : BitVec 32 := 256#32
  let v1758 : BitVec 32 := Scalar.muli v1757 c256_i32
  let c4_i32 : BitVec 32 := 4#32
  let v1762 : BitVec 32 := Scalar.muli v1758 c4_i32
  let c0_i32_837 : BitVec 32 := 0#32
  let v1732 : BitVec 1 := Scalar.cmpi .sgt arg18 c0_i32_837
  let v1733 : BitVec 32 := Scalar.extui v1732
  let c0_i32_838 : BitVec 32 := 0#32
  let v1734 : BitVec 1 := Scalar.cmpi .slt arg18 c0_i32_838
  let v1735 : BitVec 32 := Scalar.extui v1734
  let v1736 : BitVec 32 := Scalar.subi v1733 v1735
  let c2_i32 : BitVec 32 := 2#32
  let c0_i32_839 : BitVec 32 := 0#32
  let v1737 : BitVec 1 := Scalar.cmpi .sgt c2_i32 c0_i32_839
  let v1738 : BitVec 32 := Scalar.extui v1737
  let c0_i32_840 : BitVec 32 := 0#32
  let v1739 : BitVec 1 := Scalar.cmpi .slt c2_i32 c0_i32_840
  let v1740 : BitVec 32 := Scalar.extui v1739
  let v1741 : BitVec 32 := Scalar.subi v1738 v1740
  let v1742 : BitVec 1 := Scalar.cmpi .ne v1736 v1741
  let v1743 : BitVec 32 := Scalar.remsi arg18 c2_i32
  let c0_i32_841 : BitVec 32 := 0#32
  let v1744 : BitVec 1 := Scalar.cmpi .ne v1743 c0_i32_841
  let v1745 : BitVec 1 := Scalar.andi v1742 v1744
  let v1731 : BitVec 32 := Scalar.divsi arg18 c2_i32
  let c1_i32_842 : BitVec 32 := 1#32
  let v1746 : BitVec 32 := Scalar.subi v1731 c1_i32_842
  let v1747 : BitVec 32 := Scalar.select v1745 v1746 v1731
  let v1763 : BitVec 32 := Scalar.addi v1762 v1747
  let v1764 : Index := Scalar.indexCast v1763
  let c0_849 : Index := 0#32
  ![v1764.toNat, 0]
def k0_off2 (k0_t1 : Fin k0_t1_loop.trips) : Fin 2 → Nat :=
  let c0_i32_835 : BitVec 32 := 0#32
  let c1_i32 : BitVec 32 := 1#32
  let arg18 : BitVec 32 := Scf.iv c0_i32_835 c1_i32 k0_t1
  let c0_i32_837 : BitVec 32 := 0#32
  let v1732 : BitVec 1 := Scalar.cmpi .sgt arg18 c0_i32_837
  let v1733 : BitVec 32 := Scalar.extui v1732
  let c0_i32_838 : BitVec 32 := 0#32
  let v1734 : BitVec 1 := Scalar.cmpi .slt arg18 c0_i32_838
  let v1735 : BitVec 32 := Scalar.extui v1734
  let v1736 : BitVec 32 := Scalar.subi v1733 v1735
  let c2_i32 : BitVec 32 := 2#32
  let c0_i32_839 : BitVec 32 := 0#32
  let v1737 : BitVec 1 := Scalar.cmpi .sgt c2_i32 c0_i32_839
  let v1738 : BitVec 32 := Scalar.extui v1737
  let c0_i32_840 : BitVec 32 := 0#32
  let v1739 : BitVec 1 := Scalar.cmpi .slt c2_i32 c0_i32_840
  let v1740 : BitVec 32 := Scalar.extui v1739
  let v1741 : BitVec 32 := Scalar.subi v1738 v1740
  let v1742 : BitVec 1 := Scalar.cmpi .ne v1736 v1741
  let v1743 : BitVec 32 := Scalar.remsi arg18 c2_i32
  let c0_i32_841 : BitVec 32 := 0#32
  let v1744 : BitVec 1 := Scalar.cmpi .ne v1743 c0_i32_841
  let v1745 : BitVec 1 := Scalar.andi v1742 v1744
  let v1731 : BitVec 32 := Scalar.divsi arg18 c2_i32
  let c1_i32_842 : BitVec 32 := 1#32
  let v1746 : BitVec 32 := Scalar.subi v1731 c1_i32_842
  let v1747 : BitVec 32 := Scalar.select v1745 v1746 v1731
  let c512_i32 : BitVec 32 := 512#32
  let v1759 : BitVec 32 := Scalar.muli v1747 c512_i32
  let c2_i32_843 : BitVec 32 := 2#32
  let c0_i32_844 : BitVec 32 := 0#32
  let v1748 : BitVec 1 := Scalar.cmpi .eq c2_i32_843 c0_i32_844
  let c1_i32_845 : BitVec 32 := 1#32
  let v1749 : BitVec 32 := Scalar.select v1748 c1_i32_845 c2_i32_843
  let v1750 : BitVec 32 := Scalar.remsi arg18 v1749
  let c0_i32_847 : BitVec 32 := 0#32
  let v1752 : BitVec 1 := Scalar.cmpi .slt v1750 c0_i32_847
  let c0_i32_848 : BitVec 32 := 0#32
  let v1753 : BitVec 1 := Scalar.cmpi .slt v1749 c0_i32_848
  let v1754 : BitVec 1 := Scalar.xori v1752 v1753
  let c0_i32_846 : BitVec 32 := 0#32
  let v1751 : BitVec 1 := Scalar.cmpi .ne v1750 c0_i32_846
  let v1755 : BitVec 1 := Scalar.andi v1754 v1751
  let v1756 : BitVec 32 := Scalar.addi v1750 v1749
  let v1757 : BitVec 32 := Scalar.select v1755 v1756 v1750
  let c256_i32 : BitVec 32 := 256#32
  let v1758 : BitVec 32 := Scalar.muli v1757 c256_i32
  let v1760 : BitVec 32 := Scalar.addi v1759 v1758
  let v1761 : BitVec 32 := v1760
  let v1766 : Index := Scalar.indexCast v1761
  let c0_850 : Index := 0#32
  ![v1766.toNat, 0]
def k0_off3 (k0_t1 : Fin k0_t1_loop.trips) : Fin 3 → Nat :=
  let c0_855 : Index := 0#32
  let c0_i32_835 : BitVec 32 := 0#32
  let c1_i32 : BitVec 32 := 1#32
  let arg18 : BitVec 32 := Scf.iv c0_i32_835 c1_i32 k0_t1
  let c2_i32_843 : BitVec 32 := 2#32
  let c0_i32_844 : BitVec 32 := 0#32
  let v1748 : BitVec 1 := Scalar.cmpi .eq c2_i32_843 c0_i32_844
  let c1_i32_845 : BitVec 32 := 1#32
  let v1749 : BitVec 32 := Scalar.select v1748 c1_i32_845 c2_i32_843
  let v1750 : BitVec 32 := Scalar.remsi arg18 v1749
  let c0_i32_847 : BitVec 32 := 0#32
  let v1752 : BitVec 1 := Scalar.cmpi .slt v1750 c0_i32_847
  let c0_i32_848 : BitVec 32 := 0#32
  let v1753 : BitVec 1 := Scalar.cmpi .slt v1749 c0_i32_848
  let v1754 : BitVec 1 := Scalar.xori v1752 v1753
  let c0_i32_846 : BitVec 32 := 0#32
  let v1751 : BitVec 1 := Scalar.cmpi .ne v1750 c0_i32_846
  let v1755 : BitVec 1 := Scalar.andi v1754 v1751
  let v1756 : BitVec 32 := Scalar.addi v1750 v1749
  let v1757 : BitVec 32 := Scalar.select v1755 v1756 v1750
  let c256_i32 : BitVec 32 := 256#32
  let v1758 : BitVec 32 := Scalar.muli v1757 c256_i32
  let c4_i32 : BitVec 32 := 4#32
  let v1762 : BitVec 32 := Scalar.muli v1758 c4_i32
  let c0_i32_837 : BitVec 32 := 0#32
  let v1732 : BitVec 1 := Scalar.cmpi .sgt arg18 c0_i32_837
  let v1733 : BitVec 32 := Scalar.extui v1732
  let c0_i32_838 : BitVec 32 := 0#32
  let v1734 : BitVec 1 := Scalar.cmpi .slt arg18 c0_i32_838
  let v1735 : BitVec 32 := Scalar.extui v1734
  let v1736 : BitVec 32 := Scalar.subi v1733 v1735
  let c2_i32 : BitVec 32 := 2#32
  let c0_i32_839 : BitVec 32 := 0#32
  let v1737 : BitVec 1 := Scalar.cmpi .sgt c2_i32 c0_i32_839
  let v1738 : BitVec 32 := Scalar.extui v1737
  let c0_i32_840 : BitVec 32 := 0#32
  let v1739 : BitVec 1 := Scalar.cmpi .slt c2_i32 c0_i32_840
  let v1740 : BitVec 32 := Scalar.extui v1739
  let v1741 : BitVec 32 := Scalar.subi v1738 v1740
  let v1742 : BitVec 1 := Scalar.cmpi .ne v1736 v1741
  let v1743 : BitVec 32 := Scalar.remsi arg18 c2_i32
  let c0_i32_841 : BitVec 32 := 0#32
  let v1744 : BitVec 1 := Scalar.cmpi .ne v1743 c0_i32_841
  let v1745 : BitVec 1 := Scalar.andi v1742 v1744
  let v1731 : BitVec 32 := Scalar.divsi arg18 c2_i32
  let c1_i32_842 : BitVec 32 := 1#32
  let v1746 : BitVec 32 := Scalar.subi v1731 c1_i32_842
  let v1747 : BitVec 32 := Scalar.select v1745 v1746 v1731
  let v1763 : BitVec 32 := Scalar.addi v1762 v1747
  let v1792 : Index := Scalar.indexCast v1763
  let c0_856 : Index := 0#32
  ![0, v1792.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi c4_i32 arg2
  let c0_i32_0 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg2
  let c0_i32_0 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DilIdeal.lean ====
variable {F : FTy → Type} [FloatOps F] [Named F]
def κ : String → Option EReal := fun
  | "log2e" => some (((Real.log 2)⁻¹ : ℝ) : EReal)
  | "mask" => some ⊥
  | "scale2" => some (((Real.sqrt 128)⁻¹ * (Real.log 2)⁻¹ : ℝ) : EReal)
  | _ => none
-- ==== RefDilIdeal.lean ====
abbrev S2x4096x1536 : Shape := ⟨3, ![2, 4096, 1536]⟩
abbrev S2x4096x512 : Shape := ⟨3, ![2, 4096, 512]⟩
abbrev S2x4096x4x128 : Shape := ⟨4, ![2, 4096, 4, 128]⟩
abbrev S2x4096x1x4x128 : Shape := ⟨5, ![2, 4096, 1, 4, 128]⟩
abbrev S2x1x4x4096x128 : Shape := ⟨5, ![2, 1, 4, 4096, 128]⟩
abbrev S8x32x128x128 : Shape := ⟨4, ![8, 32, 128, 128]⟩
abbrev S_ : Shape := ⟨0, ![]⟩
abbrev S8x33x128x128 : Shape := ⟨4, ![8, 33, 128, 128]⟩
abbrev S8x32x256x128 : Shape := ⟨4, ![8, 32, 256, 128]⟩
abbrev S8x32x128x256 : Shape := ⟨4, ![8, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S32 : Shape := ⟨1, ![32]⟩
abbrev S32x1x1 : Shape := ⟨3, ![32, 1, 1]⟩
abbrev S128x256 : Shape := ⟨2, ![128, 256]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S8x32x128 : Shape := ⟨3, ![8, 32, 128]⟩
abbrev S8x32x128x1 : Shape := ⟨4, ![8, 32, 128, 1]⟩
abbrev S2x1x4x4096 : Shape := ⟨4, ![2, 1, 4, 4096]⟩
abbrev S2x4096x1x4 : Shape := ⟨4, ![2, 4096, 1, 4]⟩
abbrev S2x4096x4 : Shape := ⟨3, ![2, 4096, 4]⟩
abbrev S2x1024x4x4x128 : Shape := ⟨5, ![2, 1024, 4, 4, 128]⟩
abbrev S2x4x4x1024x128 : Shape := ⟨5, ![2, 4, 4, 1024, 128]⟩
abbrev S32x8x128x128 : Shape := ⟨4, ![32, 8, 128, 128]⟩
abbrev S32x9x128x128 : Shape := ⟨4, ![32, 9, 128, 128]⟩
abbrev S32x8x256x128 : Shape := ⟨4, ![32, 8, 256, 128]⟩
abbrev S32x8x128x256 : Shape := ⟨4, ![32, 8, 128, 256]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S32x8x128 : Shape := ⟨3, ![32, 8, 128]⟩
abbrev S32x8x128x1 : Shape := ⟨4, ![32, 8, 128, 1]⟩
abbrev S2x4x4x1024 : Shape := ⟨4, ![2, 4, 4, 1024]⟩
abbrev S2x1024x4x4 : Shape := ⟨4, ![2, 1024, 4, 4]⟩
abbrev S2x256x16x4x128 : Shape := ⟨5, ![2, 256, 16, 4, 128]⟩
abbrev S2x16x4x256x128 : Shape := ⟨5, ![2, 16, 4, 256, 128]⟩
abbrev S128x2x128x128 : Shape := ⟨4, ![128, 2, 128, 128]⟩
abbrev S128x3x128x128 : Shape := ⟨4, ![128, 3, 128, 128]⟩
abbrev S128x2x256x128 : Shape := ⟨4, ![128, 2, 256, 128]⟩
abbrev S128x2x128x256 : Shape := ⟨4, ![128, 2, 128, 256]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S128x2x128 : Shape := ⟨3, ![128, 2, 128]⟩
abbrev S128x2x128x1 : Shape := ⟨4, ![128, 2, 128, 1]⟩
abbrev S2x16x4x256 : Shape := ⟨4, ![2, 16, 4, 256]⟩
abbrev S2x256x16x4 : Shape := ⟨4, ![2, 256, 16, 4]⟩
abbrev S1x2x4096x4x128 : Shape := ⟨5, ![1, 2, 4096, 4, 128]⟩
abbrev S3x2x4096x4x128 : Shape := ⟨5, ![3, 2, 4096, 4, 128]⟩
abbrev S1x2x4096x4 : Shape := ⟨4, ![1, 2, 4096, 4]⟩
abbrev S3x2x4096x4 : Shape := ⟨4, ![3, 2, 4096, 4]⟩

abbrev nBuf : Space → Nat
  | .hbm => 271
  | .vmem => 0
  | .smem => 0
  | _ => 0

abbrev hbmTy0_0 (i : Nat) : BufTy := match i % 128 with
  | 0 => ⟨S2x4096x1536, .f32⟩
  | 1 => ⟨S2x4096x512, .f32⟩
  | 2 => ⟨S2x4096x512, .f32⟩
  | 3 => ⟨S2x4096x512, .f32⟩
  | 4 => ⟨S2x4096x4x128, .f32⟩
  | 5 => ⟨S2x4096x4x128, .f32⟩
  | 6 => ⟨S2x4096x4x128, .f32⟩
  | 7 => ⟨S2x4096x1x4x128, .f32⟩
  | 8 => ⟨S2x1x4x4096x128, .f32⟩
  | 9 => ⟨S8x32x128x128, .f32⟩
  | 10 => ⟨S2x4096x1x4x128, .f32⟩
  | 11 => ⟨S2x1x4x4096x128, .f32⟩
  | 12 => ⟨S8x32x128x128, .f32⟩
  | 13 => ⟨S_, .i32⟩
  | 14 => ⟨S_, .f32⟩
  | 15 => ⟨S8x33x128x128, .f32⟩
  | 16 => ⟨S8x32x128x128, .f32⟩
  | 17 => ⟨S8x32x256x128, .f32⟩
  | 18 => ⟨S2x4096x1x4x128, .f32⟩
  | 19 => ⟨S2x1x4x4096x128, .f32⟩
  | 20 => ⟨S8x32x128x128, .f32⟩
  | 21 => ⟨S_, .i32⟩
  | 22 => ⟨S_, .f32⟩
  | 23 => ⟨S8x33x128x128, .f32⟩
  | 24 => ⟨S8x32x128x128, .f32⟩
  | 25 => ⟨S8x32x256x128, .f32⟩
  | 26 => ⟨S8x32x128x256, .f32⟩
  | 27 => ⟨S_, .f32⟩
  | 28 => ⟨S_, .f32⟩
  | 29 => ⟨S8x32x128x256, .f32⟩
  | 30 => ⟨S8x32x128x256, .f32⟩
  | 31 => ⟨S128, .i32⟩
  | 32 => ⟨S128x1, .i32⟩
  | 33 => ⟨S256, .i32⟩
  | 34 => ⟨S1x256, .i32⟩
  | 35 => ⟨S32, .i32⟩
  | 36 => ⟨S32x1x1, .i32⟩
  | 37 => ⟨S128x256, .i32⟩
  | 38 => ⟨S128x256, .i32⟩
  | 39 => ⟨S128x256, .i1⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i1⟩
  | 46 => ⟨S128x256, .i1⟩
  | 47 => ⟨S_, .i32⟩
  | 48 => ⟨S32x1x1, .i32⟩
  | 49 => ⟨S32x1x1, .i32⟩
  | 50 => ⟨S1x1x256, .i32⟩
  | 51 => ⟨S32x1x256, .i32⟩
  | 52 => ⟨S32x1x256, .i32⟩
  | 53 => ⟨S32x1x256, .i32⟩
  | 54 => ⟨S_, .i32⟩
  | 55 => ⟨S32x1x256, .i32⟩
  | 56 => ⟨S32x1x256, .i1⟩
  | 57 => ⟨S1x128x256, .i1⟩
  | 58 => ⟨S32x128x256, .i1⟩
  | 59 => ⟨S32x128x256, .i1⟩
  | 60 => ⟨S32x128x256, .i1⟩
  | 61 => ⟨S_, .f32⟩
  | 62 => ⟨S_, .f32⟩
  | 63 => ⟨S8x32x128x256, .i1⟩
  | 64 => ⟨S8x32x128x256, .f32⟩
  | 65 => ⟨S8x32x128x256, .f32⟩
  | 66 => ⟨S_, .f32⟩
  | 67 => ⟨S8x32x128, .f32⟩
  | 68 => ⟨S8x32x128x1, .f32⟩
  | 69 => ⟨S8x32x128x256, .f32⟩
  | 70 => ⟨S8x32x128x256, .f32⟩
  | 71 => ⟨S8x32x128x256, .f32⟩
  | 72 => ⟨S_, .f32⟩
  | 73 => ⟨S8x32x128, .f32⟩
  | 74 => ⟨S8x32x128, .f32⟩
  | 75 => ⟨S8x32x128, .f32⟩
  | 76 => ⟨S8x32x128x1, .f32⟩
  | 77 => ⟨S8x32x128x256, .f32⟩
  | 78 => ⟨S8x32x128x256, .f32⟩
  | 79 => ⟨S8x32x128x256, .f32⟩
  | 80 => ⟨S8x32x128x128, .f32⟩
  | 81 => ⟨S2x1x4x4096x128, .f32⟩
  | 82 => ⟨S2x4096x1x4x128, .f32⟩
  | 83 => ⟨S2x4096x4x128, .f32⟩
  | 84 => ⟨S2x1x4x4096, .f32⟩
  | 85 => ⟨S2x4096x1x4, .f32⟩
  | 86 => ⟨S2x4096x4, .f32⟩
  | 87 => ⟨S2x1024x4x4x128, .f32⟩
  | 88 => ⟨S2x4x4x1024x128, .f32⟩
  | 89 => ⟨S32x8x128x128, .f32⟩
  | 90 => ⟨S2x1024x4x4x128, .f32⟩
  | 91 => ⟨S2x4x4x1024x128, .f32⟩
  | 92 => ⟨S32x8x128x128, .f32⟩
  | 93 => ⟨S_, .i32⟩
  | 94 => ⟨S_, .f32⟩
  | 95 => ⟨S32x9x128x128, .f32⟩
  | 96 => ⟨S32x8x128x128, .f32⟩
  | 97 => ⟨S32x8x256x128, .f32⟩
  | 98 => ⟨S2x1024x4x4x128, .f32⟩
  | 99 => ⟨S2x4x4x1024x128, .f32⟩
  | 100 => ⟨S32x8x128x128, .f32⟩
  | 101 => ⟨S_, .i32⟩
  | 102 => ⟨S_, .f32⟩
  | 103 => ⟨S32x9x128x128, .f32⟩
  | 104 => ⟨S32x8x128x128, .f32⟩
  | 105 => ⟨S32x8x256x128, .f32⟩
  | 106 => ⟨S32x8x128x256, .f32⟩
  | 107 => ⟨S_, .f32⟩
  | 108 => ⟨S_, .f32⟩
  | 109 => ⟨S32x8x128x256, .f32⟩
  | 110 => ⟨S32x8x128x256, .f32⟩
  | 111 => ⟨S128, .i32⟩
  | 112 => ⟨S128x1, .i32⟩
  | 113 => ⟨S256, .i32⟩
  | 114 => ⟨S1x256, .i32⟩
  | 115 => ⟨S8, .i32⟩
  | 116 => ⟨S8x1x1, .i32⟩
  | 117 => ⟨S128x256, .i32⟩
  | 118 => ⟨S128x256, .i32⟩
  | 119 => ⟨S128x256, .i1⟩
  | 120 => ⟨S_, .i32⟩
  | 121 => ⟨S128x1, .i32⟩
  | 122 => ⟨S128x1, .i32⟩
  | 123 => ⟨S128x256, .i32⟩
  | 124 => ⟨S128x256, .i32⟩
  | 125 => ⟨S128x256, .i1⟩
  | 126 => ⟨S128x256, .i1⟩
  | 127 => ⟨S_, .i32⟩
  | _ => ⟨S2x4096x1536, .f32⟩

abbrev hbmTy0_1 (i : Nat) : BufTy := match i % 128 with
  | 0 => ⟨S8x1x1, .i32⟩
  | 1 => ⟨S8x1x1, .i32⟩
  | 2 => ⟨S1x1x256, .i32⟩
  | 3 => ⟨S8x1x256, .i32⟩
  | 4 => ⟨S8x1x256, .i32⟩
  | 5 => ⟨S8x1x256, .i32⟩
  | 6 => ⟨S_, .i32⟩
  | 7 => ⟨S8x1x256, .i32⟩
  | 8 => ⟨S8x1x256, .i1⟩
  | 9 => ⟨S1x128x256, .i1⟩
  | 10 => ⟨S8x128x256, .i1⟩
  | 11 => ⟨S8x128x256, .i1⟩
  | 12 => ⟨S8x128x256, .i1⟩
  | 13 => ⟨S_, .f32⟩
  | 14 => ⟨S_, .f32⟩
  | 15 => ⟨S32x8x128x256, .i1⟩
  | 16 => ⟨S32x8x128x256, .f32⟩
  | 17 => ⟨S32x8x128x256, .f32⟩
  | 18 => ⟨S_, .f32⟩
  | 19 => ⟨S32x8x128, .f32⟩
  | 20 => ⟨S32x8x128x1, .f32⟩
  | 21 => ⟨S32x8x128x256, .f32⟩
  | 22 => ⟨S32x8x128x256, .f32⟩
  | 23 => ⟨S32x8x128x256, .f32⟩
  | 24 => ⟨S_, .f32⟩
  | 25 => ⟨S32x8x128, .f32⟩
  | 26 => ⟨S32x8x128, .f32⟩
  | 27 => ⟨S32x8x128, .f32⟩
  | 28 => ⟨S32x8x128x1, .f32⟩
  | 29 => ⟨S32x8x128x256, .f32⟩
  | 30 => ⟨S32x8x128x256, .f32⟩
  | 31 => ⟨S32x8x128x256, .f32⟩
  | 32 => ⟨S32x8x128x128, .f32⟩
  | 33 => ⟨S2x4x4x1024x128, .f32⟩
  | 34 => ⟨S2x1024x4x4x128, .f32⟩
  | 35 => ⟨S2x4096x4x128, .f32⟩
  | 36 => ⟨S2x4x4x1024, .f32⟩
  | 37 => ⟨S2x1024x4x4, .f32⟩
  | 38 => ⟨S2x4096x4, .f32⟩
  | 39 => ⟨S2x256x16x4x128, .f32⟩
  | 40 => ⟨S2x16x4x256x128, .f32⟩
  | 41 => ⟨S128x2x128x128, .f32⟩
  | 42 => ⟨S2x256x16x4x128, .f32⟩
  | 43 => ⟨S2x16x4x256x128, .f32⟩
  | 44 => ⟨S128x2x128x128, .f32⟩
  | 45 => ⟨S_, .i32⟩
  | 46 => ⟨S_, .f32⟩
  | 47 => ⟨S128x3x128x128, .f32⟩
  | 48 => ⟨S128x2x128x128, .f32⟩
  | 49 => ⟨S128x2x256x128, .f32⟩
  | 50 => ⟨S2x256x16x4x128, .f32⟩
  | 51 => ⟨S2x16x4x256x128, .f32⟩
  | 52 => ⟨S128x2x128x128, .f32⟩
  | 53 => ⟨S_, .i32⟩
  | 54 => ⟨S_, .f32⟩
  | 55 => ⟨S128x3x128x128, .f32⟩
  | 56 => ⟨S128x2x128x128, .f32⟩
  | 57 => ⟨S128x2x256x128, .f32⟩
  | 58 => ⟨S128x2x128x256, .f32⟩
  | 59 => ⟨S_, .f32⟩
  | 60 => ⟨S_, .f32⟩
  | 61 => ⟨S128x2x128x256, .f32⟩
  | 62 => ⟨S128x2x128x256, .f32⟩
  | 63 => ⟨S128, .i32⟩
  | 64 => ⟨S128x1, .i32⟩
  | 65 => ⟨S256, .i32⟩
  | 66 => ⟨S1x256, .i32⟩
  | 67 => ⟨S2, .i32⟩
  | 68 => ⟨S2x1x1, .i32⟩
  | 69 => ⟨S128x256, .i32⟩
  | 70 => ⟨S128x256, .i32⟩
  | 71 => ⟨S128x256, .i1⟩
  | 72 => ⟨S_, .i32⟩
  | 73 => ⟨S128x1, .i32⟩
  | 74 => ⟨S128x1, .i32⟩
  | 75 => ⟨S128x256, .i32⟩
  | 76 => ⟨S128x256, .i32⟩
  | 77 => ⟨S128x256, .i1⟩
  | 78 => ⟨S128x256, .i1⟩
  | 79 => ⟨S_, .i32⟩
  | 80 => ⟨S2x1x1, .i32⟩
  | 81 => ⟨S2x1x1, .i32⟩
  | 82 => ⟨S1x1x256, .i32⟩
  | 83 => ⟨S2x1x256, .i32⟩
  | 84 => ⟨S2x1x256, .i32⟩
  | 85 => ⟨S2x1x256, .i32⟩
  | 86 => ⟨S_, .i32⟩
  | 87 => ⟨S2x1x256, .i32⟩
  | 88 => ⟨S2x1x256, .i1⟩
  | 89 => ⟨S1x128x256, .i1⟩
  | 90 => ⟨S2x128x256, .i1⟩
  | 91 => ⟨S2x128x256, .i1⟩
  | 92 => ⟨S2x128x256, .i1⟩
  | 93 => ⟨S_, .f32⟩
  | 94 => ⟨S_, .f32⟩
  | 95 => ⟨S128x2x128x256, .i1⟩
  | 96 => ⟨S128x2x128x256, .f32⟩
  | 97 => ⟨S128x2x128x256, .f32⟩
  | 98 => ⟨S_, .f32⟩
  | 99 => ⟨S128x2x128, .f32⟩
  | 100 => ⟨S128x2x128x1, .f32⟩
  | 101 => ⟨S128x2x128x256, .f32⟩
  | 102 => ⟨S128x2x128x256, .f32⟩
  | 103 => ⟨S128x2x128x256, .f32⟩
  | 104 => ⟨S_, .f32⟩
  | 105 => ⟨S128x2x128, .f32⟩
  | 106 => ⟨S128x2x128, .f32⟩
  | 107 => ⟨S128x2x128, .f32⟩
  | 108 => ⟨S128x2x128x1, .f32⟩
  | 109 => ⟨S128x2x128x256, .f32⟩
  | 110 => ⟨S128x2x128x256, .f32⟩
  | 111 => ⟨S128x2x128x256, .f32⟩
  | 112 => ⟨S128x2x128x128, .f32⟩
  | 113 => ⟨S2x16x4x256x128, .f32⟩
  | 114 => ⟨S2x256x16x4x128, .f32⟩
  | 115 => ⟨S2x4096x4x128, .f32⟩
  | 116 => ⟨S2x16x4x256, .f32⟩
  | 117 => ⟨S2x256x16x4, .f32⟩
  | 118 => ⟨S2x4096x4, .f32⟩
  | 119 => ⟨S1x2x4096x4x128, .f32⟩
  | 120 => ⟨S1x2x4096x4x128, .f32⟩
  | 121 => ⟨S1x2x4096x4x128, .f32⟩
  | 122 => ⟨S3x2x4096x4x128, .f32⟩
  | 123 => ⟨S1x2x4096x4, .f32⟩
  | 124 => ⟨S1x2x4096x4, .f32⟩
  | 125 => ⟨S1x2x4096x4, .f32⟩
  | 126 => ⟨S3x2x4096x4, .f32⟩
  | 127 => ⟨S_, .f32⟩
  | _ => ⟨S2x4096x1536, .f32⟩

abbrev hbmTy0_2 (i : Nat) : BufTy := match i % 128 with
  | 0 => ⟨S2x4096x4, .f32⟩
  | 1 => ⟨S_, .f32⟩
  | 2 => ⟨S2x4096x4, .f32⟩
  | 3 => ⟨S2x4096x4, .f32⟩
  | 4 => ⟨S1x2x4096x4, .f32⟩
  | 5 => ⟨S3x2x4096x4, .f32⟩
  | 6 => ⟨S3x2x4096x4, .f32⟩
  | 7 => ⟨S3x2x4096x4, .f32⟩
  | 8 => ⟨S_, .f32⟩
  | 9 => ⟨S2x4096x4, .f32⟩
  | 10 => ⟨S1x2x4096x4, .f32⟩
  | 11 => ⟨S3x2x4096x4, .f32⟩
  | 12 => ⟨S3x2x4096x4, .f32⟩
  | 13 => ⟨S2x4096x4x128, .f32⟩
  | 14 => ⟨S2x4096x512, .f32⟩
  | _ => ⟨S2x4096x1536, .f32⟩

abbrev hbmTy (i : Nat) : BufTy := match i / 128 with
  | 0 => hbmTy0_0 i
  | 1 => hbmTy0_1 i
  | 2 => hbmTy0_2 i
  | _ => ⟨S2x4096x1536, .f32⟩

abbrev bufTy : (tb : Table) → Fin (tcTables nBuf tb) → BufTy
  | .hbm, ⟨i, _⟩ => hbmTy i
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_call0_v0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_call1_v0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_2 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_4 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_c_7 : Ref sig .tc := ⟨.hbm, 93, rfl⟩
abbrev main_call3_v0 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_c_8 : Ref sig .tc := ⟨.hbm, 101, rfl⟩
abbrev main_call4_v0 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_9 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_c_10 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_c_11 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_c_12 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_13 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v118 : Ref sig .tc := ⟨.hbm, 145, rfl⟩
abbrev main_cst_14 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_15 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_c_16 : Ref sig .tc := ⟨.hbm, 173, rfl⟩
abbrev main_call6_v0 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_c_17 : Ref sig .tc := ⟨.hbm, 181, rfl⟩
abbrev main_call7_v0 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_18 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_c_19 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_c_20 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_c_21 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_cst_22 : Ref sig .tc := ⟨.hbm, 221, rfl⟩
abbrev main_call8_v0 : Ref sig .tc := ⟨.hbm, 222, rfl⟩
abbrev main_call8_v1 : Ref sig .tc := ⟨.hbm, 223, rfl⟩
abbrev main_call8_v2 : Ref sig .tc := ⟨.hbm, 224, rfl⟩
abbrev main_v184 : Ref sig .tc := ⟨.hbm, 225, rfl⟩
abbrev main_cst_23 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_cst_24 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_cst_25 : Ref sig .tc := ⟨.hbm, 255, rfl⟩
abbrev main_v212 : Ref sig .tc := ⟨.hbm, 256, rfl⟩
abbrev main_cst_26 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_cst_27 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩

abbrev nD : Nat := 1
abbrev τ : Topo := Topo.v7x

variable {F : FTy → Type} [FloatOps F]
-- ==== Proof.DilKLoop.lean ====
/- The dilated attention: the merging loop and one run of the body. -/
module

public import proofs.«01_k».proof.Proof.Gen.Dil.Frame
public import proofs.«01_k».proof.Proof.Gen.Dil.Launch
public import proofs.«01_k».proof.Proof.Gen.Dil.Skeleton
public import proofs.«01_k».proof.Proof.Gen.Dil.Points
public import proofs.«01_k».proof.Proof.Gen.Dil.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Dil.Hand

open Cert.Dil Cert.Dil.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The merging loop's resources before any of its trips: the three levels' outputs and log-sums (held at `g12` to `g17` and only read) and the
    result's buffer, at some contents (each trip stores 256 rows of it, four apart). -/
def mergeAt (c : Dev nD) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) (g16 : Buf (Elt F) (arg16.view.loc (c : Thread nD τ))) (g17 : Buf (Elt F) (arg17.view.loc (c : Thread nD τ))) : sProp 𝕄 :=
  iprop((∃ f, arg8.view.loc (c : Thread nD τ) ↦[arg8.view.set]{fullShare} f) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17))

set_option warn.classDefReducibility false in
set_option maxHeartbeats 4000000 in
/-- The merging loop: one trip, over a symbolic trip number, takes those resources to themselves. -/
@[sl_loop] def mergeInv (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) (g16 : Buf (Elt F) (arg16.view.loc (c : Thread nD τ))) (g17 : Buf (Elt F) (arg17.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 where
  inv _ _ := mergeAt c arg3 harg3 arg4 harg4 arg5 harg5 arg6 harg6 arg7 harg7 arg8 harg8 arg9 harg9 arg10 harg10 arg11 harg11 arg12 harg12 arg13 harg13 arg14 harg14 arg15 harg15 arg16 harg16 arg17 harg17 g12 g13 g14 g15 g16 g17
  step k _ := by
    unfold mergeAt
    unfold k0_t1_body
    simp only [k0_part1_eq_skeleton]
    iintro ⟨⟨%f8, H8⟩, H12, H13, H14, H15, H16, H17⟩
    sl_exec
    sl_step
    isplitl [H8]; · iexists _; iexact H8
    isplitl [H12]; · iexact H12
    isplitl [H13]; · iexact H13
    isplitl [H14]; · iexact H14
    isplitl [H15]; · iexact H15
    isplitl [H16]; · iexact H16
    iexact H17

end Cert.Dil.Hand

end
-- ==== Proof.DilKRun.lean ====
/- The dilated attention: one run of the body. -/
module

public import proofs.«01_k».proof.Proof.DilKLoop

@[expose] public section

set_option maxRecDepth 16384

noncomputable section

namespace Cert.Dil.Hand

open Cert.Dil Cert.Dil.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body's triple, for any continuation: from the five operand blocks, the result's buffer and the nine scratch buffers at anything,
    the body runs to its return, handing back the operands as they were and the rest at some contents. -/
theorem kernelRun (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (x0 x1 x2 x3 x4 : Vec F S1x2048x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ (cc0_dilated i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dilated_eq_skeleton]; unfold cc0_dilated_skel
  simp only [k0_part47_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Dil.Hand

end
-- ==== Proof.DilKFrame.lean ====
/- The dilated attention: the body at every grid point, the run of the program and its frame. -/
module

public import proofs.«01_k».proof.Proof.DilKRun
public import Idealize.ShloMosaic.Lib.Claim

@[expose] public section

set_option maxRecDepth 16384

noncomputable section

namespace Cert.Dil.Hand

open Cert.Dil Cert.Dil.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer window 0 is on at point `t`. -/
abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
/-- The buffer window 1 is on at point `t`. -/
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
/-- The buffer window 2 is on at point `t`. -/
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
/-- The buffer window 3 is on at point `t`. -/
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
/-- The buffer window 4 is on at point `t`. -/
abbrev ms0_4 (t : Fin cfg0.N) : Memref sig .tc .vmem S1x2048x128 .f32 := win0_4.stage (cfg0.slots t 4)
abbrev hs0_4 (t : Fin cfg0.N) : (ms0_4 t).IsWhole := hstage0_4 ((cfg0.slots t 4).cast nbuf0_4)
/-- The buffer window 5 is on at point `t`. -/
abbrev ms0_5 (t : Fin cfg0.N) : Memref sig .tc .vmem S1x2048x128 .f32 := win0_5.stage (cfg0.slots t 5)
abbrev hs0_5 (t : Fin cfg0.N) : (ms0_5 t).IsWhole := hstage0_5 ((cfg0.slots t 5).cast nbuf0_5)
abbrev scM0_0 : Memref sig .tc .vmem S2048x128 .f32 := Memref.whole cc0_scratch0
abbrev scM0_1 : Memref sig .tc .vmem S4096x128 .f32 := Memref.whole cc0_scratch1
abbrev scM0_2 : Memref sig .tc .vmem S4096x128 .f32 := Memref.whole cc0_scratch2
abbrev scM0_3 : Memref sig .tc .vmem S2048x128 .f32 := Memref.whole cc0_scratch3
abbrev scM0_4 : Memref sig .tc .vmem S2048x128 .f32 := Memref.whole cc0_scratch4
abbrev scM0_5 : Memref sig .tc .vmem S2048x128 .f32 := Memref.whole cc0_scratch5
abbrev scM0_6 : Memref sig .tc .vmem S2048x128 .f32 := Memref.whole cc0_scratch6
abbrev scM0_7 : Memref sig .tc .vmem S2048x128 .f32 := Memref.whole cc0_scratch7
abbrev scM0_8 : Memref sig .tc .vmem S2048x128 .f32 := Memref.whole cc0_scratch8

/-- The invariant between points: the nine scratch buffers and the generator register, each at something. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- Of the six windows the result's is the one of whose contents nothing is said. -/
def forgets0 : Fin 6 → Bool := fun w => w == 5

/-- What each buffer holds after the body at each point: an operand's block, left in place; of the result nothing is said. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Pipeline.Dat.unnamed (cfg := cfg0) 5 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.succ = (dats m 0 c).Φ t.castSucc from rfl, after0_0, after0_1, after0_2, after0_3, after0_4,
    show (dats m 0 c).Φ t.castSucc = Pipeline.ΦA spec0 c from rfl, PhiA0_eq]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩⟩
  iapply (kernelRun c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, the result's contents unsaid. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every fair execution of the program terminates without a fault, with the operand's array as the region found it and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The frame: the run terminates without a fault, the argument array ends unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => h.1.arr_in c 4 rfl, h.2⟩) (run_main m ρ)

end Cert.Dil.Hand

end
-- ==== Proof.DilSpec.lean ====
/- The dilated attention's arithmetic, entry by entry: one tile of scores and its softmax in base two, and the merge of three levels. -/
module

public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem

namespace Cert.DilMath

/-- The merge of the three levels' outputs `o` by their base-two log-sums `a`. -/
def mergeG (a1 a2 a3 o1 o2 o3 : EReal) : EReal :=
  Ideal.div (Ideal.exp2 (a1 - max (max a1 a2) a3) * o1 + Ideal.exp2 (a2 - max (max a1 a2) a3) * o2 + Ideal.exp2 (a3 - max (max a1 a2) a3) * o3)
    (Ideal.exp2 (a1 - max (max a1 a2) a3) + Ideal.exp2 (a2 - max (max a1 a2) a3) + Ideal.exp2 (a3 - max (max a1 a2) a3))

/-- Where row `s` of 2048 lies once the rows are sorted by their residue modulo four. -/
def rho (s : Fin 2048) : Fin 2048 := ⟨s % 4 * 512 + s / 4, by omega⟩

/-- The merge trip that stores row `s`. -/
def trip (s : Fin 2048) : ℕ := s % 4 * 2 + s / 1024

/-- The merged block: levels two and three are kept sorted by residue. -/
def merged (l1 l2 l3 o1 o2 o3 : (⟨2, ![2048, 128]⟩ : Shape).Idx → EReal) : (⟨3, ![1, 2048, 128]⟩ : Shape).Idx → EReal := fun y =>
  mergeG (l1 (ix2 (y 1) (y 2))) (l2 (ix2 (rho (y 1)) (y 2))) (l3 (ix2 (rho (y 1)) (y 2)))
    (o1 (ix2 (y 1) (y 2))) (o2 (ix2 (rho (y 1)) (y 2))) (o3 (ix2 (rho (y 1)) (y 2)))

/-- The numbers the named constants stand for: the score's scale in base two, and the base-two logarithm of Euler's number. -/
def scale2 : EReal := (((Real.sqrt 128)⁻¹ * (Real.log 2)⁻¹ : ℝ) : EReal)
def log2e : EReal := (((Real.log 2)⁻¹ : ℝ) : EReal)

/-- One row's masked base-two scores against 256 keys. -/
def tsc (q : Fin 128 → EReal) (k : Fin 256 → Fin 128 → EReal) (b : Fin 256 → EReal) (m : Fin 256) : EReal := (∑ d, q d * k m d) * scale2 + b m
/-- Their maximum. -/
def tmax (q : Fin 128 → EReal) (k : Fin 256 → Fin 128 → EReal) (b : Fin 256 → EReal) : EReal :=
  Finset.univ.fold max (Ideal.ofBits .f32 0xFF800000#32) (tsc q k b)
/-- The weights, base two, less the maximum. -/
def tw (q : Fin 128 → EReal) (k : Fin 256 → Fin 128 → EReal) (b : Fin 256 → EReal) (m : Fin 256) : EReal := Ideal.exp2 (tsc q k b m - tmax q k b)
/-- The row's normaliser, output and base-two log-sum. -/
def tnorm (q : Fin 128 → EReal) (k : Fin 256 → Fin 128 → EReal) (b : Fin 256 → EReal) : EReal := ∑ m, tw q k b m
def oRow (q : Fin 128 → EReal) (k v : Fin 256 → Fin 128 → EReal) (b : Fin 256 → EReal) (d : Fin 128) : EReal := Ideal.div (∑ m, tw q k b m * v m d) (tnorm q k b)
def lRow (q : Fin 128 → EReal) (k : Fin 256 → Fin 128 → EReal) (b : Fin 256 → EReal) : EReal := tmax q k b + Ideal.log (tnorm q k b) * log2e

/-- The inverse of the sorting of the rows by residue. -/
def sig4 (r : Fin 2048) : Fin 2048 := ⟨4 * (r % 512) + r / 512, by omega⟩
theorem sig4_rho (s : Fin 2048) : sig4 (rho s) = s := by
  apply Fin.ext; show 4 * ((s.val % 4 * 512 + s.val / 4) % 512) + (s.val % 4 * 512 + s.val / 4) / 512 = s.val; omega

/-- Where key `m` of row `s` of the dilation `D` lies among the previous and the own block's rows. -/
def kpos (D : ℕ) (s : Fin 2048) (m : Fin 256) : Fin 4096 := ⟨(2048 + s + D * m - D * (s / D % 128 + 128)) % 4096, Nat.mod_lt _ (by decide)⟩

/-- Whether key `m` of row `s` is attended to: within the band, and, in the first band of the first block, not before the sequence. -/
def valid (start : Prop) (D : ℕ) (s : Fin 2048) (m : Fin 256) : Prop :=
  s / D % 128 ≤ m.val ∧ m.val ≤ s / D % 128 + 128 ∧ (start → s / D < 128 → 128 ≤ m.val)

open Classical in
/-- The mask as it is added to the scores. -/
def mask (start : Prop) (D : ℕ) (s : Fin 2048) (m : Fin 256) : EReal := if valid start D s m then 0 else ⊥

/-- A block's row, and the rows of the previous and the own block together. -/
def rowQ (x : (⟨3, ![1, 2048, 128]⟩ : Shape).Idx → EReal) (s : Fin 2048) (d : Fin 128) : EReal := x (ix3 0 s d)
def rowK (x1 x2 : (⟨3, ![1, 2048, 128]⟩ : Shape).Idx → EReal) (t : Fin 4096) (d : Fin 128) : EReal :=
  if h : t.val < 2048 then x1 (ix3 0 ⟨t, h⟩ d) else x2 (ix3 0 ⟨t - 2048, by omega⟩ d)

/-- One level's output and log-sum at row `s`. -/
def oLev (start : Prop) (D : ℕ) (x0 x1 x2 x3 x4 : (⟨3, ![1, 2048, 128]⟩ : Shape).Idx → EReal) (s : Fin 2048) (d : Fin 128) : EReal :=
  oRow (rowQ x0 s) (fun m => rowK x1 x2 (kpos D s m)) (fun m => rowK x3 x4 (kpos D s m)) (mask start D s) d
def lLev (start : Prop) (D : ℕ) (x0 x1 x2 : (⟨3, ![1, 2048, 128]⟩ : Shape).Idx → EReal) (s : Fin 2048) : EReal :=
  lRow (rowQ x0 s) (fun m => rowK x1 x2 (kpos D s m)) (mask start D s)

/-- What one grid point stores. -/
def outBlk (start : Prop) (x0 x1 x2 x3 x4 : (⟨3, ![1, 2048, 128]⟩ : Shape).Idx → EReal) : (⟨3, ![1, 2048, 128]⟩ : Shape).Idx → EReal := fun y =>
  mergeG (lLev start 1 x0 x1 x2 (y 1)) (lLev start 4 x0 x1 x2 (y 1)) (lLev start 16 x0 x1 x2 (y 1))
    (oLev start 1 x0 x1 x2 x3 x4 (y 1) (y 2)) (oLev start 4 x0 x1 x2 x3 x4 (y 1) (y 2)) (oLev start 16 x0 x1 x2 x3 x4 (y 1) (y 2))

end Cert.DilMath
-- ==== Proof.DilILoop.lean ====
/- The dilated attention, idealized: the merging loop. -/
module

public import proofs.«01_k».proof.Proof.Gen.DilIdeal.Frame
public import proofs.«01_k».proof.Proof.Gen.DilIdeal.Launch
public import proofs.«01_k».proof.Proof.Gen.DilIdeal.Skeleton
public import proofs.«01_k».proof.Proof.Gen.DilIdeal.Points
public import proofs.«01_k».proof.Proof.Gen.DilIdeal.Loops
public import proofs.«01_k».proof.Proof.DilSpec
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DilMath
open Idealize.ShloMosaic.Pipeline (Dat Cfg Window BodyObligation cellOf)

local notation "𝕄" => MT nD τ sig Unit (Elt Ideal) ℕ (UR sig nD τ) ℕ

/-- The merging loop's resources before its trip `n`: the three levels' outputs and log-sums (held at `g12` to `g17` and only read) and the
    result's buffer, whose rows of the trips before `n` are merged. -/
def mergeAt (n : ℕ) (c : Dev nD) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (g12 : Buf (Elt Ideal) (arg12.view.loc (c : Thread nD τ))) (g13 : Buf (Elt Ideal) (arg13.view.loc (c : Thread nD τ))) (g14 : Buf (Elt Ideal) (arg14.view.loc (c : Thread nD τ))) (g15 : Buf (Elt Ideal) (arg15.view.loc (c : Thread nD τ))) (g16 : Buf (Elt Ideal) (arg16.view.loc (c : Thread nD τ))) (g17 : Buf (Elt Ideal) (arg17.view.loc (c : Thread nD τ))) : sProp 𝕄 :=
  iprop((∃ f, (arg8.view.loc (c : Thread nD τ) ↦[arg8.view.set]{fullShare} f) ∗ ⌜∀ y : S1x2048x128.Idx, trip (y 1) < n → arg8.view.read (Elt Ideal) f y = merged (arg15.view.read (Elt Ideal) g15) (arg16.view.read (Elt Ideal) g16) (arg17.view.read (Elt Ideal) g17) (arg12.view.read (Elt Ideal) g12) (arg13.view.read (Elt Ideal) g13) (arg14.view.read (Elt Ideal) g14) y⌝) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17))

theorem off1_eq : ∀ k : Fin k0_t1_loop.trips, k0_off1 k = ![1024 * (k.val % 2) + k.val / 2, 0] := by decide +kernel
theorem off2_eq : ∀ k : Fin k0_t1_loop.trips, k0_off2 k = ![512 * (k.val / 2) + 256 * (k.val % 2), 0] := by decide +kernel
theorem off3_eq : ∀ k : Fin k0_t1_loop.trips, k0_off3 k = ![0, 1024 * (k.val % 2) + k.val / 2, 0] := by decide +kernel

/-- One trip's payload, entry by entry. -/
theorem pay3_at (a1 a2 a3 o1 o2 o3 : Vec Ideal S256x128 .f32) (j : Fin 256) (d : Fin 128) :
    k0_pay3 a1 a2 a3 (k0_pay4 a1 a2) o1 o2 o3 (ix3 0 j d)
      = mergeG (a1 (ix2 j d)) (a2 (ix2 j d)) (a3 (ix2 j d)) (o1 (ix2 j d)) (o2 (ix2 j d)) (o3 (ix2 j d)) := by
  pointwise [k0_pay3, k0_pay4, mergeG]
  rfl

/-- What trip `k` stores at a row it owns is that row's merge; other rows it leaves. -/
theorem merge_step {κ : Kind} {sp : Space} (v : View sig κ sp S1x2048x128 .f32) (f : v.ty.Contents (Elt Ideal)) (k : Fin k0_t1_loop.trips)
    (l1 l2 l3 o1 o2 o3 : S2048x128.Idx → EReal)
    (hf : ∀ y : S1x2048x128.Idx, trip (y 1) < k.val → v.read (Elt Ideal) f y = merged l1 l2 l3 o1 o2 o3 y) (y : S1x2048x128.Idx) (hy : trip (y 1) < k.val + 1) :
    v.read (Elt Ideal) (v.writes (Elt Ideal) f [⟨⟨(⟨k0_off3 k, S1x256x128.size, ![1, 4, 1], (k0_off3_inb k)⟩ : LoadRect S1x2048x128), spos_1_4_1⟩,
      k0_pay3 (fun j => l1 ((⟨k0_off1 k, S256x128.size, ![4, 1], (k0_off1_inb k)⟩ : LoadRect S2048x128).idx j))
        (fun j => l2 ((Rect.unit (s := S2048x128) (k0_off2 k) S256x128.size (k0_off2_inb k)).idx j)) (fun j => l3 ((Rect.unit (s := S2048x128) (k0_off2 k) S256x128.size (k0_off2_inb k)).idx j))
        (k0_pay4 (F := Ideal) (fun j => l1 ((⟨k0_off1 k, S256x128.size, ![4, 1], (k0_off1_inb k)⟩ : LoadRect S2048x128).idx j)) (fun j => l2 ((Rect.unit (s := S2048x128) (k0_off2 k) S256x128.size (k0_off2_inb k)).idx j)))
        (fun j => o1 ((⟨k0_off1 k, S256x128.size, ![4, 1], (k0_off1_inb k)⟩ : LoadRect S2048x128).idx j))
        (fun j => o2 ((Rect.unit (s := S2048x128) (k0_off2 k) S256x128.size (k0_off2_inb k)).idx j)) (fun j => o3 ((Rect.unit (s := S2048x128) (k0_off2 k) S256x128.size (k0_off2_inb k)).idx j))⟩]) y
      = merged l1 l2 l3 o1 o2 o3 y := by
  have e1 := off1_eq k
  have e2 := off2_eq k
  have e3 := off3_eq k
  have hk : k.val < 8 := k.isLt
  have hy0 : (y 0).val < 1 := (y 0).isLt
  have hy1 : (y 1).val < 2048 := (y 1).isLt
  have hy2 : (y 2).val < 128 := (y 2).isLt
  by_cases h : trip (y 1) = k.val
  · unfold trip at h
    have hm : (y 1).val % 1024 % 4 = (y 1).val % 4 := Nat.mod_mod_of_dvd _ (by decide)
    have hk2 : k.val / 2 = (y 1).val % 4 := by omega
    have hk3 : k.val % 2 = (y 1).val / 1024 := by omega
    have hx : (⟨(⟨k0_off3 k, S1x256x128.size, ![1, 4, 1], (k0_off3_inb k)⟩ : LoadRect S1x2048x128), spos_1_4_1⟩ : Rect S1x2048x128).emb
        (ix3 (0 : Fin 1) (⟨(y 1).val % 1024 / 4, by omega⟩ : Fin 256) (y 2)) = y := by
      funext a; apply Fin.ext
      match a with
      | ⟨0, _⟩ => show k0_off3 k 0 + 1 * 0 = (y 0).val; rw [e3]; show 0 + 1 * 0 = (y 0).val; omega
      | ⟨1, _⟩ => show k0_off3 k 1 + 4 * ((y 1).val % 1024 / 4) = (y 1).val; rw [e3]; show 1024 * (k.val % 2) + k.val / 2 + 4 * ((y 1).val % 1024 / 4) = (y 1).val; omega
      | ⟨2, _⟩ => show k0_off3 k 2 + 1 * (y 2).val = (y 2).val; rw [e3]; show 0 + 1 * (y 2).val = (y 2).val; omega
    have i1 : (⟨k0_off1 k, S256x128.size, ![4, 1], (k0_off1_inb k)⟩ : LoadRect S2048x128).idx (ix2 (⟨(y 1).val % 1024 / 4, by omega⟩ : Fin 256) (y 2)) = ix2 (y 1) (y 2) := by
      funext a; apply Fin.ext
      match a with
      | ⟨0, _⟩ => show k0_off1 k 0 + 4 * ((y 1).val % 1024 / 4) = (y 1).val; rw [e1]; show 1024 * (k.val % 2) + k.val / 2 + 4 * ((y 1).val % 1024 / 4) = (y 1).val; omega
      | ⟨1, _⟩ => show k0_off1 k 1 + 1 * (y 2).val = (y 2).val; rw [e1]; show 0 + 1 * (y 2).val = (y 2).val; omega
    have i2 : (Rect.unit (s := S2048x128) (k0_off2 k) S256x128.size (k0_off2_inb k)).idx (ix2 (⟨(y 1).val % 1024 / 4, by omega⟩ : Fin 256) (y 2)) = ix2 (rho (y 1)) (y 2) := by
      funext a; apply Fin.ext
      match a with
      | ⟨0, _⟩ => show k0_off2 k 0 + 1 * ((y 1).val % 1024 / 4) = (y 1).val % 4 * 512 + (y 1).val / 4; rw [e2]; show 512 * (k.val / 2) + 256 * (k.val % 2) + 1 * ((y 1).val % 1024 / 4) = (y 1).val % 4 * 512 + (y 1).val / 4; omega
      | ⟨1, _⟩ => show k0_off2 k 1 + 1 * (y 2).val = (y 2).val; rw [e2]; show 0 + 1 * (y 2).val = (y 2).val; omega
    refine (congrArg _ hx.symm).trans ?_
    refine (View.read_writes_cons_emb _ _ _ _ _ _).trans ?_
    refine (pay3_at _ _ _ _ _ _ _ _).trans ?_
    rw [i1, i2]
    rfl
  · refine Eq.trans ?_ (hf y (by omega))
    unfold trip at h
    refine View.read_slice_write_of_not_mem _ _ _ _ ?_
    rw [Rect.map_emb_univ, LoadRect.mem_set]
    intro hm
    obtain ⟨j, hj, he⟩ := hm 1
    change j < 256 at hj
    change (y 1).val = k0_off3 k 1 + 4 * j at he
    rw [e3] at he
    change (y 1).val = 1024 * (k.val % 2) + k.val / 2 + 4 * j at he
    have h4 : k.val / 2 < 4 := by omega
    have hr : (y 1).val % 4 = k.val / 2 := by omega
    have hh : (y 1).val / 1024 = k.val % 2 := by omega
    omega

set_option warn.classDefReducibility false in
set_option maxHeartbeats 4000000 in
/-- The merging loop: one trip, over a symbolic trip number, takes those resources to those of the next trip. -/
@[sl_loop] def mergeInv (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (g12 : Buf (Elt Ideal) (arg12.view.loc (c : Thread nD τ))) (g13 : Buf (Elt Ideal) (arg13.view.loc (c : Thread nD τ))) (g14 : Buf (Elt Ideal) (arg14.view.loc (c : Thread nD τ))) (g15 : Buf (Elt Ideal) (arg15.view.loc (c : Thread nD τ))) (g16 : Buf (Elt Ideal) (arg16.view.loc (c : Thread nD τ))) (g17 : Buf (Elt Ideal) (arg17.view.loc (c : Thread nD τ))) :
    LoopInvTy_k0_t1 (F := Ideal) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 where
  inv n _ := mergeAt n c arg3 harg3 arg4 harg4 arg5 harg5 arg6 harg6 arg7 harg7 arg8 harg8 arg9 harg9 arg10 harg10 arg11 harg11 arg12 harg12 arg13 harg13 arg14 harg14 arg15 harg15 arg16 harg16 arg17 harg17 g12 g13 g14 g15 g16 g17
  step k _ := by
    unfold mergeAt
    unfold k0_t1_body
    simp only [k0_part1_eq_skeleton]
    iintro ⟨⟨%f8, H8, %hf⟩, H12, H13, H14, H15, H16, H17⟩
    sl_exec
    sl_step
    isplitl [H8]
    · iexists _; isplitl; · iexact H8
      ipureintro
      exact merge_step arg8.view f8 k _ _ _ _ _ _ hf
    isplitl [H12]; · iexact H12
    isplitl [H13]; · iexact H13
    isplitl [H14]; · iexact H14
    isplitl [H15]; · iexact H15
    isplitl [H16]; · iexact H16
    iexact H17

end Cert.DilIdeal.Hand

end
-- ==== Proof.DilITile.lean ====
/- The dilated attention, idealized: one tile's softmax, entry by entry. -/
module

public import proofs.«01_k».proof.Proof.DilSpec
public import proofs.«01_k».proof.Proof.Gen.DilIdeal.Skeleton
public import Idealize.ShloMosaic.Lib.WordCmp

@[expose] public section
set_option maxRecDepth 16384
noncomputable section
open Idealize.ShloMosaic Idealize.ShloMosaic.TcCoe Idealize.SL.Sem
open Cert.DilMath

namespace Cert.DilIdeal.Hand
open Cert.DilIdeal Cert.DilIdeal.Gen

/-- A tile's masked scores, -/
def tT (q : FVec Ideal S128x128 .f32) (k : FVec Ideal S256x128 .f32) (b : FVec Ideal S128x256 .f32) : FVec Ideal S128x256 .f32 :=
  addf (mulf (matmul dot_S128x128_S256x128_S128x256_1_1_0_0_n_n none (truncf .bf16 q bitsLt_bf16_f32) (truncf .bf16 k bitsLt_bf16_f32) (constant S128x256 .f32 0x00000000#32))
    (broadcast S128x256 (Named.named (F := Ideal) κ "scale2" 0x3E0293EE#32 : Ideal .f32))) b
/-- their row maxima, -/
def mT (q : FVec Ideal S128x128 .f32) (k : FVec Ideal S256x128 .f32) (b : FVec Ideal S128x256 .f32) : FVec Ideal S128x1 .f32 :=
  shapeCast S128x1 (multiReduction .maximumf [1] S128 (tT q k b) 0xFF800000#32 reduces_S128x256_S128 (.inl rfl) rfl : FVec Ideal S128 .f32) shapeCasts_S128_S128x1
/-- the weighted sums of the values beside the normalisers, -/
def rT (q : FVec Ideal S128x128 .f32) (k v : FVec Ideal S256x128 .f32) (b : FVec Ideal S128x256 .f32) : FVec Ideal S128x256 .f32 :=
  matmul dot_S128x256_S256x256_S128x256_1_0_0_1_n_n none (truncf .bf16 (exp2 (subf (tT q k b) (broadcastTo S128x256 (mT q k b) broadcasts_S128x1_S128x256))) bitsLt_bf16_f32)
    (concatenate S256x256 1 [⟨S256x128, truncf .bf16 v bitsLt_bf16_f32⟩, ⟨S256x128, k0_pay30 (F := Ideal)⟩] concatenates_S256x128_S256x128_S256x256_d1) (constant S128x256 .f32 0x00000000#32)
/-- the output, -/
def oT (q : FVec Ideal S128x128 .f32) (k v : FVec Ideal S256x128 .f32) (b : FVec Ideal S128x256 .f32) : FVec Ideal S128x128 .f32 :=
  divf (extractStridedSlice S128x128 ![0, 0] (rT q k v b) slices_S128x256_o0_0_S128x128) (extractStridedSlice S128x128 ![0, 128] (rT q k v b) slices_S128x256_o0_128_S128x128)
/-- and the log-sum. -/
def lT (q : FVec Ideal S128x128 .f32) (k v : FVec Ideal S256x128 .f32) (b : FVec Ideal S128x256 .f32) : FVec Ideal S128x128 .f32 :=
  addf (broadcastTo S128x128 (mT q k b) broadcasts_S128x1_S128x128)
    (mulf (log (extractStridedSlice S128x128 ![0, 128] (rT q k v b) slices_S128x256_o0_128_S128x128)) (broadcast S128x128 (Named.named (F := Ideal) κ "log2e" 0x3FB8AA3B#32 : Ideal .f32)))

theorem scale2_eq : (Named.named (F := Ideal) κ "scale2" 0x3E0293EE#32 : Ideal .f32) = scale2 := IdealRules.named_const.ideal_named_scalar _ _ _ _ rfl
theorem log2e_eq : (Named.named (F := Ideal) κ "log2e" 0x3FB8AA3B#32 : Ideal .f32) = log2e := IdealRules.named_const.ideal_named_scalar _ _ _ _ rfl
theorem mask_eq : (Named.named (F := Ideal) κ "mask" 0xF149F2CA#32 : Ideal .f32) = (⊥ : EReal) := IdealRules.named_const.ideal_named_scalar _ _ _ _ rfl

theorem tT_at (q : FVec Ideal S128x128 .f32) (k : FVec Ideal S256x128 .f32) (b : FVec Ideal S128x256 .f32) (i : Fin 128) (m : Fin 256) :
    tT q k b (ix2 i m) = tsc (fun d => q (ix2 i d)) (fun m d => k (ix2 m d)) (fun m => b (ix2 i m)) m := by
  unfold tT
  rw [scale2_eq]
  pointwise [tsc]
theorem mT_at (q : FVec Ideal S128x128 .f32) (k : FVec Ideal S256x128 .f32) (b : FVec Ideal S128x256 .f32) (i : Fin 128) :
    mT q k b (ix2 i 0) = tmax (fun d => q (ix2 i d)) (fun m d => k (ix2 m d)) (fun m => b (ix2 i m)) := by
  pointwise [mT, tmax, tT_at]
theorem rT_o (q : FVec Ideal S128x128 .f32) (k v : FVec Ideal S256x128 .f32) (b : FVec Ideal S128x256 .f32) (i d : Fin 128) :
    rT q k v b (ix2 i ⟨d, by omega⟩) = ∑ m, tw (fun d => q (ix2 i d)) (fun m d => k (ix2 m d)) (fun m => b (ix2 i m)) m * v (ix2 m d) := by
  pointwise [rT, tw, tT_at, mT_at]
  rfl
theorem rT_l (q : FVec Ideal S128x128 .f32) (k v : FVec Ideal S256x128 .f32) (b : FVec Ideal S128x256 .f32) (i d : Fin 128) :
    rT q k v b (ix2 i ⟨128 + d, by omega⟩) = tnorm (fun d => q (ix2 i d)) (fun m d => k (ix2 m d)) (fun m => b (ix2 i m)) := by
  pointwise [rT, tw, tnorm, tT_at, mT_at, k0_pay30]
  rfl

theorem oT_at (q : FVec Ideal S128x128 .f32) (k v : FVec Ideal S256x128 .f32) (b : FVec Ideal S128x256 .f32) (i d : Fin 128) :
    oT q k v b (ix2 i d) = oRow (fun d => q (ix2 i d)) (fun m d => k (ix2 m d)) (fun m d => v (ix2 m d)) (fun m => b (ix2 i m)) d := by
  have h := rT_o q k v b i d
  have h' := rT_l q k v b i d
  pointwise [oT, oRow, h, h']
theorem lT_at (q : FVec Ideal S128x128 .f32) (k v : FVec Ideal S256x128 .f32) (b : FVec Ideal S128x256 .f32) (i d : Fin 128) :
    lT q k v b (ix2 i d) = lRow (fun d => q (ix2 i d)) (fun m d => k (ix2 m d)) (fun m => b (ix2 i m)) := by
  have h' := rT_l q k v b i d
  unfold lT
  rw [log2e_eq]
  pointwise [lRow, h', mT_at]

/-- The band's mask. -/
theorem bias_any (i : Fin 128) (m : Fin 256) : (k0_pay27 (F := Ideal)) (ix2 i m) = if i.val ≤ m.val ∧ m.val ≤ i.val + 128 then 0 else ⊥ := by
  unfold k0_pay27
  rw [mask_eq]
  pointwise [k0_pay26]
  have e : IntOp.addi (BitVec.ofNat 32 i.val) 128#32 = BitVec.ofNat 32 (i.val + 128) := by
    show BitVec.ofNat 32 i.val + BitVec.ofNat 32 128 = _; rw [← BitVec.ofNat_add]
  rw [e, WordCmp.cmpi_sge_ofNat (w := 32) (by omega) (by omega), WordCmp.cmpi_sle_ofNat (w := 32) (by omega) (by omega)]
  by_cases h1 : i.val ≤ m.val <;> by_cases h2 : m.val ≤ i.val + 128 <;> simp [Scalar.select, IntOp.andi, h1, h2]
/-- The band's mask without the keys before the block. -/
theorem bias_start (i : Fin 128) (m : Fin 256) : (k0_pay29 (F := Ideal) (iota .tc S128x256 32 [1] iota_S128x256_d1_w32) k0_pay26 k0_pay28) (ix2 i m)
    = if (i.val ≤ m.val ∧ m.val ≤ i.val + 128) ∧ 128 ≤ m.val then 0 else ⊥ := by
  unfold k0_pay29
  rw [mask_eq]
  pointwise [k0_pay26, k0_pay28]
  have e : IntOp.addi (BitVec.ofNat 32 i.val) 128#32 = BitVec.ofNat 32 (i.val + 128) := by
    show BitVec.ofNat 32 i.val + BitVec.ofNat 32 128 = _; rw [← BitVec.ofNat_add]
  rw [e, show (128#32 : BitVec 32) = BitVec.ofNat 32 128 from rfl, WordCmp.cmpi_sge_ofNat (w := 32) (by omega) (by omega), WordCmp.cmpi_sle_ofNat (w := 32) (by omega) (by omega),
    WordCmp.cmpi_sge_ofNat (w := 32) (by omega) (by omega)]
  by_cases h1 : i.val ≤ m.val <;> by_cases h2 : m.val ≤ i.val + 128 <;> by_cases h3 : 128 ≤ m.val <;> simp [Scalar.select, IntOp.andi, h1, h2, h3]

/-- The mask a first band uses: by whether the grid point starts a sequence. -/
def bF (e : Fin 2) : FVec Ideal S128x256 .f32 :=
  Scalar.select (Scalar.xori (Scalar.cmpi .sgt (BitVec.ofNat 32 e.val) 0#32) 1#1) (k0_pay29 (F := Ideal) (iota .tc S128x256 32 [1] iota_S128x256_d1_w32) k0_pay26 k0_pay28) k0_pay27
theorem bF_at (e : Fin 2) (i : Fin 128) (m : Fin 256) : bF e (ix2 i m)
    = if (i.val ≤ m.val ∧ m.val ≤ i.val + 128) ∧ (e = 0 → 128 ≤ m.val) then 0 else ⊥ := by
  unfold bF
  match e with
  | 0 => exact (bias_start i m).trans (by simp)
  | 1 => exact (bias_any i m).trans (by simp)

/-- The masks are `mask`. -/
theorem bF_mask (e : Fin 2) (D : ℕ) (s : Fin 2048) (i : Fin 128) (m : Fin 256) (h1 : s.val / D < 128) (h2 : s.val / D = i.val) : bF e (ix2 i m) = mask (e = 0) D s m := by
  rw [bF_at]
  unfold mask valid
  rw [Nat.mod_eq_of_lt h1, h2]
  have : (i.val ≤ m.val ∧ m.val ≤ i.val + 128) ∧ (e = 0 → 128 ≤ m.val) ↔ i.val ≤ m.val ∧ m.val ≤ i.val + 128 ∧ (e = 0 → i.val < 128 → 128 ≤ m.val) :=
    ⟨fun h => ⟨h.1.1, h.1.2, fun h' _ => h.2 h'⟩, fun h => ⟨⟨h.1, h.2.1⟩, fun h' => h.2.2 h' i.isLt⟩⟩
  simp only [this]
  congr
theorem any_mask (e : Fin 2) (D : ℕ) (s : Fin 2048) (i : Fin 128) (m : Fin 256) (h1 : ¬ s.val / D < 128) (h2 : s.val / D % 128 = i.val) :
    (k0_pay27 (F := Ideal)) (ix2 i m) = mask (e = 0) D s m := by
  rw [bias_any]
  unfold mask valid
  rw [h2]
  have : (i.val ≤ m.val ∧ m.val ≤ i.val + 128) ↔ i.val ≤ m.val ∧ m.val ≤ i.val + 128 ∧ (e = 0 → s.val / D < 128 → 128 ≤ m.val) :=
    ⟨fun h => ⟨h.1, h.2, fun _ h' => absurd h' h1⟩, fun h => ⟨h.1, h.2.1⟩⟩
  simp only [this]
  congr

/-- A tile's output and log-sum, from what its rows, keys, values and mask are. -/
theorem oT_of {p : FVec Ideal S128x128 .f32} {q : FVec Ideal S128x128 .f32} {k v : FVec Ideal S256x128 .f32} {b : FVec Ideal S128x256 .f32} (hp : p = oT q k v b)
    {Q : Fin 128 → EReal} {K V : Fin 256 → Fin 128 → EReal} {B : Fin 256 → EReal} (i d : Fin 128) (hq : ∀ d, q (ix2 i d) = Q d) (hk : ∀ m d, k (ix2 m d) = K m d)
    (hv : ∀ m d, v (ix2 m d) = V m d) (hb : ∀ m, b (ix2 i m) = B m) : p (ix2 i d) = oRow Q K V B d := by
  subst hp
  rw [oT_at, show (fun d => q (ix2 i d)) = Q from funext hq, show (fun m d => k (ix2 m d)) = K from funext fun m => funext (hk m),
    show (fun m d => v (ix2 m d)) = V from funext fun m => funext (hv m), show (fun m => b (ix2 i m)) = B from funext hb]
theorem lT_of {p : FVec Ideal S128x128 .f32} {q : FVec Ideal S128x128 .f32} {k v : FVec Ideal S256x128 .f32} {b : FVec Ideal S128x256 .f32} (hp : p = lT q k v b)
    {Q : Fin 128 → EReal} {K : Fin 256 → Fin 128 → EReal} {B : Fin 256 → EReal} (i d : Fin 128) (hq : ∀ d, q (ix2 i d) = Q d) (hk : ∀ m d, k (ix2 m d) = K m d)
    (hb : ∀ m, b (ix2 i m) = B m) : p (ix2 i d) = lRow Q K B := by
  subst hp
  rw [lT_at, show (fun d => q (ix2 i d)) = Q from funext hq, show (fun m d => k (ix2 m d)) = K from funext fun m => funext (hk m),
    show (fun m => b (ix2 i m)) = B from funext hb]

end Cert.DilIdeal.Hand
end
-- ==== Proof.DilIRead.lean ====
/- The dilated attention, idealized: what its tiles are, in terms of the blocks a grid point is given. -/
module

public import proofs.«01_k».proof.Proof.DilITile
public import Idealize.ShloMosaic.Lib.Pipeline.FrameBody
public import Idealize.ShloMosaic.Lib.Pipeline.ReadBack
public import Idealize.ShloMosaic.Lib.Ring

@[expose] public section
set_option maxRecDepth 16384
noncomputable section
open Idealize.ShloMosaic Idealize.ShloMosaic.TcCoe Idealize.SL.Sem
open Cert.DilMath

namespace Cert.DilIdeal.Hand
open Cert.DilIdeal Cert.DilIdeal.Gen

/-- A tile of level `D`: its row `i` is the block's row `σ i`, its keys and values are that row's, and so is its mask. -/
structure IsTile (e : Fin 2) (D : ℕ) (x0 x1 x2 x3 x4 : S1x2048x128.Idx → EReal) (σ : Fin 128 → Fin 2048)
    (q : FVec Ideal S128x128 .f32) (k v : FVec Ideal S256x128 .f32) (b : FVec Ideal S128x256 .f32) : Prop where
  hq : ∀ i d, q (ix2 i d) = rowQ x0 (σ i) d
  hk : ∀ i m d, k (ix2 m d) = rowK x1 x2 (kpos D (σ i) m) d
  hv : ∀ i m d, v (ix2 m d) = rowK x3 x4 (kpos D (σ i) m) d
  hb : ∀ i m, b (ix2 i m) = mask (e = 0) D (σ i) m

variable {e : Fin 2} {D : ℕ} {x0 x1 x2 x3 x4 : S1x2048x128.Idx → EReal} {σ : Fin 128 → Fin 2048}
  {q : FVec Ideal S128x128 .f32} {k v : FVec Ideal S256x128 .f32} {b : FVec Ideal S128x256 .f32}

theorem IsTile.o (h : IsTile e D x0 x1 x2 x3 x4 σ q k v b) {p : FVec Ideal S128x128 .f32} (hp : p = oT q k v b) (i d : Fin 128) :
    p (ix2 i d) = oLev (e = 0) D x0 x1 x2 x3 x4 (σ i) d := oT_of hp i d (h.hq i) (h.hk i) (h.hv i) (h.hb i)
theorem IsTile.l (h : IsTile e D x0 x1 x2 x3 x4 σ q k v b) {p : FVec Ideal S128x128 .f32} (hp : p = lT q k v b) (i d : Fin 128) :
    p (ix2 i d) = lLev (e = 0) D x0 x1 x2 (σ i) := lT_of hp i d (h.hq i) (h.hk i) (h.hb i)

theorem eta2 {a b : ℕ} (x : (⟨2, ![a, b]⟩ : Shape).Idx) : x = ix2 (x 0) (x 1) := by
  funext k
  match k with
  | 0 => rfl
  | 1 => rfl

/-- What a level's output and log-sum buffers hold, `ρ` the order of their rows. -/
def oBuf (e : Fin 2) (D : ℕ) (ρ : Fin 2048 → Fin 2048) (x0 x1 x2 x3 x4 : S1x2048x128.Idx → EReal) : S2048x128.Idx → EReal := fun y =>
  oLev (e = 0) D x0 x1 x2 x3 x4 (ρ (y 0)) (y 1)
def lBuf (e : Fin 2) (D : ℕ) (ρ : Fin 2048 → Fin 2048) (x0 x1 x2 : S1x2048x128.Idx → EReal) : S2048x128.Idx → EReal := fun y =>
  lLev (e = 0) D x0 x1 x2 (ρ (y 0))

/-- A tile stored in consecutive rows. -/
theorem IsTile.o_unit (h : IsTile e D x0 x1 x2 x3 x4 σ q k v b) {p : FVec Ideal S128x128 .f32} (hp : p = oT q k v b) (o : ℕ) (ρ : Fin 2048 → Fin 2048)
    (inb : ∀ a, (![o, 0] : Fin 2 → ℕ) a + S128x128.size a ≤ S2048x128.size a) (hσ : ∀ (i : Fin 128) (y : Fin 2048), y.val = o + i.val → ρ y = σ i)
    (x : (Rect.unit (s := S2048x128) ![o, 0] S128x128.size inb).shape.Idx) :
    p x = oBuf e D ρ x0 x1 x2 x3 x4 ((Rect.unit (s := S2048x128) ![o, 0] S128x128.size inb).emb x) := by
  obtain ⟨i, d, rfl⟩ : ∃ (i : Fin 128) (d : Fin 128), (x : S128x128.Idx) = ix2 i d := ⟨x 0, x 1, eta2 (a := 128) (b := 128) x⟩
  refine (h.o hp i d).trans ?_
  unfold oBuf
  refine congrArg₂ (oLev (e = 0) D x0 x1 x2 x3 x4) (hσ i _ ?_).symm (Fin.ext ?_)
  · show o + 1 * i.val = o + i.val; omega
  · show d.val = 0 + 1 * d.val; omega
theorem IsTile.l_unit (h : IsTile e D x0 x1 x2 x3 x4 σ q k v b) {p : FVec Ideal S128x128 .f32} (hp : p = lT q k v b) (o : ℕ) (ρ : Fin 2048 → Fin 2048)
    (inb : ∀ a, (![o, 0] : Fin 2 → ℕ) a + S128x128.size a ≤ S2048x128.size a) (hσ : ∀ (i : Fin 128) (y : Fin 2048), y.val = o + i.val → ρ y = σ i)
    (x : (Rect.unit (s := S2048x128) ![o, 0] S128x128.size inb).shape.Idx) :
    p x = lBuf e D ρ x0 x1 x2 ((Rect.unit (s := S2048x128) ![o, 0] S128x128.size inb).emb x) := by
  obtain ⟨i, d, rfl⟩ : ∃ (i : Fin 128) (d : Fin 128), (x : S128x128.Idx) = ix2 i d := ⟨x 0, x 1, eta2 (a := 128) (b := 128) x⟩
  refine (h.l hp i d).trans ?_
  unfold lBuf
  refine congrArg (lLev (e = 0) D x0 x1 x2) (hσ i _ ?_).symm
  show o + 1 * i.val = o + i.val; omega
/-- A tile stored in rows four apart. -/
theorem IsTile.o_four (h : IsTile e D x0 x1 x2 x3 x4 σ q k v b) {p : FVec Ideal S128x128 .f32} (hp : p = oT q k v b) (o : ℕ) (ρ : Fin 2048 → Fin 2048)
    (inb pos) (hσ : ∀ (i : Fin 128) (y : Fin 2048), y.val = o + 4 * i.val → ρ y = σ i)
    (x : (⟨(⟨![o, 0], S128x128.size, ![4, 1], inb⟩ : LoadRect S2048x128), pos⟩ : Rect S2048x128).shape.Idx) :
    p x = oBuf e D ρ x0 x1 x2 x3 x4 ((⟨(⟨![o, 0], S128x128.size, ![4, 1], inb⟩ : LoadRect S2048x128), pos⟩ : Rect S2048x128).emb x) := by
  obtain ⟨i, d, rfl⟩ : ∃ (i : Fin 128) (d : Fin 128), (x : S128x128.Idx) = ix2 i d := ⟨x 0, x 1, eta2 (a := 128) (b := 128) x⟩
  refine (h.o hp i d).trans ?_
  unfold oBuf
  refine congrArg₂ (oLev (e = 0) D x0 x1 x2 x3 x4) (hσ i _ ?_).symm (Fin.ext ?_)
  · show o + 4 * i.val = o + 4 * i.val; rfl
  · show d.val = 0 + 1 * d.val; omega
theorem IsTile.l_four (h : IsTile e D x0 x1 x2 x3 x4 σ q k v b) {p : FVec Ideal S128x128 .f32} (hp : p = lT q k v b) (o : ℕ) (ρ : Fin 2048 → Fin 2048)
    (inb pos) (hσ : ∀ (i : Fin 128) (y : Fin 2048), y.val = o + 4 * i.val → ρ y = σ i)
    (x : (⟨(⟨![o, 0], S128x128.size, ![4, 1], inb⟩ : LoadRect S2048x128), pos⟩ : Rect S2048x128).shape.Idx) :
    p x = lBuf e D ρ x0 x1 x2 ((⟨(⟨![o, 0], S128x128.size, ![4, 1], inb⟩ : LoadRect S2048x128), pos⟩ : Rect S2048x128).emb x) := by
  obtain ⟨i, d, rfl⟩ : ∃ (i : Fin 128) (d : Fin 128), (x : S128x128.Idx) = ix2 i d := ⟨x 0, x 1, eta2 (a := 128) (b := 128) x⟩
  refine (h.l hp i d).trans ?_
  unfold lBuf
  refine congrArg (lLev (e = 0) D x0 x1 x2) (hσ i _ ?_).symm
  show o + 4 * i.val = o + 4 * i.val; rfl

/-! The loads. -/

theorem ld_128 (g : S1x2048x128.Idx → EReal) (o : ℕ) (inb : ∀ a, (![0, o, 0] : Fin 3 → ℕ) a + S1x128x128.size a ≤ S1x2048x128.size a) (j : Fin 128) (d : Fin 128) (s : Fin 2048) (hs : s.val = o + j.val) :
    (shapeCast S128x128 (fun y => g ((Rect.unit (s := S1x2048x128) ![0, o, 0] S1x128x128.size inb).toLoadRect.idx y) : FVec Ideal S1x128x128 .f32) shapeCasts_S1x128x128_S128x128) (ix2 j d) = g (ix3 0 s d) := by
  pointwise
  exact congrArg (fun s => g (ix3 0 s d)) (Fin.ext hs.symm)

theorem ld_256 (g : S1x2048x128.Idx → EReal) (o : ℕ) (inb : ∀ a, (![0, o, 0] : Fin 3 → ℕ) a + S1x256x128.size a ≤ S1x2048x128.size a) (j : Fin 256) (d : Fin 128) (s : Fin 2048) (hs : s.val = o + j.val) :
    (shapeCast S256x128 (fun y => g ((Rect.unit (s := S1x2048x128) ![0, o, 0] S1x256x128.size inb).toLoadRect.idx y) : FVec Ideal S1x256x128 .f32) shapeCasts_S1x256x128_S256x128) (ix2 j d) = g (ix3 0 s d) := by
  pointwise
  exact congrArg (fun s => g (ix3 0 s d)) (Fin.ext hs.symm)

/-- Every fourth row of a block. -/
theorem ld_four (g : S1x2048x128.Idx → EReal) (r : ℕ) (inb) (j : Fin 512) (d : Fin 128) (s : Fin 2048) (hs : s.val = r + 4 * j.val) :
    (shapeCast S512x128 (shapeCast S512x128 (fun y => g ((⟨![0, r, 0], S1x512x128.size, ![1, 4, 1], inb⟩ : LoadRect S1x2048x128).idx y) : FVec Ideal S1x512x128 .f32) shapeCasts_S1x512x128_S512x128 : FVec Ideal S512x128 .f32)
      shapeCasts_S512x128_S512x128) (ix2 j d) = g (ix3 0 s d) := by
  pointwise
  exact congrArg (fun s => g (ix3 0 s d)) (Fin.ext hs.symm)

/-- Which of the previous and the own block's rows lies at place `t` once they are sorted by residue. -/
def kap4 (t : Fin 4096) : Fin 4096 := ⟨4 * (t % 1024) + t / 1024, by omega⟩

/-- The sorted queries, and the sorted keys or values. -/
def q4Buf (x0 : S1x2048x128.Idx → EReal) : S2048x128.Idx → EReal := fun y => rowQ x0 (sig4 (y 0)) (y 1)
def k4Buf (x1 x2 : S1x2048x128.Idx → EReal) : S4096x128.Idx → EReal := fun y => rowK x1 x2 (kap4 (y 0)) (y 1)

theorem q4_piece (x0 : S1x2048x128.Idx → EReal) (o r : ℕ) (ho : o = 512 * r) (hr : r < 4) (inb : ∀ a, (![o, 0] : Fin 2 → ℕ) a + S512x128.size a ≤ S2048x128.size a) (inb')
    {p : FVec Ideal S512x128 .f32} (hp : p = shapeCast S512x128 (shapeCast S512x128 (fun y => x0 ((⟨![0, r, 0], S1x512x128.size, ![1, 4, 1], inb'⟩ : LoadRect S1x2048x128).idx y) : FVec Ideal S1x512x128 .f32) shapeCasts_S1x512x128_S512x128 : FVec Ideal S512x128 .f32) shapeCasts_S512x128_S512x128)
    (x : (Rect.unit (s := S2048x128) ![o, 0] S512x128.size inb).shape.Idx) : p x = q4Buf x0 ((Rect.unit (s := S2048x128) ![o, 0] S512x128.size inb).emb x) := by
  obtain ⟨i, d, rfl⟩ : ∃ (i : Fin 512) (d : Fin 128), (x : S512x128.Idx) = ix2 i d := ⟨x 0, x 1, eta2 (a := 512) (b := 128) x⟩
  subst hp
  refine (ld_four x0 r inb' i d ⟨r + 4 * i, by omega⟩ rfl).trans ?_
  unfold q4Buf rowQ
  refine congrArg x0 (funext fun a => Fin.ext ?_)
  match a with
  | ⟨0, _⟩ => rfl
  | ⟨1, _⟩ => show r + 4 * i.val = 4 * ((o + 1 * i.val) % 512) + (o + 1 * i.val) / 512; omega
  | ⟨2, _⟩ => show d.val = 0 + 1 * d.val; omega
theorem k4_prev (x1 x2 : S1x2048x128.Idx → EReal) (o r : ℕ) (ho : o = 1024 * r) (hr : r < 4) (inb : ∀ a, (![o, 0] : Fin 2 → ℕ) a + S512x128.size a ≤ S4096x128.size a) (inb')
    {p : FVec Ideal S512x128 .f32} (hp : p = shapeCast S512x128 (shapeCast S512x128 (fun y => x1 ((⟨![0, r, 0], S1x512x128.size, ![1, 4, 1], inb'⟩ : LoadRect S1x2048x128).idx y) : FVec Ideal S1x512x128 .f32) shapeCasts_S1x512x128_S512x128 : FVec Ideal S512x128 .f32) shapeCasts_S512x128_S512x128)
    (x : (Rect.unit (s := S4096x128) ![o, 0] S512x128.size inb).shape.Idx) : p x = k4Buf x1 x2 ((Rect.unit (s := S4096x128) ![o, 0] S512x128.size inb).emb x) := by
  obtain ⟨i, d, rfl⟩ : ∃ (i : Fin 512) (d : Fin 128), (x : S512x128.Idx) = ix2 i d := ⟨x 0, x 1, eta2 (a := 512) (b := 128) x⟩
  subst hp
  refine (ld_four x1 r inb' i d ⟨r + 4 * i, by omega⟩ rfl).trans ?_
  have hd : ((Rect.unit (s := S4096x128) ![o, 0] S512x128.size inb).emb (ix2 i d) 1) = d := Fin.ext (by show 0 + 1 * d.val = d.val; omega)
  have hk : (kap4 ((Rect.unit (s := S4096x128) ![o, 0] S512x128.size inb).emb (ix2 i d) 0)).val = r + 4 * i.val := by
    show 4 * ((o + 1 * i.val) % 1024) + (o + 1 * i.val) / 1024 = _; omega
  unfold k4Buf rowK
  rw [dif_pos (by rw [hk]; omega)]
  refine congrArg x1 (funext fun a => Fin.ext ?_)
  match a with
  | ⟨0, _⟩ => rfl
  | ⟨1, _⟩ => exact hk.symm
  | ⟨2, _⟩ => exact congrArg Fin.val hd.symm
theorem k4_own (x1 x2 : S1x2048x128.Idx → EReal) (o r : ℕ) (ho : o = 1024 * r + 512) (hr : r < 4) (inb : ∀ a, (![o, 0] : Fin 2 → ℕ) a + S512x128.size a ≤ S4096x128.size a) (inb')
    {p : FVec Ideal S512x128 .f32} (hp : p = shapeCast S512x128 (shapeCast S512x128 (fun y => x2 ((⟨![0, r, 0], S1x512x128.size, ![1, 4, 1], inb'⟩ : LoadRect S1x2048x128).idx y) : FVec Ideal S1x512x128 .f32) shapeCasts_S1x512x128_S512x128 : FVec Ideal S512x128 .f32) shapeCasts_S512x128_S512x128)
    (x : (Rect.unit (s := S4096x128) ![o, 0] S512x128.size inb).shape.Idx) : p x = k4Buf x1 x2 ((Rect.unit (s := S4096x128) ![o, 0] S512x128.size inb).emb x) := by
  obtain ⟨i, d, rfl⟩ : ∃ (i : Fin 512) (d : Fin 128), (x : S512x128.Idx) = ix2 i d := ⟨x 0, x 1, eta2 (a := 512) (b := 128) x⟩
  subst hp
  refine (ld_four x2 r inb' i d ⟨r + 4 * i, by omega⟩ rfl).trans ?_
  have hd : ((Rect.unit (s := S4096x128) ![o, 0] S512x128.size inb).emb (ix2 i d) 1) = d := Fin.ext (by show 0 + 1 * d.val = d.val; omega)
  have hk : (kap4 ((Rect.unit (s := S4096x128) ![o, 0] S512x128.size inb).emb (ix2 i d) 0)).val = 2048 + (r + 4 * i.val) := by
    show 4 * ((o + 1 * i.val) % 1024) + (o + 1 * i.val) / 1024 = _; omega
  unfold k4Buf rowK
  rw [dif_neg (by rw [hk]; omega)]
  refine congrArg x2 (funext fun a => Fin.ext ?_)
  match a with
  | ⟨0, _⟩ => rfl
  | ⟨1, _⟩ => show r + 4 * i.val = (kap4 _).val - 2048; rw [hk]; omega
  | ⟨2, _⟩ => exact congrArg Fin.val hd.symm

/-! The tiles. -/

/-- Level one, after its first band. -/
theorem tile1 (e : Fin 2) (x0 x1 x2 x3 x4 : S1x2048x128.Idx → EReal) (o o' : ℕ) (ho : o = o' + 128) (h1 : o' % 128 = 0) (h2 : o < 2048)
    (inb : ∀ a, (![0, o, 0] : Fin 3 → ℕ) a + S1x128x128.size a ≤ S1x2048x128.size a) (inb' : ∀ a, (![0, o', 0] : Fin 3 → ℕ) a + S1x256x128.size a ≤ S1x2048x128.size a) :
    IsTile e 1 x0 x1 x2 x3 x4 (fun i => ⟨o + i, by omega⟩)
      (shapeCast S128x128 (fun y => x0 ((Rect.unit (s := S1x2048x128) ![0, o, 0] S1x128x128.size inb).toLoadRect.idx y) : FVec Ideal S1x128x128 .f32) shapeCasts_S1x128x128_S128x128)
      (shapeCast S256x128 (fun y => x2 ((Rect.unit (s := S1x2048x128) ![0, o', 0] S1x256x128.size inb').toLoadRect.idx y) : FVec Ideal S1x256x128 .f32) shapeCasts_S1x256x128_S256x128)
      (shapeCast S256x128 (fun y => x4 ((Rect.unit (s := S1x2048x128) ![0, o', 0] S1x256x128.size inb').toLoadRect.idx y) : FVec Ideal S1x256x128 .f32) shapeCasts_S1x256x128_S256x128)
      k0_pay27 where
  hq i d := ld_128 x0 o inb i d ⟨o + i, by omega⟩ rfl
  hk i m d := by
    have hm : (kpos 1 ⟨o + i, by omega⟩ m).val = 2048 + o' + m.val := by
      show (2048 + (o + i.val) + 1 * m.val - 1 * ((o + i.val) / 1 % 128 + 128)) % 4096 = _; omega
    refine (ld_256 x2 o' inb' m d ⟨o' + m, by omega⟩ rfl).trans ?_
    unfold rowK
    rw [dif_neg (by rw [hm]; omega)]
    exact congrArg x2 (congrArg (fun s => ix3 0 s d) (Fin.ext (by show o' + m.val = (kpos 1 _ m).val - 2048; rw [hm]; omega)))
  hv i m d := by
    have hm : (kpos 1 ⟨o + i, by omega⟩ m).val = 2048 + o' + m.val := by
      show (2048 + (o + i.val) + 1 * m.val - 1 * ((o + i.val) / 1 % 128 + 128)) % 4096 = _; omega
    refine (ld_256 x4 o' inb' m d ⟨o' + m, by omega⟩ rfl).trans ?_
    unfold rowK
    rw [dif_neg (by rw [hm]; omega)]
    exact congrArg x4 (congrArg (fun s => ix3 0 s d) (Fin.ext (by show o' + m.val = (kpos 1 _ m).val - 2048; rw [hm]; omega)))
  hb i m := any_mask e 1 _ i m (by show ¬ (o + i.val) / 1 < 128; omega) (by show (o + i.val) / 1 % 128 = i.val; omega)

/-- The keys of the first band: the last rows of the previous block and the first of the own. -/
theorem ld_first (x1 x2 : S1x2048x128.Idx → EReal) (inb inb') (m : Fin 256) (d : Fin 128) (t : Fin 4096) (ht : t.val = 1920 + m.val) :
    (concatenate S256x128 0 [⟨S128x128, (shapeCast S128x128 (fun y => x1 ((Rect.unit (s := S1x2048x128) ![0, 1920, 0] S1x128x128.size inb).toLoadRect.idx y) : FVec Ideal S1x128x128 .f32) shapeCasts_S1x128x128_S128x128 : FVec Ideal S128x128 .f32)⟩,
      ⟨S128x128, (shapeCast S128x128 (fun y => x2 ((Rect.unit (s := S1x2048x128) ![0, 0, 0] S1x128x128.size inb').toLoadRect.idx y) : FVec Ideal S1x128x128 .f32) shapeCasts_S1x128x128_S128x128 : FVec Ideal S128x128 .f32)⟩]
      concatenates_S128x128_S128x128_S256x128_d0 : FVec Ideal S256x128 .f32) (ix2 m d) = rowK x1 x2 t d := by
  have h1 (j : Fin 128) := ld_128 x1 1920 inb j d ⟨1920 + j, by omega⟩ rfl
  have h2 (j : Fin 128) := ld_128 x2 0 inb' j d ⟨0 + j, by omega⟩ rfl
  unfold rowK
  by_cases hm : m.val < 128
  · rw [dif_pos (by omega)]
    obtain ⟨j, rfl⟩ : ∃ j : Fin 128, m = ⟨j.val, Nat.lt_trans j.isLt (by decide)⟩ := ⟨⟨m, hm⟩, rfl⟩
    pointwise
    refine congrArg x1 ?_
    have ht' : t.val = 1920 + j.val := ht
    blk_ext
  · rw [dif_neg (by omega)]
    obtain ⟨j, rfl⟩ : ∃ j : Fin 128, m = ⟨128 + j.val, Nat.add_lt_add_left j.isLt 128⟩ := ⟨⟨m - 128, by omega⟩, Fin.ext (by show m.val = 128 + (m.val - 128); omega)⟩
    pointwise
    refine congrArg x2 ?_
    have ht' : t.val = 1920 + (128 + j.val) := ht
    blk_ext

/-- Level one's first band. -/
theorem tile1_first (e : Fin 2) (x0 x1 x2 x3 x4 : S1x2048x128.Idx → EReal) (inb inb') :
    IsTile e 1 x0 x1 x2 x3 x4 (fun i => ⟨0 + i, by omega⟩)
      (shapeCast S128x128 (fun y => x0 ((Rect.unit (s := S1x2048x128) ![0, 0, 0] S1x128x128.size inb').toLoadRect.idx y) : FVec Ideal S1x128x128 .f32) shapeCasts_S1x128x128_S128x128)
      (concatenate S256x128 0 [⟨S128x128, (shapeCast S128x128 (fun y => x1 ((Rect.unit (s := S1x2048x128) ![0, 1920, 0] S1x128x128.size inb).toLoadRect.idx y) : FVec Ideal S1x128x128 .f32) shapeCasts_S1x128x128_S128x128 : FVec Ideal S128x128 .f32)⟩,
        ⟨S128x128, (shapeCast S128x128 (fun y => x2 ((Rect.unit (s := S1x2048x128) ![0, 0, 0] S1x128x128.size inb').toLoadRect.idx y) : FVec Ideal S1x128x128 .f32) shapeCasts_S1x128x128_S128x128 : FVec Ideal S128x128 .f32)⟩]
        concatenates_S128x128_S128x128_S256x128_d0 : FVec Ideal S256x128 .f32)
      (concatenate S256x128 0 [⟨S128x128, (shapeCast S128x128 (fun y => x3 ((Rect.unit (s := S1x2048x128) ![0, 1920, 0] S1x128x128.size inb).toLoadRect.idx y) : FVec Ideal S1x128x128 .f32) shapeCasts_S1x128x128_S128x128 : FVec Ideal S128x128 .f32)⟩,
        ⟨S128x128, (shapeCast S128x128 (fun y => x4 ((Rect.unit (s := S1x2048x128) ![0, 0, 0] S1x128x128.size inb').toLoadRect.idx y) : FVec Ideal S1x128x128 .f32) shapeCasts_S1x128x128_S128x128 : FVec Ideal S128x128 .f32)⟩]
        concatenates_S128x128_S128x128_S256x128_d0 : FVec Ideal S256x128 .f32)
      (bF e) where
  hq i d := ld_128 x0 0 inb' i d ⟨0 + i, by omega⟩ rfl
  hk i m d := ld_first x1 x2 inb inb' m d _ (by show (2048 + (0 + i.val) + 1 * m.val - 1 * ((0 + i.val) / 1 % 128 + 128)) % 4096 = _; omega)
  hv i m d := ld_first x3 x4 inb inb' m d _ (by show (2048 + (0 + i.val) + 1 * m.val - 1 * ((0 + i.val) / 1 % 128 + 128)) % 4096 = _; omega)
  hb i m := bF_mask e 1 _ i m (by show (0 + i.val) / 1 < 128; omega) (by show (0 + i.val) / 1 = i.val; omega)

section
variable {sig : RefSig} {κ : Kind} {sp : Space} (v9 : View sig κ sp S2048x128 .f32) (v10 v11 : View sig κ sp S4096x128 .f32)
  {L9 : List (View.Piece (Elt Ideal) S2048x128 .f32)} {L10 L11 : List (View.Piece (Elt Ideal) S4096x128 .f32)}

theorem ld_q4 (x0 : S1x2048x128.Idx → EReal) (h9 : View.canon L9 = q4Buf x0) (r : LoadRect S2048x128) (j : r.shape.Idx) (s : Fin 2048) (d : Fin 128) (h0 : sig4 (r.idx j 0) = s) (h1 : r.idx j 1 = d) :
    v9.readCov L9 r j = rowQ x0 s d := by
  rw [View.readCov_eq_canon', h9, ← h0, ← h1]; rfl
theorem ld_k4 (x1 x2 : S1x2048x128.Idx → EReal) (h10 : View.canon L10 = k4Buf x1 x2) (r : LoadRect S4096x128) (j : r.shape.Idx) (s : Fin 4096) (d : Fin 128) (h0 : kap4 (r.idx j 0) = s) (h1 : r.idx j 1 = d) :
    v10.readCov L10 r j = rowK x1 x2 s d := by
  rw [View.readCov_eq_canon', h10, ← h0, ← h1]; rfl

/-- Level two. -/
theorem tile2 (e : Fin 2) (x0 x1 x2 x3 x4 : S1x2048x128.Idx → EReal) (h9 : View.canon L9 = q4Buf x0) (h10 : View.canon L10 = k4Buf x1 x2) (h11 : View.canon L11 = k4Buf x3 x4)
    (o t : ℕ) (h1 : o % 128 = 0) (h2 : o < 2048) (ht : t = 1024 * (o / 512) + 384 + o % 512)
    (inb : ∀ a, (![o, 0] : Fin 2 → ℕ) a + S128x128.size a ≤ S2048x128.size a) (inb' : ∀ a, (![t, 0] : Fin 2 → ℕ) a + S256x128.size a ≤ S4096x128.size a)
    (b : FVec Ideal S128x256 .f32) (hb : (o % 512 = 0 ∧ b = bF e) ∨ (o % 512 ≠ 0 ∧ b = k0_pay27)) :
    IsTile e 4 x0 x1 x2 x3 x4 (fun i => sig4 ⟨o + i, by omega⟩) (v9.readCov L9 (Rect.unit (s := S2048x128) ![o, 0] S128x128.size inb).toLoadRect)
      (v10.readCov L10 (Rect.unit (s := S4096x128) ![t, 0] S256x128.size inb').toLoadRect) (v11.readCov L11 (Rect.unit (s := S4096x128) ![t, 0] S256x128.size inb').toLoadRect) b where
  hq i d := by
    refine ld_q4 v9 x0 h9 _ _ _ _ (congrArg sig4 (Fin.ext ?_)) (Fin.ext ?_)
    · show o + 1 * i.val = o + i.val; omega
    · show 0 + 1 * d.val = d.val; omega
  hk i m d := by
    refine ld_k4 v10 x1 x2 h10 _ _ _ _ (Fin.ext ?_) (Fin.ext ?_)
    · show 4 * ((t + 1 * m.val) % 1024) + (t + 1 * m.val) / 1024
        = (2048 + (4 * ((o + i.val) % 512) + (o + i.val) / 512) + 4 * m.val - 4 * ((4 * ((o + i.val) % 512) + (o + i.val) / 512) / 4 % 128 + 128)) % 4096
      have e1 : (o + i.val) % 512 = o % 512 + i.val := by omega
      have e2 : (o + i.val) / 512 = o / 512 := by omega
      have e3 : (4 * (o % 512 + i.val) + o / 512) / 4 = o % 512 + i.val := by omega
      have e6 : (o % 512 + i.val) % 128 = i.val := by omega
      have e4 : (t + 1 * m.val) % 1024 = 384 + o % 512 + m.val := by omega
      have e5 : (t + 1 * m.val) / 1024 = o / 512 := by omega
      rw [e1, e2, e3, e4, e5, e6]; omega
    · show 0 + 1 * d.val = d.val; omega
  hv i m d := by
    refine ld_k4 v11 x3 x4 h11 _ _ _ _ (Fin.ext ?_) (Fin.ext ?_)
    · show 4 * ((t + 1 * m.val) % 1024) + (t + 1 * m.val) / 1024
        = (2048 + (4 * ((o + i.val) % 512) + (o + i.val) / 512) + 4 * m.val - 4 * ((4 * ((o + i.val) % 512) + (o + i.val) / 512) / 4 % 128 + 128)) % 4096
      have e1 : (o + i.val) % 512 = o % 512 + i.val := by omega
      have e2 : (o + i.val) / 512 = o / 512 := by omega
      have e3 : (4 * (o % 512 + i.val) + o / 512) / 4 = o % 512 + i.val := by omega
      have e6 : (o % 512 + i.val) % 128 = i.val := by omega
      have e4 : (t + 1 * m.val) % 1024 = 384 + o % 512 + m.val := by omega
      have e5 : (t + 1 * m.val) / 1024 = o / 512 := by omega
      rw [e1, e2, e3, e4, e5, e6]; omega
    · show 0 + 1 * d.val = d.val; omega
  hb i m := by
    rcases hb with ⟨h, rfl⟩ | ⟨h, rfl⟩
    · refine bF_mask e 4 _ i m ?_ ?_
      · show (4 * ((o + i.val) % 512) + (o + i.val) / 512) / 4 < 128; omega
      · show (4 * ((o + i.val) % 512) + (o + i.val) / 512) / 4 = i.val; omega
    · have e1 : (o + i.val) % 512 = o % 512 + i.val := by omega
      have e2 : (o + i.val) / 512 = o / 512 := by omega
      have e3 : (4 * (o % 512 + i.val) + o / 512) / 4 = o % 512 + i.val := by omega
      have e6 : (o % 512 + i.val) % 128 = i.val := by omega
      refine any_mask e 4 _ i m ?_ ?_
      · show ¬ (4 * ((o + i.val) % 512) + (o + i.val) / 512) / 4 < 128; rw [e1, e2, e3]; omega
      · show (4 * ((o + i.val) % 512) + (o + i.val) / 512) / 4 % 128 = i.val; rw [e1, e2, e3, e6]

/-- Level three. -/
theorem tile3 (e : Fin 2) (x0 x1 x2 x3 x4 : S1x2048x128.Idx → EReal) (h9 : View.canon L9 = q4Buf x0) (h10 : View.canon L10 = k4Buf x1 x2) (h11 : View.canon L11 = k4Buf x3 x4)
    (o t : ℕ) (h1 : o % 512 < 4) (h2 : o < 2048) (ht : t = 1024 * (o / 512) + o % 512) (inb inb') :
    IsTile e 16 x0 x1 x2 x3 x4 (fun i => sig4 ⟨o + 4 * i, by omega⟩) (v9.readCov L9 (⟨![o, 0], S128x128.size, ![4, 1], inb⟩ : LoadRect S2048x128))
      (v10.readCov L10 (⟨![t, 0], S256x128.size, ![4, 1], inb'⟩ : LoadRect S4096x128)) (v11.readCov L11 (⟨![t, 0], S256x128.size, ![4, 1], inb'⟩ : LoadRect S4096x128)) (bF e) where
  hq i d := by
    refine ld_q4 v9 x0 h9 _ _ _ _ (congrArg sig4 (Fin.ext ?_)) (Fin.ext ?_)
    · show o + 4 * i.val = o + 4 * i.val; rfl
    · show 0 + 1 * d.val = d.val; omega
  hk i m d := by
    refine ld_k4 v10 x1 x2 h10 _ _ _ _ (Fin.ext ?_) (Fin.ext ?_)
    · show 4 * ((t + 4 * m.val) % 1024) + (t + 4 * m.val) / 1024
        = (2048 + (4 * ((o + 4 * i.val) % 512) + (o + 4 * i.val) / 512) + 16 * m.val - 16 * ((4 * ((o + 4 * i.val) % 512) + (o + 4 * i.val) / 512) / 16 % 128 + 128)) % 4096
      have e1 : (o + 4 * i.val) % 512 = o % 512 + 4 * i.val := by omega
      have e2 : (o + 4 * i.val) / 512 = o / 512 := by omega
      have e3 : (4 * (o % 512 + 4 * i.val) + o / 512) / 16 = i.val := by omega
      have e6 : i.val % 128 = i.val := by omega
      have e4 : (t + 4 * m.val) % 1024 = o % 512 + 4 * m.val := by omega
      have e5 : (t + 4 * m.val) / 1024 = o / 512 := by omega
      rw [e1, e2, e3, e4, e5, e6]; omega
    · show 0 + 1 * d.val = d.val; omega
  hv i m d := by
    refine ld_k4 v11 x3 x4 h11 _ _ _ _ (Fin.ext ?_) (Fin.ext ?_)
    · show 4 * ((t + 4 * m.val) % 1024) + (t + 4 * m.val) / 1024
        = (2048 + (4 * ((o + 4 * i.val) % 512) + (o + 4 * i.val) / 512) + 16 * m.val - 16 * ((4 * ((o + 4 * i.val) % 512) + (o + 4 * i.val) / 512) / 16 % 128 + 128)) % 4096
      have e1 : (o + 4 * i.val) % 512 = o % 512 + 4 * i.val := by omega
      have e2 : (o + 4 * i.val) / 512 = o / 512 := by omega
      have e3 : (4 * (o % 512 + 4 * i.val) + o / 512) / 16 = i.val := by omega
      have e6 : i.val % 128 = i.val := by omega
      have e4 : (t + 4 * m.val) % 1024 = o % 512 + 4 * m.val := by omega
      have e5 : (t + 4 * m.val) / 1024 = o / 512 := by omega
      rw [e1, e2, e3, e4, e5, e6]; omega
    · show 0 + 1 * d.val = d.val; omega
  hb i m := by
    have e1 : (o + 4 * i.val) % 512 = o % 512 + 4 * i.val := by omega
    have e2 : (o + 4 * i.val) / 512 = o / 512 := by omega
    have e3 : (4 * (o % 512 + 4 * i.val) + o / 512) / 16 = i.val := by omega
    refine bF_mask e 16 _ i m ?_ ?_
    · show (4 * ((o + 4 * i.val) % 512) + (o + 4 * i.val) / 512) / 16 < 128; rw [e1, e2, e3]; omega
    · show (4 * ((o + 4 * i.val) % 512) + (o + 4 * i.val) / 512) / 16 = i.val; rw [e1, e2, e3]

/-- Sixteen pieces, four rows apart, cover the buffer. -/
theorem mem_four (o : ℕ) (inb pos) (y : S2048x128.Idx) (j : ℕ) (hj : j < 128) (h : (y 0).val = o + 4 * j) :
    y ∈ (⟨(⟨![o, 0], S128x128.size, ![4, 1], inb⟩ : LoadRect S2048x128), pos⟩ : Rect S2048x128).set := by
  have hy1 : (y 1).val < 128 := (y 1).isLt
  rw [LoadRect.mem_set]
  intro a
  match a with
  | ⟨0, _⟩ => exact ⟨j, hj, h⟩
  | ⟨1, _⟩ => exact ⟨(y 1).val, hy1, by show (y 1).val = 0 + 1 * (y 1).val; omega⟩
end

end Cert.DilIdeal.Hand
end
-- ==== Proof.DilIList.lean ====
/- The dilated attention, idealized: what the scratch buffers hold once all tiles are stored. -/
module

public import proofs.«01_k».proof.Proof.DilIRead

@[expose] public section
set_option maxRecDepth 16384
noncomputable section
open Idealize.ShloMosaic Idealize.ShloMosaic.TcCoe Idealize.SL.Sem
open Cert.DilMath

namespace Cert.DilIdeal.Hand
open Cert.DilIdeal Cert.DilIdeal.Gen

/-- A block's rows from `o` on: a band of queries, and a band of keys or values. -/
abbrev ldq (x : S1x2048x128.Idx → EReal) (o : ℕ) (inb : ∀ a, (![0, o, 0] : Fin 3 → ℕ) a + S1x128x128.size a ≤ S1x2048x128.size a) : FVec Ideal S128x128 .f32 :=
  shapeCast S128x128 (fun y => x ((Rect.unit (s := S1x2048x128) ![0, o, 0] S1x128x128.size inb).toLoadRect.idx y) : FVec Ideal S1x128x128 .f32) shapeCasts_S1x128x128_S128x128
abbrev ldk (x : S1x2048x128.Idx → EReal) (o : ℕ) (inb : ∀ a, (![0, o, 0] : Fin 3 → ℕ) a + S1x256x128.size a ≤ S1x2048x128.size a) : FVec Ideal S256x128 .f32 :=
  shapeCast S256x128 (fun y => x ((Rect.unit (s := S1x2048x128) ![0, o, 0] S1x256x128.size inb).toLoadRect.idx y) : FVec Ideal S1x256x128 .f32) shapeCasts_S1x256x128_S256x128
/-- The first band's keys or values: the previous block's last rows, then the own block's first. -/
abbrev ldc (x x' : S1x2048x128.Idx → EReal) : FVec Ideal S256x128 .f32 :=
  concatenate S256x128 0 [⟨S128x128, (ldq x 1920 inb_S1x2048x128_S1x128x128_0_1920_0 : FVec Ideal S128x128 .f32)⟩, ⟨S128x128, (ldq x' 0 inb_S1x2048x128_S1x128x128_0_0_0 : FVec Ideal S128x128 .f32)⟩] concatenates_S128x128_S128x128_S256x128_d0
/-- Every fourth row of a block. -/
abbrev ld4 (x : S1x2048x128.Idx → EReal) (r : ℕ) (inb : ∀ a : Fin 3, S1x512x128.size a = 0 ∨ (![0, r, 0] : Fin 3 → ℕ) a + (![1, 4, 1] : Fin 3 → ℕ) a * (S1x512x128.size a - 1) < S1x2048x128.size a) : FVec Ideal S512x128 .f32 :=
  shapeCast S512x128 (shapeCast S512x128 (fun y => x ((⟨![0, r, 0], S1x512x128.size, ![1, 4, 1], inb⟩ : LoadRect S1x2048x128).idx y) : FVec Ideal S1x512x128 .f32) shapeCasts_S1x512x128_S512x128 : FVec Ideal S512x128 .f32) shapeCasts_S512x128_S512x128

theorem canon_eq {s : Shape} {ty : EltTy} {G : s.Idx → Elt Ideal ty} {L : List (View.Piece (Elt Ideal) s ty)} (h : View.PiecesOf G L) (hc : ∀ y, ∃ p ∈ L, y ∈ p.1.set) : View.canon L = G :=
  funext fun y => by have := View.canon_append_of_piecesOf G [] L h y (hc y); rwa [List.append_nil] at this

section
variable {p0 p1 p2 p3 p4 p5 p6 p7 : FVec Ideal S512x128 .f32} (x x' : S1x2048x128.Idx → EReal)
theorem q4_canon (h0 : p0 = ld4 x 0 inb_S1x2048x128_S1x512x128_0_0_0_s_1_4_1) (h1 : p1 = ld4 x 1 inb_S1x2048x128_S1x512x128_0_1_0_s_1_4_1) (h2 : p2 = ld4 x 2 inb_S1x2048x128_S1x512x128_0_2_0_s_1_4_1) (h3 : p3 = ld4 x 3 inb_S1x2048x128_S1x512x128_0_3_0_s_1_4_1) :
    View.canon (Val := Elt Ideal) (s := S2048x128) (e := .f32) [⟨Rect.unit ![1536, 0] S512x128.size inb_S2048x128_S512x128_1536_0, p3⟩, ⟨Rect.unit ![1024, 0] S512x128.size inb_S2048x128_S512x128_1024_0, p2⟩, ⟨Rect.unit ![512, 0] S512x128.size inb_S2048x128_S512x128_512_0, p1⟩, ⟨Rect.unit ![0, 0] S512x128.size inb_S2048x128_S512x128_0_0, p0⟩] = q4Buf x :=
  canon_eq ⟨q4_piece x 1536 3 rfl (by decide) inb_S2048x128_S512x128_1536_0 _ h3, q4_piece x 1024 2 rfl (by decide) inb_S2048x128_S512x128_1024_0 _ h2, q4_piece x 512 1 rfl (by decide) inb_S2048x128_S512x128_512_0 _ h1, q4_piece x 0 0 rfl (by decide) inb_S2048x128_S512x128_0_0 _ h0, trivial⟩ (View.cover_of_tiledBy _ ![512, 128] (by sl_kernel_rfl))
theorem k4_canon (h0 : p0 = ld4 x 0 inb_S1x2048x128_S1x512x128_0_0_0_s_1_4_1) (h1 : p1 = ld4 x' 0 inb_S1x2048x128_S1x512x128_0_0_0_s_1_4_1) (h2 : p2 = ld4 x 1 inb_S1x2048x128_S1x512x128_0_1_0_s_1_4_1) (h3 : p3 = ld4 x' 1 inb_S1x2048x128_S1x512x128_0_1_0_s_1_4_1) (h4 : p4 = ld4 x 2 inb_S1x2048x128_S1x512x128_0_2_0_s_1_4_1) (h5 : p5 = ld4 x' 2 inb_S1x2048x128_S1x512x128_0_2_0_s_1_4_1) (h6 : p6 = ld4 x 3 inb_S1x2048x128_S1x512x128_0_3_0_s_1_4_1) (h7 : p7 = ld4 x' 3 inb_S1x2048x128_S1x512x128_0_3_0_s_1_4_1) :
    View.canon (Val := Elt Ideal) (s := S4096x128) (e := .f32) [⟨Rect.unit ![3584, 0] S512x128.size inb_S4096x128_S512x128_3584_0, p7⟩, ⟨Rect.unit ![3072, 0] S512x128.size inb_S4096x128_S512x128_3072_0, p6⟩, ⟨Rect.unit ![2560, 0] S512x128.size inb_S4096x128_S512x128_2560_0, p5⟩, ⟨Rect.unit ![2048, 0] S512x128.size inb_S4096x128_S512x128_2048_0, p4⟩, ⟨Rect.unit ![1536, 0] S512x128.size inb_S4096x128_S512x128_1536_0, p3⟩, ⟨Rect.unit ![1024, 0] S512x128.size inb_S4096x128_S512x128_1024_0, p2⟩, ⟨Rect.unit ![512, 0] S512x128.size inb_S4096x128_S512x128_512_0, p1⟩, ⟨Rect.unit ![0, 0] S512x128.size inb_S4096x128_S512x128_0_0, p0⟩] = k4Buf x x' :=
  canon_eq ⟨k4_own x x' 3584 3 rfl (by decide) inb_S4096x128_S512x128_3584_0 _ h7, k4_prev x x' 3072 3 rfl (by decide) inb_S4096x128_S512x128_3072_0 _ h6, k4_own x x' 2560 2 rfl (by decide) inb_S4096x128_S512x128_2560_0 _ h5, k4_prev x x' 2048 2 rfl (by decide) inb_S4096x128_S512x128_2048_0 _ h4, k4_own x x' 1536 1 rfl (by decide) inb_S4096x128_S512x128_1536_0 _ h3, k4_prev x x' 1024 1 rfl (by decide) inb_S4096x128_S512x128_1024_0 _ h2, k4_own x x' 512 0 rfl (by decide) inb_S4096x128_S512x128_512_0 _ h1, k4_prev x x' 0 0 rfl (by decide) inb_S4096x128_S512x128_0_0 _ h0, trivial⟩ (View.cover_of_tiledBy _ ![512, 128] (by sl_kernel_rfl))
end

section
variable {sig : RefSig} {κ : Kind} {sp : Space} {v : View sig κ sp S2048x128 .f32} {f : v.ty.Contents (Elt Ideal)} {v9 : View sig κ sp S2048x128 .f32} {v10 v11 : View sig κ sp S4096x128 .f32}
  {L9 : List (View.Piece (Elt Ideal) S2048x128 .f32)} {L10 L11 : List (View.Piece (Elt Ideal) S4096x128 .f32)} (e : Fin 2) (x0 x1 x2 x3 x4 : S1x2048x128.Idx → EReal)
  {p0 p1 p2 p3 p4 p5 p6 p7 p8 p9 p10 p11 p12 p13 p14 p15 : FVec Ideal S128x128 .f32}

/-- Level one's outputs. -/
theorem level1_o (h0 : p0 = shapeCast S128x128 (oT (ldq x0 0 inb_S1x2048x128_S1x128x128_0_0_0) (ldc x1 x2) (ldc x3 x4) (bF e) : FVec Ideal S128x128 .f32) shapeCasts_S128x128_S128x128)
    (h1 : p1 = shapeCast S128x128 (oT (ldq x0 128 inb_S1x2048x128_S1x128x128_0_128_0) (ldk x2 0 inb_S1x2048x128_S1x256x128_0_0_0) (ldk x4 0 inb_S1x2048x128_S1x256x128_0_0_0) k0_pay27 : FVec Ideal S128x128 .f32) shapeCasts_S128x128_S128x128)
    (h2 : p2 = shapeCast S128x128 (oT (ldq x0 256 inb_S1x2048x128_S1x128x128_0_256_0) (ldk x2 128 inb_S1x2048x128_S1x256x128_0_128_0) (ldk x4 128 inb_S1x2048x128_S1x256x128_0_128_0) k0_pay27 : FVec Ideal S128x128 .f32) shapeCasts_S128x128_S128x128)
    (h3 : p3 = shapeCast S128x128 (oT (ldq x0 384 inb_S1x2048x128_S1x128x128_0_384_0) (ldk x2 256 inb_S1x2048x128_S1x256x128_0_256_0) (ldk x4 256 inb_S1x2048x128_S1x256x128_0_256_0) k0_pay27 : FVec Ideal S128x128 .f32) shapeCasts_S128x128_S128x128)
    (h4 : p4 = shapeCast S128x128 (oT (ldq x0 512 inb_S1x2048x128_S1x128x128_0_512_0) (ldk x2 384 inb_S1x2048x128_S1x256x128_0_384_0) (ldk x4 384 inb_S1x2048x128_S1x256x128_0_384_0) k0_pay27 : FVec Ideal S128x128 .f32) shapeCasts_S128x128_S128x128)
    (h5 : p5 = shapeCast S128x128 (oT (ldq x0 640 inb_S1x2048x128_S1x128x128_0_640_0) (ldk x2 512 inb_S1x2048x128_S1x256x128_0_512_0) (ldk x4 512 inb_S1x2048x128_S1x256x128_0_512_0) k0_pay27 : FVec Ideal S128x128 .f32) shapeCasts_S128x128_S128x128)
    (h6 : p6 = shapeCast S128x128 (oT (ldq x0 768 inb_S1x2048x128_S1x128x128_0_768_0) (ldk x2 640 inb_S1x2048x128_S1x256x128_0_640_0) (ldk x4 640 inb_S1x2048x128_S1x256x128_0_640_0) k0_pay27 : FVec Ideal S128x128 .f32) shapeCasts_S128x128_S128x128)
    (h7 : p7 = shapeCast S128x128 (oT (ldq x0 896 inb_S1x2048x128_S1x128x128_0_896_0) (ldk x2 768 inb_S1x2048x128_S1x256x128_0_768_0) (ldk x4 768 inb_S1x2048x128_S1x256x128_0_768_0) k0_pay27 : FVec Ideal S128x128 .f32) shapeCasts_S128x128_S128x128)
    (h8 : p8 = shapeCast S128x128 (oT (ldq x0 1024 inb_S1x2048x128_S1x128x128_0_1024_0) (ldk x2 896 inb_S1x2048x128_S1x256x128_0_896_0) (ldk x4 896 inb_S1x2048x128_S1x256x128_0_896_0) k0_pay27 : FVec Ideal S128x128 .f32) shapeCasts_S128x128_S128x128)
    (h9 : p9 = shapeCast S128x128 (oT (ldq x0 1152 inb_S1x2048x128_S1x128x128_0_1152_0) (ldk x2 1024 inb_S1x2048x128_S1x256x128_0_1024_0) (ldk x4 1024 inb_S1x2048x128_S1x256x128_0_1024_0) k0_pay27 : FVec Ideal S128x128 .f32) shapeCasts_S128x128_S128x128)
    (h10 : p10 = shapeCast S128x128 (oT (ldq x0 1280 inb_S1x2048x128_S1x128x128_0_1280_0) (ldk x2 1152 inb_S1x2048x128_S1x256x128_0_1152_0) (ldk x4 1152 inb_S1x2048x128_S1x256x128_0_1152_0) k0_pay27 : FVec Ideal S128x128 .f32) shapeCasts_S128x128_S128x128)
    (h11 : p11 = shapeCast S128x128 (oT (ldq x0 1408 inb_S1x2048x128_S1x128x128_0_1408_0) (ldk x2 1280 inb_S1x2048x128_S1x256x128_0_1280_0) (ldk x4 1280 inb_S1x2048x128_S1x256x128_0_1280_0) k0_pay27 : FVec Ideal S128x128 .f32) shapeCasts_S128x128_S128x128)
    (h12 : p12 = shapeCast S128x128 (oT (ldq x0 1536 inb_S1x2048x128_S1x128x128_0_1536_0) (ldk x2 1408 inb_S1x2048x128_S1x256x128_0_1408_0) (ldk x4 1408 inb_S1x2048x128_S1x256x128_0_1408_0) k0_pay27 : FVec Ideal S128x128 .f32) shapeCasts_S128x128_S128x128)
    (h13 : p13 = shapeCast S128x128 (oT (ldq x0 1664 inb_S1x2048x128_S1x128x128_0_1664_0) (ldk x2 1536 inb_S1x2048x128_S1x256x128_0_1536_0) (ldk x4 1536 inb_S1x2048x128_S1x256x128_0_1536_0) k0_pay27 : FVec Ideal S128x128 .f32) shapeCasts_S128x128_S128x128)
    (h14 : p14 = shapeCast S128x128 (oT (ldq x0 1792 inb_S1x2048x128_S1x128x128_0_1792_0) (ldk x2 1664 inb_S1x2048x128_S1x256x128_0_1664_0) (ldk x4 1664 inb_S1x2048x128_S1x256x128_0_1664_0) k0_pay27 : FVec Ideal S128x128 .f32) shapeCasts_S128x128_S128x128)
    (h15 : p15 = shapeCast S128x128 (oT (ldq x0 1920 inb_S1x2048x128_S1x128x128_0_1920_0) (ldk x2 1792 inb_S1x2048x128_S1x256x128_0_1792_0) (ldk x4 1792 inb_S1x2048x128_S1x256x128_0_1792_0) k0_pay27 : FVec Ideal S128x128 .f32) shapeCasts_S128x128_S128x128) :
    v.read (Elt Ideal) (v.writes (Elt Ideal) f [
      ⟨Rect.unit ![1920, 0] S128x128.size inb_S2048x128_S128x128_1920_0, p15⟩,
      ⟨Rect.unit ![1792, 0] S128x128.size inb_S2048x128_S128x128_1792_0, p14⟩,
      ⟨Rect.unit ![1664, 0] S128x128.size inb_S2048x128_S128x128_1664_0, p13⟩,
      ⟨Rect.unit ![1536, 0] S128x128.size inb_S2048x128_S128x128_1536_0, p12⟩,
      ⟨Rect.unit ![1408, 0] S128x128.size inb_S2048x128_S128x128_1408_0, p11⟩,
      ⟨Rect.unit ![1280, 0] S128x128.size inb_S2048x128_S128x128_1280_0, p10⟩,
      ⟨Rect.unit ![1152, 0] S128x128.size inb_S2048x128_S128x128_1152_0, p9⟩,
      ⟨Rect.unit ![1024, 0] S128x128.size inb_S2048x128_S128x128_1024_0, p8⟩,
      ⟨Rect.unit ![896, 0] S128x128.size inb_S2048x128_S128x128_896_0, p7⟩,
      ⟨Rect.unit ![768, 0] S128x128.size inb_S2048x128_S128x128_768_0, p6⟩,
      ⟨Rect.unit ![640, 0] S128x128.size inb_S2048x128_S128x128_640_0, p5⟩,
      ⟨Rect.unit ![512, 0] S128x128.size inb_S2048x128_S128x128_512_0, p4⟩,
      ⟨Rect.unit ![384, 0] S128x128.size inb_S2048x128_S128x128_384_0, p3⟩,
      ⟨Rect.unit ![256, 0] S128x128.size inb_S2048x128_S128x128_256_0, p2⟩,
      ⟨Rect.unit ![128, 0] S128x128.size inb_S2048x128_S128x128_128_0, p1⟩,
      ⟨Rect.unit ![0, 0] S128x128.size inb_S2048x128_S128x128_0_0, p0⟩]) = oBuf e 1 id x0 x1 x2 x3 x4 :=
  (View.read_writes_eq_canon v f _ (View.cover_of_tiledBy _ ![128, 128] (by sl_kernel_rfl))).trans (canon_eq ⟨
    (tile1 e x0 x1 x2 x3 x4 1920 1792 rfl (by decide) (by decide) _ _).o_unit (h15.trans (shapeCast_self _ _)) 1920 id inb_S2048x128_S128x128_1920_0 (fun i y h => Fin.ext h),
    (tile1 e x0 x1 x2 x3 x4 1792 1664 rfl (by decide) (by decide) _ _).o_unit (h14.trans (shapeCast_self _ _)) 1792 id inb_S2048x128_S128x128_1792_0 (fun i y h => Fin.ext h),
    (tile1 e x0 x1 x2 x3 x4 1664 1536 rfl (by decide) (by decide) _ _).o_unit (h13.trans (shapeCast_self _ _)) 1664 id inb_S2048x128_S128x128_1664_0 (fun i y h => Fin.ext h),
    (tile1 e x0 x1 x2 x3 x4 1536 1408 rfl (by decide) (by decide) _ _).o_unit (h12.trans (shapeCast_self _ _)) 1536 id inb_S2048x128_S128x128_1536_0 (fun i y h => Fin.ext h),
    (tile1 e x0 x1 x2 x3 x4 1408 1280 rfl (by decide) (by decide) _ _).o_unit (h11.trans (shapeCast_self _ _)) 1408 id inb_S2048x128_S128x128_1408_0 (fun i y h => Fin.ext h),
    (tile1 e x0 x1 x2 x3 x4 1280 1152 rfl (by decide) (by decide) _ _).o_unit (h10.trans (shapeCast_self _ _)) 1280 id inb_S2048x128_S128x128_1280_0 (fun i y h => Fin.ext h),
    (tile1 e x0 x1 x2 x3 x4 1152 1024 rfl (by decide) (by decide) _ _).o_unit (h9.trans (shapeCast_self _ _)) 1152 id inb_S2048x128_S128x128_1152_0 (fun i y h => Fin.ext h),
    (tile1 e x0 x1 x2 x3 x4 1024 896 rfl (by decide) (by decide) _ _).o_unit (h8.trans (shapeCast_self _ _)) 1024 id inb_S2048x128_S128x128_1024_0 (fun i y h => Fin.ext h),
    (tile1 e x0 x1 x2 x3 x4 896 768 rfl (by decide) (by decide) _ _).o_unit (h7.trans (shapeCast_self _ _)) 896 id inb_S2048x128_S128x128_896_0 (fun i y h => Fin.ext h),
    (tile1 e x0 x1 x2 x3 x4 768 640 rfl (by decide) (by decide) _ _).o_unit (h6.trans (shapeCast_self _ _)) 768 id inb_S2048x128_S128x128_768_0 (fun i y h => Fin.ext h),
    (tile1 e x0 x1 x2 x3 x4 640 512 rfl (by decide) (by decide) _ _).o_unit (h5.trans (shapeCast_self _ _)) 640 id inb_S2048x128_S128x128_640_0 (fun i y h => Fin.ext h),
    (tile1 e x0 x1 x2 x3 x4 512 384 rfl (by decide) (by decide) _ _).o_unit (h4.trans (shapeCast_self _ _)) 512 id inb_S2048x128_S128x128_512_0 (fun i y h => Fin.ext h),
    (tile1 e x0 x1 x2 x3 x4 384 256 rfl (by decide) (by decide) _ _).o_unit (h3.trans (shapeCast_self _ _)) 384 id inb_S2048x128_S128x128_384_0 (fun i y h => Fin.ext h),
    (tile1 e x0 x1 x2 x3 x4 256 128 rfl (by decide) (by decide) _ _).o_unit (h2.trans (shapeCast_self _ _)) 256 id inb_S2048x128_S128x128_256_0 (fun i y h => Fin.ext h),
    (tile1 e x0 x1 x2 x3 x4 128 0 rfl (by decide) (by decide) _ _).o_unit (h1.trans (shapeCast_self _ _)) 128 id inb_S2048x128_S128x128_128_0 (fun i y h => Fin.ext h),
    (tile1_first e x0 x1 x2 x3 x4 _ _).o_unit (h0.trans (shapeCast_self _ _)) 0 id inb_S2048x128_S128x128_0_0 (fun i y h => Fin.ext h), trivial⟩
    (View.cover_of_tiledBy _ ![128, 128] (by sl_kernel_rfl)))

/-- Level two's outputs. -/
theorem level2_o (hq : View.canon L9 = q4Buf x0) (hk : View.canon L10 = k4Buf x1 x2) (hv : View.canon L11 = k4Buf x3 x4)
    (h0 : p0 = shapeCast S128x128 (oT (v9.readCov L9 (Rect.unit (s := S2048x128) ![0, 0] S128x128.size inb_S2048x128_S128x128_0_0).toLoadRect) (v10.readCov L10 (Rect.unit (s := S4096x128) ![384, 0] S256x128.size inb_S4096x128_S256x128_384_0).toLoadRect) (v11.readCov L11 (Rect.unit (s := S4096x128) ![384, 0] S256x128.size inb_S4096x128_S256x128_384_0).toLoadRect) (bF e) : FVec Ideal S128x128 .f32) shapeCasts_S128x128_S128x128)
    (h1 : p1 = shapeCast S128x128 (oT (v9.readCov L9 (Rect.unit (s := S2048x128) ![128, 0] S128x128.size inb_S2048x128_S128x128_128_0).toLoadRect) (v10.readCov L10 (Rect.unit (s := S4096x128) ![512, 0] S256x128.size inb_S4096x128_S256x128_512_0).toLoadRect) (v11.readCov L11 (Rect.unit (s := S4096x128) ![512, 0] S256x128.size inb_S4096x128_S256x128_512_0).toLoadRect) k0_pay27 : FVec Ideal S128x128 .f32) shapeCasts_S128x128_S128x128)
    (h2 : p2 = shapeCast S128x128 (oT (v9.readCov L9 (Rect.unit (s := S2048x128) ![256, 0] S128x128.size inb_S2048x128_S128x128_256_0).toLoadRect) (v10.readCov L10 (Rect.unit (s := S4096x128) ![640, 0] S256x128.size inb_S4096x128_S256x128_640_0).toLoadRect) (v11.readCov L11 (Rect.unit (s := S4096x128) ![640, 0] S256x128.size inb_S4096x128_S256x128_640_0).toLoadRect) k0_pay27 : FVec Ideal S128x128 .f32) shapeCasts_S128x128_S128x128)
    (h3 : p3 = shapeCast S128x128 (oT (v9.readCov L9 (Rect.unit (s := S2048x128) ![384, 0] S128x128.size inb_S2048x128_S128x128_384_0).toLoadRect) (v10.readCov L10 (Rect.unit (s := S4096x128) ![768, 0] S256x128.size inb_S4096x128_S256x128_768_0).toLoadRect) (v11.readCov L11 (Rect.unit (s := S4096x128) ![768, 0] S256x128.size inb_S4096x128_S256x128_768_0).toLoadRect) k0_pay27 : FVec Ideal S128x128 .f32) shapeCasts_S128x128_S128x128)
    (h4 : p4 = shapeCast S128x128 (oT (v9.readCov L9 (Rect.unit (s := S2048x128) ![512, 0] S128x128.size inb_S2048x128_S128x128_512_0).toLoadRect) (v10.readCov L10 (Rect.unit (s := S4096x128) ![1408, 0] S256x128.size inb_S4096x128_S256x128_1408_0).toLoadRect) (v11.readCov L11 (Rect.unit (s := S4096x128) ![1408, 0] S256x128.size inb_S4096x128_S256x128_1408_0).toLoadRect) (bF e) : FVec Ideal S128x128 .f32) shapeCasts_S128x128_S128x128)
    (h5 : p5 = shapeCast S128x128 (oT (v9.readCov L9 (Rect.unit (s := S2048x128) ![640, 0] S128x128.size inb_S2048x128_S128x128_640_0).toLoadRect) (v10.readCov L10 (Rect.unit (s := S4096x128) ![1536, 0] S256x128.size inb_S4096x128_S256x128_1536_0).toLoadRect) (v11.readCov L11 (Rect.unit (s := S4096x128) ![1536, 0] S256x128.size inb_S4096x128_S256x128_1536_0).toLoadRect) k0_pay27 : FVec Ideal S128x128 .f32) shapeCasts_S128x128_S128x128)
    (h6 : p6 = shapeCast S128x128 (oT (v9.readCov L9 (Rect.unit (s := S2048x128) ![768, 0] S128x128.size inb_S2048x128_S128x128_768_0).toLoadRect) (v10.readCov L10 (Rect.unit (s := S4096x128) ![1664, 0] S256x128.size inb_S4096x128_S256x128_1664_0).toLoadRect) (v11.readCov L11 (Rect.unit (s := S4096x128) ![1664, 0] S256x128.size inb_S4096x128_S256x128_1664_0).toLoadRect) k0_pay27 : FVec Ideal S128x128 .f32) shapeCasts_S128x128_S128x128)
    (h7 : p7 = shapeCast S128x128 (oT (v9.readCov L9 (Rect.unit (s := S2048x128) ![896, 0] S128x128.size inb_S2048x128_S128x128_896_0).toLoadRect) (v10.readCov L10 (Rect.unit (s := S4096x128) ![1792, 0] S256x128.size inb_S4096x128_S256x128_1792_0).toLoadRect) (v11.readCov L11 (Rect.unit (s := S4096x128) ![1792, 0] S256x128.size inb_S4096x128_S256x128_1792_0).toLoadRect) k0_pay27 : FVec Ideal S128x128 .f32) shapeCasts_S128x128_S128x128)
    (h8 : p8 = shapeCast S128x128 (oT (v9.readCov L9 (Rect.unit (s := S2048x128) ![1024, 0] S128x128.size inb_S2048x128_S128x128_1024_0).toLoadRect) (v10.readCov L10 (Rect.unit (s := S4096x128) ![2432, 0] S256x128.size inb_S4096x128_S256x128_2432_0).toLoadRect) (v11.readCov L11 (Rect.unit (s := S4096x128) ![2432, 0] S256x128.size inb_S4096x128_S256x128_2432_0).toLoadRect) (bF e) : FVec Ideal S128x128 .f32) shapeCasts_S128x128_S128x128)
    (h9 : p9 = shapeCast S128x128 (oT (v9.readCov L9 (Rect.unit (s := S2048x128) ![1152, 0] S128x128.size inb_S2048x128_S128x128_1152_0).toLoadRect) (v10.readCov L10 (Rect.unit (s := S4096x128) ![2560, 0] S256x128.size inb_S4096x128_S256x128_2560_0).toLoadRect) (v11.readCov L11 (Rect.unit (s := S4096x128) ![2560, 0] S256x128.size inb_S4096x128_S256x128_2560_0).toLoadRect) k0_pay27 : FVec Ideal S128x128 .f32) shapeCasts_S128x128_S128x128)
    (h10 : p10 = shapeCast S128x128 (oT (v9.readCov L9 (Rect.unit (s := S2048x128) ![1280, 0] S128x128.size inb_S2048x128_S128x128_1280_0).toLoadRect) (v10.readCov L10 (Rect.unit (s := S4096x128) ![2688, 0] S256x128.size inb_S4096x128_S256x128_2688_0).toLoadRect) (v11.readCov L11 (Rect.unit (s := S4096x128) ![2688, 0] S256x128.size inb_S4096x128_S256x128_2688_0).toLoadRect) k0_pay27 : FVec Ideal S128x128 .f32) shapeCasts_S128x128_S128x128)
    (h11 : p11 = shapeCast S128x128 (oT (v9.readCov L9 (Rect.unit (s := S2048x128) ![1408, 0] S128x128.size inb_S2048x128_S128x128_1408_0).toLoadRect) (v10.readCov L10 (Rect.unit (s := S4096x128) ![2816, 0] S256x128.size inb_S4096x128_S256x128_2816_0).toLoadRect) (v11.readCov L11 (Rect.unit (s := S4096x128) ![2816, 0] S256x128.size inb_S4096x128_S256x128_2816_0).toLoadRect) k0_pay27 : FVec Ideal S128x128 .f32) shapeCasts_S128x128_S128x128)
    (h12 : p12 = shapeCast S128x128 (oT (v9.readCov L9 (Rect.unit (s := S2048x128) ![1536, 0] S128x128.size inb_S2048x128_S128x128_1536_0).toLoadRect) (v10.readCov L10 (Rect.unit (s := S4096x128) ![3456, 0] S256x128.size inb_S4096x128_S256x128_3456_0).toLoadRect) (v11.readCov L11 (Rect.unit (s := S4096x128) ![3456, 0] S256x128.size inb_S4096x128_S256x128_3456_0).toLoadRect) (bF e) : FVec Ideal S128x128 .f32) shapeCasts_S128x128_S128x128)
    (h13 : p13 = shapeCast S128x128 (oT (v9.readCov L9 (Rect.unit (s := S2048x128) ![1664, 0] S128x128.size inb_S2048x128_S128x128_1664_0).toLoadRect) (v10.readCov L10 (Rect.unit (s := S4096x128) ![3584, 0] S256x128.size inb_S4096x128_S256x128_3584_0).toLoadRect) (v11.readCov L11 (Rect.unit (s := S4096x128) ![3584, 0] S256x128.size inb_S4096x128_S256x128_3584_0).toLoadRect) k0_pay27 : FVec Ideal S128x128 .f32) shapeCasts_S128x128_S128x128)
    (h14 : p14 = shapeCast S128x128 (oT (v9.readCov L9 (Rect.unit (s := S2048x128) ![1792, 0] S128x128.size inb_S2048x128_S128x128_1792_0).toLoadRect) (v10.readCov L10 (Rect.unit (s := S4096x128) ![3712, 0] S256x128.size inb_S4096x128_S256x128_3712_0).toLoadRect) (v11.readCov L11 (Rect.unit (s := S4096x128) ![3712, 0] S256x128.size inb_S4096x128_S256x128_3712_0).toLoadRect) k0_pay27 : FVec Ideal S128x128 .f32) shapeCasts_S128x128_S128x128)
    (h15 : p15 = shapeCast S128x128 (oT (v9.readCov L9 (Rect.unit (s := S2048x128) ![1920, 0] S128x128.size inb_S2048x128_S128x128_1920_0).toLoadRect) (v10.readCov L10 (Rect.unit (s := S4096x128) ![3840, 0] S256x128.size inb_S4096x128_S256x128_3840_0).toLoadRect) (v11.readCov L11 (Rect.unit (s := S4096x128) ![3840, 0] S256x128.size inb_S4096x128_S256x128_3840_0).toLoadRect) k0_pay27 : FVec Ideal S128x128 .f32) shapeCasts_S128x128_S128x128) :
    v.read (Elt Ideal) (v.writes (Elt Ideal) f [
      ⟨Rect.unit ![1920, 0] S128x128.size inb_S2048x128_S128x128_1920_0, p15⟩,
      ⟨Rect.unit ![1792, 0] S128x128.size inb_S2048x128_S128x128_1792_0, p14⟩,
      ⟨Rect.unit ![1664, 0] S128x128.size inb_S2048x128_S128x128_1664_0, p13⟩,
      ⟨Rect.unit ![1536, 0] S128x128.size inb_S2048x128_S128x128_1536_0, p12⟩,
      ⟨Rect.unit ![1408, 0] S128x128.size inb_S2048x128_S128x128_1408_0, p11⟩,
      ⟨Rect.unit ![1280, 0] S128x128.size inb_S2048x128_S128x128_1280_0, p10⟩,
      ⟨Rect.unit ![1152, 0] S128x128.size inb_S2048x128_S128x128_1152_0, p9⟩,
      ⟨Rect.unit ![1024, 0] S128x128.size inb_S2048x128_S128x128_1024_0, p8⟩,
      ⟨Rect.unit ![896, 0] S128x128.size inb_S2048x128_S128x128_896_0, p7⟩,
      ⟨Rect.unit ![768, 0] S128x128.size inb_S2048x128_S128x128_768_0, p6⟩,
      ⟨Rect.unit ![640, 0] S128x128.size inb_S2048x128_S128x128_640_0, p5⟩,
      ⟨Rect.unit ![512, 0] S128x128.size inb_S2048x128_S128x128_512_0, p4⟩,
      ⟨Rect.unit ![384, 0] S128x128.size inb_S2048x128_S128x128_384_0, p3⟩,
      ⟨Rect.unit ![256, 0] S128x128.size inb_S2048x128_S128x128_256_0, p2⟩,
      ⟨Rect.unit ![128, 0] S128x128.size inb_S2048x128_S128x128_128_0, p1⟩,
      ⟨Rect.unit ![0, 0] S128x128.size inb_S2048x128_S128x128_0_0, p0⟩]) = oBuf e 4 sig4 x0 x1 x2 x3 x4 :=
  (View.read_writes_eq_canon v f _ (View.cover_of_tiledBy _ ![128, 128] (by sl_kernel_rfl))).trans (canon_eq ⟨
    (tile2 v9 v10 v11 e x0 x1 x2 x3 x4 hq hk hv 1920 3840 (by decide) (by decide) rfl _ _ _ (.inr ⟨by decide, rfl⟩)).o_unit (h15.trans (shapeCast_self _ _)) 1920 sig4 inb_S2048x128_S128x128_1920_0 (fun i y h => congrArg sig4 (Fin.ext h)),
    (tile2 v9 v10 v11 e x0 x1 x2 x3 x4 hq hk hv 1792 3712 (by decide) (by decide) rfl _ _ _ (.inr ⟨by decide, rfl⟩)).o_unit (h14.trans (shapeCast_self _ _)) 1792 sig4 inb_S2048x128_S128x128_1792_0 (fun i y h => congrArg sig4 (Fin.ext h)),
    (tile2 v9 v10 v11 e x0 x1 x2 x3 x4 hq hk hv 1664 3584 (by decide) (by decide) rfl _ _ _ (.inr ⟨by decide, rfl⟩)).o_unit (h13.trans (shapeCast_self _ _)) 1664 sig4 inb_S2048x128_S128x128_1664_0 (fun i y h => congrArg sig4 (Fin.ext h)),
    (tile2 v9 v10 v11 e x0 x1 x2 x3 x4 hq hk hv 1536 3456 (by decide) (by decide) rfl _ _ _ (.inl ⟨by decide, rfl⟩)).o_unit (h12.trans (shapeCast_self _ _)) 1536 sig4 inb_S2048x128_S128x128_1536_0 (fun i y h => congrArg sig4 (Fin.ext h)),
    (tile2 v9 v10 v11 e x0 x1 x2 x3 x4 hq hk hv 1408 2816 (by decide) (by decide) rfl _ _ _ (.inr ⟨by decide, rfl⟩)).o_unit (h11.trans (shapeCast_self _ _)) 1408 sig4 inb_S2048x128_S128x128_1408_0 (fun i y h => congrArg sig4 (Fin.ext h)),
    (tile2 v9 v10 v11 e x0 x1 x2 x3 x4 hq hk hv 1280 2688 (by decide) (by decide) rfl _ _ _ (.inr ⟨by decide, rfl⟩)).o_unit (h10.trans (shapeCast_self _ _)) 1280 sig4 inb_S2048x128_S128x128_1280_0 (fun i y h => congrArg sig4 (Fin.ext h)),
    (tile2 v9 v10 v11 e x0 x1 x2 x3 x4 hq hk hv 1152 2560 (by decide) (by decide) rfl _ _ _ (.inr ⟨by decide, rfl⟩)).o_unit (h9.trans (shapeCast_self _ _)) 1152 sig4 inb_S2048x128_S128x128_1152_0 (fun i y h => congrArg sig4 (Fin.ext h)),
    (tile2 v9 v10 v11 e x0 x1 x2 x3 x4 hq hk hv 1024 2432 (by decide) (by decide) rfl _ _ _ (.inl ⟨by decide, rfl⟩)).o_unit (h8.trans (shapeCast_self _ _)) 1024 sig4 inb_S2048x128_S128x128_1024_0 (fun i y h => congrArg sig4 (Fin.ext h)),
    (tile2 v9 v10 v11 e x0 x1 x2 x3 x4 hq hk hv 896 1792 (by decide) (by decide) rfl _ _ _ (.inr ⟨by decide, rfl⟩)).o_unit (h7.trans (shapeCast_self _ _)) 896 sig4 inb_S2048x128_S128x128_896_0 (fun i y h => congrArg sig4 (Fin.ext h)),
    (tile2 v9 v10 v11 e x0 x1 x2 x3 x4 hq hk hv 768 1664 (by decide) (by decide) rfl _ _ _ (.inr ⟨by decide, rfl⟩)).o_unit (h6.trans (shapeCast_self _ _)) 768 sig4 inb_S2048x128_S128x128_768_0 (fun i y h => congrArg sig4 (Fin.ext h)),
    (tile2 v9 v10 v11 e x0 x1 x2 x3 x4 hq hk hv 640 1536 (by decide) (by decide) rfl _ _ _ (.inr ⟨by decide, rfl⟩)).o_unit (h5.trans (shapeCast_self _ _)) 640 sig4 inb_S2048x128_S128x128_640_0 (fun i y h => congrArg sig4 (Fin.ext h)),
    (tile2 v9 v10 v11 e x0 x1 x2 x3 x4 hq hk hv 512 1408 (by decide) (by decide) rfl _ _ _ (.inl ⟨by decide, rfl⟩)).o_unit (h4.trans (shapeCast_self _ _)) 512 sig4 inb_S2048x128_S128x128_512_0 (fun i y h => congrArg sig4 (Fin.ext h)),
    (tile2 v9 v10 v11 e x0 x1 x2 x3 x4 hq hk hv 384 768 (by decide) (by decide) rfl _ _ _ (.inr ⟨by decide, rfl⟩)).o_unit (h3.trans (shapeCast_self _ _)) 384 sig4 inb_S2048x128_S128x128_384_0 (fun i y h => congrArg sig4 (Fin.ext h)),
    (tile2 v9 v10 v11 e x0 x1 x2 x3 x4 hq hk hv 256 640 (by decide) (by decide) rfl _ _ _ (.inr ⟨by decide, rfl⟩)).o_unit (h2.trans (shapeCast_self _ _)) 256 sig4 inb_S2048x128_S128x128_256_0 (fun i y h => congrArg sig4 (Fin.ext h)),
    (tile2 v9 v10 v11 e x0 x1 x2 x3 x4 hq hk hv 128 512 (by decide) (by decide) rfl _ _ _ (.inr ⟨by decide, rfl⟩)).o_unit (h1.trans (shapeCast_self _ _)) 128 sig4 inb_S2048x128_S128x128_128_0 (fun i y h => congrArg sig4 (Fin.ext h)),
    (tile2 v9 v10 v11 e x0 x1 x2 x3 x4 hq hk hv 0 384 (by decide) (by decide) rfl _ _ _ (.inl ⟨by decide, rfl⟩)).o_unit (h0.trans (shapeCast_self _ _)) 0 sig4 inb_S2048x128_S128x128_0_0 (fun i y h => congrArg sig4 (Fin.ext h)), trivial⟩
    (View.cover_of_tiledBy _ ![128, 128] (by sl_kernel_rfl)))

set_option maxHeartbeats 4000000 in
theorem cover3 (pos) (y : S2048x128.Idx) : ∃ p ∈ ([
      ⟨⟨(⟨![1539, 0], S128x128.size, ![4, 1], inb_S2048x128_S128x128_1539_0_s_4_1⟩ : LoadRect S2048x128), pos⟩, p15⟩,
      ⟨⟨(⟨![1538, 0], S128x128.size, ![4, 1], inb_S2048x128_S128x128_1538_0_s_4_1⟩ : LoadRect S2048x128), pos⟩, p14⟩,
      ⟨⟨(⟨![1537, 0], S128x128.size, ![4, 1], inb_S2048x128_S128x128_1537_0_s_4_1⟩ : LoadRect S2048x128), pos⟩, p13⟩,
      ⟨⟨(⟨![1536, 0], S128x128.size, ![4, 1], inb_S2048x128_S128x128_1536_0_s_4_1⟩ : LoadRect S2048x128), pos⟩, p12⟩,
      ⟨⟨(⟨![1027, 0], S128x128.size, ![4, 1], inb_S2048x128_S128x128_1027_0_s_4_1⟩ : LoadRect S2048x128), pos⟩, p11⟩,
      ⟨⟨(⟨![1026, 0], S128x128.size, ![4, 1], inb_S2048x128_S128x128_1026_0_s_4_1⟩ : LoadRect S2048x128), pos⟩, p10⟩,
      ⟨⟨(⟨![1025, 0], S128x128.size, ![4, 1], inb_S2048x128_S128x128_1025_0_s_4_1⟩ : LoadRect S2048x128), pos⟩, p9⟩,
      ⟨⟨(⟨![1024, 0], S128x128.size, ![4, 1], inb_S2048x128_S128x128_1024_0_s_4_1⟩ : LoadRect S2048x128), pos⟩, p8⟩,
      ⟨⟨(⟨![515, 0], S128x128.size, ![4, 1], inb_S2048x128_S128x128_515_0_s_4_1⟩ : LoadRect S2048x128), pos⟩, p7⟩,
      ⟨⟨(⟨![514, 0], S128x128.size, ![4, 1], inb_S2048x128_S128x128_514_0_s_4_1⟩ : LoadRect S2048x128), pos⟩, p6⟩,
      ⟨⟨(⟨![513, 0], S128x128.size, ![4, 1], inb_S2048x128_S128x128_513_0_s_4_1⟩ : LoadRect S2048x128), pos⟩, p5⟩,
      ⟨⟨(⟨![512, 0], S128x128.size, ![4, 1], inb_S2048x128_S128x128_512_0_s_4_1⟩ : LoadRect S2048x128), pos⟩, p4⟩,
      ⟨⟨(⟨![3, 0], S128x128.size, ![4, 1], inb_S2048x128_S128x128_3_0_s_4_1⟩ : LoadRect S2048x128), pos⟩, p3⟩,
      ⟨⟨(⟨![2, 0], S128x128.size, ![4, 1], inb_S2048x128_S128x128_2_0_s_4_1⟩ : LoadRect S2048x128), pos⟩, p2⟩,
      ⟨⟨(⟨![1, 0], S128x128.size, ![4, 1], inb_S2048x128_S128x128_1_0_s_4_1⟩ : LoadRect S2048x128), pos⟩, p1⟩,
      ⟨⟨(⟨![0, 0], S128x128.size, ![4, 1], inb_S2048x128_S128x128_0_0_s_4_1⟩ : LoadRect S2048x128), pos⟩, p0⟩] : List (View.Piece (Elt Ideal) S2048x128 .f32)), y ∈ p.1.set := by
  have hy : (y 0).val < 2048 := (y 0).isLt
  obtain hr | hr | hr | hr : (y 0).val / 512 = 3 ∨ (y 0).val / 512 = 2 ∨ (y 0).val / 512 = 1 ∨ (y 0).val / 512 = 0 := by omega
  · obtain ha | ha | ha | ha : (y 0).val % 4 = 3 ∨ (y 0).val % 4 = 2 ∨ (y 0).val % 4 = 1 ∨ (y 0).val % 4 = 0 := by omega
    · exact ⟨_, .head _, mem_four 1539 inb_S2048x128_S128x128_1539_0_s_4_1 pos y ((y 0).val % 512 / 4) (by omega) (by omega)⟩
    · exact ⟨_, .tail _ (.head _), mem_four 1538 inb_S2048x128_S128x128_1538_0_s_4_1 pos y ((y 0).val % 512 / 4) (by omega) (by omega)⟩
    · exact ⟨_, .tail _ (.tail _ (.head _)), mem_four 1537 inb_S2048x128_S128x128_1537_0_s_4_1 pos y ((y 0).val % 512 / 4) (by omega) (by omega)⟩
    · exact ⟨_, .tail _ (.tail _ (.tail _ (.head _))), mem_four 1536 inb_S2048x128_S128x128_1536_0_s_4_1 pos y ((y 0).val % 512 / 4) (by omega) (by omega)⟩
  · obtain ha | ha | ha | ha : (y 0).val % 4 = 3 ∨ (y 0).val % 4 = 2 ∨ (y 0).val % 4 = 1 ∨ (y 0).val % 4 = 0 := by omega
    · exact ⟨_, .tail _ (.tail _ (.tail _ (.tail _ (.head _)))), mem_four 1027 inb_S2048x128_S128x128_1027_0_s_4_1 pos y ((y 0).val % 512 / 4) (by omega) (by omega)⟩
    · exact ⟨_, .tail _ (.tail _ (.tail _ (.tail _ (.tail _ (.head _))))), mem_four 1026 inb_S2048x128_S128x128_1026_0_s_4_1 pos y ((y 0).val % 512 / 4) (by omega) (by omega)⟩
    · exact ⟨_, .tail _ (.tail _ (.tail _ (.tail _ (.tail _ (.tail _ (.head _)))))), mem_four 1025 inb_S2048x128_S128x128_1025_0_s_4_1 pos y ((y 0).val % 512 / 4) (by omega) (by omega)⟩
    · exact ⟨_, .tail _ (.tail _ (.tail _ (.tail _ (.tail _ (.tail _ (.tail _ (.head _))))))), mem_four 1024 inb_S2048x128_S128x128_1024_0_s_4_1 pos y ((y 0).val % 512 / 4) (by omega) (by omega)⟩
  · obtain ha | ha | ha | ha : (y 0).val % 4 = 3 ∨ (y 0).val % 4 = 2 ∨ (y 0).val % 4 = 1 ∨ (y 0).val % 4 = 0 := by omega
    · exact ⟨_, .tail _ (.tail _ (.tail _ (.tail _ (.tail _ (.tail _ (.tail _ (.tail _ (.head _)))))))), mem_four 515 inb_S2048x128_S128x128_515_0_s_4_1 pos y ((y 0).val % 512 / 4) (by omega) (by omega)⟩
    · exact ⟨_, .tail _ (.tail _ (.tail _ (.tail _ (.tail _ (.tail _ (.tail _ (.tail _ (.tail _ (.head _))))))))), mem_four 514 inb_S2048x128_S128x128_514_0_s_4_1 pos y ((y 0).val % 512 / 4) (by omega) (by omega)⟩
    · exact ⟨_, .tail _ (.tail _ (.tail _ (.tail _ (.tail _ (.tail _ (.tail _ (.tail _ (.tail _ (.tail _ (.head _)))))))))), mem_four 513 inb_S2048x128_S128x128_513_0_s_4_1 pos y ((y 0).val % 512 / 4) (by omega) (by omega)⟩
    · exact ⟨_, .tail _ (.tail _ (.tail _ (.tail _ (.tail _ (.tail _ (.tail _ (.tail _ (.tail _ (.tail _ (.tail _ (.head _))))))))))), mem_four 512 inb_S2048x128_S128x128_512_0_s_4_1 pos y ((y 0).val % 512 / 4) (by omega) (by omega)⟩
  · obtain ha | ha | ha | ha : (y 0).val % 4 = 3 ∨ (y 0).val % 4 = 2 ∨ (y 0).val % 4 = 1 ∨ (y 0).val % 4 = 0 := by omega
    · exact ⟨_, .tail _ (.tail _ (.tail _ (.tail _ (.tail _ (.tail _ (.tail _ (.tail _ (.tail _ (.tail _ (.tail _ (.tail _ (.head _)))))))))))), mem_four 3 inb_S2048x128_S128x128_3_0_s_4_1 pos y ((y 0).val % 512 / 4) (by omega) (by omega)⟩
    · exact ⟨_, .tail _ (.tail _ (.tail _ (.tail _ (.tail _ (.tail _ (.tail _ (.tail _ (.tail _ (.tail _ (.tail _ (.tail _ (.tail _ (.head _))))))))))))), mem_four 2 inb_S2048x128_S128x128_2_0_s_4_1 pos y ((y 0).val % 512 / 4) (by omega) (by omega)⟩
    · exact ⟨_, .tail _ (.tail _ (.tail _ (.tail _ (.tail _ (.tail _ (.tail _ (.tail _ (.tail _ (.tail _ (.tail _ (.tail _ (.tail _ (.tail _ (.head _)))))))))))))), mem_four 1 inb_S2048x128_S128x128_1_0_s_4_1 pos y ((y 0).val % 512 / 4) (by omega) (by omega)⟩
    · exact ⟨_, .tail _ (.tail _ (.tail _ (.tail _ (.tail _ (.tail _ (.tail _ (.tail _ (.tail _ (.tail _ (.tail _ (.tail _ (.tail _ (.tail _ (.tail _ (.head _))))))))))))))), mem_four 0 inb_S2048x128_S128x128_0_0_s_4_1 pos y ((y 0).val % 512 / 4) (by omega) (by omega)⟩

/-- Level three's outputs. -/
theorem level3_o (hq : View.canon L9 = q4Buf x0) (hk : View.canon L10 = k4Buf x1 x2) (hv : View.canon L11 = k4Buf x3 x4)
    (h0 : p0 = shapeCast S128x128 (oT (v9.readCov L9 (⟨![0, 0], S128x128.size, ![4, 1], inb_S2048x128_S128x128_0_0_s_4_1⟩ : LoadRect S2048x128)) (v10.readCov L10 (⟨![0, 0], S256x128.size, ![4, 1], inb_S4096x128_S256x128_0_0_s_4_1⟩ : LoadRect S4096x128)) (v11.readCov L11 (⟨![0, 0], S256x128.size, ![4, 1], inb_S4096x128_S256x128_0_0_s_4_1⟩ : LoadRect S4096x128)) (bF e) : FVec Ideal S128x128 .f32) shapeCasts_S128x128_S128x128)
    (h1 : p1 = shapeCast S128x128 (oT (v9.readCov L9 (⟨![1, 0], S128x128.size, ![4, 1], inb_S2048x128_S128x128_1_0_s_4_1⟩ : LoadRect S2048x128)) (v10.readCov L10 (⟨![1, 0], S256x128.size, ![4, 1], inb_S4096x128_S256x128_1_0_s_4_1⟩ : LoadRect S4096x128)) (v11.readCov L11 (⟨![1, 0], S256x128.size, ![4, 1], inb_S4096x128_S256x128_1_0_s_4_1⟩ : LoadRect S4096x128)) (bF e) : FVec Ideal S128x128 .f32) shapeCasts_S128x128_S128x128)
    (h2 : p2 = shapeCast S128x128 (oT (v9.readCov L9 (⟨![2, 0], S128x128.size, ![4, 1], inb_S2048x128_S128x128_2_0_s_4_1⟩ : LoadRect S2048x128)) (v10.readCov L10 (⟨![2, 0], S256x128.size, ![4, 1], inb_S4096x128_S256x128_2_0_s_4_1⟩ : LoadRect S4096x128)) (v11.readCov L11 (⟨![2, 0], S256x128.size, ![4, 1], inb_S4096x128_S256x128_2_0_s_4_1⟩ : LoadRect S4096x128)) (bF e) : FVec Ideal S128x128 .f32) shapeCasts_S128x128_S128x128)
    (h3 : p3 = shapeCast S128x128 (oT (v9.readCov L9 (⟨![3, 0], S128x128.size, ![4, 1], inb_S2048x128_S128x128_3_0_s_4_1⟩ : LoadRect S2048x128)) (v10.readCov L10 (⟨![3, 0], S256x128.size, ![4, 1], inb_S4096x128_S256x128_3_0_s_4_1⟩ : LoadRect S4096x128)) (v11.readCov L11 (⟨![3, 0], S256x128.size, ![4, 1], inb_S4096x128_S256x128_3_0_s_4_1⟩ : LoadRect S4096x128)) (bF e) : FVec Ideal S128x128 .f32) shapeCasts_S128x128_S128x128)
    (h4 : p4 = shapeCast S128x128 (oT (v9.readCov L9 (⟨![512, 0], S128x128.size, ![4, 1], inb_S2048x128_S128x128_512_0_s_4_1⟩ : LoadRect S2048x128)) (v10.readCov L10 (⟨![1024, 0], S256x128.size, ![4, 1], inb_S4096x128_S256x128_1024_0_s_4_1⟩ : LoadRect S4096x128)) (v11.readCov L11 (⟨![1024, 0], S256x128.size, ![4, 1], inb_S4096x128_S256x128_1024_0_s_4_1⟩ : LoadRect S4096x128)) (bF e) : FVec Ideal S128x128 .f32) shapeCasts_S128x128_S128x128)
    (h5 : p5 = shapeCast S128x128 (oT (v9.readCov L9 (⟨![513, 0], S128x128.size, ![4, 1], inb_S2048x128_S128x128_513_0_s_4_1⟩ : LoadRect S2048x128)) (v10.readCov L10 (⟨![1025, 0], S256x128.size, ![4, 1], inb_S4096x128_S256x128_1025_0_s_4_1⟩ : LoadRect S4096x128)) (v11.readCov L11 (⟨![1025, 0], S256x128.size, ![4, 1], inb_S4096x128_S256x128_1025_0_s_4_1⟩ : LoadRect S4096x128)) (bF e) : FVec Ideal S128x128 .f32) shapeCasts_S128x128_S128x128)
    (h6 : p6 = shapeCast S128x128 (oT (v9.readCov L9 (⟨![514, 0], S128x128.size, ![4, 1], inb_S2048x128_S128x128_514_0_s_4_1⟩ : LoadRect S2048x128)) (v10.readCov L10 (⟨![1026, 0], S256x128.size, ![4, 1], inb_S4096x128_S256x128_1026_0_s_4_1⟩ : LoadRect S4096x128)) (v11.readCov L11 (⟨![1026, 0], S256x128.size, ![4, 1], inb_S4096x128_S256x128_1026_0_s_4_1⟩ : LoadRect S4096x128)) (bF e) : FVec Ideal S128x128 .f32) shapeCasts_S128x128_S128x128)
    (h7 : p7 = shapeCast S128x128 (oT (v9.readCov L9 (⟨![515, 0], S128x128.size, ![4, 1], inb_S2048x128_S128x128_515_0_s_4_1⟩ : LoadRect S2048x128)) (v10.readCov L10 (⟨![1027, 0], S256x128.size, ![4, 1], inb_S4096x128_S256x128_1027_0_s_4_1⟩ : LoadRect S4096x128)) (v11.readCov L11 (⟨![1027, 0], S256x128.size, ![4, 1], inb_S4096x128_S256x128_1027_0_s_4_1⟩ : LoadRect S4096x128)) (bF e) : FVec Ideal S128x128 .f32) shapeCasts_S128x128_S128x128)
    (h8 : p8 = shapeCast S128x128 (oT (v9.readCov L9 (⟨![1024, 0], S128x128.size, ![4, 1], inb_S2048x128_S128x128_1024_0_s_4_1⟩ : LoadRect S2048x128)) (v10.readCov L10 (⟨![2048, 0], S256x128.size, ![4, 1], inb_S4096x128_S256x128_2048_0_s_4_1⟩ : LoadRect S4096x128)) (v11.readCov L11 (⟨![2048, 0], S256x128.size, ![4, 1], inb_S4096x128_S256x128_2048_0_s_4_1⟩ : LoadRect S4096x128)) (bF e) : FVec Ideal S128x128 .f32) shapeCasts_S128x128_S128x128)
    (h9 : p9 = shapeCast S128x128 (oT (v9.readCov L9 (⟨![1025, 0], S128x128.size, ![4, 1], inb_S2048x128_S128x128_1025_0_s_4_1⟩ : LoadRect S2048x128)) (v10.readCov L10 (⟨![2049, 0], S256x128.size, ![4, 1], inb_S4096x128_S256x128_2049_0_s_4_1⟩ : LoadRect S4096x128)) (v11.readCov L11 (⟨![2049, 0], S256x128.size, ![4, 1], inb_S4096x128_S256x128_2049_0_s_4_1⟩ : LoadRect S4096x128)) (bF e) : FVec Ideal S128x128 .f32) shapeCasts_S128x128_S128x128)
    (h10 : p10 = shapeCast S128x128 (oT (v9.readCov L9 (⟨![1026, 0], S128x128.size, ![4, 1], inb_S2048x128_S128x128_1026_0_s_4_1⟩ : LoadRect S2048x128)) (v10.readCov L10 (⟨![2050, 0], S256x128.size, ![4, 1], inb_S4096x128_S256x128_2050_0_s_4_1⟩ : LoadRect S4096x128)) (v11.readCov L11 (⟨![2050, 0], S256x128.size, ![4, 1], inb_S4096x128_S256x128_2050_0_s_4_1⟩ : LoadRect S4096x128)) (bF e) : FVec Ideal S128x128 .f32) shapeCasts_S128x128_S128x128)
    (h11 : p11 = shapeCast S128x128 (oT (v9.readCov L9 (⟨![1027, 0], S128x128.size, ![4, 1], inb_S2048x128_S128x128_1027_0_s_4_1⟩ : LoadRect S2048x128)) (v10.readCov L10 (⟨![2051, 0], S256x128.size, ![4, 1], inb_S4096x128_S256x128_2051_0_s_4_1⟩ : LoadRect S4096x128)) (v11.readCov L11 (⟨![2051, 0], S256x128.size, ![4, 1], inb_S4096x128_S256x128_2051_0_s_4_1⟩ : LoadRect S4096x128)) (bF e) : FVec Ideal S128x128 .f32) shapeCasts_S128x128_S128x128)
    (h12 : p12 = shapeCast S128x128 (oT (v9.readCov L9 (⟨![1536, 0], S128x128.size, ![4, 1], inb_S2048x128_S128x128_1536_0_s_4_1⟩ : LoadRect S2048x128)) (v10.readCov L10 (⟨![3072, 0], S256x128.size, ![4, 1], inb_S4096x128_S256x128_3072_0_s_4_1⟩ : LoadRect S4096x128)) (v11.readCov L11 (⟨![3072, 0], S256x128.size, ![4, 1], inb_S4096x128_S256x128_3072_0_s_4_1⟩ : LoadRect S4096x128)) (bF e) : FVec Ideal S128x128 .f32) shapeCasts_S128x128_S128x128)
    (h13 : p13 = shapeCast S128x128 (oT (v9.readCov L9 (⟨![1537, 0], S128x128.size, ![4, 1], inb_S2048x128_S128x128_1537_0_s_4_1⟩ : LoadRect S2048x128)) (v10.readCov L10 (⟨![3073, 0], S256x128.size, ![4, 1], inb_S4096x128_S256x128_3073_0_s_4_1⟩ : LoadRect S4096x128)) (v11.readCov L11 (⟨![3073, 0], S256x128.size, ![4, 1], inb_S4096x128_S256x128_3073_0_s_4_1⟩ : LoadRect S4096x128)) (bF e) : FVec Ideal S128x128 .f32) shapeCasts_S128x128_S128x128)
    (h14 : p14 = shapeCast S128x128 (oT (v9.readCov L9 (⟨![1538, 0], S128x128.size, ![4, 1], inb_S2048x128_S128x128_1538_0_s_4_1⟩ : LoadRect S2048x128)) (v10.readCov L10 (⟨![3074, 0], S256x128.size, ![4, 1], inb_S4096x128_S256x128_3074_0_s_4_1⟩ : LoadRect S4096x128)) (v11.readCov L11 (⟨![3074, 0], S256x128.size, ![4, 1], inb_S4096x128_S256x128_3074_0_s_4_1⟩ : LoadRect S4096x128)) (bF e) : FVec Ideal S128x128 .f32) shapeCasts_S128x128_S128x128)
    (h15 : p15 = shapeCast S128x128 (oT (v9.readCov L9 (⟨![1539, 0], S128x128.size, ![4, 1], inb_S2048x128_S128x128_1539_0_s_4_1⟩ : LoadRect S2048x128)) (v10.readCov L10 (⟨![3075, 0], S256x128.size, ![4, 1], inb_S4096x128_S256x128_3075_0_s_4_1⟩ : LoadRect S4096x128)) (v11.readCov L11 (⟨![3075, 0], S256x128.size, ![4, 1], inb_S4096x128_S256x128_3075_0_s_4_1⟩ : LoadRect S4096x128)) (bF e) : FVec Ideal S128x128 .f32) shapeCasts_S128x128_S128x128) (pos) :
    v.read (Elt Ideal) (v.writes (Elt Ideal) f [
      ⟨⟨(⟨![1539, 0], S128x128.size, ![4, 1], inb_S2048x128_S128x128_1539_0_s_4_1⟩ : LoadRect S2048x128), pos⟩, p15⟩,
      ⟨⟨(⟨![1538, 0], S128x128.size, ![4, 1], inb_S2048x128_S128x128_1538_0_s_4_1⟩ : LoadRect S2048x128), pos⟩, p14⟩,
      ⟨⟨(⟨![1537, 0], S128x128.size, ![4, 1], inb_S2048x128_S128x128_1537_0_s_4_1⟩ : LoadRect S2048x128), pos⟩, p13⟩,
      ⟨⟨(⟨![1536, 0], S128x128.size, ![4, 1], inb_S2048x128_S128x128_1536_0_s_4_1⟩ : LoadRect S2048x128), pos⟩, p12⟩,
      ⟨⟨(⟨![1027, 0], S128x128.size, ![4, 1], inb_S2048x128_S128x128_1027_0_s_4_1⟩ : LoadRect S2048x128), pos⟩, p11⟩,
      ⟨⟨(⟨![1026, 0], S128x128.size, ![4, 1], inb_S2048x128_S128x128_1026_0_s_4_1⟩ : LoadRect S2048x128), pos⟩, p10⟩,
      ⟨⟨(⟨![1025, 0], S128x128.size, ![4, 1], inb_S2048x128_S128x128_1025_0_s_4_1⟩ : LoadRect S2048x128), pos⟩, p9⟩,
      ⟨⟨(⟨![1024, 0], S128x128.size, ![4, 1], inb_S2048x128_S128x128_1024_0_s_4_1⟩ : LoadRect S2048x128), pos⟩, p8⟩,
      ⟨⟨(⟨![515, 0], S128x128.size, ![4, 1], inb_S2048x128_S128x128_515_0_s_4_1⟩ : LoadRect S2048x128), pos⟩, p7⟩,
      ⟨⟨(⟨![514, 0], S128x128.size, ![4, 1], inb_S2048x128_S128x128_514_0_s_4_1⟩ : LoadRect S2048x128), pos⟩, p6⟩,
      ⟨⟨(⟨![513, 0], S128x128.size, ![4, 1], inb_S2048x128_S128x128_513_0_s_4_1⟩ : LoadRect S2048x128), pos⟩, p5⟩,
      ⟨⟨(⟨![512, 0], S128x128.size, ![4, 1], inb_S2048x128_S128x128_512_0_s_4_1⟩ : LoadRect S2048x128), pos⟩, p4⟩,
      ⟨⟨(⟨![3, 0], S128x128.size, ![4, 1], inb_S2048x128_S128x128_3_0_s_4_1⟩ : LoadRect S2048x128), pos⟩, p3⟩,
      ⟨⟨(⟨![2, 0], S128x128.size, ![4, 1], inb_S2048x128_S128x128_2_0_s_4_1⟩ : LoadRect S2048x128), pos⟩, p2⟩,
      ⟨⟨(⟨![1, 0], S128x128.size, ![4, 1], inb_S2048x128_S128x128_1_0_s_4_1⟩ : LoadRect S2048x128), pos⟩, p1⟩,
      ⟨⟨(⟨![0, 0], S128x128.size, ![4, 1], inb_S2048x128_S128x128_0_0_s_4_1⟩ : LoadRect S2048x128), pos⟩, p0⟩]) = oBuf e 16 sig4 x0 x1 x2 x3 x4 :=
  (View.read_writes_eq_canon v f _ (cover3 pos)).trans (canon_eq ⟨
    (tile3 v9 v10 v11 e x0 x1 x2 x3 x4 hq hk hv 1539 3075 (by decide) (by decide) rfl _ _).o_four (h15.trans (shapeCast_self _ _)) 1539 sig4 inb_S2048x128_S128x128_1539_0_s_4_1 pos (fun i y h => congrArg sig4 (Fin.ext h)),
    (tile3 v9 v10 v11 e x0 x1 x2 x3 x4 hq hk hv 1538 3074 (by decide) (by decide) rfl _ _).o_four (h14.trans (shapeCast_self _ _)) 1538 sig4 inb_S2048x128_S128x128_1538_0_s_4_1 pos (fun i y h => congrArg sig4 (Fin.ext h)),
    (tile3 v9 v10 v11 e x0 x1 x2 x3 x4 hq hk hv 1537 3073 (by decide) (by decide) rfl _ _).o_four (h13.trans (shapeCast_self _ _)) 1537 sig4 inb_S2048x128_S128x128_1537_0_s_4_1 pos (fun i y h => congrArg sig4 (Fin.ext h)),
    (tile3 v9 v10 v11 e x0 x1 x2 x3 x4 hq hk hv 1536 3072 (by decide) (by decide) rfl _ _).o_four (h12.trans (shapeCast_self _ _)) 1536 sig4 inb_S2048x128_S128x128_1536_0_s_4_1 pos (fun i y h => congrArg sig4 (Fin.ext h)),
    (tile3 v9 v10 v11 e x0 x1 x2 x3 x4 hq hk hv 1027 2051 (by decide) (by decide) rfl _ _).o_four (h11.trans (shapeCast_self _ _)) 1027 sig4 inb_S2048x128_S128x128_1027_0_s_4_1 pos (fun i y h => congrArg sig4 (Fin.ext h)),
    (tile3 v9 v10 v11 e x0 x1 x2 x3 x4 hq hk hv 1026 2050 (by decide) (by decide) rfl _ _).o_four (h10.trans (shapeCast_self _ _)) 1026 sig4 inb_S2048x128_S128x128_1026_0_s_4_1 pos (fun i y h => congrArg sig4 (Fin.ext h)),
    (tile3 v9 v10 v11 e x0 x1 x2 x3 x4 hq hk hv 1025 2049 (by decide) (by decide) rfl _ _).o_four (h9.trans (shapeCast_self _ _)) 1025 sig4 inb_S2048x128_S128x128_1025_0_s_4_1 pos (fun i y h => congrArg sig4 (Fin.ext h)),
    (tile3 v9 v10 v11 e x0 x1 x2 x3 x4 hq hk hv 1024 2048 (by decide) (by decide) rfl _ _).o_four (h8.trans (shapeCast_self _ _)) 1024 sig4 inb_S2048x128_S128x128_1024_0_s_4_1 pos (fun i y h => congrArg sig4 (Fin.ext h)),
    (tile3 v9 v10 v11 e x0 x1 x2 x3 x4 hq hk hv 515 1027 (by decide) (by decide) rfl _ _).o_four (h7.trans (shapeCast_self _ _)) 515 sig4 inb_S2048x128_S128x128_515_0_s_4_1 pos (fun i y h => congrArg sig4 (Fin.ext h)),
    (tile3 v9 v10 v11 e x0 x1 x2 x3 x4 hq hk hv 514 1026 (by decide) (by decide) rfl _ _).o_four (h6.trans (shapeCast_self _ _)) 514 sig4 inb_S2048x128_S128x128_514_0_s_4_1 pos (fun i y h => congrArg sig4 (Fin.ext h)),
    (tile3 v9 v10 v11 e x0 x1 x2 x3 x4 hq hk hv 513 1025 (by decide) (by decide) rfl _ _).o_four (h5.trans (shapeCast_self _ _)) 513 sig4 inb_S2048x128_S128x128_513_0_s_4_1 pos (fun i y h => congrArg sig4 (Fin.ext h)),
    (tile3 v9 v10 v11 e x0 x1 x2 x3 x4 hq hk hv 512 1024 (by decide) (by decide) rfl _ _).o_four (h4.trans (shapeCast_self _ _)) 512 sig4 inb_S2048x128_S128x128_512_0_s_4_1 pos (fun i y h => congrArg sig4 (Fin.ext h)),
    (tile3 v9 v10 v11 e x0 x1 x2 x3 x4 hq hk hv 3 3 (by decide) (by decide) rfl _ _).o_four (h3.trans (shapeCast_self _ _)) 3 sig4 inb_S2048x128_S128x128_3_0_s_4_1 pos (fun i y h => congrArg sig4 (Fin.ext h)),
    (tile3 v9 v10 v11 e x0 x1 x2 x3 x4 hq hk hv 2 2 (by decide) (by decide) rfl _ _).o_four (h2.trans (shapeCast_self _ _)) 2 sig4 inb_S2048x128_S128x128_2_0_s_4_1 pos (fun i y h => congrArg sig4 (Fin.ext h)),
    (tile3 v9 v10 v11 e x0 x1 x2 x3 x4 hq hk hv 1 1 (by decide) (by decide) rfl _ _).o_four (h1.trans (shapeCast_self _ _)) 1 sig4 inb_S2048x128_S128x128_1_0_s_4_1 pos (fun i y h => congrArg sig4 (Fin.ext h)),
    (tile3 v9 v10 v11 e x0 x1 x2 x3 x4 hq hk hv 0 0 (by decide) (by decide) rfl _ _).o_four (h0.trans (shapeCast_self _ _)) 0 sig4 inb_S2048x128_S128x128_0_0_s_4_1 pos (fun i y h => congrArg sig4 (Fin.ext h)), trivial⟩ (cover3 pos))

/-- Level one's log-sums. -/
theorem level1_l (h0 : p0 = shapeCast S128x128 (lT (ldq x0 0 inb_S1x2048x128_S1x128x128_0_0_0) (ldc x1 x2) (ldc x3 x4) (bF e) : FVec Ideal S128x128 .f32) shapeCasts_S128x128_S128x128)
    (h1 : p1 = shapeCast S128x128 (lT (ldq x0 128 inb_S1x2048x128_S1x128x128_0_128_0) (ldk x2 0 inb_S1x2048x128_S1x256x128_0_0_0) (ldk x4 0 inb_S1x2048x128_S1x256x128_0_0_0) k0_pay27 : FVec Ideal S128x128 .f32) shapeCasts_S128x128_S128x128)
    (h2 : p2 = shapeCast S128x128 (lT (ldq x0 256 inb_S1x2048x128_S1x128x128_0_256_0) (ldk x2 128 inb_S1x2048x128_S1x256x128_0_128_0) (ldk x4 128 inb_S1x2048x128_S1x256x128_0_128_0) k0_pay27 : FVec Ideal S128x128 .f32) shapeCasts_S128x128_S128x128)
    (h3 : p3 = shapeCast S128x128 (lT (ldq x0 384 inb_S1x2048x128_S1x128x128_0_384_0) (ldk x2 256 inb_S1x2048x128_S1x256x128_0_256_0) (ldk x4 256 inb_S1x2048x128_S1x256x128_0_256_0) k0_pay27 : FVec Ideal S128x128 .f32) shapeCasts_S128x128_S128x128)
    (h4 : p4 = shapeCast S128x128 (lT (ldq x0 512 inb_S1x2048x128_S1x128x128_0_512_0) (ldk x2 384 inb_S1x2048x128_S1x256x128_0_384_0) (ldk x4 384 inb_S1x2048x128_S1x256x128_0_384_0) k0_pay27 : FVec Ideal S128x128 .f32) shapeCasts_S128x128_S128x128)
    (h5 : p5 = shapeCast S128x128 (lT (ldq x0 640 inb_S1x2048x128_S1x128x128_0_640_0) (ldk x2 512 inb_S1x2048x128_S1x256x128_0_512_0) (ldk x4 512 inb_S1x2048x128_S1x256x128_0_512_0) k0_pay27 : FVec Ideal S128x128 .f32) shapeCasts_S128x128_S128x128)
    (h6 : p6 = shapeCast S128x128 (lT (ldq x0 768 inb_S1x2048x128_S1x128x128_0_768_0) (ldk x2 640 inb_S1x2048x128_S1x256x128_0_640_0) (ldk x4 640 inb_S1x2048x128_S1x256x128_0_640_0) k0_pay27 : FVec Ideal S128x128 .f32) shapeCasts_S128x128_S128x128)
    (h7 : p7 = shapeCast S128x128 (lT (ldq x0 896 inb_S1x2048x128_S1x128x128_0_896_0) (ldk x2 768 inb_S1x2048x128_S1x256x128_0_768_0) (ldk x4 768 inb_S1x2048x128_S1x256x128_0_768_0) k0_pay27 : FVec Ideal S128x128 .f32) shapeCasts_S128x128_S128x128)
    (h8 : p8 = shapeCast S128x128 (lT (ldq x0 1024 inb_S1x2048x128_S1x128x128_0_1024_0) (ldk x2 896 inb_S1x2048x128_S1x256x128_0_896_0) (ldk x4 896 inb_S1x2048x128_S1x256x128_0_896_0) k0_pay27 : FVec Ideal S128x128 .f32) shapeCasts_S128x128_S128x128)
    (h9 : p9 = shapeCast S128x128 (lT (ldq x0 1152 inb_S1x2048x128_S1x128x128_0_1152_0) (ldk x2 1024 inb_S1x2048x128_S1x256x128_0_1024_0) (ldk x4 1024 inb_S1x2048x128_S1x256x128_0_1024_0) k0_pay27 : FVec Ideal S128x128 .f32) shapeCasts_S128x128_S128x128)
    (h10 : p10 = shapeCast S128x128 (lT (ldq x0 1280 inb_S1x2048x128_S1x128x128_0_1280_0) (ldk x2 1152 inb_S1x2048x128_S1x256x128_0_1152_0) (ldk x4 1152 inb_S1x2048x128_S1x256x128_0_1152_0) k0_pay27 : FVec Ideal S128x128 .f32) shapeCasts_S128x128_S128x128)
    (h11 : p11 = shapeCast S128x128 (lT (ldq x0 1408 inb_S1x2048x128_S1x128x128_0_1408_0) (ldk x2 1280 inb_S1x2048x128_S1x256x128_0_1280_0) (ldk x4 1280 inb_S1x2048x128_S1x256x128_0_1280_0) k0_pay27 : FVec Ideal S128x128 .f32) shapeCasts_S128x128_S128x128)
    (h12 : p12 = shapeCast S128x128 (lT (ldq x0 1536 inb_S1x2048x128_S1x128x128_0_1536_0) (ldk x2 1408 inb_S1x2048x128_S1x256x128_0_1408_0) (ldk x4 1408 inb_S1x2048x128_S1x256x128_0_1408_0) k0_pay27 : FVec Ideal S128x128 .f32) shapeCasts_S128x128_S128x128)
    (h13 : p13 = shapeCast S128x128 (lT (ldq x0 1664 inb_S1x2048x128_S1x128x128_0_1664_0) (ldk x2 1536 inb_S1x2048x128_S1x256x128_0_1536_0) (ldk x4 1536 inb_S1x2048x128_S1x256x128_0_1536_0) k0_pay27 : FVec Ideal S128x128 .f32) shapeCasts_S128x128_S128x128)
    (h14 : p14 = shapeCast S128x128 (lT (ldq x0 1792 inb_S1x2048x128_S1x128x128_0_1792_0) (ldk x2 1664 inb_S1x2048x128_S1x256x128_0_1664_0) (ldk x4 1664 inb_S1x2048x128_S1x256x128_0_1664_0) k0_pay27 : FVec Ideal S128x128 .f32) shapeCasts_S128x128_S128x128)
    (h15 : p15 = shapeCast S128x128 (lT (ldq x0 1920 inb_S1x2048x128_S1x128x128_0_1920_0) (ldk x2 1792 inb_S1x2048x128_S1x256x128_0_1792_0) (ldk x4 1792 inb_S1x2048x128_S1x256x128_0_1792_0) k0_pay27 : FVec Ideal S128x128 .f32) shapeCasts_S128x128_S128x128) :
    v.read (Elt Ideal) (v.writes (Elt Ideal) f [
      ⟨Rect.unit ![1920, 0] S128x128.size inb_S2048x128_S128x128_1920_0, p15⟩,
      ⟨Rect.unit ![1792, 0] S128x128.size inb_S2048x128_S128x128_1792_0, p14⟩,
      ⟨Rect.unit ![1664, 0] S128x128.size inb_S2048x128_S128x128_1664_0, p13⟩,
      ⟨Rect.unit ![1536, 0] S128x128.size inb_S2048x128_S128x128_1536_0, p12⟩,
      ⟨Rect.unit ![1408, 0] S128x128.size inb_S2048x128_S128x128_1408_0, p11⟩,
      ⟨Rect.unit ![1280, 0] S128x128.size inb_S2048x128_S128x128_1280_0, p10⟩,
      ⟨Rect.unit ![1152, 0] S128x128.size inb_S2048x128_S128x128_1152_0, p9⟩,
      ⟨Rect.unit ![1024, 0] S128x128.size inb_S2048x128_S128x128_1024_0, p8⟩,
      ⟨Rect.unit ![896, 0] S128x128.size inb_S2048x128_S128x128_896_0, p7⟩,
      ⟨Rect.unit ![768, 0] S128x128.size inb_S2048x128_S128x128_768_0, p6⟩,
      ⟨Rect.unit ![640, 0] S128x128.size inb_S2048x128_S128x128_640_0, p5⟩,
      ⟨Rect.unit ![512, 0] S128x128.size inb_S2048x128_S128x128_512_0, p4⟩,
      ⟨Rect.unit ![384, 0] S128x128.size inb_S2048x128_S128x128_384_0, p3⟩,
      ⟨Rect.unit ![256, 0] S128x128.size inb_S2048x128_S128x128_256_0, p2⟩,
      ⟨Rect.unit ![128, 0] S128x128.size inb_S2048x128_S128x128_128_0, p1⟩,
      ⟨Rect.unit ![0, 0] S128x128.size inb_S2048x128_S128x128_0_0, p0⟩]) = lBuf e 1 id x0 x1 x2 :=
  (View.read_writes_eq_canon v f _ (View.cover_of_tiledBy _ ![128, 128] (by sl_kernel_rfl))).trans (canon_eq ⟨
    (tile1 e x0 x1 x2 x3 x4 1920 1792 rfl (by decide) (by decide) _ _).l_unit (h15.trans (shapeCast_self _ _)) 1920 id inb_S2048x128_S128x128_1920_0 (fun i y h => Fin.ext h),
    (tile1 e x0 x1 x2 x3 x4 1792 1664 rfl (by decide) (by decide) _ _).l_unit (h14.trans (shapeCast_self _ _)) 1792 id inb_S2048x128_S128x128_1792_0 (fun i y h => Fin.ext h),
    (tile1 e x0 x1 x2 x3 x4 1664 1536 rfl (by decide) (by decide) _ _).l_unit (h13.trans (shapeCast_self _ _)) 1664 id inb_S2048x128_S128x128_1664_0 (fun i y h => Fin.ext h),
    (tile1 e x0 x1 x2 x3 x4 1536 1408 rfl (by decide) (by decide) _ _).l_unit (h12.trans (shapeCast_self _ _)) 1536 id inb_S2048x128_S128x128_1536_0 (fun i y h => Fin.ext h),
    (tile1 e x0 x1 x2 x3 x4 1408 1280 rfl (by decide) (by decide) _ _).l_unit (h11.trans (shapeCast_self _ _)) 1408 id inb_S2048x128_S128x128_1408_0 (fun i y h => Fin.ext h),
    (tile1 e x0 x1 x2 x3 x4 1280 1152 rfl (by decide) (by decide) _ _).l_unit (h10.trans (shapeCast_self _ _)) 1280 id inb_S2048x128_S128x128_1280_0 (fun i y h => Fin.ext h),
    (tile1 e x0 x1 x2 x3 x4 1152 1024 rfl (by decide) (by decide) _ _).l_unit (h9.trans (shapeCast_self _ _)) 1152 id inb_S2048x128_S128x128_1152_0 (fun i y h => Fin.ext h),
    (tile1 e x0 x1 x2 x3 x4 1024 896 rfl (by decide) (by decide) _ _).l_unit (h8.trans (shapeCast_self _ _)) 1024 id inb_S2048x128_S128x128_1024_0 (fun i y h => Fin.ext h),
    (tile1 e x0 x1 x2 x3 x4 896 768 rfl (by decide) (by decide) _ _).l_unit (h7.trans (shapeCast_self _ _)) 896 id inb_S2048x128_S128x128_896_0 (fun i y h => Fin.ext h),
    (tile1 e x0 x1 x2 x3 x4 768 640 rfl (by decide) (by decide) _ _).l_unit (h6.trans (shapeCast_self _ _)) 768 id inb_S2048x128_S128x128_768_0 (fun i y h => Fin.ext h),
    (tile1 e x0 x1 x2 x3 x4 640 512 rfl (by decide) (by decide) _ _).l_unit (h5.trans (shapeCast_self _ _)) 640 id inb_S2048x128_S128x128_640_0 (fun i y h => Fin.ext h),
    (tile1 e x0 x1 x2 x3 x4 512 384 rfl (by decide) (by decide) _ _).l_unit (h4.trans (shapeCast_self _ _)) 512 id inb_S2048x128_S128x128_512_0 (fun i y h => Fin.ext h),
    (tile1 e x0 x1 x2 x3 x4 384 256 rfl (by decide) (by decide) _ _).l_unit (h3.trans (shapeCast_self _ _)) 384 id inb_S2048x128_S128x128_384_0 (fun i y h => Fin.ext h),
    (tile1 e x0 x1 x2 x3 x4 256 128 rfl (by decide) (by decide) _ _).l_unit (h2.trans (shapeCast_self _ _)) 256 id inb_S2048x128_S128x128_256_0 (fun i y h => Fin.ext h),
    (tile1 e x0 x1 x2 x3 x4 128 0 rfl (by decide) (by decide) _ _).l_unit (h1.trans (shapeCast_self _ _)) 128 id inb_S2048x128_S128x128_128_0 (fun i y h => Fin.ext h),
    (tile1_first e x0 x1 x2 x3 x4 _ _).l_unit (h0.trans (shapeCast_self _ _)) 0 id inb_S2048x128_S128x128_0_0 (fun i y h => Fin.ext h), trivial⟩
    (View.cover_of_tiledBy _ ![128, 128] (by sl_kernel_rfl)))

/-- Level two's log-sums. -/
theorem level2_l (hq : View.canon L9 = q4Buf x0) (hk : View.canon L10 = k4Buf x1 x2) (hv : View.canon L11 = k4Buf x3 x4)
    (h0 : p0 = shapeCast S128x128 (lT (v9.readCov L9 (Rect.unit (s := S2048x128) ![0, 0] S128x128.size inb_S2048x128_S128x128_0_0).toLoadRect) (v10.readCov L10 (Rect.unit (s := S4096x128) ![384, 0] S256x128.size inb_S4096x128_S256x128_384_0).toLoadRect) (v11.readCov L11 (Rect.unit (s := S4096x128) ![384, 0] S256x128.size inb_S4096x128_S256x128_384_0).toLoadRect) (bF e) : FVec Ideal S128x128 .f32) shapeCasts_S128x128_S128x128)
    (h1 : p1 = shapeCast S128x128 (lT (v9.readCov L9 (Rect.unit (s := S2048x128) ![128, 0] S128x128.size inb_S2048x128_S128x128_128_0).toLoadRect) (v10.readCov L10 (Rect.unit (s := S4096x128) ![512, 0] S256x128.size inb_S4096x128_S256x128_512_0).toLoadRect) (v11.readCov L11 (Rect.unit (s := S4096x128) ![512, 0] S256x128.size inb_S4096x128_S256x128_512_0).toLoadRect) k0_pay27 : FVec Ideal S128x128 .f32) shapeCasts_S128x128_S128x128)
    (h2 : p2 = shapeCast S128x128 (lT (v9.readCov L9 (Rect.unit (s := S2048x128) ![256, 0] S128x128.size inb_S2048x128_S128x128_256_0).toLoadRect) (v10.readCov L10 (Rect.unit (s := S4096x128) ![640, 0] S256x128.size inb_S4096x128_S256x128_640_0).toLoadRect) (v11.readCov L11 (Rect.unit (s := S4096x128) ![640, 0] S256x128.size inb_S4096x128_S256x128_640_0).toLoadRect) k0_pay27 : FVec Ideal S128x128 .f32) shapeCasts_S128x128_S128x128)
    (h3 : p3 = shapeCast S128x128 (lT (v9.readCov L9 (Rect.unit (s := S2048x128) ![384, 0] S128x128.size inb_S2048x128_S128x128_384_0).toLoadRect) (v10.readCov L10 (Rect.unit (s := S4096x128) ![768, 0] S256x128.size inb_S4096x128_S256x128_768_0).toLoadRect) (v11.readCov L11 (Rect.unit (s := S4096x128) ![768, 0] S256x128.size inb_S4096x128_S256x128_768_0).toLoadRect) k0_pay27 : FVec Ideal S128x128 .f32) shapeCasts_S128x128_S128x128)
    (h4 : p4 = shapeCast S128x128 (lT (v9.readCov L9 (Rect.unit (s := S2048x128) ![512, 0] S128x128.size inb_S2048x128_S128x128_512_0).toLoadRect) (v10.readCov L10 (Rect.unit (s := S4096x128) ![1408, 0] S256x128.size inb_S4096x128_S256x128_1408_0).toLoadRect) (v11.readCov L11 (Rect.unit (s := S4096x128) ![1408, 0] S256x128.size inb_S4096x128_S256x128_1408_0).toLoadRect) (bF e) : FVec Ideal S128x128 .f32) shapeCasts_S128x128_S128x128)
    (h5 : p5 = shapeCast S128x128 (lT (v9.readCov L9 (Rect.unit (s := S2048x128) ![640, 0] S128x128.size inb_S2048x128_S128x128_640_0).toLoadRect) (v10.readCov L10 (Rect.unit (s := S4096x128) ![1536, 0] S256x128.size inb_S4096x128_S256x128_1536_0).toLoadRect) (v11.readCov L11 (Rect.unit (s := S4096x128) ![1536, 0] S256x128.size inb_S4096x128_S256x128_1536_0).toLoadRect) k0_pay27 : FVec Ideal S128x128 .f32) shapeCasts_S128x128_S128x128)
    (h6 : p6 = shapeCast S128x128 (lT (v9.readCov L9 (Rect.unit (s := S2048x128) ![768, 0] S128x128.size inb_S2048x128_S128x128_768_0).toLoadRect) (v10.readCov L10 (Rect.unit (s := S4096x128) ![1664, 0] S256x128.size inb_S4096x128_S256x128_1664_0).toLoadRect) (v11.readCov L11 (Rect.unit (s := S4096x128) ![1664, 0] S256x128.size inb_S4096x128_S256x128_1664_0).toLoadRect) k0_pay27 : FVec Ideal S128x128 .f32) shapeCasts_S128x128_S128x128)
    (h7 : p7 = shapeCast S128x128 (lT (v9.readCov L9 (Rect.unit (s := S2048x128) ![896, 0] S128x128.size inb_S2048x128_S128x128_896_0).toLoadRect) (v10.readCov L10 (Rect.unit (s := S4096x128) ![1792, 0] S256x128.size inb_S4096x128_S256x128_1792_0).toLoadRect) (v11.readCov L11 (Rect.unit (s := S4096x128) ![1792, 0] S256x128.size inb_S4096x128_S256x128_1792_0).toLoadRect) k0_pay27 : FVec Ideal S128x128 .f32) shapeCasts_S128x128_S128x128)
    (h8 : p8 = shapeCast S128x128 (lT (v9.readCov L9 (Rect.unit (s := S2048x128) ![1024, 0] S128x128.size inb_S2048x128_S128x128_1024_0).toLoadRect) (v10.readCov L10 (Rect.unit (s := S4096x128) ![2432, 0] S256x128.size inb_S4096x128_S256x128_2432_0).toLoadRect) (v11.readCov L11 (Rect.unit (s := S4096x128) ![2432, 0] S256x128.size inb_S4096x128_S256x128_2432_0).toLoadRect) (bF e) : FVec Ideal S128x128 .f32) shapeCasts_S128x128_S128x128)
    (h9 : p9 = shapeCast S128x128 (lT (v9.readCov L9 (Rect.unit (s := S2048x128) ![1152, 0] S128x128.size inb_S2048x128_S128x128_1152_0).toLoadRect) (v10.readCov L10 (Rect.unit (s := S4096x128) ![2560, 0] S256x128.size inb_S4096x128_S256x128_2560_0).toLoadRect) (v11.readCov L11 (Rect.unit (s := S4096x128) ![2560, 0] S256x128.size inb_S4096x128_S256x128_2560_0).toLoadRect) k0_pay27 : FVec Ideal S128x128 .f32) shapeCasts_S128x128_S128x128)
    (h10 : p10 = shapeCast S128x128 (lT (v9.readCov L9 (Rect.unit (s := S2048x128) ![1280, 0] S128x128.size inb_S2048x128_S128x128_1280_0).toLoadRect) (v10.readCov L10 (Rect.unit (s := S4096x128) ![2688, 0] S256x128.size inb_S4096x128_S256x128_2688_0).toLoadRect) (v11.readCov L11 (Rect.unit (s := S4096x128) ![2688, 0] S256x128.size inb_S4096x128_S256x128_2688_0).toLoadRect) k0_pay27 : FVec Ideal S128x128 .f32) shapeCasts_S128x128_S128x128)
    (h11 : p11 = shapeCast S128x128 (lT (v9.readCov L9 (Rect.unit (s := S2048x128) ![1408, 0] S128x128.size inb_S2048x128_S128x128_1408_0).toLoadRect) (v10.readCov L10 (Rect.unit (s := S4096x128) ![2816, 0] S256x128.size inb_S4096x128_S256x128_2816_0).toLoadRect) (v11.readCov L11 (Rect.unit (s := S4096x128) ![2816, 0] S256x128.size inb_S4096x128_S256x128_2816_0).toLoadRect) k0_pay27 : FVec Ideal S128x128 .f32) shapeCasts_S128x128_S128x128)
    (h12 : p12 = shapeCast S128x128 (lT (v9.readCov L9 (Rect.unit (s := S2048x128) ![1536, 0] S128x128.size inb_S2048x128_S128x128_1536_0).toLoadRect) (v10.readCov L10 (Rect.unit (s := S4096x128) ![3456, 0] S256x128.size inb_S4096x128_S256x128_3456_0).toLoadRect) (v11.readCov L11 (Rect.unit (s := S4096x128) ![3456, 0] S256x128.size inb_S4096x128_S256x128_3456_0).toLoadRect) (bF e) : FVec Ideal S128x128 .f32) shapeCasts_S128x128_S128x128)
    (h13 : p13 = shapeCast S128x128 (lT (v9.readCov L9 (Rect.unit (s := S2048x128) ![1664, 0] S128x128.size inb_S2048x128_S128x128_1664_0).toLoadRect) (v10.readCov L10 (Rect.unit (s := S4096x128) ![3584, 0] S256x128.size inb_S4096x128_S256x128_3584_0).toLoadRect) (v11.readCov L11 (Rect.unit (s := S4096x128) ![3584, 0] S256x128.size inb_S4096x128_S256x128_3584_0).toLoadRect) k0_pay27 : FVec Ideal S128x128 .f32) shapeCasts_S128x128_S128x128)
    (h14 : p14 = shapeCast S128x128 (lT (v9.readCov L9 (Rect.unit (s := S2048x128) ![1792, 0] S128x128.size inb_S2048x128_S128x128_1792_0).toLoadRect) (v10.readCov L10 (Rect.unit (s := S4096x128) ![3712, 0] S256x128.size inb_S4096x128_S256x128_3712_0).toLoadRect) (v11.readCov L11 (Rect.unit (s := S4096x128) ![3712, 0] S256x128.size inb_S4096x128_S256x128_3712_0).toLoadRect) k0_pay27 : FVec Ideal S128x128 .f32) shapeCasts_S128x128_S128x128)
    (h15 : p15 = shapeCast S128x128 (lT (v9.readCov L9 (Rect.unit (s := S2048x128) ![1920, 0] S128x128.size inb_S2048x128_S128x128_1920_0).toLoadRect) (v10.readCov L10 (Rect.unit (s := S4096x128) ![3840, 0] S256x128.size inb_S4096x128_S256x128_3840_0).toLoadRect) (v11.readCov L11 (Rect.unit (s := S4096x128) ![3840, 0] S256x128.size inb_S4096x128_S256x128_3840_0).toLoadRect) k0_pay27 : FVec Ideal S128x128 .f32) shapeCasts_S128x128_S128x128) :
    v.read (Elt Ideal) (v.writes (Elt Ideal) f [
      ⟨Rect.unit ![1920, 0] S128x128.size inb_S2048x128_S128x128_1920_0, p15⟩,
      ⟨Rect.unit ![1792, 0] S128x128.size inb_S2048x128_S128x128_1792_0, p14⟩,
      ⟨Rect.unit ![1664, 0] S128x128.size inb_S2048x128_S128x128_1664_0, p13⟩,
      ⟨Rect.unit ![1536, 0] S128x128.size inb_S2048x128_S128x128_1536_0, p12⟩,
      ⟨Rect.unit ![1408, 0] S128x128.size inb_S2048x128_S128x128_1408_0, p11⟩,
      ⟨Rect.unit ![1280, 0] S128x128.size inb_S2048x128_S128x128_1280_0, p10⟩,
      ⟨Rect.unit ![1152, 0] S128x128.size inb_S2048x128_S128x128_1152_0, p9⟩,
      ⟨Rect.unit ![1024, 0] S128x128.size inb_S2048x128_S128x128_1024_0, p8⟩,
      ⟨Rect.unit ![896, 0] S128x128.size inb_S2048x128_S128x128_896_0, p7⟩,
      ⟨Rect.unit ![768, 0] S128x128.size inb_S2048x128_S128x128_768_0, p6⟩,
      ⟨Rect.unit ![640, 0] S128x128.size inb_S2048x128_S128x128_640_0, p5⟩,
      ⟨Rect.unit ![512, 0] S128x128.size inb_S2048x128_S128x128_512_0, p4⟩,
      ⟨Rect.unit ![384, 0] S128x128.size inb_S2048x128_S128x128_384_0, p3⟩,
      ⟨Rect.unit ![256, 0] S128x128.size inb_S2048x128_S128x128_256_0, p2⟩,
      ⟨Rect.unit ![128, 0] S128x128.size inb_S2048x128_S128x128_128_0, p1⟩,
      ⟨Rect.unit ![0, 0] S128x128.size inb_S2048x128_S128x128_0_0, p0⟩]) = lBuf e 4 sig4 x0 x1 x2 :=
  (View.read_writes_eq_canon v f _ (View.cover_of_tiledBy _ ![128, 128] (by sl_kernel_rfl))).trans (canon_eq ⟨
    (tile2 v9 v10 v11 e x0 x1 x2 x3 x4 hq hk hv 1920 3840 (by decide) (by decide) rfl _ _ _ (.inr ⟨by decide, rfl⟩)).l_unit (h15.trans (shapeCast_self _ _)) 1920 sig4 inb_S2048x128_S128x128_1920_0 (fun i y h => congrArg sig4 (Fin.ext h)),
    (tile2 v9 v10 v11 e x0 x1 x2 x3 x4 hq hk hv 1792 3712 (by decide) (by decide) rfl _ _ _ (.inr ⟨by decide, rfl⟩)).l_unit (h14.trans (shapeCast_self _ _)) 1792 sig4 inb_S2048x128_S128x128_1792_0 (fun i y h => congrArg sig4 (Fin.ext h)),
    (tile2 v9 v10 v11 e x0 x1 x2 x3 x4 hq hk hv 1664 3584 (by decide) (by decide) rfl _ _ _ (.inr ⟨by decide, rfl⟩)).l_unit (h13.trans (shapeCast_self _ _)) 1664 sig4 inb_S2048x128_S128x128_1664_0 (fun i y h => congrArg sig4 (Fin.ext h)),
    (tile2 v9 v10 v11 e x0 x1 x2 x3 x4 hq hk hv 1536 3456 (by decide) (by decide) rfl _ _ _ (.inl ⟨by decide, rfl⟩)).l_unit (h12.trans (shapeCast_self _ _)) 1536 sig4 inb_S2048x128_S128x128_1536_0 (fun i y h => congrArg sig4 (Fin.ext h)),
    (tile2 v9 v10 v11 e x0 x1 x2 x3 x4 hq hk hv 1408 2816 (by decide) (by decide) rfl _ _ _ (.inr ⟨by decide, rfl⟩)).l_unit (h11.trans (shapeCast_self _ _)) 1408 sig4 inb_S2048x128_S128x128_1408_0 (fun i y h => congrArg sig4 (Fin.ext h)),
    (tile2 v9 v10 v11 e x0 x1 x2 x3 x4 hq hk hv 1280 2688 (by decide) (by decide) rfl _ _ _ (.inr ⟨by decide, rfl⟩)).l_unit (h10.trans (shapeCast_self _ _)) 1280 sig4 inb_S2048x128_S128x128_1280_0 (fun i y h => congrArg sig4 (Fin.ext h)),
    (tile2 v9 v10 v11 e x0 x1 x2 x3 x4 hq hk hv 1152 2560 (by decide) (by decide) rfl _ _ _ (.inr ⟨by decide, rfl⟩)).l_unit (h9.trans (shapeCast_self _ _)) 1152 sig4 inb_S2048x128_S128x128_1152_0 (fun i y h => congrArg sig4 (Fin.ext h)),
    (tile2 v9 v10 v11 e x0 x1 x2 x3 x4 hq hk hv 1024 2432 (by decide) (by decide) rfl _ _ _ (.inl ⟨by decide, rfl⟩)).l_unit (h8.trans (shapeCast_self _ _)) 1024 sig4 inb_S2048x128_S128x128_1024_0 (fun i y h => congrArg sig4 (Fin.ext h)),
    (tile2 v9 v10 v11 e x0 x1 x2 x3 x4 hq hk hv 896 1792 (by decide) (by decide) rfl _ _ _ (.inr ⟨by decide, rfl⟩)).l_unit (h7.trans (shapeCast_self _ _)) 896 sig4 inb_S2048x128_S128x128_896_0 (fun i y h => congrArg sig4 (Fin.ext h)),
    (tile2 v9 v10 v11 e x0 x1 x2 x3 x4 hq hk hv 768 1664 (by decide) (by decide) rfl _ _ _ (.inr ⟨by decide, rfl⟩)).l_unit (h6.trans (shapeCast_self _ _)) 768 sig4 inb_S2048x128_S128x128_768_0 (fun i y h => congrArg sig4 (Fin.ext h)),
    (tile2 v9 v10 v11 e x0 x1 x2 x3 x4 hq hk hv 640 1536 (by decide) (by decide) rfl _ _ _ (.inr ⟨by decide, rfl⟩)).l_unit (h5.trans (shapeCast_self _ _)) 640 sig4 inb_S2048x128_S128x128_640_0 (fun i y h => congrArg sig4 (Fin.ext h)),
    (tile2 v9 v10 v11 e x0 x1 x2 x3 x4 hq hk hv 512 1408 (by decide) (by decide) rfl _ _ _ (.inl ⟨by decide, rfl⟩)).l_unit (h4.trans (shapeCast_self _ _)) 512 sig4 inb_S2048x128_S128x128_512_0 (fun i y h => congrArg sig4 (Fin.ext h)),
    (tile2 v9 v10 v11 e x0 x1 x2 x3 x4 hq hk hv 384 768 (by decide) (by decide) rfl _ _ _ (.inr ⟨by decide, rfl⟩)).l_unit (h3.trans (shapeCast_self _ _)) 384 sig4 inb_S2048x128_S128x128_384_0 (fun i y h => congrArg sig4 (Fin.ext h)),
    (tile2 v9 v10 v11 e x0 x1 x2 x3 x4 hq hk hv 256 640 (by decide) (by decide) rfl _ _ _ (.inr ⟨by decide, rfl⟩)).l_unit (h2.trans (shapeCast_self _ _)) 256 sig4 inb_S2048x128_S128x128_256_0 (fun i y h => congrArg sig4 (Fin.ext h)),
    (tile2 v9 v10 v11 e x0 x1 x2 x3 x4 hq hk hv 128 512 (by decide) (by decide) rfl _ _ _ (.inr ⟨by decide, rfl⟩)).l_unit (h1.trans (shapeCast_self _ _)) 128 sig4 inb_S2048x128_S128x128_128_0 (fun i y h => congrArg sig4 (Fin.ext h)),
    (tile2 v9 v10 v11 e x0 x1 x2 x3 x4 hq hk hv 0 384 (by decide) (by decide) rfl _ _ _ (.inl ⟨by decide, rfl⟩)).l_unit (h0.trans (shapeCast_self _ _)) 0 sig4 inb_S2048x128_S128x128_0_0 (fun i y h => congrArg sig4 (Fin.ext h)), trivial⟩
    (View.cover_of_tiledBy _ ![128, 128] (by sl_kernel_rfl)))

/-- Level three's log-sums. -/
theorem level3_l (hq : View.canon L9 = q4Buf x0) (hk : View.canon L10 = k4Buf x1 x2) (hv : View.canon L11 = k4Buf x3 x4)
    (h0 : p0 = shapeCast S128x128 (lT (v9.readCov L9 (⟨![0, 0], S128x128.size, ![4, 1], inb_S2048x128_S128x128_0_0_s_4_1⟩ : LoadRect S2048x128)) (v10.readCov L10 (⟨![0, 0], S256x128.size, ![4, 1], inb_S4096x128_S256x128_0_0_s_4_1⟩ : LoadRect S4096x128)) (v11.readCov L11 (⟨![0, 0], S256x128.size, ![4, 1], inb_S4096x128_S256x128_0_0_s_4_1⟩ : LoadRect S4096x128)) (bF e) : FVec Ideal S128x128 .f32) shapeCasts_S128x128_S128x128)
    (h1 : p1 = shapeCast S128x128 (lT (v9.readCov L9 (⟨![1, 0], S128x128.size, ![4, 1], inb_S2048x128_S128x128_1_0_s_4_1⟩ : LoadRect S2048x128)) (v10.readCov L10 (⟨![1, 0], S256x128.size, ![4, 1], inb_S4096x128_S256x128_1_0_s_4_1⟩ : LoadRect S4096x128)) (v11.readCov L11 (⟨![1, 0], S256x128.size, ![4, 1], inb_S4096x128_S256x128_1_0_s_4_1⟩ : LoadRect S4096x128)) (bF e) : FVec Ideal S128x128 .f32) shapeCasts_S128x128_S128x128)
    (h2 : p2 = shapeCast S128x128 (lT (v9.readCov L9 (⟨![2, 0], S128x128.size, ![4, 1], inb_S2048x128_S128x128_2_0_s_4_1⟩ : LoadRect S2048x128)) (v10.readCov L10 (⟨![2, 0], S256x128.size, ![4, 1], inb_S4096x128_S256x128_2_0_s_4_1⟩ : LoadRect S4096x128)) (v11.readCov L11 (⟨![2, 0], S256x128.size, ![4, 1], inb_S4096x128_S256x128_2_0_s_4_1⟩ : LoadRect S4096x128)) (bF e) : FVec Ideal S128x128 .f32) shapeCasts_S128x128_S128x128)
    (h3 : p3 = shapeCast S128x128 (lT (v9.readCov L9 (⟨![3, 0], S128x128.size, ![4, 1], inb_S2048x128_S128x128_3_0_s_4_1⟩ : LoadRect S2048x128)) (v10.readCov L10 (⟨![3, 0], S256x128.size, ![4, 1], inb_S4096x128_S256x128_3_0_s_4_1⟩ : LoadRect S4096x128)) (v11.readCov L11 (⟨![3, 0], S256x128.size, ![4, 1], inb_S4096x128_S256x128_3_0_s_4_1⟩ : LoadRect S4096x128)) (bF e) : FVec Ideal S128x128 .f32) shapeCasts_S128x128_S128x128)
    (h4 : p4 = shapeCast S128x128 (lT (v9.readCov L9 (⟨![512, 0], S128x128.size, ![4, 1], inb_S2048x128_S128x128_512_0_s_4_1⟩ : LoadRect S2048x128)) (v10.readCov L10 (⟨![1024, 0], S256x128.size, ![4, 1], inb_S4096x128_S256x128_1024_0_s_4_1⟩ : LoadRect S4096x128)) (v11.readCov L11 (⟨![1024, 0], S256x128.size, ![4, 1], inb_S4096x128_S256x128_1024_0_s_4_1⟩ : LoadRect S4096x128)) (bF e) : FVec Ideal S128x128 .f32) shapeCasts_S128x128_S128x128)
    (h5 : p5 = shapeCast S128x128 (lT (v9.readCov L9 (⟨![513, 0], S128x128.size, ![4, 1], inb_S2048x128_S128x128_513_0_s_4_1⟩ : LoadRect S2048x128)) (v10.readCov L10 (⟨![1025, 0], S256x128.size, ![4, 1], inb_S4096x128_S256x128_1025_0_s_4_1⟩ : LoadRect S4096x128)) (v11.readCov L11 (⟨![1025, 0], S256x128.size, ![4, 1], inb_S4096x128_S256x128_1025_0_s_4_1⟩ : LoadRect S4096x128)) (bF e) : FVec Ideal S128x128 .f32) shapeCasts_S128x128_S128x128)
    (h6 : p6 = shapeCast S128x128 (lT (v9.readCov L9 (⟨![514, 0], S128x128.size, ![4, 1], inb_S2048x128_S128x128_514_0_s_4_1⟩ : LoadRect S2048x128)) (v10.readCov L10 (⟨![1026, 0], S256x128.size, ![4, 1], inb_S4096x128_S256x128_1026_0_s_4_1⟩ : LoadRect S4096x128)) (v11.readCov L11 (⟨![1026, 0], S256x128.size, ![4, 1], inb_S4096x128_S256x128_1026_0_s_4_1⟩ : LoadRect S4096x128)) (bF e) : FVec Ideal S128x128 .f32) shapeCasts_S128x128_S128x128)
    (h7 : p7 = shapeCast S128x128 (lT (v9.readCov L9 (⟨![515, 0], S128x128.size, ![4, 1], inb_S2048x128_S128x128_515_0_s_4_1⟩ : LoadRect S2048x128)) (v10.readCov L10 (⟨![1027, 0], S256x128.size, ![4, 1], inb_S4096x128_S256x128_1027_0_s_4_1⟩ : LoadRect S4096x128)) (v11.readCov L11 (⟨![1027, 0], S256x128.size, ![4, 1], inb_S4096x128_S256x128_1027_0_s_4_1⟩ : LoadRect S4096x128)) (bF e) : FVec Ideal S128x128 .f32) shapeCasts_S128x128_S128x128)
    (h8 : p8 = shapeCast S128x128 (lT (v9.readCov L9 (⟨![1024, 0], S128x128.size, ![4, 1], inb_S2048x128_S128x128_1024_0_s_4_1⟩ : LoadRect S2048x128)) (v10.readCov L10 (⟨![2048, 0], S256x128.size, ![4, 1], inb_S4096x128_S256x128_2048_0_s_4_1⟩ : LoadRect S4096x128)) (v11.readCov L11 (⟨![2048, 0], S256x128.size, ![4, 1], inb_S4096x128_S256x128_2048_0_s_4_1⟩ : LoadRect S4096x128)) (bF e) : FVec Ideal S128x128 .f32) shapeCasts_S128x128_S128x128)
    (h9 : p9 = shapeCast S128x128 (lT (v9.readCov L9 (⟨![1025, 0], S128x128.size, ![4, 1], inb_S2048x128_S128x128_1025_0_s_4_1⟩ : LoadRect S2048x128)) (v10.readCov L10 (⟨![2049, 0], S256x128.size, ![4, 1], inb_S4096x128_S256x128_2049_0_s_4_1⟩ : LoadRect S4096x128)) (v11.readCov L11 (⟨![2049, 0], S256x128.size, ![4, 1], inb_S4096x128_S256x128_2049_0_s_4_1⟩ : LoadRect S4096x128)) (bF e) : FVec Ideal S128x128 .f32) shapeCasts_S128x128_S128x128)
    (h10 : p10 = shapeCast S128x128 (lT (v9.readCov L9 (⟨![1026, 0], S128x128.size, ![4, 1], inb_S2048x128_S128x128_1026_0_s_4_1⟩ : LoadRect S2048x128)) (v10.readCov L10 (⟨![2050, 0], S256x128.size, ![4, 1], inb_S4096x128_S256x128_2050_0_s_4_1⟩ : LoadRect S4096x128)) (v11.readCov L11 (⟨![2050, 0], S256x128.size, ![4, 1], inb_S4096x128_S256x128_2050_0_s_4_1⟩ : LoadRect S4096x128)) (bF e) : FVec Ideal S128x128 .f32) shapeCasts_S128x128_S128x128)
    (h11 : p11 = shapeCast S128x128 (lT (v9.readCov L9 (⟨![1027, 0], S128x128.size, ![4, 1], inb_S2048x128_S128x128_1027_0_s_4_1⟩ : LoadRect S2048x128)) (v10.readCov L10 (⟨![2051, 0], S256x128.size, ![4, 1], inb_S4096x128_S256x128_2051_0_s_4_1⟩ : LoadRect S4096x128)) (v11.readCov L11 (⟨![2051, 0], S256x128.size, ![4, 1], inb_S4096x128_S256x128_2051_0_s_4_1⟩ : LoadRect S4096x128)) (bF e) : FVec Ideal S128x128 .f32) shapeCasts_S128x128_S128x128)
    (h12 : p12 = shapeCast S128x128 (lT (v9.readCov L9 (⟨![1536, 0], S128x128.size, ![4, 1], inb_S2048x128_S128x128_1536_0_s_4_1⟩ : LoadRect S2048x128)) (v10.readCov L10 (⟨![3072, 0], S256x128.size, ![4, 1], inb_S4096x128_S256x128_3072_0_s_4_1⟩ : LoadRect S4096x128)) (v11.readCov L11 (⟨![3072, 0], S256x128.size, ![4, 1], inb_S4096x128_S256x128_3072_0_s_4_1⟩ : LoadRect S4096x128)) (bF e) : FVec Ideal S128x128 .f32) shapeCasts_S128x128_S128x128)
    (h13 : p13 = shapeCast S128x128 (lT (v9.readCov L9 (⟨![1537, 0], S128x128.size, ![4, 1], inb_S2048x128_S128x128_1537_0_s_4_1⟩ : LoadRect S2048x128)) (v10.readCov L10 (⟨![3073, 0], S256x128.size, ![4, 1], inb_S4096x128_S256x128_3073_0_s_4_1⟩ : LoadRect S4096x128)) (v11.readCov L11 (⟨![3073, 0], S256x128.size, ![4, 1], inb_S4096x128_S256x128_3073_0_s_4_1⟩ : LoadRect S4096x128)) (bF e) : FVec Ideal S128x128 .f32) shapeCasts_S128x128_S128x128)
    (h14 : p14 = shapeCast S128x128 (lT (v9.readCov L9 (⟨![1538, 0], S128x128.size, ![4, 1], inb_S2048x128_S128x128_1538_0_s_4_1⟩ : LoadRect S2048x128)) (v10.readCov L10 (⟨![3074, 0], S256x128.size, ![4, 1], inb_S4096x128_S256x128_3074_0_s_4_1⟩ : LoadRect S4096x128)) (v11.readCov L11 (⟨![3074, 0], S256x128.size, ![4, 1], inb_S4096x128_S256x128_3074_0_s_4_1⟩ : LoadRect S4096x128)) (bF e) : FVec Ideal S128x128 .f32) shapeCasts_S128x128_S128x128)
    (h15 : p15 = shapeCast S128x128 (lT (v9.readCov L9 (⟨![1539, 0], S128x128.size, ![4, 1], inb_S2048x128_S128x128_1539_0_s_4_1⟩ : LoadRect S2048x128)) (v10.readCov L10 (⟨![3075, 0], S256x128.size, ![4, 1], inb_S4096x128_S256x128_3075_0_s_4_1⟩ : LoadRect S4096x128)) (v11.readCov L11 (⟨![3075, 0], S256x128.size, ![4, 1], inb_S4096x128_S256x128_3075_0_s_4_1⟩ : LoadRect S4096x128)) (bF e) : FVec Ideal S128x128 .f32) shapeCasts_S128x128_S128x128) (pos) :
    v.read (Elt Ideal) (v.writes (Elt Ideal) f [
      ⟨⟨(⟨![1539, 0], S128x128.size, ![4, 1], inb_S2048x128_S128x128_1539_0_s_4_1⟩ : LoadRect S2048x128), pos⟩, p15⟩,
      ⟨⟨(⟨![1538, 0], S128x128.size, ![4, 1], inb_S2048x128_S128x128_1538_0_s_4_1⟩ : LoadRect S2048x128), pos⟩, p14⟩,
      ⟨⟨(⟨![1537, 0], S128x128.size, ![4, 1], inb_S2048x128_S128x128_1537_0_s_4_1⟩ : LoadRect S2048x128), pos⟩, p13⟩,
      ⟨⟨(⟨![1536, 0], S128x128.size, ![4, 1], inb_S2048x128_S128x128_1536_0_s_4_1⟩ : LoadRect S2048x128), pos⟩, p12⟩,
      ⟨⟨(⟨![1027, 0], S128x128.size, ![4, 1], inb_S2048x128_S128x128_1027_0_s_4_1⟩ : LoadRect S2048x128), pos⟩, p11⟩,
      ⟨⟨(⟨![1026, 0], S128x128.size, ![4, 1], inb_S2048x128_S128x128_1026_0_s_4_1⟩ : LoadRect S2048x128), pos⟩, p10⟩,
      ⟨⟨(⟨![1025, 0], S128x128.size, ![4, 1], inb_S2048x128_S128x128_1025_0_s_4_1⟩ : LoadRect S2048x128), pos⟩, p9⟩,
      ⟨⟨(⟨![1024, 0], S128x128.size, ![4, 1], inb_S2048x128_S128x128_1024_0_s_4_1⟩ : LoadRect S2048x128), pos⟩, p8⟩,
      ⟨⟨(⟨![515, 0], S128x128.size, ![4, 1], inb_S2048x128_S128x128_515_0_s_4_1⟩ : LoadRect S2048x128), pos⟩, p7⟩,
      ⟨⟨(⟨![514, 0], S128x128.size, ![4, 1], inb_S2048x128_S128x128_514_0_s_4_1⟩ : LoadRect S2048x128), pos⟩, p6⟩,
      ⟨⟨(⟨![513, 0], S128x128.size, ![4, 1], inb_S2048x128_S128x128_513_0_s_4_1⟩ : LoadRect S2048x128), pos⟩, p5⟩,
      ⟨⟨(⟨![512, 0], S128x128.size, ![4, 1], inb_S2048x128_S128x128_512_0_s_4_1⟩ : LoadRect S2048x128), pos⟩, p4⟩,
      ⟨⟨(⟨![3, 0], S128x128.size, ![4, 1], inb_S2048x128_S128x128_3_0_s_4_1⟩ : LoadRect S2048x128), pos⟩, p3⟩,
      ⟨⟨(⟨![2, 0], S128x128.size, ![4, 1], inb_S2048x128_S128x128_2_0_s_4_1⟩ : LoadRect S2048x128), pos⟩, p2⟩,
      ⟨⟨(⟨![1, 0], S128x128.size, ![4, 1], inb_S2048x128_S128x128_1_0_s_4_1⟩ : LoadRect S2048x128), pos⟩, p1⟩,
      ⟨⟨(⟨![0, 0], S128x128.size, ![4, 1], inb_S2048x128_S128x128_0_0_s_4_1⟩ : LoadRect S2048x128), pos⟩, p0⟩]) = lBuf e 16 sig4 x0 x1 x2 :=
  (View.read_writes_eq_canon v f _ (cover3 pos)).trans (canon_eq ⟨
    (tile3 v9 v10 v11 e x0 x1 x2 x3 x4 hq hk hv 1539 3075 (by decide) (by decide) rfl _ _).l_four (h15.trans (shapeCast_self _ _)) 1539 sig4 inb_S2048x128_S128x128_1539_0_s_4_1 pos (fun i y h => congrArg sig4 (Fin.ext h)),
    (tile3 v9 v10 v11 e x0 x1 x2 x3 x4 hq hk hv 1538 3074 (by decide) (by decide) rfl _ _).l_four (h14.trans (shapeCast_self _ _)) 1538 sig4 inb_S2048x128_S128x128_1538_0_s_4_1 pos (fun i y h => congrArg sig4 (Fin.ext h)),
    (tile3 v9 v10 v11 e x0 x1 x2 x3 x4 hq hk hv 1537 3073 (by decide) (by decide) rfl _ _).l_four (h13.trans (shapeCast_self _ _)) 1537 sig4 inb_S2048x128_S128x128_1537_0_s_4_1 pos (fun i y h => congrArg sig4 (Fin.ext h)),
    (tile3 v9 v10 v11 e x0 x1 x2 x3 x4 hq hk hv 1536 3072 (by decide) (by decide) rfl _ _).l_four (h12.trans (shapeCast_self _ _)) 1536 sig4 inb_S2048x128_S128x128_1536_0_s_4_1 pos (fun i y h => congrArg sig4 (Fin.ext h)),
    (tile3 v9 v10 v11 e x0 x1 x2 x3 x4 hq hk hv 1027 2051 (by decide) (by decide) rfl _ _).l_four (h11.trans (shapeCast_self _ _)) 1027 sig4 inb_S2048x128_S128x128_1027_0_s_4_1 pos (fun i y h => congrArg sig4 (Fin.ext h)),
    (tile3 v9 v10 v11 e x0 x1 x2 x3 x4 hq hk hv 1026 2050 (by decide) (by decide) rfl _ _).l_four (h10.trans (shapeCast_self _ _)) 1026 sig4 inb_S2048x128_S128x128_1026_0_s_4_1 pos (fun i y h => congrArg sig4 (Fin.ext h)),
    (tile3 v9 v10 v11 e x0 x1 x2 x3 x4 hq hk hv 1025 2049 (by decide) (by decide) rfl _ _).l_four (h9.trans (shapeCast_self _ _)) 1025 sig4 inb_S2048x128_S128x128_1025_0_s_4_1 pos (fun i y h => congrArg sig4 (Fin.ext h)),
    (tile3 v9 v10 v11 e x0 x1 x2 x3 x4 hq hk hv 1024 2048 (by decide) (by decide) rfl _ _).l_four (h8.trans (shapeCast_self _ _)) 1024 sig4 inb_S2048x128_S128x128_1024_0_s_4_1 pos (fun i y h => congrArg sig4 (Fin.ext h)),
    (tile3 v9 v10 v11 e x0 x1 x2 x3 x4 hq hk hv 515 1027 (by decide) (by decide) rfl _ _).l_four (h7.trans (shapeCast_self _ _)) 515 sig4 inb_S2048x128_S128x128_515_0_s_4_1 pos (fun i y h => congrArg sig4 (Fin.ext h)),
    (tile3 v9 v10 v11 e x0 x1 x2 x3 x4 hq hk hv 514 1026 (by decide) (by decide) rfl _ _).l_four (h6.trans (shapeCast_self _ _)) 514 sig4 inb_S2048x128_S128x128_514_0_s_4_1 pos (fun i y h => congrArg sig4 (Fin.ext h)),
    (tile3 v9 v10 v11 e x0 x1 x2 x3 x4 hq hk hv 513 1025 (by decide) (by decide) rfl _ _).l_four (h5.trans (shapeCast_self _ _)) 513 sig4 inb_S2048x128_S128x128_513_0_s_4_1 pos (fun i y h => congrArg sig4 (Fin.ext h)),
    (tile3 v9 v10 v11 e x0 x1 x2 x3 x4 hq hk hv 512 1024 (by decide) (by decide) rfl _ _).l_four (h4.trans (shapeCast_self _ _)) 512 sig4 inb_S2048x128_S128x128_512_0_s_4_1 pos (fun i y h => congrArg sig4 (Fin.ext h)),
    (tile3 v9 v10 v11 e x0 x1 x2 x3 x4 hq hk hv 3 3 (by decide) (by decide) rfl _ _).l_four (h3.trans (shapeCast_self _ _)) 3 sig4 inb_S2048x128_S128x128_3_0_s_4_1 pos (fun i y h => congrArg sig4 (Fin.ext h)),
    (tile3 v9 v10 v11 e x0 x1 x2 x3 x4 hq hk hv 2 2 (by decide) (by decide) rfl _ _).l_four (h2.trans (shapeCast_self _ _)) 2 sig4 inb_S2048x128_S128x128_2_0_s_4_1 pos (fun i y h => congrArg sig4 (Fin.ext h)),
    (tile3 v9 v10 v11 e x0 x1 x2 x3 x4 hq hk hv 1 1 (by decide) (by decide) rfl _ _).l_four (h1.trans (shapeCast_self _ _)) 1 sig4 inb_S2048x128_S128x128_1_0_s_4_1 pos (fun i y h => congrArg sig4 (Fin.ext h)),
    (tile3 v9 v10 v11 e x0 x1 x2 x3 x4 hq hk hv 0 0 (by decide) (by decide) rfl _ _).l_four (h0.trans (shapeCast_self _ _)) 0 sig4 inb_S2048x128_S128x128_0_0_s_4_1 pos (fun i y h => congrArg sig4 (Fin.ext h)), trivial⟩ (cover3 pos))

end

theorem merged_congr {a1 a2 a3 o1 o2 o3 b1 b2 b3 p1 p2 p3 : S2048x128.Idx → EReal} (h1 : a1 = b1) (h2 : a2 = b2) (h3 : a3 = b3) (h4 : o1 = p1) (h5 : o2 = p2) (h6 : o3 = p3) :
    merged a1 a2 a3 o1 o2 o3 = merged b1 b2 b3 p1 p2 p3 := by subst h1 h2 h3 h4 h5 h6; rfl
/-- The merge of those buffers is the block. -/
theorem merged_buf (e : Fin 2) (x0 x1 x2 x3 x4 : S1x2048x128.Idx → EReal) (y : S1x2048x128.Idx) :
    merged (lBuf e 1 id x0 x1 x2) (lBuf e 4 sig4 x0 x1 x2) (lBuf e 16 sig4 x0 x1 x2) (oBuf e 1 id x0 x1 x2 x3 x4) (oBuf e 4 sig4 x0 x1 x2 x3 x4) (oBuf e 16 sig4 x0 x1 x2 x3 x4) y
      = outBlk (e = 0) x0 x1 x2 x3 x4 y := by
  have hs : sig4 ((ix2 (rho (y 1)) (y 2) : S2048x128.Idx) 0) = y 1 := sig4_rho (y 1)
  unfold merged outBlk lBuf oBuf
  rw [hs]
  rfl
theorem trip_lt (s : Fin 2048) : trip s < 8 := by unfold trip; omega

/-- A buffer whose rows all the trips have merged. -/
theorem merged_of {a1 a2 a3 o1 o2 o3 : S2048x128.Idx → EReal} {w : S1x2048x128.Idx → EReal} {n : ℕ} {e : Fin 2} {x0 x1 x2 x3 x4 : S1x2048x128.Idx → EReal}
    (H : ∀ y : S1x2048x128.Idx, trip (y 1) < n → w y = merged a1 a2 a3 o1 o2 o3 y) (hn : n = 8) (h1 : a1 = lBuf e 1 id x0 x1 x2) (h2 : a2 = lBuf e 4 sig4 x0 x1 x2) (h3 : a3 = lBuf e 16 sig4 x0 x1 x2)
    (h4 : o1 = oBuf e 1 id x0 x1 x2 x3 x4) (h5 : o2 = oBuf e 4 sig4 x0 x1 x2 x3 x4) (h6 : o3 = oBuf e 16 sig4 x0 x1 x2 x3 x4) (y : S1x2048x128.Idx) : w y = outBlk (e = 0) x0 x1 x2 x3 x4 y := by
  subst h1 h2 h3 h4 h5 h6 hn
  exact (H y (trip_lt _)).trans (merged_buf _ _ _ _ _ _ y)

end Cert.DilIdeal.Hand
end
-- ==== Proof.DilIRun.lean ====
/- The dilated attention, idealized: one run of the body. -/
module

public import proofs.«01_k».proof.Proof.DilILoop
public import proofs.«01_k».proof.Proof.DilIList

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem trips_eq : k0_t1_loop.trips = 8 := by decide +kernel

set_option maxHeartbeats 40000000 in
/-- The body's triple, for any continuation: from the five operand blocks, the result's buffer and the nine scratch buffers at anything,
    the body runs to its return, handing back the operands as they were, the result at the merge of its three levels, and the rest at some contents. -/
theorem kernelRun (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (x0 x1 x2 x3 x4 : Vec Ideal S1x2048x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (Cert.DilMath.outBlk (@Eq (Fin 2) (i 1) 0) x0 x1 x2 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := Ideal)) Variants.none c none) Set.univ (cc0_dilated i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dilated_eq_skeleton]; unfold cc0_dilated_skel
  simp only [k0_part47_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf3 hf4 hf5 hf6 hf7
  sl_exec
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    funext y
    have hq : View.canon (kernelRun.sl.H9_4 c arg3 f3) = q4Buf (arg3.view.read (Elt Ideal) f3) := q4_canon _ rfl rfl rfl rfl
    have hk : View.canon (kernelRun.sl.H10_8 c arg4 arg5 f4 f5) = k4Buf (arg4.view.read (Elt Ideal) f4) (arg5.view.read (Elt Ideal) f5) := k4_canon _ _ rfl rfl rfl rfl rfl rfl rfl rfl
    have hv : View.canon (kernelRun.sl.H11_8 c arg6 arg7 f6 f7) = k4Buf (arg6.view.read (Elt Ideal) f6) (arg7.view.read (Elt Ideal) f7) := k4_canon _ _ rfl rfl rfl rfl rfl rfl rfl rfl
    refine merged_of hL1 trips_eq ?_ ?_ ?_ ?_ ?_ ?_ y
    · exact level1_l (i 1) (arg3.view.read (Elt Ideal) f3) (arg4.view.read (Elt Ideal) f4) (arg5.view.read (Elt Ideal) f5) (arg6.view.read (Elt Ideal) f6) (arg7.view.read (Elt Ideal) f7) rfl rfl rfl rfl rfl rfl rfl rfl rfl rfl rfl rfl rfl rfl rfl rfl
    · exact level2_l (v9 := arg9.view) (v10 := arg10.view) (v11 := arg11.view) (i 1) (arg3.view.read (Elt Ideal) f3) (arg4.view.read (Elt Ideal) f4) (arg5.view.read (Elt Ideal) f5) (arg6.view.read (Elt Ideal) f6) (arg7.view.read (Elt Ideal) f7) hq hk hv rfl rfl rfl rfl rfl rfl rfl rfl rfl rfl rfl rfl rfl rfl rfl rfl
    · exact level3_l (v9 := arg9.view) (v10 := arg10.view) (v11 := arg11.view) (i 1) (arg3.view.read (Elt Ideal) f3) (arg4.view.read (Elt Ideal) f4) (arg5.view.read (Elt Ideal) f5) (arg6.view.read (Elt Ideal) f6) (arg7.view.read (Elt Ideal) f7) hq hk hv rfl rfl rfl rfl rfl rfl rfl rfl rfl rfl rfl rfl rfl rfl rfl rfl _
    · exact level1_o (i 1) (arg3.view.read (Elt Ideal) f3) (arg4.view.read (Elt Ideal) f4) (arg5.view.read (Elt Ideal) f5) (arg6.view.read (Elt Ideal) f6) (arg7.view.read (Elt Ideal) f7) rfl rfl rfl rfl rfl rfl rfl rfl rfl rfl rfl rfl rfl rfl rfl rfl
    · exact level2_o (v9 := arg9.view) (v10 := arg10.view) (v11 := arg11.view) (i 1) (arg3.view.read (Elt Ideal) f3) (arg4.view.read (Elt Ideal) f4) (arg5.view.read (Elt Ideal) f5) (arg6.view.read (Elt Ideal) f6) (arg7.view.read (Elt Ideal) f7) hq hk hv rfl rfl rfl rfl rfl rfl rfl rfl rfl rfl rfl rfl rfl rfl rfl rfl
    · exact level3_o (v9 := arg9.view) (v10 := arg10.view) (v11 := arg11.view) (i 1) (arg3.view.read (Elt Ideal) f3) (arg4.view.read (Elt Ideal) f4) (arg5.view.read (Elt Ideal) f5) (arg6.view.read (Elt Ideal) f6) (arg7.view.read (Elt Ideal) f7) hq hk hv rfl rfl rfl rfl rfl rfl rfl rfl rfl rfl rfl rfl rfl rfl rfl rfl _
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.DilIdeal.Hand

end
-- ==== Proof.DilIFrame.lean ====
/- The dilated attention, idealized: the body at every grid point, the run of the program and its frame. -/
module

public import proofs.«01_k».proof.Proof.DilIRun
public import Idealize.ShloMosaic.Lib.Claim

@[expose] public section

set_option maxRecDepth 16384

noncomputable section

namespace Cert.DilIdeal.Hand

open Cert.DilIdeal Cert.DilIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The buffer window 0 is on at point `t`. -/
abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
/-- The buffer window 1 is on at point `t`. -/
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
/-- The buffer window 2 is on at point `t`. -/
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
/-- The buffer window 3 is on at point `t`. -/
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
/-- The buffer window 4 is on at point `t`. -/
abbrev ms0_4 (t : Fin cfg0.N) : Memref sig .tc .vmem S1x2048x128 .f32 := win0_4.stage (cfg0.slots t 4)
abbrev hs0_4 (t : Fin cfg0.N) : (ms0_4 t).IsWhole := hstage0_4 ((cfg0.slots t 4).cast nbuf0_4)
/-- The buffer window 5 is on at point `t`. -/
abbrev ms0_5 (t : Fin cfg0.N) : Memref sig .tc .vmem S1x2048x128 .f32 := win0_5.stage (cfg0.slots t 5)
abbrev hs0_5 (t : Fin cfg0.N) : (ms0_5 t).IsWhole := hstage0_5 ((cfg0.slots t 5).cast nbuf0_5)
abbrev scM0_0 : Memref sig .tc .vmem S2048x128 .f32 := Memref.whole cc0_scratch0
abbrev scM0_1 : Memref sig .tc .vmem S4096x128 .f32 := Memref.whole cc0_scratch1
abbrev scM0_2 : Memref sig .tc .vmem S4096x128 .f32 := Memref.whole cc0_scratch2
abbrev scM0_3 : Memref sig .tc .vmem S2048x128 .f32 := Memref.whole cc0_scratch3
abbrev scM0_4 : Memref sig .tc .vmem S2048x128 .f32 := Memref.whole cc0_scratch4
abbrev scM0_5 : Memref sig .tc .vmem S2048x128 .f32 := Memref.whole cc0_scratch5
abbrev scM0_6 : Memref sig .tc .vmem S2048x128 .f32 := Memref.whole cc0_scratch6
abbrev scM0_7 : Memref sig .tc .vmem S2048x128 .f32 := Memref.whole cc0_scratch7
abbrev scM0_8 : Memref sig .tc .vmem S2048x128 .f32 := Memref.whole cc0_scratch8

/-- The invariant between points: the nine scratch buffers and the generator register, each at something. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- What the body leaves in the result's buffer at each point. -/
def outB (c : Dev nD) (t : Fin cfg0.N) : Vec Ideal S1x2048x128 .f32 :=
  Cert.DilMath.outBlk (@Eq (Fin 2) (grid0.coords t 1) 0) (iblk m c 0 t) (iblk m c 1 t) (iblk m c 2 t) (iblk m c 3 t) (iblk m c 4 t)

/-- What each buffer holds after the body at each point: an operand's block, left in place; the result's, the merge of the levels. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => outB m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_5 (c : Dev nD) (t : Fin cfg0.N) : (dats m 0 c).after 5 t = outB m c t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 12800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.succ = (dats m 0 c).Φ t.castSucc from rfl, after0_0, after0_1, after0_2, after0_3, after0_4, after0_5,
    show (dats m 0 c).Φ t.castSucc = Pipeline.ΦA spec0 c from rfl, PhiA0_eq]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩⟩
  iapply (kernelRun c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The library's body obligation, discharged. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every fair execution of the program terminates without a fault, with every array at what the windows' blocks make of it. -/
theorem run_main_quiescent : θ_run defs (onTc (τ := τ) (main (F := Ideal))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- Without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: the run terminates without a fault, the argument array ends unchanged, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run_main m ρ)) ((θ_run defs _ _).mono (fun _ h => h.2) (run_main_quiescent m ρ))

end Cert.DilIdeal.Hand

end
-- ==== Proof.LocalSpec.lean ====
/- What the layer's three cheap mixers compute, entry by entry: the chunked spatial gating, the short gated convolution
   and the cross-attention to the memory tokens. Both programs' results are shown to be `LocalMath.outAt` of the same
   arguments. -/
module

public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem

namespace Cert.LocalMath

/-- The tanh form of the Gaussian error linear unit. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The mean of 512 entries. -/
def mean (y : Fin 512 → EReal) : EReal := Ideal.div (∑ k, y k) (Ideal.ofBits .f32 0x44000000#32)

/-- Layer norm of a row of 512 entries. -/
def lnorm (y g b : Fin 512 → EReal) (k : Fin 512) : EReal :=
  (y k - mean y) * Ideal.rsqrt (mean (fun k => (y k - mean y) * (y k - mean y)) + Ideal.ofBits .f32 0x358637BD#32) * g k + b k

/-- The scaled score of a query against key `n`. -/
def score (q : Fin 128 → EReal) (K : Fin 256 → Fin 128 → EReal) (n : Fin 256) : EReal :=
  (∑ c, q c * K n c) * Ideal.ofBits .f32 0x3DB504F3#32

/-- The unnormalised softmax weight of key `n`. -/
def weight (q : Fin 128 → EReal) (K : Fin 256 → Fin 128 → EReal) (n : Fin 256) : EReal :=
  Ideal.exp (score q K n - Finset.univ.fold max (Ideal.ofBits .f32 0xFF800000#32) (score q K))

/-- Softmax attention of one query, entry `d`. -/
def attn (q : Fin 128 → EReal) (K V : Fin 256 → Fin 128 → EReal) (d : Fin 128) : EReal :=
  Ideal.div (∑ n, weight q K n * V n d) (∑ n, weight q K n)

variable (P : FVec Ideal ⟨3, ![2, 4096, 7168]⟩ .bf16) (M : FVec Ideal ⟨4, ![2, 2, 256, 1024]⟩ .bf16) (W : FVec Ideal ⟨3, ![4, 128, 128]⟩ .f32)
  (B : FVec Ideal ⟨2, ![4, 128]⟩ .f32) (lg lb : FVec Ideal ⟨1, ![512]⟩ .f32) (C : FVec Ideal ⟨2, ![3, 512]⟩ .f32)

/-- The layer-normed second half of the gating unit at batch `b`, row `s`. -/
def vnormAt (b : Fin 2) (s : Fin 4096) : Fin 512 → EReal :=
  lnorm (fun k => gelu (P (ix3 b s ⟨1024 + k, by omega⟩))) (fun k => lg (ix1 k)) (fun k => lb (ix1 k))

/-- The lower triangle of the mixing weights. -/
def causal (i : Fin 128) (j : Fin 128) (w : EReal) : EReal := if j.val ≤ i.val then w else 0

/-- The gating branch: within its chunk of 128 rows, row `s` mixes the rows up to its own. -/
def gateAt (b : Fin 2) (s : Fin 4096) (k : Fin 512) : EReal :=
  gelu (P (ix3 b s ⟨512 + k, by omega⟩))
    * (∑ j : Fin 128, causal ⟨s % 128, by omega⟩ j (W (ix3 ⟨k / 128, by omega⟩ ⟨s % 128, by omega⟩ j)) * vnormAt P lg lb b ⟨s / 128 * 128 + j, by omega⟩ k
      + B (ix2 ⟨k / 128, by omega⟩ ⟨s % 128, by omega⟩))

/-- The convolution's input `n` rows back, zero before the sequence begins. -/
def backAt (n : ℕ) (b : Fin 2) (s : Fin 4096) (k : Fin 512) : EReal :=
  if n ≤ s.val then P (ix3 b ⟨s - n, by omega⟩ ⟨4608 + k, by omega⟩) * P (ix3 b ⟨s - n, by omega⟩ ⟨5120 + k, by omega⟩) else 0

/-- The convolution branch. -/
def convAt (b : Fin 2) (s : Fin 4096) (k : Fin 512) : EReal :=
  P (ix3 b s ⟨4096 + k, by omega⟩) * (C (ix2 2 k) * backAt P 0 b s k + C (ix2 0 k) * backAt P 2 b s k + C (ix2 1 k) * backAt P 1 b s k)

/-- The cross-attention branch: column `k` belongs to head `k / 128`. -/
def crossAt (b : Fin 2) (s : Fin 4096) (k : Fin 512) : EReal :=
  attn (fun c => P (ix3 b s ⟨6144 + (k / 128 * 128 + c), by omega⟩)) (fun n c => M (ix4 0 b n ⟨k / 128 * 128 + c, by omega⟩))
    (fun n c => M (ix4 0 b n ⟨512 + (k / 128 * 128 + c), by omega⟩)) ⟨k % 128, by omega⟩

/-- The three branches side by side. -/
def outAt (b : Fin 2) (s : Fin 4096) (k : Fin 1536) : EReal :=
  if h : k.val < 512 then gateAt P W B lg lb b s ⟨k, h⟩
  else if h' : k.val < 1024 then convAt P C b s ⟨k - 512, by omega⟩
  else crossAt P M b s ⟨k - 1024, by omega⟩

end Cert.LocalMath
-- ==== Proof.LocalSoftmax.lean ====
/- Dividing the softmax weights before or after the sum over the values is the same where the scores are finite numbers. -/
module

public import proofs.«01_k».proof.Proof.LocalSpec

@[expose] public section
set_option maxRecDepth 16384
noncomputable section
open Idealize.ShloMosaic Idealize.ShloMosaic.TcCoe Idealize.SL.Sem

namespace Cert.LocalMath

theorem exp_nonneg (x : EReal) : 0 ≤ Ideal.exp x := by
  induction x with
  | bot => exact le_rfl
  | top => exact le_top
  | coe r => exact EReal.coe_nonneg.mpr (Real.exp_pos r).le
theorem exp_pos (x : EReal) (h : x ≠ ⊥) : 0 < Ideal.exp x := by
  induction x with
  | bot => exact absurd rfl h
  | top => exact EReal.zero_lt_top
  | coe r => exact EReal.coe_pos.mpr (Real.exp_pos r)

/-- A number that is neither infinity. -/
def Fin' (x : EReal) : Prop := x ≠ ⊤ ∧ x ≠ ⊥
theorem Fin'.coe (r : ℝ) : Fin' (r : EReal) := ⟨EReal.coe_ne_top r, EReal.coe_ne_bot r⟩
theorem Fin'.ex {x : EReal} (h : Fin' x) : ∃ r : ℝ, x = r := ⟨x.toReal, (EReal.coe_toReal h.1 h.2).symm⟩
theorem Fin'.mul {x y : EReal} (hx : Fin' x) (hy : Fin' y) : Fin' (x * y) := by
  obtain ⟨a, rfl⟩ := hx.ex; obtain ⟨b, rfl⟩ := hy.ex
  rw [← EReal.coe_mul]; exact Fin'.coe _
theorem Fin'.add {x y : EReal} (hx : Fin' x) (hy : Fin' y) : Fin' (x + y) := by
  obtain ⟨a, rfl⟩ := hx.ex; obtain ⟨b, rfl⟩ := hy.ex
  rw [← EReal.coe_add]; exact Fin'.coe _
theorem Fin'.sum {n : ℕ} (f : Fin n → EReal) (h : ∀ i, Fin' (f i)) : Fin' (∑ i, f i) :=
  Finset.sum_induction f Fin' (fun _ _ => Fin'.add) (Fin'.coe 0) fun i _ => h i
theorem ofBits_ninf : Ideal.ofBits .f32 0xFF800000#32 = ⊥ := by simp [Ideal.ofBits, Ideal.ieee]
theorem fin_scale : Fin' (Ideal.ofBits .f32 0x3DB504F3#32) := by
  have h : Ideal.ofBits .f32 0x3DB504F3#32 = (((11863283 : ℝ) * 2 ^ (-27 : ℤ) : ℝ) : EReal) := by
    simp [Ideal.ofBits, Ideal.ieee, -EReal.coe_mul]
  rw [h]; exact Fin'.coe _

/-- A nonnegative finite factor comes out of a sum. -/
theorem sum_mul_fin {n : ℕ} (f : Fin n → EReal) (c : EReal) (h0 : 0 ≤ c) (h1 : c ≠ ⊤) : ∑ i, f i * c = (∑ i, f i) * c := by
  induction n with
  | zero => simp
  | succ n ih => rw [Fin.sum_univ_succ, Fin.sum_univ_succ, ih, EReal.right_distrib_of_nonneg_of_ne_top h0 h1]

/-- Weights divided first, or their weighted sum divided: the same where the weights do not all vanish. -/
theorem sum_div_first (w v : Fin 256 → EReal) (hw : ∀ n, 0 ≤ w n) (hL : 0 < ∑ n, w n) :
    ∑ n, v n * Ideal.div (w n) (∑ n, w n) = Ideal.div (∑ n, w n * v n) (∑ n, w n) := by
  generalize ∑ n, w n = L at hL
  have h0 : 0 ≤ L⁻¹ := EReal.inv_nonneg_of_nonneg hL.le
  have h1 : L⁻¹ ≠ ⊤ := by
    induction L with
    | bot => simp
    | top => simp
    | coe r => rw [← EReal.coe_inv]; exact EReal.coe_ne_top _
  have hd (x : EReal) : Ideal.div x L = x * L⁻¹ := by unfold Ideal.div; rw [if_neg hL.ne']
  simp only [hd]
  rw [← sum_mul_fin _ _ h0 h1]
  exact Finset.sum_congr rfl fun n _ => by rw [← mul_assoc, mul_comm (v n)]

/-- With finite queries and keys the normaliser is positive. -/
theorem norm_pos (q : Fin 128 → EReal) (K : Fin 256 → Fin 128 → EReal) (hq : ∀ c, Fin' (q c)) (hK : ∀ n c, Fin' (K n c)) : 0 < ∑ n, weight q K n := by
  have hs (n : Fin 256) : Fin' (score q K n) := (Fin'.sum _ fun c => (hq c).mul (hK n c)).mul fin_scale
  have hM : Finset.univ.fold max (Ideal.ofBits .f32 0xFF800000#32) (score q K) ≠ ⊤ := by
    refine ne_of_lt ((Finset.fold_max_lt _).mpr ⟨?_, fun n _ => lt_of_le_of_ne le_top (hs n).1⟩)
    rw [ofBits_ninf]; exact bot_lt_top
  have h0 : 0 < weight q K 0 := exp_pos _ fun h => by
    rw [sub_eq_add_neg, EReal.add_eq_bot_iff] at h
    rcases h with h | h
    · exact (hs 0).2 h
    · exact hM (EReal.neg_eq_bot_iff.mp h)
  exact lt_of_lt_of_le h0 (Finset.single_le_sum (f := weight q K) (fun n _ => exp_nonneg _) (Finset.mem_univ 0))

/-- The softmax written with its weights divided first is `attn`. -/
theorem attn_of_div (q : Fin 128 → EReal) (K V : Fin 256 → Fin 128 → EReal) (d : Fin 128) (hq : ∀ c, Fin' (q c)) (hK : ∀ n c, Fin' (K n c)) :
    ∑ n, V n d * Ideal.div (weight q K n) (∑ n, weight q K n) = attn q K V d :=
  sum_div_first _ _ (fun n => exp_nonneg _) (norm_pos q K hq hK)
end Cert.LocalMath
-- ==== Proof.DilMath.lean ====
/- The dilated attention over finite queries and keys: each level's output and log-sum, in base two and in the natural base, and the merge, come to one
   quotient of two sums over the attended keys. -/
module

public import proofs.«01_k».proof.Proof.DilSpec
public import proofs.«01_k».proof.Proof.LocalSoftmax
public import Idealize.ShloMosaic.Lib.WordCmp

@[expose] public section
set_option maxRecDepth 16384
noncomputable section
open Idealize.ShloMosaic Idealize.ShloMosaic.TcCoe Idealize.SL.Sem
open Cert.LocalMath (Fin' ofBits_ninf)

namespace Cert.DilMath

open Classical in
/-- A key's weight: the exponential of its score, and zero where it is not attended to. -/
def wgt (p : Fin 256 → Prop) (σ : Fin 256 → ℝ) (m : Fin 256) : ℝ := if p m then Real.exp (σ m) else 0
/-- The weights' sum, and the weighted sum of the values. -/
def den (p : Fin 256 → Prop) (σ : Fin 256 → ℝ) : ℝ := ∑ m, wgt p σ m
def num (p : Fin 256 → Prop) (σ : Fin 256 → ℝ) (v : Fin 256 → EReal) : EReal := ∑ m, (wgt p σ m : EReal) * v m

theorem wgt_nonneg (p : Fin 256 → Prop) (σ : Fin 256 → ℝ) (m : Fin 256) : 0 ≤ wgt p σ m := by
  unfold wgt; split
  · exact (Real.exp_pos _).le
  · exact le_rfl
theorem den_pos {p : Fin 256 → Prop} (σ : Fin 256 → ℝ) (hp : ∃ m, p m) : 0 < den p σ := by
  obtain ⟨m, hm⟩ := hp
  refine lt_of_lt_of_le ?_ (Finset.single_le_sum (f := wgt p σ) (fun m _ => wgt_nonneg p σ m) (Finset.mem_univ m))
  unfold wgt; rw [if_pos hm]; exact Real.exp_pos _
theorem wgt_congr {p p' : Fin 256 → Prop} {σ σ' : Fin 256 → ℝ} (h : ∀ m, p m ↔ p' m) (hs : ∀ m, p m → σ m = σ' m) (m : Fin 256) : wgt p σ m = wgt p' σ' m := by
  unfold wgt
  by_cases hm : p m
  · rw [if_pos hm, if_pos ((h m).1 hm), hs m hm]
  · rw [if_neg hm, if_neg fun h' => hm ((h m).2 h')]

/-- A sum of finite numbers. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- A quotient of finite numbers. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]
theorem log_coe (a : ℝ) (ha : 0 < a) : Ideal.log (a : EReal) = ((Real.log a : ℝ) : EReal) := by
  show (if a ≤ 0 then ⊥ else (Real.log a : EReal)) = _
  rw [if_neg ha.not_ge]
theorem exp_coe (a : ℝ) : Ideal.exp (a : EReal) = ((Real.exp a : ℝ) : EReal) := rfl
theorem log_two_pos : 0 < Real.log 2 := Real.log_pos one_lt_two
theorem exp2_coe (a : ℝ) : Ideal.exp2 (a : EReal) = ((Real.exp (a * Real.log 2) : ℝ) : EReal) := by
  show ((Real.rpow 2 a : ℝ) : EReal) = _
  rw [show Real.rpow 2 a = (2 : ℝ) ^ a from rfl, Real.rpow_def_of_pos two_pos, mul_comm]

open Classical in
/-- The largest of the attended scores is a finite number. -/
theorem max_coe {p : Fin 256 → Prop} (σ : Fin 256 → ℝ) (hp : ∃ m, p m) (f : Fin 256 → EReal) (hf : ∀ m, f m = if p m then (σ m : EReal) else ⊥) :
    ∃ M : ℝ, Finset.univ.fold max (Ideal.ofBits .f32 0xFF800000#32) f = (M : EReal) := by
  refine Fin'.ex ⟨ne_of_lt ((Finset.fold_max_lt _).mpr ⟨?_, fun m _ => ?_⟩), ?_⟩
  · rw [ofBits_ninf]; exact bot_lt_top
  · rw [hf]; split
    · exact EReal.coe_lt_top _
    · exact bot_lt_top
  · obtain ⟨m, hm⟩ := hp
    refine ne_of_gt (lt_of_lt_of_le (b := f m) ?_ ((Finset.le_fold_max _).mpr (Or.inr ⟨m, Finset.mem_univ m, le_rfl⟩)))
    rw [hf, if_pos hm]; exact EReal.bot_lt_coe _

/-- A quotient by a positive number. -/
theorem div_pos_coe (x : EReal) (b : ℝ) (hb : 0 < b) : Ideal.div x (b : EReal) = x * ((b⁻¹ : ℝ) : EReal) := by
  unfold Ideal.div
  rw [if_neg (by exact_mod_cast hb.ne'), ← EReal.coe_inv]
/-- A finite factor that is not negative goes into a sum. -/
theorem add_mul_coe (x y : EReal) (c : ℝ) (hc : 0 ≤ c) : (x + y) * (c : EReal) = x * (c : EReal) + y * (c : EReal) :=
  EReal.right_distrib_of_nonneg_of_ne_top (by exact_mod_cast hc) (EReal.coe_ne_top c) x y
theorem sum_mul_coe {n : ℕ} (f : Fin n → EReal) (c : ℝ) (hc : 0 ≤ c) : (∑ i, f i) * (c : EReal) = ∑ i, f i * (c : EReal) := by
  induction n with
  | zero => simp
  | succ n ih => rw [Fin.sum_univ_succ, Fin.sum_univ_succ, add_mul_coe _ _ _ hc, ih]

/-- Weights off by one factor have their sums off by it. -/
theorem sums (p : Fin 256 → Prop) (σ : Fin 256 → ℝ) (v : Fin 256 → EReal) (C : ℝ) (hC : 0 ≤ C) (w : Fin 256 → EReal) (hw : ∀ m, w m = ((wgt p σ m * C : ℝ) : EReal)) :
    ∑ m, w m = ((den p σ * C : ℝ) : EReal) ∧ ∑ m, w m * v m = num p σ v * (C : EReal) := by
  constructor
  · rw [den, Finset.sum_mul, coe_sum]; exact Finset.sum_congr rfl fun m _ => hw m
  · rw [num, sum_mul_coe _ _ hC]
    exact Finset.sum_congr rfl fun m _ => by rw [hw, EReal.coe_mul, mul_right_comm]

/-- The scaled score. -/
def scr (q : Fin 128 → ℝ) (k : Fin 256 → Fin 128 → ℝ) (m : Fin 256) : ℝ := (∑ d, q d * k m d) * (Real.sqrt 128)⁻¹

open Classical in
theorem tsc_coe (q : Fin 128 → ℝ) (k : Fin 256 → Fin 128 → ℝ) (p : Fin 256 → Prop) (m : Fin 256) :
    tsc (fun d => (q d : EReal)) (fun m d => (k m d : EReal)) (fun m => if p m then 0 else ⊥) m = if p m then ((scr q k m * (Real.log 2)⁻¹ : ℝ) : EReal) else ⊥ := by
  unfold tsc scale2 scr
  simp only [← EReal.coe_mul, ← coe_sum]
  split
  · rw [add_zero]; congr 1; ring
  · exact EReal.add_bot _

open Classical in
/-- One level of the kernel. -/
theorem kernel_level (q : Fin 128 → ℝ) (k : Fin 256 → Fin 128 → ℝ) (v : Fin 256 → Fin 128 → EReal) (p : Fin 256 → Prop) (hp : ∃ m, p m) (d : Fin 128) :
    oRow (fun d => (q d : EReal)) (fun m d => (k m d : EReal)) v (fun m => if p m then 0 else ⊥) d
        = num p (scr q k) (fun m => v m d) * (((den p (scr q k))⁻¹ : ℝ) : EReal)
      ∧ lRow (fun d => (q d : EReal)) (fun m d => (k m d : EReal)) (fun m => if p m then 0 else ⊥) = ((Real.log (den p (scr q k)) * (Real.log 2)⁻¹ : ℝ) : EReal) := by
  obtain ⟨M, hM⟩ := max_coe (fun m => scr q k m * (Real.log 2)⁻¹) hp _ (tsc_coe q k p)
  have hl := log_two_pos.ne'
  have hM' : tmax (fun d => (q d : EReal)) (fun m d => (k m d : EReal)) (fun m => if p m then 0 else ⊥) = (M : EReal) := hM
  have hw (m : Fin 256) : tw (fun d => (q d : EReal)) (fun m d => (k m d : EReal)) (fun m => if p m then 0 else ⊥) m = ((wgt p (scr q k) m * Real.exp (-(M * Real.log 2)) : ℝ) : EReal) := by
    unfold tw
    rw [hM', tsc_coe]
    unfold wgt
    split
    · rw [← EReal.coe_sub, exp2_coe, ← Real.exp_add]
      congr 2
      field_simp
      ring
    · rw [EReal.bot_sub, zero_mul]; rfl
  have h1 := (sums p (scr q k) (fun m => v m d) _ (Real.exp_pos _).le _ hw).1
  have h2 := (sums p (scr q k) (fun m => v m d) _ (Real.exp_pos _).le _ hw).2
  have hd := den_pos (scr q k) hp
  have hC := Real.exp_pos (-(M * Real.log 2))
  constructor
  · unfold oRow tnorm
    rw [h1, h2, div_pos_coe _ _ (mul_pos hd hC), mul_assoc, ← EReal.coe_mul]
    congr 2
    field_simp
  · unfold lRow tnorm log2e
    rw [h1, hM', log_coe _ (mul_pos hd hC), ← EReal.coe_mul, ← EReal.coe_add, Real.log_mul hd.ne' hC.ne', Real.log_exp]
    congr 1
    field_simp
    ring

/-- The merge of the kernel's three levels. -/
theorem kernel_merge (n1 n2 n3 : EReal) (l1 l2 l3 : ℝ) (h1 : 0 < l1) (h2 : 0 < l2) (h3 : 0 < l3) :
    mergeG ((Real.log l1 * (Real.log 2)⁻¹ : ℝ) : EReal) ((Real.log l2 * (Real.log 2)⁻¹ : ℝ) : EReal) ((Real.log l3 * (Real.log 2)⁻¹ : ℝ) : EReal)
      (n1 * ((l1⁻¹ : ℝ) : EReal)) (n2 * ((l2⁻¹ : ℝ) : EReal)) (n3 * ((l3⁻¹ : ℝ) : EReal)) = (n1 + n2 + n3) * (((l1 + l2 + l3)⁻¹ : ℝ) : EReal) := by
  unfold mergeG
  obtain ⟨M, hM⟩ : ∃ M : ℝ, max (max ((Real.log l1 * (Real.log 2)⁻¹ : ℝ) : EReal) ((Real.log l2 * (Real.log 2)⁻¹ : ℝ) : EReal)) ((Real.log l3 * (Real.log 2)⁻¹ : ℝ) : EReal) = (M : EReal) :=
    ⟨max (max (Real.log l1 * (Real.log 2)⁻¹) (Real.log l2 * (Real.log 2)⁻¹)) (Real.log l3 * (Real.log 2)⁻¹), by simp only [EReal.coe_strictMono.monotone.map_max]⟩
  have hl := log_two_pos.ne'
  have e (l : ℝ) (h : 0 < l) : Ideal.exp2 (((Real.log l * (Real.log 2)⁻¹ : ℝ) : EReal) - (M : EReal)) = ((l * Real.exp (-(M * Real.log 2)) : ℝ) : EReal) := by
    rw [← EReal.coe_sub, exp2_coe, show (Real.log l * (Real.log 2)⁻¹ - M) * Real.log 2 = Real.log l + -(M * Real.log 2) by field_simp; ring, Real.exp_add, Real.exp_log h]
  have hC := Real.exp_pos (-(M * Real.log 2))
  have f (n : EReal) (l : ℝ) (h : 0 < l) : ((l * Real.exp (-(M * Real.log 2)) : ℝ) : EReal) * (n * ((l⁻¹ : ℝ) : EReal)) = n * ((Real.exp (-(M * Real.log 2)) : ℝ) : EReal) := by
    rw [mul_left_comm, ← EReal.coe_mul]
    congr 2
    field_simp
  rw [hM, e l1 h1, e l2 h2, e l3 h3, f n1 l1 h1, f n2 l2 h2, f n3 l3 h3, ← add_mul_coe _ _ _ hC.le, ← add_mul_coe _ _ _ hC.le]
  simp only [← EReal.coe_add]
  rw [div_pos_coe _ _ (by positivity), mul_assoc, ← EReal.coe_mul]
  congr 2
  field_simp

open Classical in
/-- One level of the reference: scores `f`, their log-sum and the weighted values. -/
theorem ref_level (σ : Fin 256 → ℝ) (v : Fin 256 → EReal) (p : Fin 256 → Prop) (hp : ∃ m, p m) (f : Fin 256 → EReal) (hf : ∀ m, f m = if p m then (σ m : EReal) else ⊥) (M l : EReal)
    (hM : M = Finset.univ.fold max (Ideal.ofBits .f32 0xFF800000#32) f) (hl : l = M + Ideal.log (∑ m, Ideal.exp (f m - M))) :
    l = ((Real.log (den p σ) : ℝ) : EReal) ∧ ∑ m, Ideal.exp (f m - l) * v m = num p σ v * (((den p σ)⁻¹ : ℝ) : EReal) := by
  obtain ⟨T, hT⟩ := max_coe σ hp f hf
  rw [hT] at hM
  have hw (c : ℝ) (m : Fin 256) : Ideal.exp (f m - (c : EReal)) = ((wgt p σ m * Real.exp (-c) : ℝ) : EReal) := by
    rw [hf]; unfold wgt; split
    · rw [← EReal.coe_sub, exp_coe, sub_eq_add_neg, Real.exp_add]
    · rw [EReal.bot_sub, zero_mul]; rfl
  have hd := den_pos σ hp
  have h1 : l = ((Real.log (den p σ) : ℝ) : EReal) := by
    rw [hl, hM, (sums p σ v _ (Real.exp_pos _).le _ (hw T)).1, log_coe _ (mul_pos hd (Real.exp_pos _)), Real.log_mul hd.ne' (Real.exp_pos _).ne', Real.log_exp, ← EReal.coe_add]
    congr 1; ring
  refine ⟨h1, ?_⟩
  rw [h1, (sums p σ v _ (Real.exp_pos _).le _ (hw _)).2, Real.exp_neg, Real.exp_log hd]

/-- The merge of the reference's three levels. -/
theorem ref_merge (n : Fin 3 → EReal) (l : Fin 3 → ℝ) (h : ∀ i, 0 < l i) (a o : Fin 3 → EReal) (ha : ∀ i, a i = ((Real.log (l i) : ℝ) : EReal)) (ho : ∀ i, o i = n i * (((l i)⁻¹ : ℝ) : EReal))
    (M : EReal) (hM : M = max (Ideal.ofBits .f32 0xFF800000#32) (Finset.univ.fold max (Ideal.ofBits .f32 0xFF800000#32) a)) :
    ∑ i, Ideal.div (Ideal.exp (a i - M)) (∑ i, Ideal.exp (a i - M)) * o i = (n 0 + n 1 + n 2) * (((l 0 + l 1 + l 2)⁻¹ : ℝ) : EReal) := by
  obtain ⟨T, hT⟩ : ∃ T : ℝ, M = (T : EReal) := by
    rw [hM, ofBits_ninf, max_eq_right bot_le]
    refine Fin'.ex ⟨ne_of_lt ((Finset.fold_max_lt _).mpr ⟨bot_lt_top, fun m _ => by rw [ha]; exact EReal.coe_lt_top _⟩), ?_⟩
    refine ne_of_gt (lt_of_lt_of_le (b := a 0) ?_ ((Finset.le_fold_max _).mpr (Or.inr ⟨0, Finset.mem_univ _, le_rfl⟩)))
    rw [ha]; exact EReal.bot_lt_coe _
  have e (i : Fin 3) : Ideal.exp (a i - M) = ((l i * Real.exp (-T) : ℝ) : EReal) := by
    rw [ha, hT, ← EReal.coe_sub, exp_coe, sub_eq_add_neg, Real.exp_add, Real.exp_log (h i)]
  have hC := Real.exp_pos (-T)
  have h0 := h 0; have h1 := h 1; have h2 := h 2
  have f (i : Fin 3) : ((l i * Real.exp (-T) / (l 0 * Real.exp (-T) + l 1 * Real.exp (-T) + l 2 * Real.exp (-T)) : ℝ) : EReal) * (n i * (((l i)⁻¹ : ℝ) : EReal))
      = n i * (((l 0 + l 1 + l 2)⁻¹ : ℝ) : EReal) := by
    have hi := h i
    rw [mul_left_comm, ← EReal.coe_mul]
    congr 2
    field_simp
  simp only [e, ho, Fin.sum_univ_three, ← EReal.coe_add]
  rw [div_coe _ _ (by positivity), div_coe _ _ (by positivity), div_coe _ _ (by positivity), f, f, f, ← add_mul_coe _ _ _ (by positivity), ← add_mul_coe _ _ _ (by positivity)]

/-- Where key `m` of position `s` lies in the sequence, and whether it is attended to: the own block of 128 of the subsequence and the one before. -/
def gpos (D : ℕ) (s : Fin 4096) (m : Fin 256) : Fin 4096 := ⟨(4096 + s + D * m - D * (s / D % 128 + 128)) % 4096, Nat.mod_lt _ (by decide)⟩
def att (D : ℕ) (s : Fin 4096) (m : Fin 256) : Prop := s / D % 128 ≤ m.val ∧ m.val ≤ s / D % 128 + 128 ∧ 128 ≤ s / D / 128 * 128 + m.val
theorem att_ex (D : ℕ) (s : Fin 4096) : ∃ m, att D s m := ⟨⟨s / D % 128 + 128, by omega⟩, by unfold att; refine ⟨?_, ?_, ?_⟩ <;> dsimp only <;> omega⟩

section
variable (P : (⟨3, ![2, 4096, 1536]⟩ : Shape).Idx → ℝ) (A : (⟨3, ![2, 4096, 1536]⟩ : Shape).Idx → EReal) (D : ℕ) (b : Fin 2) (s : Fin 4096) (h : Fin 4)
/-- A head's query, and the keys and the values of one dilation. -/
def qR (d : Fin 128) : ℝ := P (ix3 b s ⟨h * 128 + d, by omega⟩)
def kR (m : Fin 256) (d : Fin 128) : ℝ := P (ix3 b (gpos D s m) ⟨512 + (h * 128 + d), by omega⟩)
def vR (d : Fin 128) (m : Fin 256) : EReal := A (ix3 b (gpos D s m) ⟨1024 + (h * 128 + d), by omega⟩)
/-- One dilation's share of the denominator and of the numerator, and the result. -/
def levL : ℝ := den (att D s) (scr (qR P b s h) (kR P D b s h))
def levN (d : Fin 128) : EReal := num (att D s) (scr (qR P b s h) (kR P D b s h)) (vR A D b s h d)
def resR (d : Fin 128) : EReal := (levN P A 1 b s h d + levN P A 4 b s h d + levN P A 16 b s h d) * (((levL P 1 b s h + levL P 4 b s h + levL P 16 b s h)⁻¹ : ℝ) : EReal)
theorem levL_pos : 0 < levL P D b s h := den_pos _ (att_ex D s)
end

theorem num_congr {p : Fin 256 → Prop} {σ : Fin 256 → ℝ} {v v' : Fin 256 → EReal} (h : ∀ m, p m → v m = v' m) : num p σ v = num p σ v' := by
  unfold num
  refine Finset.sum_congr rfl fun m _ => ?_
  by_cases hm : p m
  · rw [h m hm]
  · unfold wgt; rw [if_neg hm, EReal.coe_zero, zero_mul, zero_mul]

/-- The reference's scale. -/
theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h]
  show (if (128 : ℝ) < 0 then ⊥ else ((Real.sqrt 128 : ℝ) : EReal)) = _
  rw [if_neg (by norm_num)]
theorem score_coe (q : Fin 128 → ℝ) (k : Fin 256 → Fin 128 → ℝ) (m : Fin 256) :
    Ideal.div (∑ d, (q d : EReal) * (k m d : EReal)) (Ideal.sqrt (Ideal.ofBits .f32 0x43000000#32)) = ((scr q k m : ℝ) : EReal) := by
  simp only [← EReal.coe_mul, ← coe_sum]
  rw [sqrt_128, div_coe _ _ (Real.sqrt_pos.mpr (by norm_num)).ne']
  rfl

/-- The reference's mask. -/
theorem sel_att (n q m : ℕ) (hn : n < 32) (hq : q < 128) (hm : m < 256) (x y : EReal) :
    Scalar.select (IntOp.andi (IntOp.andi (IntOp.cmpi .sge (BitVec.ofNat 32 m) (BitVec.ofNat 32 q)) (IntOp.cmpi .sle (BitVec.ofNat 32 m) (IntOp.addi (BitVec.ofNat 32 q) 128#32)))
      (IntOp.cmpi .sge (IntOp.addi (IntOp.muli (BitVec.ofNat 32 n) 128#32) (BitVec.ofNat 32 m)) 128#32)) x y
    = if q ≤ m ∧ m ≤ q + 128 ∧ 128 ≤ n * 128 + m then x else y := by
  have e : IntOp.addi (BitVec.ofNat 32 q) 128#32 = BitVec.ofNat 32 (q + 128) := by
    show BitVec.ofNat 32 q + BitVec.ofNat 32 128 = _; rw [← BitVec.ofNat_add]
  have e' : IntOp.addi (IntOp.muli (BitVec.ofNat 32 n) 128#32) (BitVec.ofNat 32 m) = BitVec.ofNat 32 (n * 128 + m) := by
    show BitVec.ofNat 32 n * BitVec.ofNat 32 128 + BitVec.ofNat 32 m = _; rw [← BitVec.ofNat_mul, ← BitVec.ofNat_add]
  rw [e, e', show (128#32 : BitVec 32) = BitVec.ofNat 32 128 from rfl, WordCmp.cmpi_sge_ofNat (w := 32) (by omega) (by omega), WordCmp.cmpi_sle_ofNat (w := 32) (by omega) (by omega),
    WordCmp.cmpi_sge_ofNat (w := 32) (by omega) (by omega)]
  by_cases h1 : q ≤ m <;> by_cases h2 : m ≤ q + 128 <;> by_cases h3 : 128 ≤ n * 128 + m <;> simp [Scalar.select, IntOp.andi, h1, h2, h3]

/-- Indices agree where their coordinates do. -/
theorem ix3_congr {n m l : ℕ} {a a' : Fin n} {b b' : Fin m} {c c' : Fin l} (ha : a.val = a'.val) (hb : b.val = b'.val) (hc : c.val = c'.val) :
    ix3 a b c = ix3 a' b' c' := by
  cases Fin.ext ha; cases Fin.ext hb; cases Fin.ext hc; rfl
theorem ix4_congr {n m l p : ℕ} {a a' : Fin n} {b b' : Fin m} {c c' : Fin l} {d d' : Fin p} (ha : a.val = a'.val) (hb : b.val = b'.val)
    (hc : c.val = c'.val) (hd : d.val = d'.val) : ix4 a b c d = ix4 a' b' c' d' := by
  cases Fin.ext ha; cases Fin.ext hb; cases Fin.ext hc; cases Fin.ext hd; rfl
end Cert.DilMath
-- ==== Proof.DilLev.lean ====
/- The dilated attention's levels on a block of 2048 rows: over finite queries and keys the kernel's three levels merge to the quotient of sums. -/
module

public import proofs.«01_k».proof.Proof.DilMath

@[expose] public section
set_option maxRecDepth 16384
noncomputable section
open Idealize.ShloMosaic Idealize.ShloMosaic.TcCoe Idealize.SL.Sem

namespace Cert.DilMath

/-- Where row `t` of the previous and the own block together lies in the sequence; the first block's previous block is itself. -/
def rowpos (sb : ℕ) (t : Fin 4096) : Fin 4096 := ⟨if t.val < 2048 then t.val else (sb * 2048 + (t.val - 2048)) % 4096, by split <;> omega⟩

theorem pos_eq (D : ℕ) (hD : D = 1 ∨ D = 4 ∨ D = 16) (sb : ℕ) (hsb : sb < 2) (r : Fin 2048) (s : Fin 4096) (hs : s.val = sb * 2048 + r.val) (m : Fin 256)
    (h : att D s m) : rowpos sb (kpos D r m) = gpos D s m := by
  apply Fin.ext
  unfold att at h
  unfold rowpos kpos gpos
  dsimp only
  rw [hs] at h ⊢
  obtain rfl | rfl : sb = 0 ∨ sb = 1 := by omega
  all_goals
    rcases hD with rfl | rfl | rfl
    all_goals
      split <;> omega

theorem valid_iff (start : Prop) (D : ℕ) (hD : D = 1 ∨ D = 4 ∨ D = 16) (sb : ℕ) (hsb : sb < 2) (hst : start ↔ sb = 0) (r : Fin 2048) (s : Fin 4096)
    (hs : s.val = sb * 2048 + r.val) (m : Fin 256) : valid start D r m ↔ att D s m := by
  unfold valid att
  rw [hst, hs]
  obtain rfl | rfl : sb = 0 ∨ sb = 1 := by omega
  all_goals
    rcases hD with rfl | rfl | rfl
    all_goals omega

/-- The two blocks' rows, read in the sequence. -/
theorem rowK_coe (sb : ℕ) (hsb : sb < 2) (f : Fin 4096 → Fin 128 → EReal) (y1 y2 : (⟨3, ![1, 2048, 128]⟩ : Shape).Idx → EReal) (g1 : ∀ (u : Fin 2048) (w : Fin 4096) (d : Fin 128), w.val = u.val → y1 (ix3 0 u d) = f w d)
    (g2 : ∀ (u : Fin 2048) (w : Fin 4096) (d : Fin 128), w.val = sb * 2048 + u.val → y2 (ix3 0 u d) = f w d) (t : Fin 4096) (d : Fin 128) :
    rowK y1 y2 t d = f (rowpos sb t) d := by
  unfold rowK
  split
  case isTrue h =>
    have e : rowpos sb t = t := Fin.ext (by unfold rowpos; exact if_pos h)
    rw [e]
    exact g1 _ t d rfl
  case isFalse h =>
    exact g2 _ _ d (by unfold rowpos; dsimp only; rw [if_neg h, Nat.mod_eq_of_lt (by omega)])

/-- A head's columns of the queries, the keys and the values. -/
def qcol (h : Fin 4) (d : Fin 128) : Fin 1536 := ⟨h * 128 + d, by omega⟩
def kcol (h : Fin 4) (d : Fin 128) : Fin 1536 := ⟨512 + (h * 128 + d), by omega⟩
def vcol (h : Fin 4) (d : Fin 128) : Fin 1536 := ⟨1024 + (h * 128 + d), by omega⟩

section
variable (P : (⟨3, ![2, 4096, 1536]⟩ : Shape).Idx → ℝ) (A : (⟨3, ![2, 4096, 1536]⟩ : Shape).Idx → EReal) (b : Fin 2) (h : Fin 4) (sb : ℕ) (hsb : sb < 2) (r : Fin 2048) (s : Fin 4096) (hs : s.val = sb * 2048 + r.val)
  (start : Prop) (hst : start ↔ sb = 0) (x0 x1 x2 x3 x4 : (⟨3, ![1, 2048, 128]⟩ : Shape).Idx → EReal)
  (h0 : ∀ d : Fin 128, x0 (ix3 0 r d) = ((P (ix3 b s (qcol h d)) : ℝ) : EReal))
  (h1 : ∀ (u : Fin 2048) (w : Fin 4096) (d : Fin 128), w.val = u.val → x1 (ix3 0 u d) = ((P (ix3 b w (kcol h d)) : ℝ) : EReal))
  (h2 : ∀ (u : Fin 2048) (w : Fin 4096) (d : Fin 128), w.val = sb * 2048 + u.val → x2 (ix3 0 u d) = ((P (ix3 b w (kcol h d)) : ℝ) : EReal))
  (h3 : ∀ (u : Fin 2048) (w : Fin 4096) (d : Fin 128), w.val = u.val → x3 (ix3 0 u d) = A (ix3 b w (vcol h d)))
  (h4 : ∀ (u : Fin 2048) (w : Fin 4096) (d : Fin 128), w.val = sb * 2048 + u.val → x4 (ix3 0 u d) = A (ix3 b w (vcol h d)))

include hsb hs hst h0 h1 h2 h3 h4 in
/-- One level's output and log-sum. -/
theorem lev (D : ℕ) (hD : D = 1 ∨ D = 4 ∨ D = 16) (d : Fin 128) :
    oLev start D x0 x1 x2 x3 x4 r d = levN P A D b s h d * (((levL P D b s h)⁻¹ : ℝ) : EReal)
      ∧ lLev start D x0 x1 x2 r = ((Real.log (levL P D b s h) * (Real.log 2)⁻¹ : ℝ) : EReal) := by
  classical
  have hq : rowQ x0 r = fun d => ((qR P b s h d : ℝ) : EReal) := funext h0
  have hk : (fun m => rowK x1 x2 (kpos D r m)) = fun (m : Fin 256) (d : Fin 128) => ((P (ix3 b (rowpos sb (kpos D r m)) (kcol h d)) : ℝ) : EReal) :=
    funext fun m => funext fun d => rowK_coe sb hsb (fun u d => ((P (ix3 b u (kcol h d)) : ℝ) : EReal)) x1 x2 h1 h2 _ d
  have hv : (fun m => rowK x3 x4 (kpos D r m)) = fun (m : Fin 256) (d : Fin 128) => A (ix3 b (rowpos sb (kpos D r m)) (vcol h d)) :=
    funext fun m => funext fun d => rowK_coe sb hsb (fun u d => A (ix3 b u (vcol h d))) x3 x4 h3 h4 _ d
  have hm : mask start D r = fun m => if att D s m then 0 else ⊥ := funext fun m => by
    unfold mask
    exact if_congr (valid_iff start D hD sb hsb hst r s hs m) rfl rfl
  have hs' (m : Fin 256) (a : att D s m) : scr (qR P b s h) (fun (m : Fin 256) (d : Fin 128) => P (ix3 b (rowpos sb (kpos D r m)) (kcol h d))) m
      = scr (qR P b s h) (kR P D b s h) m := by
    unfold scr kR kcol
    dsimp only
    rw [pos_eq D hD sb hsb r s hs m a]
  have hw := wgt_congr (p := att D s) (fun _ => Iff.rfl) hs'
  have hd : den (att D s) (scr (qR P b s h) (fun (m : Fin 256) (d : Fin 128) => P (ix3 b (rowpos sb (kpos D r m)) (kcol h d)))) = levL P D b s h :=
    Finset.sum_congr rfl fun m _ => hw m
  have hn : num (att D s) (scr (qR P b s h) (fun (m : Fin 256) (d : Fin 128) => P (ix3 b (rowpos sb (kpos D r m)) (kcol h d))))
      (fun m => A (ix3 b (rowpos sb (kpos D r m)) (vcol h d))) = levN P A D b s h d :=
    (Finset.sum_congr rfl fun m _ => congrArg (fun x : ℝ => (x : EReal) * _) (hw m)).trans (num_congr fun m a => by
      unfold vR vcol
      rw [pos_eq D hD sb hsb r s hs m a])
  have key := kernel_level (qR P b s h) (fun (m : Fin 256) (d : Fin 128) => P (ix3 b (rowpos sb (kpos D r m)) (kcol h d)))
    (fun (m : Fin 256) (d : Fin 128) => A (ix3 b (rowpos sb (kpos D r m)) (vcol h d))) (att D s) (att_ex D s) d
  rw [hd, hn] at key
  unfold oLev lLev
  rw [hq, hk, hv, hm]
  refine ⟨(Eq.trans ?_ key.1), (Eq.trans ?_ key.2)⟩
  · congr!
  · congr!

include hsb hs hst h0 h1 h2 h3 h4 in
/-- The block's entry. -/
theorem blk_at (d : Fin 128) : outBlk start x0 x1 x2 x3 x4 (ix3 0 r d) = resR P A b s h d := by
  have l1 := lev P A b h sb hsb r s hs start hst x0 x1 x2 x3 x4 h0 h1 h2 h3 h4 1 (.inl rfl) d
  have l4 := lev P A b h sb hsb r s hs start hst x0 x1 x2 x3 x4 h0 h1 h2 h3 h4 4 (.inr (.inl rfl)) d
  have l16 := lev P A b h sb hsb r s hs start hst x0 x1 x2 x3 x4 h0 h1 h2 h3 h4 16 (.inr (.inr rfl)) d
  show mergeG (lLev start 1 x0 x1 x2 r) (lLev start 4 x0 x1 x2 r) (lLev start 16 x0 x1 x2 r)
    (oLev start 1 x0 x1 x2 x3 x4 r d) (oLev start 4 x0 x1 x2 x3 x4 r d) (oLev start 16 x0 x1 x2 x3 x4 r d) = _
  rw [l1.1, l1.2, l4.1, l4.2, l16.1, l16.2]
  exact kernel_merge _ _ _ _ _ _ (levL_pos P 1 b s h) (levL_pos P 4 b s h) (levL_pos P 16 b s h)
end
end Cert.DilMath
end
-- ==== Proof.DilIValue.lean ====
/- The result array of the idealized dilated attention, entry by entry, for finite queries and keys. -/
module

public import proofs.«01_k».proof.Proof.DilIFrame
public import proofs.«01_k».proof.Proof.DilLev

@[expose] public section
set_option maxRecDepth 16384
noncomputable section
open Idealize.ShloMosaic Idealize.ShloMosaic.TcCoe Idealize.SL.Sem
open Idealize.ShloMosaic.Pipeline (Dat)
namespace Cert.DilIdeal.Hand
open Cert.DilIdeal Cert.DilIdeal.Gen Cert.DilMath
variable (m : (ℓ : Loc nD τ sig) → Buf (Elt Ideal) ℓ)

/-- The windows' block indices at grid point `t`: batch `t / 8`, half `t / 4 % 2` of the rows, head `t % 4`. -/
theorem idxA : ∀ t : Fin cfg0.N, win0_0.index t = ![t.val / 8, t.val / 4 % 2, t.val % 4] ∧ win0_1.index t = ![t.val / 8, 0, 4 + t.val % 4] ∧ win0_2.index t = ![t.val / 8, t.val / 4 % 2, 4 + t.val % 4]
  ∧ win0_3.index t = ![t.val / 8, 0, 8 + t.val % 4] ∧ win0_4.index t = ![t.val / 8, t.val / 4 % 2, 8 + t.val % 4] ∧ win0_5.index t = ![t.val / 8, t.val / 4 % 2, t.val % 4] ∧ t.val < 16 :=
  (by decide +kernel : ∀ t : Fin grid0.N, _)
theorem idxB : ∀ t : Fin cfg0.N, (grid0.coords t 1).val = t.val / 4 % 2 :=
  (by decide +kernel : ∀ t : Fin grid0.N, _)
/-- Whether a grid point starts a sequence. -/
theorem start_iff (t : Fin cfg0.N) : (@Eq (Fin 2) (grid0.coords t 1) 0) ↔ t.val / 4 % 2 = 0 := by
  rw [← idxB t]
  exact Fin.ext_iff (n := 2)

/-- The argument. -/
abbrev A0 (c : Dev nD) : FVec Ideal ⟨3, ![2, 4096, 1536]⟩ .f32 := m ((c : Thread nD τ).loc main_arg0)

/-- The array the run leaves, for finite queries and keys. -/
def OUT (P : (⟨3, ![2, 4096, 1536]⟩ : Shape).Idx → ℝ) (A : (⟨3, ![2, 4096, 1536]⟩ : Shape).Idx → EReal) : FVec Ideal ⟨3, ![2, 4096, 512]⟩ .f32 := fun i =>
  resR P A (i 0) (i 1) ⟨(i 2).val / 128, by have : (i 2).val < 512 := (i 2).isLt; omega⟩ ⟨(i 2).val % 128, by omega⟩

/-- The result array of the run. -/
theorem final (c : Dev nD) (P : (⟨3, ![2, 4096, 1536]⟩ : Shape).Idx → ℝ) (hP : ∀ (b : Fin 2) (s : Fin 4096) (k : Fin 1536), k.val < 1024 → A0 m c (ix3 b s k) = (P (ix3 b s k) : EReal)) : (dats m 0 c).arrAt 5 (cfgs 0).N = OUT P (A0 m c) := by
  refine (dats m 0 c).arrAt_eq_of_covers 5 _ (by decide +kernel) fun t _ y => ?_
  blk_simp
  rw [after0_5]
  obtain ⟨a, r, d, rfl⟩ : ∃ (a : Fin 1) (r : Fin 2048) (d : Fin 128), y = ix3 a r d := ⟨y 0, y 1, y 2, eq_ix3 y⟩
  obtain rfl : a = 0 := Subsingleton.elim _ _
  have ht : t.val < 16 := (idxA t).2.2.2.2.2.2
  obtain ⟨s, hs⟩ : ∃ s : Fin 4096, s.val = t.val / 4 % 2 * 2048 + r := ⟨⟨t.val / 4 % 2 * 2048 + r, by omega⟩, rfl⟩
  obtain ⟨b, hb⟩ : ∃ b : Fin 2, b.val = t.val / 8 := ⟨⟨t.val / 8, by omega⟩, rfl⟩
  obtain ⟨h, hh⟩ : ∃ h : Fin 4, h.val = t.val % 4 := ⟨⟨t.val % 4, by omega⟩, rfl⟩
  obtain ⟨k, hk⟩ : ∃ k : Fin 512, k.val = h * 128 + d := ⟨⟨h * 128 + d, by omega⟩, rfl⟩
  have e : (((View.whole main_v0).slice (win0_5.rect t)).emb (ix3 0 r d)) = ix3 b s k := by blk_ext [idxA t]
  rw [e]
  have e1 : (⟨k.val / 128, by omega⟩ : Fin 4) = h := Fin.ext (by dsimp only; omega)
  have e2 : (⟨k.val % 128, by omega⟩ : Fin 128) = d := Fin.ext (by dsimp only; omega)
  change _ = resR P (A0 m c) b s ⟨k.val / 128, by omega⟩ ⟨k.val % 128, by omega⟩
  rw [e1, e2]
  unfold outB
  refine blk_at P (A0 m c) b h (t.val / 4 % 2) (Nat.mod_lt _ (by decide)) r s hs _ (start_iff t) _ _ _ _ _ (fun d => ?_) (fun u w d e => ?_) (fun u w d e => ?_) (fun u w d e => ?_) (fun u w d e => ?_) d
  · exact (by blk_ext [iblk, V, idxA t, qcol] : iblk m c 0 t (ix3 0 r d) = A0 m c (ix3 b s (qcol h d))).trans (hP _ _ _ (by dsimp only [qcol]; omega))
  · exact (by blk_ext [iblk, V, idxA t, kcol] : iblk m c 1 t (ix3 0 u d) = A0 m c (ix3 b w (kcol h d))).trans (hP _ _ _ (by dsimp only [kcol]; omega))
  · exact (by blk_ext [iblk, V, idxA t, kcol] : iblk m c 2 t (ix3 0 u d) = A0 m c (ix3 b w (kcol h d))).trans (hP _ _ _ (by dsimp only [kcol]; omega))
  · exact (by blk_ext [iblk, V, idxA t, vcol] : iblk m c 3 t (ix3 0 u d) = A0 m c (ix3 b w (vcol h d)))
  · exact (by blk_ext [iblk, V, idxA t, vcol] : iblk m c 4 t (ix3 0 u d) = A0 m c (ix3 b w (vcol h d)))
end Cert.DilIdeal.Hand
end
-- ==== Proof.DilRef1.lean ====
/- The reference's dilation 1, stage by stage and entry by entry. -/
module

public import proofs.«01_k».proof.Proof.Gen.RefDilIdeal.Run
public import proofs.«01_k».proof.Proof.DilMath
public import Idealize.ShloMosaic.Lib.WordCmp

@[expose] public section
set_option maxRecDepth 16384
set_option maxHeartbeats 2000000
noncomputable section
open Idealize.ShloMosaic Idealize.ShloMosaic.TcCoe Idealize.SL.Sem

namespace Cert.DilMath.Ref1
open Cert.RefDilIdeal Cert.RefDilIdeal.Gen Cert.RefDilIdeal.Value

/-- The heads' rows, one subsequence per batch entry, residue and head. -/
def str (X : FVec Ideal S2x4096x4x128 .f32) : FVec Ideal S8x32x128x128 .f32 :=
  shapeCast _ (transpose S2x1x4x4096x128 [0, 2, 3, 1, 4] (shapeCast _ X shapeCasts_S2x4096x4x128_S2x4096x1x4x128) transposes_S2x4096x1x4x128_S2x1x4x4096x128_0_2_3_1_4) shapeCasts_S2x1x4x4096x128_S8x32x128x128
/-- Each block of rows behind the one before. -/
def cat (Y : FVec Ideal S8x32x128x128 .f32) : FVec Ideal S8x32x256x128 .f32 :=
  concatenate S8x32x256x128 2 [⟨S8x32x128x128, (extractStridedSlice S8x32x128x128 ![0, 0, 0, 0] (pad S8x33x128x128 ![0, 1, 0, 0] ![0, 0, 0, 0] ![0, 0, 0, 0] Y (sitofp .f32 (constantI S_ 32 0#32)) pads_S8x32x128x128_S8x33x128x128_000_100_000_000 h_S_) slices_S8x33x128x128_S8x32x128x128_0_0_0_0)⟩, ⟨S8x32x128x128, Y⟩] concatenates_S8x32x128x128_S8x32x128x128_S8x32x256x128_d2

theorem str_at (X : FVec Ideal S2x4096x4x128 .f32) (g : Fin 8) (n : Fin 32) (q d : Fin 128) :
    str X (ix4 g n q d) = X (ix4 ⟨g / 4, by omega⟩ ⟨(n * 128 + q) * 1 + g / 4 % 1, by omega⟩ ⟨g % 4, by omega⟩ d) := by
  pointwise [str]
theorem cat_at (Y : FVec Ideal S8x32x128x128 .f32) (g : Fin 8) (n : Fin 32) (m : Fin 256) (d : Fin 128) :
    cat Y (ix4 g n m d) = if h : m.val < 128 then (if n.val = 0 then 0 else Y (ix4 g ⟨n - 1, by omega⟩ ⟨m, h⟩ d)) else Y (ix4 g n ⟨m - 128, by omega⟩ d) := by
  have z0 : (FloatOps.sitofp (F := Ideal) FTy.f32 0#32 : EReal) = 0 := by simp [FloatOps.sitofp]
  pointwise [cat]
  by_cases h : m.val < 128
  · rw [dif_pos h, dif_pos h]
    by_cases h' : n.val = 0
    · rw [dif_neg (by omega), if_pos h', z0]
    · rw [dif_pos (by omega), if_neg h']
  · rw [dif_neg h, dif_neg h]
variable (V0 : Valuation τ sig (Elt Ideal))

theorem sc_at (g : Fin 8) (n : Fin 32) (q : Fin 128) (m : Fin 256) :
    res_main_v52 V0 (ix4 g n q m) = if q.val ≤ m.val ∧ m.val ≤ q.val + 128 ∧ 128 ≤ n.val * 128 + m.val
      then Ideal.div (∑ d : Fin 128, str (res_main_v3 V0) (ix4 g n q d) * cat (res_main_v11 V0) (ix4 g n m d)) (Ideal.sqrt (Ideal.ofBits .f32 0x43000000#32)) else Ideal.ofBits .f32 0xFF800000#32 := by
  have h3 : res_main_v52 V0 = fun i => Scalar.select (IntOp.andi (IntOp.andi (IntOp.cmpi .sge (BitVec.ofNat 32 (i 3).val) (BitVec.ofNat 32 (i 2).val)) (IntOp.cmpi .sle (BitVec.ofNat 32 (i 3).val) (IntOp.addi (BitVec.ofNat 32 (i 2).val) 128#32))) (IntOp.cmpi .sge (IntOp.addi (IntOp.muli (BitVec.ofNat 32 (i 1).val) 128#32) (BitVec.ofNat 32 (i 3).val)) 128#32))
     (Host.divf (Host.dotGeneral dot_S8x32x128x128_S8x32x256x128_S8x32x128x256_3_3_2_2_01_01 none (str (res_main_v3 V0)) (cat (res_main_v11 V0))) (broadcastInDim S8x32x128x256 ![] bcast_S_S8x32x128x256 (Host.sqrt (constant S_ .f32 0x43000000#32))) i) (Ideal.ofBits .f32 0xFF800000#32) := by
    funext i
    obtain ⟨g, n, q, m, rfl⟩ : ∃ (g : Fin 8) (n : Fin 32) (q : Fin 128) (m : Fin 256), i = ix4 g n q m := ⟨i 0, i 1, i 2, i 3, eq_ix4 i⟩
    rfl
  rw [h3]
  refine (sel_att n q m (by omega) q.isLt m.isLt _ _).trans ?_
  congr 1
  generalize str (res_main_v3 V0) = X
  generalize cat (res_main_v11 V0) = Y
  pointwise []
/-- The largest score, and the log-sum, of any scores. -/
theorem fold_at (X : FVec Ideal S8x32x128x256 .f32) (g : Fin 8) (n : Fin 32) (q : Fin 128) :
    Host.reduce FloatOps.maximumf X (constant S_ .f32 0xFF800000#32) reducesTo_S8x32x128x256_S8x32x128_d3 h_S_ (ix3 g n q)
      = Finset.univ.fold max (Ideal.ofBits .f32 0xFF800000#32) (fun m : Fin 256 => X (ix4 g n q m)) := by
  pointwise []
theorem logsum_at (X : FVec Ideal S8x32x128x256 .f32) (Y : FVec Ideal S8x32x128 .f32) (g : Fin 8) (n : Fin 32) (q : Fin 128) :
    addf Y (Host.log (Host.reduceAdd (Host.exp (subf X (broadcastInDim S8x32x128x256 ![0, 1, 2, 3] bcast_S8x32x128x1_S8x32x128x256_0_1_2_3 (broadcastInDim S8x32x128x1 ![0, 1, 2] bcast_S8x32x128_S8x32x128x1_0_1_2 Y)))) (constant S_ .f32 0x00000000#32) reducesTo_S8x32x128x256_S8x32x128_d3 h_S_)) (ix3 g n q)
      = Y (ix3 g n q) + Ideal.log (∑ m : Fin 256, Ideal.exp (X (ix4 g n q m) - Y (ix3 g n q))) := by
  pointwise []
/-- The dilation's output. -/
def out (X : FVec Ideal S8x32x128x256 .f32) (Y : FVec Ideal S8x32x128 .f32) (Z : FVec Ideal S8x32x128x128 .f32) : FVec Ideal S8x32x128x128 .f32 :=
  Host.dotGeneral dot_S8x32x128x256_S8x32x256x128_S8x32x128x128_3_2_2_3_01_01 none (Host.exp (subf X (broadcastInDim S8x32x128x256 ![0, 1, 2, 3] bcast_S8x32x128x1_S8x32x128x256_0_1_2_3 (broadcastInDim S8x32x128x1 ![0, 1, 2] bcast_S8x32x128_S8x32x128x1_0_1_2 Y)))) (cat Z)
theorem out_at (X : FVec Ideal S8x32x128x256 .f32) (Y : FVec Ideal S8x32x128 .f32) (Z : FVec Ideal S8x32x128x128 .f32) (g : Fin 8) (n : Fin 32) (q d : Fin 128) :
    out X Y Z (ix4 g n q d) = ∑ m : Fin 256, Ideal.exp (X (ix4 g n q m) - Y (ix3 g n q)) * cat Z (ix4 g n m d) := by
  unfold out
  generalize cat Z = W
  pointwise []
/-- The rows in sequence again. -/
def seqO (X : FVec Ideal S8x32x128x128 .f32) : FVec Ideal S2x4096x4x128 .f32 :=
  shapeCast _ (transpose S2x4096x1x4x128 [0, 3, 1, 2, 4] (shapeCast _ X shapeCasts_S8x32x128x128_S2x1x4x4096x128) transposes_S2x1x4x4096x128_S2x4096x1x4x128_0_3_1_2_4) shapeCasts_S2x4096x1x4x128_S2x4096x4x128
def seqL (X : FVec Ideal S8x32x128 .f32) : FVec Ideal S2x4096x4 .f32 :=
  shapeCast _ (transpose S2x4096x1x4 [0, 3, 1, 2] (shapeCast _ X shapeCasts_S8x32x128_S2x1x4x4096) transposes_S2x1x4x4096_S2x4096x1x4_0_3_1_2) shapeCasts_S2x4096x1x4_S2x4096x4
theorem seqO_at (X : FVec Ideal S8x32x128x128 .f32) (b : Fin 2) (s : Fin 4096) (h : Fin 4) (d : Fin 128) :
    seqO X (ix4 b s h d) = X (ix4 ⟨(b * 1 + s % 1) * 4 + h, by omega⟩ ⟨s / 1 / 128, by omega⟩ ⟨s / 1 % 128, by omega⟩ d) := by
  pointwise [seqO]
theorem seqL_at (X : FVec Ideal S8x32x128 .f32) (b : Fin 2) (s : Fin 4096) (h : Fin 4) :
    seqL X (ix3 b s h) = X (ix3 ⟨(b * 1 + s % 1) * 4 + h, by omega⟩ ⟨s / 1 / 128, by omega⟩ ⟨s / 1 % 128, by omega⟩) := by
  pointwise [seqL]

/-- The three heads' columns. -/
theorem q_at (b : Fin 2) (s : Fin 4096) (h : Fin 4) (d : Fin 128) : res_main_v3 V0 (ix4 b s h d) = (V0 (Proc.devRef .tc main_arg0) : FVec Ideal S2x4096x1536 .f32) (ix3 b s ⟨h * 128 + d, by omega⟩) := by
  unfold res_main_v3
  generalize V0 (Proc.devRef .tc main_arg0) = X
  pointwise []
theorem k_at (b : Fin 2) (s : Fin 4096) (h : Fin 4) (d : Fin 128) : res_main_v4 V0 (ix4 b s h d) = (V0 (Proc.devRef .tc main_arg0) : FVec Ideal S2x4096x1536 .f32) (ix3 b s ⟨512 + (h * 128 + d), by omega⟩) := by
  unfold res_main_v4
  generalize V0 (Proc.devRef .tc main_arg0) = X
  pointwise []
theorem v_at (b : Fin 2) (s : Fin 4096) (h : Fin 4) (d : Fin 128) : res_main_v5 V0 (ix4 b s h d) = (V0 (Proc.devRef .tc main_arg0) : FVec Ideal S2x4096x1536 .f32) (ix3 b s ⟨1024 + (h * 128 + d), by omega⟩) := by
  unfold res_main_v5
  generalize V0 (Proc.devRef .tc main_arg0) = X
  pointwise []

section
variable (b : Fin 2) (s : Fin 4096) (h : Fin 4)
/-- Where a position's row lies among the subsequences. -/
def gi : Fin 8 := ⟨(b * 1 + s % 1) * 4 + h, by omega⟩
def ni : Fin 32 := ⟨s / 1 / 128, by omega⟩
def qi : Fin 128 := ⟨s / 1 % 128, by omega⟩

theorem str_row (X : FVec Ideal S2x4096x4x128 .f32) (d : Fin 128) : str X (ix4 (gi b s h) (ni s) (qi s) d) = X (ix4 b s h d) := by
  rw [str_at]
  exact congrArg X (ix4_congr (by dsimp only [gi]; omega) (by dsimp only [gi, ni, qi]; omega) (by dsimp only [gi]; omega) rfl)
theorem cat_row (X : FVec Ideal S2x4096x4x128 .f32) (m : Fin 256) (d : Fin 128) :
    cat (str X) (ix4 (gi b s h) (ni s) m d) = if (ni s).val = 0 ∧ m.val < 128 then 0 else X (ix4 b (gpos 1 s m) h d) := by
  rw [cat_at]
  by_cases h1 : m.val < 128
  · rw [dif_pos h1]
    by_cases h2 : (ni s).val = 0
    · rw [if_pos h2, if_pos ⟨h2, h1⟩]
    · rw [if_neg h2, if_neg (fun h => h2 h.1), str_at]
      exact congrArg X (ix4_congr (by dsimp only [gi]; omega) (by dsimp only [gi, ni, gpos] at *; omega) (by dsimp only [gi]; omega) rfl)
  · rw [dif_neg h1, if_neg (fun h => h1 h.2), str_at]
    exact congrArg X (ix4_congr (by dsimp only [gi]; omega) (by dsimp only [gi, ni, gpos] at *; omega) (by dsimp only [gi]; omega) rfl)

variable (A : FVec Ideal S2x4096x1536 .f32) (hA : (V0 (Proc.devRef .tc main_arg0) : FVec Ideal S2x4096x1536 .f32) = A)
  (P : (⟨3, ![2, 4096, 1536]⟩ : Shape).Idx → ℝ) (hP : ∀ (b : Fin 2) (s : Fin 4096) (c : Fin 1536), c.val < 1024 → A (ix3 b s c) = (P (ix3 b s c) : EReal))
include hA hP

open Classical in
/-- The scores, for finite queries and keys. -/
theorem score (m : Fin 256) : res_main_v52 V0 (ix4 (gi b s h) (ni s) (qi s) m)
    = if att 1 s m then ((scr (qR P b s h) (kR P 1 b s h) m : ℝ) : EReal) else ⊥ := by
  rw [sc_at]
  by_cases ha : att 1 s m
  · rw [if_pos ha, if_pos (by exact ha), ← score_coe]
    congr 1
    refine Finset.sum_congr rfl fun d _ => congrArg₂ (· * ·) ?_ ?_
    · rw [str_row, q_at, hA, hP _ _ _ (by dsimp only; omega)]; rfl
    · refine (cat_row b s h (res_main_v4 V0) m d).trans ?_
      rw [if_neg (by unfold att at ha; dsimp only [ni]; omega), k_at, hA, hP _ _ _ (by dsimp only; omega)]; rfl
  · rw [if_neg ha, if_neg (by exact ha), Cert.LocalMath.ofBits_ninf]

/-- The dilation's log-sum and output, for finite queries and keys. -/
theorem level (d : Fin 128) : seqL (res_main_v60 V0) (ix3 b s h) = ((Real.log (levL P 1 b s h) : ℝ) : EReal)
    ∧ seqO (out (res_main_v52 V0) (res_main_v60 V0) (res_main_v17 V0)) (ix4 b s h d) = levN P A 1 b s h d * (((levL P 1 b s h)⁻¹ : ℝ) : EReal) := by
  have hr := ref_level (scr (qR P b s h) (kR P 1 b s h)) (fun m => if (ni s).val = 0 ∧ m.val < 128 then 0 else vR A 1 b s h d m) (att 1 s) (att_ex 1 s)
    (fun m => (res_main_v52 V0 : FVec Ideal S8x32x128x256 .f32) (ix4 (gi b s h) (ni s) (qi s) m)) (score V0 b s h A hA P hP) _ _
    (fold_at (res_main_v52 V0) (gi b s h) (ni s) (qi s)) (logsum_at (res_main_v52 V0) (res_main_v53 V0) (gi b s h) (ni s) (qi s))
  refine ⟨(seqL_at _ b s h).trans hr.1, (seqO_at _ b s h d).trans ((out_at _ _ _ _ _ _ _).trans (Eq.trans (Finset.sum_congr rfl fun m _ => congrArg₂ (· * ·) rfl ?_) (hr.2.trans ?_)))⟩
  · refine (cat_row b s h (res_main_v5 V0) m d).trans ?_
    change _ = if (ni s).val = 0 ∧ m.val < 128 then 0 else vR A 1 b s h d m
    by_cases h1 : (ni s).val = 0 ∧ m.val < 128
    · rw [if_pos h1, if_pos h1]
    · rw [if_neg h1, if_neg h1, v_at, hA]; rfl
  · rw [num_congr (v' := vR A 1 b s h d)]; · rfl
    intro m ha
    rw [if_neg]
    unfold att at ha; dsimp only [ni]; omega
end
end Cert.DilMath.Ref1
-- ==== Proof.DilRef4.lean ====
/- The reference's dilation 4, stage by stage and entry by entry. -/
module

public import proofs.«01_k».proof.Proof.Gen.RefDilIdeal.Run
public import proofs.«01_k».proof.Proof.DilMath
public import Idealize.ShloMosaic.Lib.WordCmp

@[expose] public section
set_option maxRecDepth 16384
set_option maxHeartbeats 2000000
noncomputable section
open Idealize.ShloMosaic Idealize.ShloMosaic.TcCoe Idealize.SL.Sem

namespace Cert.DilMath.Ref4
open Cert.RefDilIdeal Cert.RefDilIdeal.Gen Cert.RefDilIdeal.Value

/-- The heads' rows, one subsequence per batch entry, residue and head. -/
def str (X : FVec Ideal S2x4096x4x128 .f32) : FVec Ideal S32x8x128x128 .f32 :=
  shapeCast _ (transpose S2x4x4x1024x128 [0, 2, 3, 1, 4] (shapeCast _ X shapeCasts_S2x4096x4x128_S2x1024x4x4x128) transposes_S2x1024x4x4x128_S2x4x4x1024x128_0_2_3_1_4) shapeCasts_S2x4x4x1024x128_S32x8x128x128
/-- Each block of rows behind the one before. -/
def cat (Y : FVec Ideal S32x8x128x128 .f32) : FVec Ideal S32x8x256x128 .f32 :=
  concatenate S32x8x256x128 2 [⟨S32x8x128x128, (extractStridedSlice S32x8x128x128 ![0, 0, 0, 0] (pad S32x9x128x128 ![0, 1, 0, 0] ![0, 0, 0, 0] ![0, 0, 0, 0] Y (sitofp .f32 (constantI S_ 32 0#32)) pads_S32x8x128x128_S32x9x128x128_000_100_000_000 h_S_) slices_S32x9x128x128_S32x8x128x128_0_0_0_0)⟩, ⟨S32x8x128x128, Y⟩] concatenates_S32x8x128x128_S32x8x128x128_S32x8x256x128_d2

theorem str_at (X : FVec Ideal S2x4096x4x128 .f32) (g : Fin 32) (n : Fin 8) (q d : Fin 128) :
    str X (ix4 g n q d) = X (ix4 ⟨g / 16, by omega⟩ ⟨(n * 128 + q) * 4 + g / 4 % 4, by omega⟩ ⟨g % 4, by omega⟩ d) := by
  pointwise [str]
theorem cat_at (Y : FVec Ideal S32x8x128x128 .f32) (g : Fin 32) (n : Fin 8) (m : Fin 256) (d : Fin 128) :
    cat Y (ix4 g n m d) = if h : m.val < 128 then (if n.val = 0 then 0 else Y (ix4 g ⟨n - 1, by omega⟩ ⟨m, h⟩ d)) else Y (ix4 g n ⟨m - 128, by omega⟩ d) := by
  have z0 : (FloatOps.sitofp (F := Ideal) FTy.f32 0#32 : EReal) = 0 := by simp [FloatOps.sitofp]
  pointwise [cat]
  by_cases h : m.val < 128
  · rw [dif_pos h, dif_pos h]
    by_cases h' : n.val = 0
    · rw [dif_neg (by omega), if_pos h', z0]
    · rw [dif_pos (by omega), if_neg h']
  · rw [dif_neg h, dif_neg h]
variable (V0 : Valuation τ sig (Elt Ideal))

theorem sc_at (g : Fin 32) (n : Fin 8) (q : Fin 128) (m : Fin 256) :
    res_main_v118 V0 (ix4 g n q m) = if q.val ≤ m.val ∧ m.val ≤ q.val + 128 ∧ 128 ≤ n.val * 128 + m.val
      then Ideal.div (∑ d : Fin 128, str (res_main_v3 V0) (ix4 g n q d) * cat (res_main_v77 V0) (ix4 g n m d)) (Ideal.sqrt (Ideal.ofBits .f32 0x43000000#32)) else Ideal.ofBits .f32 0xFF800000#32 := by
  have h3 : res_main_v118 V0 = fun i => Scalar.select (IntOp.andi (IntOp.andi (IntOp.cmpi .sge (BitVec.ofNat 32 (i 3).val) (BitVec.ofNat 32 (i 2).val)) (IntOp.cmpi .sle (BitVec.ofNat 32 (i 3).val) (IntOp.addi (BitVec.ofNat 32 (i 2).val) 128#32))) (IntOp.cmpi .sge (IntOp.addi (IntOp.muli (BitVec.ofNat 32 (i 1).val) 128#32) (BitVec.ofNat 32 (i 3).val)) 128#32))
     (Host.divf (Host.dotGeneral dot_S32x8x128x128_S32x8x256x128_S32x8x128x256_3_3_2_2_01_01 none (str (res_main_v3 V0)) (cat (res_main_v77 V0))) (broadcastInDim S32x8x128x256 ![] bcast_S_S32x8x128x256 (Host.sqrt (constant S_ .f32 0x43000000#32))) i) (Ideal.ofBits .f32 0xFF800000#32) := by
    funext i
    obtain ⟨g, n, q, m, rfl⟩ : ∃ (g : Fin 32) (n : Fin 8) (q : Fin 128) (m : Fin 256), i = ix4 g n q m := ⟨i 0, i 1, i 2, i 3, eq_ix4 i⟩
    rfl
  rw [h3]
  refine (sel_att n q m (by omega) q.isLt m.isLt _ _).trans ?_
  congr 1
  generalize str (res_main_v3 V0) = X
  generalize cat (res_main_v77 V0) = Y
  pointwise []
/-- The largest score, and the log-sum, of any scores. -/
theorem fold_at (X : FVec Ideal S32x8x128x256 .f32) (g : Fin 32) (n : Fin 8) (q : Fin 128) :
    Host.reduce FloatOps.maximumf X (constant S_ .f32 0xFF800000#32) reducesTo_S32x8x128x256_S32x8x128_d3 h_S_ (ix3 g n q)
      = Finset.univ.fold max (Ideal.ofBits .f32 0xFF800000#32) (fun m : Fin 256 => X (ix4 g n q m)) := by
  pointwise []
theorem logsum_at (X : FVec Ideal S32x8x128x256 .f32) (Y : FVec Ideal S32x8x128 .f32) (g : Fin 32) (n : Fin 8) (q : Fin 128) :
    addf Y (Host.log (Host.reduceAdd (Host.exp (subf X (broadcastInDim S32x8x128x256 ![0, 1, 2, 3] bcast_S32x8x128x1_S32x8x128x256_0_1_2_3 (broadcastInDim S32x8x128x1 ![0, 1, 2] bcast_S32x8x128_S32x8x128x1_0_1_2 Y)))) (constant S_ .f32 0x00000000#32) reducesTo_S32x8x128x256_S32x8x128_d3 h_S_)) (ix3 g n q)
      = Y (ix3 g n q) + Ideal.log (∑ m : Fin 256, Ideal.exp (X (ix4 g n q m) - Y (ix3 g n q))) := by
  pointwise []
/-- The dilation's output. -/
def out (X : FVec Ideal S32x8x128x256 .f32) (Y : FVec Ideal S32x8x128 .f32) (Z : FVec Ideal S32x8x128x128 .f32) : FVec Ideal S32x8x128x128 .f32 :=
  Host.dotGeneral dot_S32x8x128x256_S32x8x256x128_S32x8x128x128_3_2_2_3_01_01 none (Host.exp (subf X (broadcastInDim S32x8x128x256 ![0, 1, 2, 3] bcast_S32x8x128x1_S32x8x128x256_0_1_2_3 (broadcastInDim S32x8x128x1 ![0, 1, 2] bcast_S32x8x128_S32x8x128x1_0_1_2 Y)))) (cat Z)
theorem out_at (X : FVec Ideal S32x8x128x256 .f32) (Y : FVec Ideal S32x8x128 .f32) (Z : FVec Ideal S32x8x128x128 .f32) (g : Fin 32) (n : Fin 8) (q d : Fin 128) :
    out X Y Z (ix4 g n q d) = ∑ m : Fin 256, Ideal.exp (X (ix4 g n q m) - Y (ix3 g n q)) * cat Z (ix4 g n m d) := by
  unfold out
  generalize cat Z = W
  pointwise []
/-- The rows in sequence again. -/
def seqO (X : FVec Ideal S32x8x128x128 .f32) : FVec Ideal S2x4096x4x128 .f32 :=
  shapeCast _ (transpose S2x1024x4x4x128 [0, 3, 1, 2, 4] (shapeCast _ X shapeCasts_S32x8x128x128_S2x4x4x1024x128) transposes_S2x4x4x1024x128_S2x1024x4x4x128_0_3_1_2_4) shapeCasts_S2x1024x4x4x128_S2x4096x4x128
def seqL (X : FVec Ideal S32x8x128 .f32) : FVec Ideal S2x4096x4 .f32 :=
  shapeCast _ (transpose S2x1024x4x4 [0, 3, 1, 2] (shapeCast _ X shapeCasts_S32x8x128_S2x4x4x1024) transposes_S2x4x4x1024_S2x1024x4x4_0_3_1_2) shapeCasts_S2x1024x4x4_S2x4096x4
theorem seqO_at (X : FVec Ideal S32x8x128x128 .f32) (b : Fin 2) (s : Fin 4096) (h : Fin 4) (d : Fin 128) :
    seqO X (ix4 b s h d) = X (ix4 ⟨(b * 4 + s % 4) * 4 + h, by omega⟩ ⟨s / 4 / 128, by omega⟩ ⟨s / 4 % 128, by omega⟩ d) := by
  pointwise [seqO]
  exact congrArg X (ix4_congr (by dsimp only; omega) rfl rfl rfl)
theorem seqL_at (X : FVec Ideal S32x8x128 .f32) (b : Fin 2) (s : Fin 4096) (h : Fin 4) :
    seqL X (ix3 b s h) = X (ix3 ⟨(b * 4 + s % 4) * 4 + h, by omega⟩ ⟨s / 4 / 128, by omega⟩ ⟨s / 4 % 128, by omega⟩) := by
  pointwise [seqL]
  exact congrArg X (ix3_congr (by dsimp only; omega) rfl rfl)

/-- The three heads' columns. -/
theorem q_at (b : Fin 2) (s : Fin 4096) (h : Fin 4) (d : Fin 128) : res_main_v3 V0 (ix4 b s h d) = (V0 (Proc.devRef .tc main_arg0) : FVec Ideal S2x4096x1536 .f32) (ix3 b s ⟨h * 128 + d, by omega⟩) := by
  unfold res_main_v3
  generalize V0 (Proc.devRef .tc main_arg0) = X
  pointwise []
theorem k_at (b : Fin 2) (s : Fin 4096) (h : Fin 4) (d : Fin 128) : res_main_v4 V0 (ix4 b s h d) = (V0 (Proc.devRef .tc main_arg0) : FVec Ideal S2x4096x1536 .f32) (ix3 b s ⟨512 + (h * 128 + d), by omega⟩) := by
  unfold res_main_v4
  generalize V0 (Proc.devRef .tc main_arg0) = X
  pointwise []
theorem v_at (b : Fin 2) (s : Fin 4096) (h : Fin 4) (d : Fin 128) : res_main_v5 V0 (ix4 b s h d) = (V0 (Proc.devRef .tc main_arg0) : FVec Ideal S2x4096x1536 .f32) (ix3 b s ⟨1024 + (h * 128 + d), by omega⟩) := by
  unfold res_main_v5
  generalize V0 (Proc.devRef .tc main_arg0) = X
  pointwise []

section
variable (b : Fin 2) (s : Fin 4096) (h : Fin 4)
/-- Where a position's row lies among the subsequences. -/
def gi : Fin 32 := ⟨(b * 4 + s % 4) * 4 + h, by omega⟩
def ni : Fin 8 := ⟨s / 4 / 128, by omega⟩
def qi : Fin 128 := ⟨s / 4 % 128, by omega⟩

theorem str_row (X : FVec Ideal S2x4096x4x128 .f32) (d : Fin 128) : str X (ix4 (gi b s h) (ni s) (qi s) d) = X (ix4 b s h d) := by
  rw [str_at]
  exact congrArg X (ix4_congr (by dsimp only [gi]; omega) (by dsimp only [gi, ni, qi]; omega) (by dsimp only [gi]; omega) rfl)
theorem cat_row (X : FVec Ideal S2x4096x4x128 .f32) (m : Fin 256) (d : Fin 128) :
    cat (str X) (ix4 (gi b s h) (ni s) m d) = if (ni s).val = 0 ∧ m.val < 128 then 0 else X (ix4 b (gpos 4 s m) h d) := by
  rw [cat_at]
  by_cases h1 : m.val < 128
  · rw [dif_pos h1]
    by_cases h2 : (ni s).val = 0
    · rw [if_pos h2, if_pos ⟨h2, h1⟩]
    · rw [if_neg h2, if_neg (fun h => h2 h.1), str_at]
      exact congrArg X (ix4_congr (by dsimp only [gi]; omega) (by dsimp only [gi, ni, gpos] at *; omega) (by dsimp only [gi]; omega) rfl)
  · rw [dif_neg h1, if_neg (fun h => h1 h.2), str_at]
    exact congrArg X (ix4_congr (by dsimp only [gi]; omega) (by dsimp only [gi, ni, gpos] at *; omega) (by dsimp only [gi]; omega) rfl)

variable (A : FVec Ideal S2x4096x1536 .f32) (hA : (V0 (Proc.devRef .tc main_arg0) : FVec Ideal S2x4096x1536 .f32) = A)
  (P : (⟨3, ![2, 4096, 1536]⟩ : Shape).Idx → ℝ) (hP : ∀ (b : Fin 2) (s : Fin 4096) (c : Fin 1536), c.val < 1024 → A (ix3 b s c) = (P (ix3 b s c) : EReal))
include hA hP

open Classical in
/-- The scores, for finite queries and keys. -/
theorem score (m : Fin 256) : res_main_v118 V0 (ix4 (gi b s h) (ni s) (qi s) m)
    = if att 4 s m then ((scr (qR P b s h) (kR P 4 b s h) m : ℝ) : EReal) else ⊥ := by
  rw [sc_at]
  by_cases ha : att 4 s m
  · rw [if_pos ha, if_pos (by exact ha), ← score_coe]
    congr 1
    refine Finset.sum_congr rfl fun d _ => congrArg₂ (· * ·) ?_ ?_
    · rw [str_row, q_at, hA, hP _ _ _ (by dsimp only; omega)]; rfl
    · refine (cat_row b s h (res_main_v4 V0) m d).trans ?_
      rw [if_neg (by unfold att at ha; dsimp only [ni]; omega), k_at, hA, hP _ _ _ (by dsimp only; omega)]; rfl
  · rw [if_neg ha, if_neg (by exact ha), Cert.LocalMath.ofBits_ninf]

/-- The dilation's log-sum and output, for finite queries and keys. -/
theorem level (d : Fin 128) : seqL (res_main_v126 V0) (ix3 b s h) = ((Real.log (levL P 4 b s h) : ℝ) : EReal)
    ∧ seqO (out (res_main_v118 V0) (res_main_v126 V0) (res_main_v83 V0)) (ix4 b s h d) = levN P A 4 b s h d * (((levL P 4 b s h)⁻¹ : ℝ) : EReal) := by
  have hr := ref_level (scr (qR P b s h) (kR P 4 b s h)) (fun m => if (ni s).val = 0 ∧ m.val < 128 then 0 else vR A 4 b s h d m) (att 4 s) (att_ex 4 s)
    (fun m => (res_main_v118 V0 : FVec Ideal S32x8x128x256 .f32) (ix4 (gi b s h) (ni s) (qi s) m)) (score V0 b s h A hA P hP) _ _
    (fold_at (res_main_v118 V0) (gi b s h) (ni s) (qi s)) (logsum_at (res_main_v118 V0) (res_main_v119 V0) (gi b s h) (ni s) (qi s))
  refine ⟨(seqL_at _ b s h).trans hr.1, (seqO_at _ b s h d).trans ((out_at _ _ _ _ _ _ _).trans (Eq.trans (Finset.sum_congr rfl fun m _ => congrArg₂ (· * ·) rfl ?_) (hr.2.trans ?_)))⟩
  · refine (cat_row b s h (res_main_v5 V0) m d).trans ?_
    change _ = if (ni s).val = 0 ∧ m.val < 128 then 0 else vR A 4 b s h d m
    by_cases h1 : (ni s).val = 0 ∧ m.val < 128
    · rw [if_pos h1, if_pos h1]
    · rw [if_neg h1, if_neg h1, v_at, hA]; rfl
  · rw [num_congr (v' := vR A 4 b s h d)]; · rfl
    intro m ha
    rw [if_neg]
    unfold att at ha; dsimp only [ni]; omega
end
end Cert.DilMath.Ref4
-- ==== Proof.DilRef16.lean ====
/- The reference's dilation 16, stage by stage and entry by entry. -/
module

public import proofs.«01_k».proof.Proof.Gen.RefDilIdeal.Run
public import proofs.«01_k».proof.Proof.DilMath
public import Idealize.ShloMosaic.Lib.WordCmp

@[expose] public section
set_option maxRecDepth 16384
set_option maxHeartbeats 2000000
noncomputable section
open Idealize.ShloMosaic Idealize.ShloMosaic.TcCoe Idealize.SL.Sem

namespace Cert.DilMath.Ref16
open Cert.RefDilIdeal Cert.RefDilIdeal.Gen Cert.RefDilIdeal.Value

/-- The heads' rows, one subsequence per batch entry, residue and head. -/
def str (X : FVec Ideal S2x4096x4x128 .f32) : FVec Ideal S128x2x128x128 .f32 :=
  shapeCast _ (transpose S2x16x4x256x128 [0, 2, 3, 1, 4] (shapeCast _ X shapeCasts_S2x4096x4x128_S2x256x16x4x128) transposes_S2x256x16x4x128_S2x16x4x256x128_0_2_3_1_4) shapeCasts_S2x16x4x256x128_S128x2x128x128
/-- Each block of rows behind the one before. -/
def cat (Y : FVec Ideal S128x2x128x128 .f32) : FVec Ideal S128x2x256x128 .f32 :=
  concatenate S128x2x256x128 2 [⟨S128x2x128x128, (extractStridedSlice S128x2x128x128 ![0, 0, 0, 0] (pad S128x3x128x128 ![0, 1, 0, 0] ![0, 0, 0, 0] ![0, 0, 0, 0] Y (sitofp .f32 (constantI S_ 32 0#32)) pads_S128x2x128x128_S128x3x128x128_000_100_000_000 h_S_) slices_S128x3x128x128_S128x2x128x128_0_0_0_0)⟩, ⟨S128x2x128x128, Y⟩] concatenates_S128x2x128x128_S128x2x128x128_S128x2x256x128_d2

theorem str_at (X : FVec Ideal S2x4096x4x128 .f32) (g : Fin 128) (n : Fin 2) (q d : Fin 128) :
    str X (ix4 g n q d) = X (ix4 ⟨g / 64, by omega⟩ ⟨(n * 128 + q) * 16 + g / 4 % 16, by omega⟩ ⟨g % 4, by omega⟩ d) := by
  pointwise [str]
theorem cat_at (Y : FVec Ideal S128x2x128x128 .f32) (g : Fin 128) (n : Fin 2) (m : Fin 256) (d : Fin 128) :
    cat Y (ix4 g n m d) = if h : m.val < 128 then (if n.val = 0 then 0 else Y (ix4 g ⟨n - 1, by omega⟩ ⟨m, h⟩ d)) else Y (ix4 g n ⟨m - 128, by omega⟩ d) := by
  have z0 : (FloatOps.sitofp (F := Ideal) FTy.f32 0#32 : EReal) = 0 := by simp [FloatOps.sitofp]
  pointwise [cat]
  by_cases h : m.val < 128
  · rw [dif_pos h, dif_pos h]
    by_cases h' : n.val = 0
    · rw [dif_neg (by omega), if_pos h', z0]
    · rw [dif_pos (by omega), if_neg h']
  · rw [dif_neg h, dif_neg h]
variable (V0 : Valuation τ sig (Elt Ideal))

theorem sc_at (g : Fin 128) (n : Fin 2) (q : Fin 128) (m : Fin 256) :
    res_main_v184 V0 (ix4 g n q m) = if q.val ≤ m.val ∧ m.val ≤ q.val + 128 ∧ 128 ≤ n.val * 128 + m.val
      then Ideal.div (∑ d : Fin 128, str (res_main_v3 V0) (ix4 g n q d) * cat (res_main_v143 V0) (ix4 g n m d)) (Ideal.sqrt (Ideal.ofBits .f32 0x43000000#32)) else Ideal.ofBits .f32 0xFF800000#32 := by
  have h3 : res_main_v184 V0 = fun i => Scalar.select (IntOp.andi (IntOp.andi (IntOp.cmpi .sge (BitVec.ofNat 32 (i 3).val) (BitVec.ofNat 32 (i 2).val)) (IntOp.cmpi .sle (BitVec.ofNat 32 (i 3).val) (IntOp.addi (BitVec.ofNat 32 (i 2).val) 128#32))) (IntOp.cmpi .sge (IntOp.addi (IntOp.muli (BitVec.ofNat 32 (i 1).val) 128#32) (BitVec.ofNat 32 (i 3).val)) 128#32))
     (Host.divf (Host.dotGeneral dot_S128x2x128x128_S128x2x256x128_S128x2x128x256_3_3_2_2_01_01 none (str (res_main_v3 V0)) (cat (res_main_v143 V0))) (broadcastInDim S128x2x128x256 ![] bcast_S_S128x2x128x256 (Host.sqrt (constant S_ .f32 0x43000000#32))) i) (Ideal.ofBits .f32 0xFF800000#32) := by
    funext i
    obtain ⟨g, n, q, m, rfl⟩ : ∃ (g : Fin 128) (n : Fin 2) (q : Fin 128) (m : Fin 256), i = ix4 g n q m := ⟨i 0, i 1, i 2, i 3, eq_ix4 i⟩
    rfl
  rw [h3]
  refine (sel_att n q m (by omega) q.isLt m.isLt _ _).trans ?_
  congr 1
  generalize str (res_main_v3 V0) = X
  generalize cat (res_main_v143 V0) = Y
  pointwise []
/-- The largest score, and the log-sum, of any scores. -/
theorem fold_at (X : FVec Ideal S128x2x128x256 .f32) (g : Fin 128) (n : Fin 2) (q : Fin 128) :
    Host.reduce FloatOps.maximumf X (constant S_ .f32 0xFF800000#32) reducesTo_S128x2x128x256_S128x2x128_d3 h_S_ (ix3 g n q)
      = Finset.univ.fold max (Ideal.ofBits .f32 0xFF800000#32) (fun m : Fin 256 => X (ix4 g n q m)) := by
  pointwise []
theorem logsum_at (X : FVec Ideal S128x2x128x256 .f32) (Y : FVec Ideal S128x2x128 .f32) (g : Fin 128) (n : Fin 2) (q : Fin 128) :
    addf Y (Host.log (Host.reduceAdd (Host.exp (subf X (broadcastInDim S128x2x128x256 ![0, 1, 2, 3] bcast_S128x2x128x1_S128x2x128x256_0_1_2_3 (broadcastInDim S128x2x128x1 ![0, 1, 2] bcast_S128x2x128_S128x2x128x1_0_1_2 Y)))) (constant S_ .f32 0x00000000#32) reducesTo_S128x2x128x256_S128x2x128_d3 h_S_)) (ix3 g n q)
      = Y (ix3 g n q) + Ideal.log (∑ m : Fin 256, Ideal.exp (X (ix4 g n q m) - Y (ix3 g n q))) := by
  pointwise []
/-- The dilation's output. -/
def out (X : FVec Ideal S128x2x128x256 .f32) (Y : FVec Ideal S128x2x128 .f32) (Z : FVec Ideal S128x2x128x128 .f32) : FVec Ideal S128x2x128x128 .f32 :=
  Host.dotGeneral dot_S128x2x128x256_S128x2x256x128_S128x2x128x128_3_2_2_3_01_01 none (Host.exp (subf X (broadcastInDim S128x2x128x256 ![0, 1, 2, 3] bcast_S128x2x128x1_S128x2x128x256_0_1_2_3 (broadcastInDim S128x2x128x1 ![0, 1, 2] bcast_S128x2x128_S128x2x128x1_0_1_2 Y)))) (cat Z)
theorem out_at (X : FVec Ideal S128x2x128x256 .f32) (Y : FVec Ideal S128x2x128 .f32) (Z : FVec Ideal S128x2x128x128 .f32) (g : Fin 128) (n : Fin 2) (q d : Fin 128) :
    out X Y Z (ix4 g n q d) = ∑ m : Fin 256, Ideal.exp (X (ix4 g n q m) - Y (ix3 g n q)) * cat Z (ix4 g n m d) := by
  unfold out
  generalize cat Z = W
  pointwise []
/-- The rows in sequence again. -/
def seqO (X : FVec Ideal S128x2x128x128 .f32) : FVec Ideal S2x4096x4x128 .f32 :=
  shapeCast _ (transpose S2x256x16x4x128 [0, 3, 1, 2, 4] (shapeCast _ X shapeCasts_S128x2x128x128_S2x16x4x256x128) transposes_S2x16x4x256x128_S2x256x16x4x128_0_3_1_2_4) shapeCasts_S2x256x16x4x128_S2x4096x4x128
def seqL (X : FVec Ideal S128x2x128 .f32) : FVec Ideal S2x4096x4 .f32 :=
  shapeCast _ (transpose S2x256x16x4 [0, 3, 1, 2] (shapeCast _ X shapeCasts_S128x2x128_S2x16x4x256) transposes_S2x16x4x256_S2x256x16x4_0_3_1_2) shapeCasts_S2x256x16x4_S2x4096x4
theorem seqO_at (X : FVec Ideal S128x2x128x128 .f32) (b : Fin 2) (s : Fin 4096) (h : Fin 4) (d : Fin 128) :
    seqO X (ix4 b s h d) = X (ix4 ⟨(b * 16 + s % 16) * 4 + h, by omega⟩ ⟨s / 16 / 128, by omega⟩ ⟨s / 16 % 128, by omega⟩ d) := by
  pointwise [seqO]
  exact congrArg X (ix4_congr (by dsimp only; omega) rfl rfl rfl)
theorem seqL_at (X : FVec Ideal S128x2x128 .f32) (b : Fin 2) (s : Fin 4096) (h : Fin 4) :
    seqL X (ix3 b s h) = X (ix3 ⟨(b * 16 + s % 16) * 4 + h, by omega⟩ ⟨s / 16 / 128, by omega⟩ ⟨s / 16 % 128, by omega⟩) := by
  pointwise [seqL]
  exact congrArg X (ix3_congr (by dsimp only; omega) rfl rfl)

/-- The three heads' columns. -/
theorem q_at (b : Fin 2) (s : Fin 4096) (h : Fin 4) (d : Fin 128) : res_main_v3 V0 (ix4 b s h d) = (V0 (Proc.devRef .tc main_arg0) : FVec Ideal S2x4096x1536 .f32) (ix3 b s ⟨h * 128 + d, by omega⟩) := by
  unfold res_main_v3
  generalize V0 (Proc.devRef .tc main_arg0) = X
  pointwise []
theorem k_at (b : Fin 2) (s : Fin 4096) (h : Fin 4) (d : Fin 128) : res_main_v4 V0 (ix4 b s h d) = (V0 (Proc.devRef .tc main_arg0) : FVec Ideal S2x4096x1536 .f32) (ix3 b s ⟨512 + (h * 128 + d), by omega⟩) := by
  unfold res_main_v4
  generalize V0 (Proc.devRef .tc main_arg0) = X
  pointwise []
theorem v_at (b : Fin 2) (s : Fin 4096) (h : Fin 4) (d : Fin 128) : res_main_v5 V0 (ix4 b s h d) = (V0 (Proc.devRef .tc main_arg0) : FVec Ideal S2x4096x1536 .f32) (ix3 b s ⟨1024 + (h * 128 + d), by omega⟩) := by
  unfold res_main_v5
  generalize V0 (Proc.devRef .tc main_arg0) = X
  pointwise []

section
variable (b : Fin 2) (s : Fin 4096) (h : Fin 4)
/-- Where a position's row lies among the subsequences. -/
def gi : Fin 128 := ⟨(b * 16 + s % 16) * 4 + h, by omega⟩
def ni : Fin 2 := ⟨s / 16 / 128, by omega⟩
def qi : Fin 128 := ⟨s / 16 % 128, by omega⟩

theorem str_row (X : FVec Ideal S2x4096x4x128 .f32) (d : Fin 128) : str X (ix4 (gi b s h) (ni s) (qi s) d) = X (ix4 b s h d) := by
  rw [str_at]
  exact congrArg X (ix4_congr (by dsimp only [gi]; omega) (by dsimp only [gi, ni, qi]; omega) (by dsimp only [gi]; omega) rfl)
theorem cat_row (X : FVec Ideal S2x4096x4x128 .f32) (m : Fin 256) (d : Fin 128) :
    cat (str X) (ix4 (gi b s h) (ni s) m d) = if (ni s).val = 0 ∧ m.val < 128 then 0 else X (ix4 b (gpos 16 s m) h d) := by
  rw [cat_at]
  by_cases h1 : m.val < 128
  · rw [dif_pos h1]
    by_cases h2 : (ni s).val = 0
    · rw [if_pos h2, if_pos ⟨h2, h1⟩]
    · rw [if_neg h2, if_neg (fun h => h2 h.1), str_at]
      exact congrArg X (ix4_congr (by dsimp only [gi]; omega) (by dsimp only [gi, ni, gpos] at *; omega) (by dsimp only [gi]; omega) rfl)
  · rw [dif_neg h1, if_neg (fun h => h1 h.2), str_at]
    exact congrArg X (ix4_congr (by dsimp only [gi]; omega) (by dsimp only [gi, ni, gpos] at *; omega) (by dsimp only [gi]; omega) rfl)

variable (A : FVec Ideal S2x4096x1536 .f32) (hA : (V0 (Proc.devRef .tc main_arg0) : FVec Ideal S2x4096x1536 .f32) = A)
  (P : (⟨3, ![2, 4096, 1536]⟩ : Shape).Idx → ℝ) (hP : ∀ (b : Fin 2) (s : Fin 4096) (c : Fin 1536), c.val < 1024 → A (ix3 b s c) = (P (ix3 b s c) : EReal))
include hA hP

open Classical in
/-- The scores, for finite queries and keys. -/
theorem score (m : Fin 256) : res_main_v184 V0 (ix4 (gi b s h) (ni s) (qi s) m)
    = if att 16 s m then ((scr (qR P b s h) (kR P 16 b s h) m : ℝ) : EReal) else ⊥ := by
  rw [sc_at]
  by_cases ha : att 16 s m
  · rw [if_pos ha, if_pos (by exact ha), ← score_coe]
    congr 1
    refine Finset.sum_congr rfl fun d _ => congrArg₂ (· * ·) ?_ ?_
    · rw [str_row, q_at, hA, hP _ _ _ (by dsimp only; omega)]; rfl
    · refine (cat_row b s h (res_main_v4 V0) m d).trans ?_
      rw [if_neg (by unfold att at ha; dsimp only [ni]; omega), k_at, hA, hP _ _ _ (by dsimp only; omega)]; rfl
  · rw [if_neg ha, if_neg (by exact ha), Cert.LocalMath.ofBits_ninf]

/-- The dilation's log-sum and output, for finite queries and keys. -/
theorem level (d : Fin 128) : seqL (res_main_v192 V0) (ix3 b s h) = ((Real.log (levL P 16 b s h) : ℝ) : EReal)
    ∧ seqO (out (res_main_v184 V0) (res_main_v192 V0) (res_main_v149 V0)) (ix4 b s h d) = levN P A 16 b s h d * (((levL P 16 b s h)⁻¹ : ℝ) : EReal) := by
  have hr := ref_level (scr (qR P b s h) (kR P 16 b s h)) (fun m => if (ni s).val = 0 ∧ m.val < 128 then 0 else vR A 16 b s h d m) (att 16 s) (att_ex 16 s)
    (fun m => (res_main_v184 V0 : FVec Ideal S128x2x128x256 .f32) (ix4 (gi b s h) (ni s) (qi s) m)) (score V0 b s h A hA P hP) _ _
    (fold_at (res_main_v184 V0) (gi b s h) (ni s) (qi s)) (logsum_at (res_main_v184 V0) (res_main_v185 V0) (gi b s h) (ni s) (qi s))
  refine ⟨(seqL_at _ b s h).trans hr.1, (seqO_at _ b s h d).trans ((out_at _ _ _ _ _ _ _).trans (Eq.trans (Finset.sum_congr rfl fun m _ => congrArg₂ (· * ·) rfl ?_) (hr.2.trans ?_)))⟩
  · refine (cat_row b s h (res_main_v5 V0) m d).trans ?_
    change _ = if (ni s).val = 0 ∧ m.val < 128 then 0 else vR A 16 b s h d m
    by_cases h1 : (ni s).val = 0 ∧ m.val < 128
    · rw [if_pos h1, if_pos h1]
    · rw [if_neg h1, if_neg h1, v_at, hA]; rfl
  · rw [num_congr (v' := vR A 16 b s h d)]; · rfl
    intro m ha
    rw [if_neg]
    unfold att at ha; dsimp only [ni]; omega
end
end Cert.DilMath.Ref16
-- ==== Proof.DilRefM.lean ====
/- The reference's merge of the three dilations, entry by entry. -/
module

public import proofs.«01_k».proof.Proof.DilRef1
public import proofs.«01_k».proof.Proof.DilRef4
public import proofs.«01_k».proof.Proof.DilRef16

@[expose] public section
set_option maxRecDepth 16384
set_option maxHeartbeats 2000000
noncomputable section
open Idealize.ShloMosaic Idealize.ShloMosaic.TcCoe Idealize.SL.Sem

namespace Cert.DilMath
open Cert.RefDilIdeal Cert.RefDilIdeal.Gen Cert.RefDilIdeal.Value

/-- The dilations' log-sums, and outputs, stacked. -/
def stackL (a b c : FVec Ideal S2x4096x4 .f32) : FVec Ideal S3x2x4096x4 .f32 :=
  concatenate S3x2x4096x4 0 [⟨S1x2x4096x4, broadcastInDim S1x2x4096x4 ![1, 2, 3] bcast_S2x4096x4_S1x2x4096x4_1_2_3 a⟩, ⟨S1x2x4096x4, broadcastInDim S1x2x4096x4 ![1, 2, 3] bcast_S2x4096x4_S1x2x4096x4_1_2_3 b⟩, ⟨S1x2x4096x4, broadcastInDim S1x2x4096x4 ![1, 2, 3] bcast_S2x4096x4_S1x2x4096x4_1_2_3 c⟩] concatenates_S1x2x4096x4_S1x2x4096x4_S1x2x4096x4_S3x2x4096x4_d0
def stackO (a b c : FVec Ideal S2x4096x4x128 .f32) : FVec Ideal S3x2x4096x4x128 .f32 :=
  concatenate S3x2x4096x4x128 0 [⟨S1x2x4096x4x128, broadcastInDim S1x2x4096x4x128 ![1, 2, 3, 4] bcast_S2x4096x4x128_S1x2x4096x4x128_1_2_3_4 a⟩, ⟨S1x2x4096x4x128, broadcastInDim S1x2x4096x4x128 ![1, 2, 3, 4] bcast_S2x4096x4x128_S1x2x4096x4x128_1_2_3_4 b⟩, ⟨S1x2x4096x4x128, broadcastInDim S1x2x4096x4x128 ![1, 2, 3, 4] bcast_S2x4096x4x128_S1x2x4096x4x128_1_2_3_4 c⟩] concatenates_S1x2x4096x4x128_S1x2x4096x4x128_S1x2x4096x4x128_S3x2x4096x4x128_d0
theorem stackL_at (a b c : FVec Ideal S2x4096x4 .f32) (i : Fin 3) (x : Fin 2) (s : Fin 4096) (h : Fin 4) :
    stackL a b c (ix4 i x s h) = ![a (ix3 x s h), b (ix3 x s h), c (ix3 x s h)] i := by
  match i with
  | 0 => pointwise [stackL]
  | 1 => pointwise [stackL]
  | 2 => pointwise [stackL]
theorem stackO_at (a b c : FVec Ideal S2x4096x4x128 .f32) (i : Fin 3) (x : Fin 2) (s : Fin 4096) (h : Fin 4) (d : Fin 128) :
    stackO a b c (ix5 i x s h d) = ![a (ix4 x s h d), b (ix4 x s h d), c (ix4 x s h d)] i := by
  match i with
  | 0 => pointwise [stackO]
  | 1 => pointwise [stackO]
  | 2 => pointwise [stackO]

/-- Their maximum, the weights and the merge. -/
def mmax (A : FVec Ideal S3x2x4096x4 .f32) : FVec Ideal S2x4096x4 .f32 :=
  maximumf (broadcastInDim S2x4096x4 ![] bcast_S_S2x4096x4 (constant S_ .f32 0xFF800000#32)) (Host.reduce FloatOps.maximumf A (constant S_ .f32 0xFF800000#32) reducesTo_S3x2x4096x4_S2x4096x4_d0 h_S_)
def mexp (A : FVec Ideal S3x2x4096x4 .f32) (M : FVec Ideal S2x4096x4 .f32) : FVec Ideal S3x2x4096x4 .f32 :=
  Host.exp (subf A (broadcastInDim S3x2x4096x4 ![0, 1, 2, 3] bcast_S1x2x4096x4_S3x2x4096x4_0_1_2_3 (broadcastInDim S1x2x4096x4 ![1, 2, 3] bcast_S2x4096x4_S1x2x4096x4_1_2_3 M)))
def mdiv (W : FVec Ideal S3x2x4096x4 .f32) : FVec Ideal S3x2x4096x4 .f32 :=
  Host.divf W (broadcastInDim S3x2x4096x4 ![0, 1, 2, 3] bcast_S1x2x4096x4_S3x2x4096x4_0_1_2_3 (broadcastInDim S1x2x4096x4 ![1, 2, 3] bcast_S2x4096x4_S1x2x4096x4_1_2_3 (Host.reduceAdd W (constant S_ .f32 0x00000000#32) reducesTo_S3x2x4096x4_S2x4096x4_d0 h_S_)))
def msum (W : FVec Ideal S3x2x4096x4 .f32) (O : FVec Ideal S3x2x4096x4x128 .f32) : FVec Ideal S2x4096x512 .f32 :=
  shapeCast _ (Host.dotGeneral dot_S3x2x4096x4_S3x2x4096x4x128_S2x4096x4x128_0_0_n_4_123_123 none W O) shapeCasts_S2x4096x4x128_S2x4096x512
theorem mmax_at (A : FVec Ideal S3x2x4096x4 .f32) (b : Fin 2) (s : Fin 4096) (h : Fin 4) :
    mmax A (ix3 b s h) = max (Ideal.ofBits .f32 0xFF800000#32) (Finset.univ.fold max (Ideal.ofBits .f32 0xFF800000#32) (fun i : Fin 3 => A (ix4 i b s h))) := by
  pointwise [mmax]
theorem mexp_at (A : FVec Ideal S3x2x4096x4 .f32) (M : FVec Ideal S2x4096x4 .f32) (i : Fin 3) (b : Fin 2) (s : Fin 4096) (h : Fin 4) :
    mexp A M (ix4 i b s h) = Ideal.exp (A (ix4 i b s h) - M (ix3 b s h)) := by
  pointwise [mexp]
theorem mdiv_at (W : FVec Ideal S3x2x4096x4 .f32) (i : Fin 3) (b : Fin 2) (s : Fin 4096) (h : Fin 4) :
    mdiv W (ix4 i b s h) = Ideal.div (W (ix4 i b s h)) (∑ i : Fin 3, W (ix4 i b s h)) := by
  pointwise [mdiv]
theorem msum_at (W : FVec Ideal S3x2x4096x4 .f32) (O : FVec Ideal S3x2x4096x4x128 .f32) (b : Fin 2) (s : Fin 4096) (k : Fin 512) :
    msum W O (ix3 b s k) = ∑ i : Fin 3, W (ix4 i b s ⟨k / 128, by omega⟩) * O (ix5 i b s ⟨k / 128, by omega⟩ ⟨k % 128, by omega⟩) := by
  pointwise [msum]
end Cert.DilMath
-- ==== Proof.DilRef.lean ====
/- The reference's merge of the three dilations, entry by entry. -/
module

public import proofs.«01_k».proof.Proof.DilRefM

@[expose] public section
set_option maxRecDepth 16384
set_option maxHeartbeats 2000000
noncomputable section
open Idealize.ShloMosaic Idealize.ShloMosaic.TcCoe Idealize.SL.Sem

namespace Cert.DilMath
open Cert.RefDilIdeal Cert.RefDilIdeal.Gen Cert.RefDilIdeal.Value

/-- Three entries stacked, by what each is. -/
theorem stackL_of (x y z : FVec Ideal S2x4096x4 .f32) (l : Fin 3 → ℝ) (b : Fin 2) (s : Fin 4096) (h : Fin 4) (h0 : x (ix3 b s h) = ((Real.log (l 0) : ℝ) : EReal))
    (h1 : y (ix3 b s h) = ((Real.log (l 1) : ℝ) : EReal)) (h2 : z (ix3 b s h) = ((Real.log (l 2) : ℝ) : EReal)) (i : Fin 3) : stackL x y z (ix4 i b s h) = ((Real.log (l i) : ℝ) : EReal) := by
  rw [stackL_at]
  match i with
  | 0 => exact h0
  | 1 => exact h1
  | 2 => exact h2
theorem stackO_of (x y z : FVec Ideal S2x4096x4x128 .f32) (l : Fin 3 → EReal) (b : Fin 2) (s : Fin 4096) (h : Fin 4) (d : Fin 128) (h0 : x (ix4 b s h d) = l 0)
    (h1 : y (ix4 b s h d) = l 1) (h2 : z (ix4 b s h d) = l 2) (i : Fin 3) : stackO x y z (ix5 i b s h d) = l i := by
  rw [stackO_at]
  match i with
  | 0 => exact h0
  | 1 => exact h1
  | 2 => exact h2
/-- The merge, by what the levels are. -/
theorem merge_of (A : FVec Ideal S3x2x4096x4 .f32) (O : FVec Ideal S3x2x4096x4x128 .f32) (n : Fin 3 → EReal) (l : Fin 3 → ℝ) (hl : ∀ i, 0 < l i) (b : Fin 2) (s : Fin 4096) (k : Fin 512) (h : Fin 4) (d : Fin 128)
    (hh : h.val = k / 128) (hd : d.val = k % 128) (hA : ∀ i, A (ix4 i b s h) = ((Real.log (l i) : ℝ) : EReal)) (hO : ∀ i, O (ix5 i b s h d) = n i * (((l i)⁻¹ : ℝ) : EReal)) :
    msum (mdiv (mexp A (mmax A))) O (ix3 b s k) = (n 0 + n 1 + n 2) * (((l 0 + l 1 + l 2)⁻¹ : ℝ) : EReal) := by
  rw [msum_at, show (⟨k / 128, by omega⟩ : Fin 4) = h from Fin.ext hh.symm, show (⟨k % 128, by omega⟩ : Fin 128) = d from Fin.ext hd.symm]
  simp only [mdiv_at, mexp_at]
  exact ref_merge n l hl (fun i => A (ix4 i b s h)) (fun i => O (ix5 i b s h d)) hA hO _ (mmax_at A b s h)

variable (V0 : Valuation τ sig (Elt Ideal))
/-- The stacked log-sums and outputs of the reference. -/
def refA : FVec Ideal S3x2x4096x4 .f32 := stackL (Ref1.seqL (res_main_v60 V0)) (Ref4.seqL (res_main_v126 V0)) (Ref16.seqL (res_main_v192 V0))
def refO : FVec Ideal S3x2x4096x4x128 .f32 := stackO (Ref1.seqO (Ref1.out (res_main_v52 V0) (res_main_v60 V0) (res_main_v17 V0)))
  (Ref4.seqO (Ref4.out (res_main_v118 V0) (res_main_v126 V0) (res_main_v83 V0))) (Ref16.seqO (Ref16.out (res_main_v184 V0) (res_main_v192 V0) (res_main_v149 V0)))
/-- The reference's result is these in turn. -/
theorem ref_eq : ((shapeCast _ (Host.dotGeneral dot_S3x2x4096x4_S3x2x4096x4x128_S2x4096x4x128_0_0_n_4_123_123 none (Host.divf (res_main_v218 V0) (broadcastInDim S3x2x4096x4 ![0, 1, 2, 3] bcast_S1x2x4096x4_S3x2x4096x4_0_1_2_3 (broadcastInDim S1x2x4096x4 ![1, 2, 3] bcast_S2x4096x4_S1x2x4096x4_1_2_3 (Host.reduceAdd (res_main_v218 V0) (constant S_ .f32 0x00000000#32) reducesTo_S3x2x4096x4_S2x4096x4_d0 h_S_)))) ((concatenate S3x2x4096x4x128 0 [⟨S1x2x4096x4x128, ((broadcastInDim S1x2x4096x4x128 ![1, 2, 3, 4] bcast_S2x4096x4x128_S1x2x4096x4x128_1_2_3_4 (shapeCast _ (transpose S2x4096x1x4x128 [0, 3, 1, 2, 4] (shapeCast _ (Host.dotGeneral dot_S8x32x128x256_S8x32x256x128_S8x32x128x128_3_2_2_3_01_01 none (Host.exp (φ := .f32) (subf (res_main_v52 V0) (broadcastInDim S8x32x128x256 ![0, 1, 2, 3] bcast_S8x32x128x1_S8x32x128x256_0_1_2_3 (broadcastInDim S8x32x128x1 ![0, 1, 2] bcast_S8x32x128_S8x32x128x1_0_1_2 (res_main_v60 V0))))) (concatenate S8x32x256x128 2 [⟨S8x32x128x128, (extractStridedSlice S8x32x128x128 ![0, 0, 0, 0] (pad S8x33x128x128 ![0, 1, 0, 0] ![0, 0, 0, 0] ![0, 0, 0, 0] (res_main_v17 V0) (sitofp .f32 (constantI S_ 32 0#32)) pads_S8x32x128x128_S8x33x128x128_000_100_000_000 h_S_) slices_S8x33x128x128_S8x32x128x128_0_0_0_0)⟩, ⟨S8x32x128x128, (res_main_v17 V0)⟩] concatenates_S8x32x128x128_S8x32x128x128_S8x32x256x128_d2)) shapeCasts_S8x32x128x128_S2x1x4x4096x128) transposes_S2x1x4x4096x128_S2x4096x1x4x128_0_3_1_2_4) shapeCasts_S2x4096x1x4x128_S2x4096x4x128)) : FVec Ideal S1x2x4096x4x128 .f32)⟩, ⟨S1x2x4096x4x128, ((broadcastInDim S1x2x4096x4x128 ![1, 2, 3, 4] bcast_S2x4096x4x128_S1x2x4096x4x128_1_2_3_4 (shapeCast _ (transpose S2x1024x4x4x128 [0, 3, 1, 2, 4] (shapeCast _ (Host.dotGeneral dot_S32x8x128x256_S32x8x256x128_S32x8x128x128_3_2_2_3_01_01 none (Host.exp (φ := .f32) (subf (res_main_v118 V0) (broadcastInDim S32x8x128x256 ![0, 1, 2, 3] bcast_S32x8x128x1_S32x8x128x256_0_1_2_3 (broadcastInDim S32x8x128x1 ![0, 1, 2] bcast_S32x8x128_S32x8x128x1_0_1_2 (res_main_v126 V0))))) (concatenate S32x8x256x128 2 [⟨S32x8x128x128, (extractStridedSlice S32x8x128x128 ![0, 0, 0, 0] (pad S32x9x128x128 ![0, 1, 0, 0] ![0, 0, 0, 0] ![0, 0, 0, 0] (res_main_v83 V0) (sitofp .f32 (constantI S_ 32 0#32)) pads_S32x8x128x128_S32x9x128x128_000_100_000_000 h_S_) slices_S32x9x128x128_S32x8x128x128_0_0_0_0)⟩, ⟨S32x8x128x128, (res_main_v83 V0)⟩] concatenates_S32x8x128x128_S32x8x128x128_S32x8x256x128_d2)) shapeCasts_S32x8x128x128_S2x4x4x1024x128) transposes_S2x4x4x1024x128_S2x1024x4x4x128_0_3_1_2_4) shapeCasts_S2x1024x4x4x128_S2x4096x4x128)) : FVec Ideal S1x2x4096x4x128 .f32)⟩, ⟨S1x2x4096x4x128, ((broadcastInDim S1x2x4096x4x128 ![1, 2, 3, 4] bcast_S2x4096x4x128_S1x2x4096x4x128_1_2_3_4 (shapeCast _ (transpose S2x256x16x4x128 [0, 3, 1, 2, 4] (shapeCast _ (Host.dotGeneral dot_S128x2x128x256_S128x2x256x128_S128x2x128x128_3_2_2_3_01_01 none (Host.exp (φ := .f32) (subf (res_main_v184 V0) (broadcastInDim S128x2x128x256 ![0, 1, 2, 3] bcast_S128x2x128x1_S128x2x128x256_0_1_2_3 (broadcastInDim S128x2x128x1 ![0, 1, 2] bcast_S128x2x128_S128x2x128x1_0_1_2 (res_main_v192 V0))))) (concatenate S128x2x256x128 2 [⟨S128x2x128x128, (extractStridedSlice S128x2x128x128 ![0, 0, 0, 0] (pad S128x3x128x128 ![0, 1, 0, 0] ![0, 0, 0, 0] ![0, 0, 0, 0] (res_main_v149 V0) (sitofp .f32 (constantI S_ 32 0#32)) pads_S128x2x128x128_S128x3x128x128_000_100_000_000 h_S_) slices_S128x3x128x128_S128x2x128x128_0_0_0_0)⟩, ⟨S128x2x128x128, (res_main_v149 V0)⟩] concatenates_S128x2x128x128_S128x2x128x128_S128x2x256x128_d2)) shapeCasts_S128x2x128x128_S2x16x4x256x128) transposes_S2x16x4x256x128_S2x256x16x4x128_0_3_1_2_4) shapeCasts_S2x256x16x4x128_S2x4096x4x128)) : FVec Ideal S1x2x4096x4x128 .f32)⟩] concatenates_S1x2x4096x4x128_S1x2x4096x4x128_S1x2x4096x4x128_S3x2x4096x4x128_d0 : FVec Ideal S3x2x4096x4x128 .f32))) shapeCasts_S2x4096x4x128_S2x4096x512) : FVec Ideal S2x4096x512 .f32) = msum (mdiv (mexp (refA V0) (mmax (refA V0)))) (refO V0) := by
  have e1 : res_main_v211 V0 = refA V0 := by
    unfold res_main_v211 refA stackL Ref1.seqL Ref4.seqL Ref16.seqL
    rfl
  have e2 : res_main_v218 V0 = mexp (res_main_v211 V0) (mmax (res_main_v211 V0)) := by
    unfold res_main_v218 mexp mmax
    rfl
  rw [e2, e1]
  unfold msum mdiv refO stackO Ref1.seqO Ref4.seqO Ref16.seqO Ref1.out Ref4.out Ref16.out Ref1.cat Ref4.cat Ref16.cat
  rfl

/-- The reference's result, for finite queries and keys. -/
theorem ref_at (A : FVec Ideal S2x4096x1536 .f32) (hA : (V0 (Proc.devRef .tc main_arg0) : FVec Ideal S2x4096x1536 .f32) = A)
    (P : (⟨3, ![2, 4096, 1536]⟩ : Shape).Idx → ℝ) (hP : ∀ (b : Fin 2) (s : Fin 4096) (c : Fin 1536), c.val < 1024 → A (ix3 b s c) = (P (ix3 b s c) : EReal)) (b : Fin 2) (s : Fin 4096) (k : Fin 512) (h : Fin 4) (d : Fin 128)
    (hh : h.val = k / 128) (hd : d.val = k % 128) : msum (mdiv (mexp (refA V0) (mmax (refA V0)))) (refO V0) (ix3 b s k) = resR P A b s h d := by
  have l1 := Ref1.level V0 b s h A hA P hP d
  have l4 := Ref4.level V0 b s h A hA P hP d
  have l16 := Ref16.level V0 b s h A hA P hP d
  have hl : ∀ i, 0 < ![levL P 1 b s h, levL P 4 b s h, levL P 16 b s h] i :=
    Fin.forall_fin_succ.2 ⟨levL_pos P 1 b s h, Fin.forall_fin_succ.2 ⟨levL_pos P 4 b s h, Fin.forall_fin_succ.2 ⟨levL_pos P 16 b s h, fun i => i.elim0⟩⟩⟩
  have hA' := stackL_of (Ref1.seqL (res_main_v60 V0)) (Ref4.seqL (res_main_v126 V0)) (Ref16.seqL (res_main_v192 V0)) ![levL P 1 b s h, levL P 4 b s h, levL P 16 b s h] b s h l1.1 l4.1 l16.1
  have hO := stackO_of (Ref1.seqO (Ref1.out (res_main_v52 V0) (res_main_v60 V0) (res_main_v17 V0))) (Ref4.seqO (Ref4.out (res_main_v118 V0) (res_main_v126 V0) (res_main_v83 V0)))
    (Ref16.seqO (Ref16.out (res_main_v184 V0) (res_main_v192 V0) (res_main_v149 V0)))
    (fun i => ![levN P A 1 b s h d, levN P A 4 b s h d, levN P A 16 b s h d] i * (((![levL P 1 b s h, levL P 4 b s h, levL P 16 b s h] i)⁻¹ : ℝ) : EReal)) b s h d l1.2 l4.2 l16.2
  change ∀ i, refA V0 _ = _ at hA'
  change ∀ i, refO V0 _ = _ at hO
  generalize refA V0 = X at hA' ⊢
  generalize refO V0 = O at hO ⊢
  exact merge_of X O _ _ hl b s k h d hh hd hA' hO
end Cert.DilMath
-- ==== Proof.LocalPre.lean ====
/- What the precondition says: the cross-attention's queries and keys are finite. -/
module

public import proofs.«01_k».proof.Defs
public import proofs.«01_k».proof.Proof.Gen.Pre_finite_scores
public import proofs.«01_k».proof.Proof.LocalSoftmax
public import Idealize.ShloMosaic.Lib.ReduceAll

@[expose] public section
set_option maxRecDepth 16384
noncomputable section
open Idealize.ShloMosaic Idealize.ShloMosaic.TcCoe Idealize.SL.Sem

namespace Cert.LocalMath
open Cert.Pre_finite_scores

/-- A magnitude below infinity is a finite number's. -/
theorem fin_of_abs (x : EReal) (h : FloatOps.cmpf (F := Ideal) (φ := .f32) .olt (FloatOps.absf (F := Ideal) (φ := .f32) x) (Ideal.ofBits .f32 0x7F800000#32) = 1#1) : Fin' x := by
  have ht : Ideal.ofBits .f32 0x7F800000#32 = ⊤ := by simp [Ideal.ofBits, Ideal.ieee]
  rw [ht] at h
  induction x with
  | bot => simp [FloatOps.cmpf, FloatOps.absf, Ideal.cmp] at h
  | top => simp [FloatOps.cmpf, FloatOps.absf, Ideal.cmp] at h
  | coe r => exact Fin'.coe r

variable [Cert.Pre_finite_scores.Facts]

theorem finite_of (P : FVec Ideal S2x4096x7168 .bf16) (M : FVec Ideal S2x2x256x1024 .bf16) (W : FVec Ideal S4x128x128 .f32) (B : FVec Ideal S4x128 .f32)
    (lg lb : FVec Ideal S512 .f32) (C : FVec Ideal S3x512 .f32) (h : Cert.Pre_finite_scores.fn (F := Ideal) P M W B lg lb C = fun _ => 1#1) :
    (∀ (b : Fin 2) (s : Fin 4096) (k : Fin 512), Fin' (P (ix3 b s ⟨6144 + k, by omega⟩)))
      ∧ ∀ (b : Fin 2) (n : Fin 256) (k : Fin 512), Fin' (M (ix4 0 b n ⟨k, by omega⟩)) := by
  haveI : Subsingleton S_.Idx := ⟨fun i j => funext fun a => a.elim0⟩
  have e := congrFun h (fun a => a.elim0)
  rw [Cert.Pre_finite_scores.fn] at e
  obtain ⟨e1, e2⟩ := IntOp.andi_eq_one.1 e
  refine ⟨fun b s k => ?_, fun b n k => ?_⟩
  · have := Host.reduce_andi_all _ _ _ _ _ e1 (ix3 b s k)
    refine fin_of_abs _ ((congrArg (fun x => FloatOps.cmpf (F := Ideal) (φ := .f32) .olt (FloatOps.absf (F := Ideal) (φ := .f32) x) (Ideal.ofBits .f32 0x7F800000#32)) ?_).trans this)
    pointwise []
  · have := Host.reduce_andi_all _ _ _ _ _ e2 (ix3 b n k)
    refine fin_of_abs _ ((congrArg (fun x => FloatOps.cmpf (F := Ideal) (φ := .f32) .olt (FloatOps.absf (F := Ideal) (φ := .f32) x) (Ideal.ofBits .f32 0x7F800000#32)) ?_).trans this)
    pointwise []
end Cert.LocalMath
-- ==== Proof.DilPre.lean ====
/- What the dilated attention's precondition says: every entry of its queries and keys is a finite number. -/
module

public import proofs.«01_k».proof.Defs
public import proofs.«01_k».proof.Proof.Gen.Pre_finite_proj
public import proofs.«01_k».proof.Proof.LocalPre

@[expose] public section
set_option maxRecDepth 16384
noncomputable section
open Idealize.ShloMosaic Idealize.ShloMosaic.TcCoe Idealize.SL.Sem

namespace Cert.DilMath
open Cert.Pre_finite_proj
open Cert.LocalMath (Fin' fin_of_abs)

variable [Cert.Pre_finite_proj.Facts]

theorem finite_of (A : FVec Ideal S2x4096x1536 .f32) (h : Cert.Pre_finite_proj.fn (F := Ideal) A = fun _ => 1#1) :
    ∃ P : (⟨3, ![2, 4096, 1536]⟩ : Shape).Idx → ℝ, ∀ (b : Fin 2) (s : Fin 4096) (c : Fin 1536), c.val < 1024 → A (ix3 b s c) = (P (ix3 b s c) : EReal) := by
  haveI : Subsingleton S_.Idx := ⟨fun i j => funext fun a => a.elim0⟩
  have e := congrFun h (fun a => a.elim0)
  rw [Cert.Pre_finite_proj.fn] at e
  refine ⟨fun i => (A i).toReal, fun b s c hc => ?_⟩
  have := Host.reduce_andi_all _ _ _ _ _ e (ix3 b s (⟨c.val, hc⟩ : Fin 1024))
  have hf : Fin' (A (ix3 b s c)) := fin_of_abs _ ((congrArg (fun x => FloatOps.cmpf (F := Ideal) (φ := .f32) .olt (FloatOps.absf (F := Ideal) (φ := .f32) x) (Ideal.ofBits .f32 0x7F800000#32)) (by pointwise [])).trans this)
  exact (EReal.coe_toReal hf.1 hf.2).symm
end Cert.DilMath
-- ==== Proof.DilClaim.lean ====
/- The claims about the dilated attention: the kernel, its idealized form and the reference each run to the end without a fault and leave
   their argument alone, the idealized kernel is the kernel's sanctioned idealization, and its array is the reference's. -/
module

public import proofs.«01_k».proof.Defs
public import proofs.«01_k».proof.Proof.DilKFrame
public import proofs.«01_k».proof.Proof.DilIValue
public import proofs.«01_k».proof.Proof.DilRef
public import proofs.«01_k».proof.Proof.DilPre
public import proofs.«01_k».proof.Proof.Gen.RefDilIdeal.Run
public import Idealize.ShloMosaic.Lib.Claim
public import Idealize.ShloMosaic.Adequacy
public import Idealize.ShloMosaic.Init

@[expose] public section
set_option maxRecDepth 16384
noncomputable section
open Idealize.ShloMosaic Idealize.SL.Sem

namespace Cert.DilMath

/-- The kernel runs, leaves its argument and ends quiescent. -/
theorem frame_kernel : Cert.quiescent_Dil := fun m ρ _ => Cert.Dil.Hand.frame m ρ
/-- So does the idealized kernel. -/
theorem frame_ideal : Cert.quiescent_DilIdeal := fun m ρ _ => Cert.DilIdeal.Hand.frame m ρ
/-- So does the reference. -/
theorem frame_ref : Cert.quiescent_RefDilIdeal := fun m ρ _ =>
  (θ_run Cert.RefDilIdeal.defs _ _).mono (fun r h => ⟨fun c => (h c).2, sem_eq_zero_of_no_sems (by decide) r.2⟩) (Cert.RefDilIdeal.Value.run m ρ)
/-- So they do under the precondition. -/
theorem frame_ideal_pre : Cert.quiescent_DilIdeal_pre_finite_proj := fun m ρ _ => Cert.DilIdeal.Hand.frame m ρ
theorem frame_ref_pre : Cert.quiescent_RefDilIdeal_pre_finite_proj := fun m ρ _ => frame_ref m ρ trivial
/-- The kernel's named constants are near the numbers they stand for. -/
theorem preserves : Cert.preserves_Dil_DilIdeal :=
  ⟨IdealRules.named_const.statement Cert.DilIdeal.κ "mask" .f32 0xF149F2CA#32 ⊥ rfl,
    IdealRules.named_const.statement Cert.DilIdeal.κ "scale2" .f32 0x3E0293EE#32 (((Real.sqrt 128)⁻¹ * (Real.log 2)⁻¹ : ℝ) : EReal) rfl,
    IdealRules.named_const.statement Cert.DilIdeal.κ "log2e" .f32 0x3FB8AA3B#32 (((Real.log 2)⁻¹ : ℝ) : EReal) rfl⟩
/-- The idealized kernel's array is the reference's, for finite queries and keys. -/
theorem algebraic : Cert.algebraic_DilIdeal_RefDilIdeal_pre_finite_proj := by
  pair_intro
  · run_from Cert.DilIdeal.Hand.run_main m g
  · run_from Cert.RefDilIdeal.Value.run m' g'
    obtain ⟨P, hP⟩ := finite_of _ (hpre c)
    have h0 := hagree c
    rw [Cert.DilIdeal.Hand.final m c P hP]
    refine (ref_eq (StableHlo.launchContents m' c)).trans ?_
    funext i
    obtain ⟨b, s, k, rfl⟩ : ∃ (b : Fin 2) (s : Fin 4096) (k : Fin 512), i = ix3 b s k := ⟨i 0, i 1, i 2, eq_ix3 i⟩
    exact ref_at _ _ h0 P hP b s k _ _ rfl rfl
end Cert.DilMath

end
-- ==== Proof.OutSpec.lean ====
/- What the last step of the layer computes, row by row: the five gated branch outputs, each divided by its root mean
   square and weighted, projected and added to the residual; then the final root-mean-square norm. Both programs' results
   are shown to be `OutMath.outAt` of the same arguments. -/
module

public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem

namespace Cert.OutMath

/-- One over the root mean square of `n` entries, the small constant added under the root; `len` is the literal of `n`. -/
def invRms {n : ℕ} (len : EReal) (y : Fin n → EReal) : EReal :=
  Ideal.rsqrt (Ideal.div (∑ k, y k * y k) len + Ideal.ofBits .f32 0x358637BD#32)

/-- Entry `k` of a gated row of 512 entries, normed and weighted. -/
def normed (y g : Fin 512 → EReal) (k : Fin 512) : EReal :=
  y k * invRms (Ideal.ofBits .f32 0x44000000#32) y * g k

/-- The residual stream after the projection: the old row plus the five branches' products with their rows of the weight. -/
def accAt (x : Fin 2048 → EReal) (y g : Fin 5 → Fin 512 → EReal) (w : Fin 5 → Fin 512 → Fin 2048 → EReal) (d : Fin 2048) : EReal :=
  x d + (∑ k, normed (y 0) (g 0) k * w 0 k d) + (∑ k, normed (y 1) (g 1) k * w 1 k d) + (∑ k, normed (y 2) (g 2) k * w 2 k d)
    + (∑ k, normed (y 3) (g 3) k * w 3 k d) + (∑ k, normed (y 4) (g 4) k * w 4 k d)

/-- The final norm of a row of 2048 entries. -/
def rowOut (a pg : Fin 2048 → EReal) (d : Fin 2048) : EReal :=
  a d * invRms (Ideal.ofBits .f32 0x45000000#32) a * pg d

/-- Equal rows and weights give equal norms. -/
theorem rowOut_congr {a a' pg pg' : Fin 2048 → EReal} (h : ∀ d, a d = a' d) (hp : ∀ d, pg d = pg' d) (d : Fin 2048) : rowOut a pg d = rowOut a' pg' d := by
  rw [funext h, funext hp]

/-- Equal operands give equal projections. -/
theorem accAt_congr {x x' : Fin 2048 → EReal} {y y' g g' : Fin 5 → Fin 512 → EReal} {w w' : Fin 5 → Fin 512 → Fin 2048 → EReal}
    (hx : ∀ d, x d = x' d) (hy : ∀ b k, y b k = y' b k) (hg : ∀ b k, g b k = g' b k) (hw : ∀ b k d, w b k d = w' b k d) (d : Fin 2048) :
    accAt x y g w d = accAt x' y' g' w' d := by
  rw [funext hx, funext fun b => funext (hy b), funext fun b => funext (hg b), funext fun b => funext fun k => funext (hw b k)]

variable (ya : FVec Ideal ⟨2, ![8192, 512]⟩ .f32) (yl : FVec Ideal ⟨2, ![8192, 1536]⟩ .bf16) (yc : FVec Ideal ⟨2, ![8192, 512]⟩ .bf16)
  (proj : FVec Ideal ⟨2, ![8192, 7168]⟩ .bf16) (ng : FVec Ideal ⟨1, ![2560]⟩ .f32) (w : FVec Ideal ⟨3, ![2, 2560, 2048]⟩ .f32)
  (x : FVec Ideal ⟨2, ![8192, 2048]⟩ .f32) (pg : FVec Ideal ⟨1, ![2048]⟩ .f32)

/-- Branch `b`'s gated output at row `r`: the branch outputs times their gates, in the order the projection takes them. -/
def gated (r : Fin 8192) (b : Fin 5) (k : Fin 512) : EReal :=
  match b with
  | 0 => ya (ix2 r k) * proj (ix2 r ⟨k, by omega⟩)
  | 1 => yl (ix2 r ⟨k, by omega⟩) * proj (ix2 r ⟨1536 + k, by omega⟩)
  | 2 => yc (ix2 r k) * proj (ix2 r ⟨3584 + k, by omega⟩)
  | 3 => yl (ix2 r ⟨512 + k, by omega⟩) * proj (ix2 r ⟨5632 + k, by omega⟩)
  | 4 => yl (ix2 r ⟨1024 + k, by omega⟩) * proj (ix2 r ⟨6656 + k, by omega⟩)

/-- The branches' norm weights. -/
def gain (b : Fin 5) (k : Fin 512) : EReal := ng (ix1 ⟨b * 512 + k, by omega⟩)
/-- The branches' rows of the second layer's projection weight. -/
def weight (b : Fin 5) (k : Fin 512) (d : Fin 2048) : EReal := w (ix3 1 ⟨b * 512 + k, by omega⟩ d)

/-- Row `r` of the residual stream after the projection. -/
def accRow (r : Fin 8192) : Fin 2048 → EReal :=
  accAt (fun d => x (ix2 r d)) (gated ya yl yc proj r) (gain ng) (weight w)

/-- The result at row `r`, column `d`. -/
def outAt (r : Fin 8192) (d : Fin 2048) : EReal :=
  rowOut (accRow ya yl yc proj ng w x r) (fun d => pg (ix1 d)) d

end Cert.OutMath
-- ==== Proof.NormValue.lean ====
/- The first norm: the idealized kernel's array is at every index the weighted row over its root mean square; one grid point computes 512 rows. -/
module

public import proofs.«01_k».proof.Proof.Gen.NormIdeal.Value
public import proofs.«01_k».proof.Proof.OutSpec

@[expose] public section
set_option maxRecDepth 16384
set_option maxHeartbeats 2000000
noncomputable section
open Idealize.ShloMosaic Idealize.ShloMosaic.TcCoe Idealize.SL.Sem
open Idealize.ShloMosaic.Pipeline (Dat)
namespace Cert.NormMath
open Cert.NormIdeal Cert.NormIdeal.Gen OutMath

/-- The body's store at row `r`, column `d` of its block. -/
theorem body_at (x0 : Vec Ideal S512x2048 .f32) (x1 : Vec Ideal S1x2048 .f32) (r : Fin 512) (d : Fin 2048) :
    k0_pay1 x0 x1 (ix2 r d) = rowOut (fun d => x0 (ix2 r d)) (fun d => x1 (ix2 0 d)) d := by
  pointwise [k0_pay1]
  rfl

variable (m : (ℓ : Loc nD τ sig) → Buf (Elt Ideal) ℓ)

/-- The windows' block indices at grid point `t`. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

/-- The array the run leaves, as one function of the arguments. -/
def OUT (c : Dev nD) : FVec Ideal ⟨2, ![8192, 2048]⟩ .bf16 := fun i =>
  rowOut (fun d => m ((c : Thread nD τ).loc main_arg0) (ix2 (i 0) d)) (fun d => m ((c : Thread nD τ).loc main_arg1) (ix1 d)) (i 1)

/-- The result array of the run. -/
theorem final (c : Dev nD) : (dats m 0 c).arrAt 2 (cfgs 0).N = OUT m c := by
  refine (dats m 0 c).arrAt_eq_of_covers 2 _ (by decide +kernel) fun t _ y => ?_
  blk_simp
  rw [after0_2]; frame_out
  obtain ⟨r, d, rfl⟩ : ∃ (r : Fin 512) (d : Fin 2048), y = ix2 r d := ⟨y 0, y 1, eq_ix2 y⟩
  refine (body_at _ _ r d).trans ?_
  unfold OUT
  have ht : t.val < 16 := (idx t).2.2.2
  obtain ⟨R, hR⟩ : ∃ R : Fin 8192, (R : ℕ) = t.val * 512 + r := ⟨⟨t.val * 512 + r, by omega⟩, rfl⟩
  have e : (win0_2.blk t).view.emb (ix2 r d) = ix2 R d := by blk_ext [idx t]
  rw [e]
  have h0 : ∀ k : Fin 2048, iblk m c 0 t (ix2 r k) = m ((c : Thread nD τ).loc main_arg0) (ix2 R k) := fun k => by blk_ext [iblk, V, idx t]
  have h1 : ∀ k : Fin 2048, iblk m c 1 t (ix2 0 k) = m ((c : Thread nD τ).loc main_arg1) (ix1 k) := fun k => by blk_ext! [iblk, V, idx t]
  exact rowOut_congr (fun d => h0 d) (fun d => h1 d) d
end Cert.NormMath
-- ==== Proof.NormRef.lean ====
/- The first norm's reference, entry by entry. -/
module

public import proofs.«01_k».proof.Proof.Gen.RefNormIdeal.Run
public import proofs.«01_k».proof.Proof.OutSpec

@[expose] public section
set_option maxRecDepth 16384
set_option maxHeartbeats 2000000
noncomputable section
open Idealize.ShloMosaic Idealize.ShloMosaic.TcCoe Idealize.SL.Sem
open Idealize.ShloMosaic.Pipeline (Dat)
namespace Cert.NormMath
open Cert.RefNormIdeal Cert.RefNormIdeal.Gen OutMath

/-- The reference's norm. -/
def refN (x : FVec Ideal S8192x2048 .f32) (g : FVec Ideal S2048 .f32) : FVec Ideal S8192x2048 .bf16 :=
  truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) bitsLt_bf16_f32

/-- The reference's norm, entry by entry. -/
theorem refN_at (x : FVec Ideal S8192x2048 .f32) (g : FVec Ideal S2048 .f32) (r : Fin 8192) (d : Fin 2048) :
    refN x g (ix2 r d) = rowOut (fun d => x (ix2 r d)) (fun d => g (ix1 d)) d := by
  pointwise [refN]
  rfl
end Cert.NormMath
-- ==== Proof.NormClaim.lean ====
/- The claims about the first norm: the frames, and that the idealized kernel's array is the reference's. -/
module

public import proofs.«01_k».proof.Defs
public import proofs.«01_k».proof.Proof.Gen.Norm.Frame
public import proofs.«01_k».proof.Proof.Gen.NormIdeal.Frame
public import proofs.«01_k».proof.Proof.NormValue
public import proofs.«01_k».proof.Proof.NormRef
public import Idealize.ShloMosaic.Lib.Claim
public import Idealize.ShloMosaic.Adequacy
public import Idealize.ShloMosaic.Init

@[expose] public section
set_option maxRecDepth 16384
noncomputable section
open Idealize.ShloMosaic Idealize.SL.Sem

namespace Cert.NormMath

/-- The kernel runs, leaves its arguments and ends quiescent. -/
theorem frame_kernel : Cert.quiescent_Norm := fun m ρ _ => Cert.Norm.Gen.frame m ρ
/-- So does the idealized kernel. -/
theorem frame_ideal : Cert.quiescent_NormIdeal := fun m ρ _ => Cert.NormIdeal.Gen.frame m ρ
/-- So does the reference. -/
theorem frame_ref : Cert.quiescent_RefNormIdeal := fun m ρ _ =>
  (θ_run Cert.RefNormIdeal.defs _ _).mono (fun r h => ⟨fun c => (h c).2, sem_eq_zero_of_no_sems (by decide) r.2⟩) (Cert.RefNormIdeal.Value.run m ρ)
/-- No rewrite of the kernel asks anything. -/
theorem preserves : Cert.preserves_Norm_NormIdeal := trivial
/-- The idealized kernel's array is the reference's. -/
theorem algebraic : Cert.algebraic_NormIdeal_RefNormIdeal := by
  pair_intro
  · run_from Cert.NormIdeal.Gen.run_main m g
  · run_from Cert.RefNormIdeal.Value.run m' g'
    funext i
    obtain ⟨r, d, rfl⟩ : ∃ (r : Fin 8192) (d : Fin 2048), i = ix2 r d := ⟨i 0, i 1, eq_ix2 i⟩
    rw [final m c]
    refine (refN_at _ _ r d).trans ?_
    rfl
end Cert.NormMath
-- ==== Proof.MemKvValue.lean ====
/- The memory's keys and values: the idealized kernel's array is at every index the normed memory row against the layer's weight; one grid point computes one layer of one batch entry. -/
module

public import proofs.«01_k».proof.Proof.Gen.MemKvIdeal.Value
public import proofs.«01_k».proof.Proof.OutSpec

@[expose] public section
set_option maxRecDepth 16384
set_option maxHeartbeats 2000000
noncomputable section
open Idealize.ShloMosaic Idealize.ShloMosaic.TcCoe Idealize.SL.Sem
open Idealize.ShloMosaic.Pipeline (Dat)
namespace Cert.MemKvMath
open Cert.MemKvIdeal Cert.MemKvIdeal.Gen OutMath

/-- The body's store at memory token `r`, column `n`. -/
theorem body_at (x0 : Vec Ideal S1x256x2048 .f32) (x1 : Vec Ideal S1x1x2048 .f32) (x2 : Vec Ideal S1x2048x1024 .f32) (r : Fin 256) (n : Fin 1024) :
    k0_pay1 x0 x1 x2 (ix4 0 0 r n) = ∑ d, rowOut (fun d => x0 (ix3 0 r d)) (fun d => x1 (ix3 0 0 d)) d * x2 (ix3 0 d n) := by
  pointwise [k0_pay1]
  rfl

variable (m : (ℓ : Loc nD τ sig) → Buf (Elt Ideal) ℓ)

/-- The windows' block indices at grid point `t`. -/
theorem idx : ∀ t : Fin cfg0.N, win0_0.index t = ![t.val % 2, 0, 0] ∧ win0_1.index t = ![t.val / 2, 0, 0] ∧ win0_2.index t = ![t.val / 2, 0, 0]
  ∧ win0_3.index t = ![t.val / 2, t.val % 2, 0, 0] ∧ t.val < 4 :=
  (by decide +kernel : ∀ t : Fin grid0.N, _)

/-- The array the run leaves, as one function of the arguments. -/
def OUT (c : Dev nD) : FVec Ideal ⟨4, ![2, 2, 256, 1024]⟩ .bf16 := fun i =>
  ∑ d, rowOut (fun d => m ((c : Thread nD τ).loc main_arg0) (ix3 (i 1) (i 2) d)) (fun d => m ((c : Thread nD τ).loc main_arg1) (ix2 (i 0) d)) d
    * m ((c : Thread nD τ).loc main_arg2) (ix3 (i 0) d (i 3))

/-- The result array of the run. -/
theorem final (c : Dev nD) : (dats m 0 c).arrAt 3 (cfgs 0).N = OUT m c := by
  refine (dats m 0 c).arrAt_eq_of_covers 3 _ (by decide +kernel) fun t _ y => ?_
  blk_simp
  rw [after0_3]; frame_out
  obtain ⟨a, b, r, n, rfl⟩ : ∃ (a b : Fin 1) (r : Fin 256) (n : Fin 1024), y = ix4 a b r n := ⟨y 0, y 1, y 2, y 3, eq_ix4 y⟩
  obtain rfl : a = 0 := Subsingleton.elim _ _
  obtain rfl : b = 0 := Subsingleton.elim _ _
  refine (body_at _ _ _ r n).trans ?_
  unfold OUT
  have ht : t.val < 4 := (idx t).2.2.2.2
  obtain ⟨L, hL⟩ : ∃ L : Fin 2, (L : ℕ) = t.val / 2 := ⟨⟨t.val / 2, by omega⟩, rfl⟩
  obtain ⟨B, hB⟩ : ∃ B : Fin 2, (B : ℕ) = t.val % 2 := ⟨⟨t.val % 2, by omega⟩, rfl⟩
  have e : (win0_3.blk t).view.emb (ix4 0 0 r n) = ix4 L B r n := by blk_ext [idx t]
  rw [e]
  have h0 : ∀ k : Fin 2048, iblk m c 0 t (ix3 0 r k) = m ((c : Thread nD τ).loc main_arg0) (ix3 B r k) := fun k => by blk_ext [iblk, V, idx t]
  have h1 : ∀ k : Fin 2048, iblk m c 1 t (ix3 0 0 k) = m ((c : Thread nD τ).loc main_arg1) (ix2 L k) := fun k => by blk_ext! [iblk, V, idx t]
  have h2 : ∀ k : Fin 2048, iblk m c 2 t (ix3 0 k n) = m ((c : Thread nD τ).loc main_arg2) (ix3 L k n) := fun k => by blk_ext [iblk, V, idx t]
  exact Finset.sum_congr rfl fun d _ => congrArg₂ (fun a b : EReal => a * b) (rowOut_congr (fun d => h0 d) (fun d => h1 d) d) (h2 d)
end Cert.MemKvMath
-- ==== Proof.MemKvRef.lean ====
/- The memory's keys and values by the reference, entry by entry. -/
module

public import proofs.«01_k».proof.Proof.Gen.RefMemKvIdeal.Run
public import proofs.«01_k».proof.Proof.OutSpec

@[expose] public section
set_option maxRecDepth 16384
set_option maxHeartbeats 2000000
noncomputable section
open Idealize.ShloMosaic Idealize.ShloMosaic.TcCoe Idealize.SL.Sem
open Idealize.ShloMosaic.Pipeline (Dat)
namespace Cert.MemKvMath
open Cert.RefMemKvIdeal Cert.RefMemKvIdeal.Gen OutMath

/-- The reference's keys and values of both layers. -/
def refM (x : FVec Ideal S2x256x2048 .f32) (g : FVec Ideal S2x2048 .f32) (w : FVec Ideal S2x2048x1024 .f32) : FVec Ideal S2x2x256x1024 .bf16 :=
  truncf .bf16 (concatenate S2x2x256x1024 0 [⟨S1x2x256x1024, (broadcastInDim S1x2x256x1024 ![1, 2, 3] bcast_S2x256x1024_S1x2x256x1024_1_2_3 (Host.dotGeneral dot_S2x256x2048_S2048x1024_S2x256x1024_2_0_01_1_n_n none (mulf (mulf x (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x x) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ (extractStridedSlice S1x2048 ![0, 0] g slices_S2x2048_S1x2048_0_0) shapeCasts_S1x2048_S2048)))) (shapeCast _ (extractStridedSlice S1x2048x1024 ![0, 0, 0] w slices_S2x2048x1024_S1x2048x1024_0_0_0) shapeCasts_S1x2048x1024_S2048x1024)))⟩,
     ⟨S1x2x256x1024, (broadcastInDim S1x2x256x1024 ![1, 2, 3] bcast_S2x256x1024_S1x2x256x1024_1_2_3 (Host.dotGeneral dot_S2x256x2048_S2048x1024_S2x256x1024_2_0_01_1_n_n none (mulf (mulf x (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x x) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ (extractStridedSlice S1x2048 ![1, 0] g slices_S2x2048_S1x2048_1_0) shapeCasts_S1x2048_S2048)))) (shapeCast _ (extractStridedSlice S1x2048x1024 ![1, 0, 0] w slices_S2x2048x1024_S1x2048x1024_1_0_0) shapeCasts_S1x2048x1024_S2048x1024)))⟩] concatenates_S1x2x256x1024_S1x2x256x1024_S2x2x256x1024_d0) bitsLt_bf16_f32

/-- The reference's keys and values, entry by entry. -/
theorem refM_at (x : FVec Ideal S2x256x2048 .f32) (g : FVec Ideal S2x2048 .f32) (w : FVec Ideal S2x2048x1024 .f32) (l b : Fin 2) (r : Fin 256) (n : Fin 1024) :
    refM x g w (ix4 l b r n) = ∑ d, rowOut (fun d => x (ix3 b r d)) (fun d => g (ix2 l d)) d * w (ix3 l d n) := by
  fin_cases l
  · pointwise [refM]
    rfl
  · pointwise [refM]
    rfl
end Cert.MemKvMath
-- ==== Proof.MemKvClaim.lean ====
/- The claims about the memory's keys and values: the frames, and that the idealized kernel's array is the reference's. -/
module

public import proofs.«01_k».proof.Defs
public import proofs.«01_k».proof.Proof.Gen.MemKv.Frame
public import proofs.«01_k».proof.Proof.Gen.MemKvIdeal.Frame
public import proofs.«01_k».proof.Proof.MemKvValue
public import proofs.«01_k».proof.Proof.MemKvRef
public import Idealize.ShloMosaic.Lib.Claim
public import Idealize.ShloMosaic.Adequacy
public import Idealize.ShloMosaic.Init

@[expose] public section
set_option maxRecDepth 16384
noncomputable section
open Idealize.ShloMosaic Idealize.SL.Sem

namespace Cert.MemKvMath

/-- The kernel runs, leaves its arguments and ends quiescent. -/
theorem frame_kernel : Cert.quiescent_MemKv := fun m ρ _ => Cert.MemKv.Gen.frame m ρ
/-- So does the idealized kernel. -/
theorem frame_ideal : Cert.quiescent_MemKvIdeal := fun m ρ _ => Cert.MemKvIdeal.Gen.frame m ρ
/-- So does the reference. -/
theorem frame_ref : Cert.quiescent_RefMemKvIdeal := fun m ρ _ =>
  (θ_run Cert.RefMemKvIdeal.defs _ _).mono (fun r h => ⟨fun c => (h c).2, sem_eq_zero_of_no_sems (by decide) r.2⟩) (Cert.RefMemKvIdeal.Value.run m ρ)
/-- No rewrite of the kernel asks anything. -/
theorem preserves : Cert.preserves_MemKv_MemKvIdeal := trivial
/-- The idealized kernel's array is the reference's. -/
theorem algebraic : Cert.algebraic_MemKvIdeal_RefMemKvIdeal := by
  pair_intro
  · run_from Cert.MemKvIdeal.Gen.run_main m g
  · run_from Cert.RefMemKvIdeal.Value.run m' g'
    funext i
    obtain ⟨l, b, r, n, rfl⟩ : ∃ (l b : Fin 2) (r : Fin 256) (n : Fin 1024), i = ix4 l b r n := ⟨i 0, i 1, i 2, i 3, eq_ix4 i⟩
    rw [final m c]
    refine (refM_at _ _ _ l b r n).trans ?_
    obtain ⟨h0, h1, h2⟩ := hagree c
    rw [h2]
    rfl
end Cert.MemKvMath
-- ==== Proof.MidSpec.lean ====
/- What the first layer's last step computes: the residual stream after the projection, with the first layer's weight, and its
   root-mean-square norm, which the second layer starts from. -/
module

public import proofs.«01_k».proof.Proof.OutSpec

@[expose] public section
set_option maxRecDepth 16384
noncomputable section
open Idealize.ShloMosaic Idealize.ShloMosaic.TcCoe Idealize.SL.Sem
namespace Cert.MidMath
open OutMath
variable (ya : FVec Ideal ⟨2, ![8192, 512]⟩ .f32) (yl : FVec Ideal ⟨2, ![8192, 1536]⟩ .bf16) (yc : FVec Ideal ⟨2, ![8192, 512]⟩ .bf16)
  (proj : FVec Ideal ⟨2, ![8192, 7168]⟩ .bf16) (ng : FVec Ideal ⟨1, ![2560]⟩ .f32) (w : FVec Ideal ⟨3, ![2, 2560, 2048]⟩ .f32)
  (x : FVec Ideal ⟨2, ![8192, 2048]⟩ .f32) (pg : FVec Ideal ⟨1, ![2048]⟩ .f32)

/-- The branches' rows of the first layer's projection weight. -/
def weight (b : Fin 5) (k : Fin 512) (d : Fin 2048) : EReal := w (ix3 0 ⟨b * 512 + k, by omega⟩ d)

/-- Row `r` of the residual stream after the projection: the first result. -/
def accRow (r : Fin 8192) : Fin 2048 → EReal :=
  accAt (fun d => x (ix2 r d)) (gated ya yl yc proj r) (gain ng) (weight w)

/-- The second result at row `r`, column `d`: the norm of that row. -/
def outAt (r : Fin 8192) (d : Fin 2048) : EReal :=
  rowOut (accRow ya yl yc proj ng w x r) (fun d => pg (ix1 d)) d
end Cert.MidMath
-- ==== Proof.MidValue.lean ====
/- The idealized kernel's result arrays: at every index what `MidMath.accRow` and `MidMath.outAt` say. One grid point computes
   256 rows. -/
module

public import proofs.«01_k».proof.Proof.Gen.MidIdeal.Value
public import proofs.«01_k».proof.Proof.MidSpec

@[expose] public section
set_option maxRecDepth 16384
set_option maxHeartbeats 2000000
noncomputable section
open Idealize.ShloMosaic Idealize.ShloMosaic.TcCoe Idealize.SL.Sem
open Idealize.ShloMosaic.Pipeline (Dat)
namespace Cert.MidMath
open Cert.MidIdeal Cert.MidIdeal.Gen
open OutMath (rowOut accAt normed invRms rowOut_congr accAt_congr)

/-- The body's first store at row `r`, column `d` of its block, over the blocks it loads. -/
theorem body_at_acc (x0 : Vec Ideal S256x512 .f32) (x1 : Vec Ideal S256x1536 .bf16) (x2 x3 x4 x5 x6 x7 : Vec Ideal S256x512 .bf16)
    (x8 : Vec Ideal S1x2560 .f32) (x9 : Vec Ideal S1x2560x2048 .f32) (x10 : Vec Ideal S256x2048 .f32) (r : Fin 256) (d : Fin 2048) :
    k0_pay1
      (k0_pay7
        (k0_pay6
          (k0_pay3 x10 x0 x3 (View.ld x8 r0_2) (View.ld x9 r0_3))
          (k0_pay4 (View.ld x1 r0_4) x4) (k0_pay5 (View.ld x1 r0_4) x4)
          (View.ld x8 r0_5) (View.ld x9 r0_6) x2 x5 (View.ld x8 r0_7) (View.ld x9 r0_8))
        (View.ld x1 r0_9) x6 (View.ld x8 r0_10) (View.ld x9 r0_11))
      (k0_pay8 (View.ld x1 r0_12) x7) (View.ld x8 r0_13) (View.ld x9 r0_14) (ix2 r d)
    = accAt (fun d => x10 (ix2 r d))
        (fun b k => match b with
          | 0 => x0 (ix2 r k) * x3 (ix2 r k)
          | 1 => x1 (ix2 r ⟨k, by omega⟩) * x4 (ix2 r k)
          | 2 => x2 (ix2 r k) * x5 (ix2 r k)
          | 3 => x1 (ix2 r ⟨512 + k, by omega⟩) * x6 (ix2 r k)
          | 4 => x1 (ix2 r ⟨1024 + k, by omega⟩) * x7 (ix2 r k))
        (fun b k => x8 (ix2 0 ⟨b * 512 + k, by omega⟩)) (fun b k d => x9 (ix3 0 ⟨b * 512 + k, by omega⟩ d)) d := by
  pointwise [k0_pay1, k0_pay3, k0_pay4, k0_pay5, k0_pay6, k0_pay7, k0_pay8, r0_2, r0_3, r0_4, r0_5, r0_6, r0_7, r0_8, r0_9, r0_10, r0_11, r0_12, r0_13, r0_14]
  simp only [accAt, normed, invRms, Fin.val_zero, mul_zero, zero_add, Nat.zero_add]
  rfl

/-- The body's second store at row `r`, column `d` of its block, over the blocks it loads. -/
theorem body_at (x0 : Vec Ideal S256x512 .f32) (x1 : Vec Ideal S256x1536 .bf16) (x2 x3 x4 x5 x6 x7 : Vec Ideal S256x512 .bf16)
    (x8 : Vec Ideal S1x2560 .f32) (x9 : Vec Ideal S1x2560x2048 .f32) (x10 : Vec Ideal S256x2048 .f32) (x11 : Vec Ideal S1x2048 .f32) (r : Fin 256) (d : Fin 2048) :
    k0_pay2
      (k0_pay7
        (k0_pay6
          (k0_pay3 x10 x0 x3 (View.ld x8 r0_2) (View.ld x9 r0_3))
          (k0_pay4 (View.ld x1 r0_4) x4) (k0_pay5 (View.ld x1 r0_4) x4)
          (View.ld x8 r0_5) (View.ld x9 r0_6) x2 x5 (View.ld x8 r0_7) (View.ld x9 r0_8))
        (View.ld x1 r0_9) x6 (View.ld x8 r0_10) (View.ld x9 r0_11))
      (k0_pay8 (View.ld x1 r0_12) x7) (View.ld x8 r0_13) (View.ld x9 r0_14) x11 (ix2 r d)
    = rowOut (accAt (fun d => x10 (ix2 r d))
        (fun b k => match b with
          | 0 => x0 (ix2 r k) * x3 (ix2 r k)
          | 1 => x1 (ix2 r ⟨k, by omega⟩) * x4 (ix2 r k)
          | 2 => x2 (ix2 r k) * x5 (ix2 r k)
          | 3 => x1 (ix2 r ⟨512 + k, by omega⟩) * x6 (ix2 r k)
          | 4 => x1 (ix2 r ⟨1024 + k, by omega⟩) * x7 (ix2 r k))
        (fun b k => x8 (ix2 0 ⟨b * 512 + k, by omega⟩)) (fun b k d => x9 (ix3 0 ⟨b * 512 + k, by omega⟩ d)))
        (fun d => x11 (ix2 0 d)) d := by
  pointwise [k0_pay2, k0_pay1, k0_pay3, k0_pay4, k0_pay5, k0_pay6, k0_pay7, k0_pay8, r0_2, r0_3, r0_4, r0_5, r0_6, r0_7, r0_8, r0_9, r0_10, r0_11, r0_12, r0_13, r0_14]
  simp only [rowOut, accAt, normed, invRms, Fin.val_zero, mul_zero, zero_add, Nat.zero_add]
  rfl

variable (m : (ℓ : Loc nD τ sig) → Buf (Elt Ideal) ℓ)

/-- The windows' block indices at grid point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 3]
  ∧ win0_5.index t = ![t.val, 7] ∧ win0_6.index t = ![t.val, 11] ∧ win0_7.index t = ![t.val, 13] ∧ win0_8.index t = ![0, 0] ∧ win0_9.index t = ![0, 0, 0] ∧ win0_10.index t = ![t.val, 0] ∧ win0_11.index t = ![0, 0]  ∧ win0_12.index t = ![t.val, 0] ∧ win0_13.index t = ![t.val, 0] ∧ t.val < 32 :=
  (by decide +kernel : ∀ t : Fin grid0.N, _)

/-- The first array the run leaves, as one function of the arguments. -/
def OUT (c : Dev nD) : FVec Ideal ⟨2, ![8192, 2048]⟩ .f32 := fun i =>
  accRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (i 0) (i 1)

/-- The first result array of the run. -/
theorem final (c : Dev nD) : (dats m 0 c).arrAt 12 (cfgs 0).N = OUT m c := by
  refine (dats m 0 c).arrAt_eq_of_covers 12 _ (by decide +kernel) fun t _ y => ?_
  blk_simp
  rw [after0_12]; unfold_out out0_12; frame_out
  obtain ⟨r, d, rfl⟩ : ∃ (r : Fin 256) (d : Fin 2048), y = ix2 r d := ⟨y 0, y 1, eq_ix2 y⟩
  refine (body_at_acc _ _ _ _ _ _ _ _ _ _ _ r d).trans ?_
  unfold OUT accRow
  have ht : t.val < 32 := (idx t).2.2.2.2.2.2.2.2.2.2.2.2.2.2
  obtain ⟨R, hR⟩ : ∃ R : Fin 8192, (R : ℕ) = t.val * 256 + r := ⟨⟨t.val * 256 + r, by omega⟩, rfl⟩
  have e : (((View.whole main_v2_0).slice (win0_12.rect t)).emb (ix2 r d)) = ix2 R d := by blk_ext [idx t]
  rw [e]
  have h0 : ∀ k : Fin 512, iblk m c 0 t (ix2 r k) = m ((c : Thread nD τ).loc main_arg0) (ix2 R k) := fun k => by blk_ext [iblk, V, idx t]
  have h1 : ∀ k : Fin 1536, iblk m c 1 t (ix2 r k) = m ((c : Thread nD τ).loc main_arg1) (ix2 R k) := fun k => by blk_ext [iblk, V, idx t]
  have h2 : ∀ k : Fin 512, iblk m c 2 t (ix2 r k) = m ((c : Thread nD τ).loc main_arg2) (ix2 R k) := fun k => by blk_ext [iblk, V, idx t]
  have h3 : ∀ k : Fin 512, iblk m c 3 t (ix2 r k) = m ((c : Thread nD τ).loc main_arg3) (ix2 R ⟨k, by omega⟩) := fun k => by blk_ext [iblk, V, idx t]
  have h4 : ∀ k : Fin 512, iblk m c 4 t (ix2 r k) = m ((c : Thread nD τ).loc main_arg3) (ix2 R ⟨1536 + k, by omega⟩) := fun k => by blk_ext [iblk, V, idx t]
  have h5 : ∀ k : Fin 512, iblk m c 5 t (ix2 r k) = m ((c : Thread nD τ).loc main_arg3) (ix2 R ⟨3584 + k, by omega⟩) := fun k => by blk_ext [iblk, V, idx t]
  have h6 : ∀ k : Fin 512, iblk m c 6 t (ix2 r k) = m ((c : Thread nD τ).loc main_arg3) (ix2 R ⟨5632 + k, by omega⟩) := fun k => by blk_ext [iblk, V, idx t]
  have h7 : ∀ k : Fin 512, iblk m c 7 t (ix2 r k) = m ((c : Thread nD τ).loc main_arg3) (ix2 R ⟨6656 + k, by omega⟩) := fun k => by blk_ext [iblk, V, idx t]
  have h8 : ∀ k : Fin 2560, iblk m c 8 t (ix2 0 k) = m ((c : Thread nD τ).loc main_arg4) (ix1 k) := fun k => by blk_ext! [iblk, V, idx t]
  have h9 : ∀ (k : Fin 2560) (d : Fin 2048), iblk m c 9 t (ix3 0 k d) = m ((c : Thread nD τ).loc main_arg5) (ix3 0 k d) := fun k d => by blk_ext [iblk, V, idx t]
  have h10 : ∀ k : Fin 2048, iblk m c 10 t (ix2 r k) = m ((c : Thread nD τ).loc main_arg6) (ix2 R k) := fun k => by blk_ext [iblk, V, idx t]
  refine accAt_congr (fun d => ?_) (fun b k => ?_) (fun b k => ?_) (fun b k d => ?_) d
  · exact h10 d
  · rcases b with ⟨b, hb⟩
    interval_cases b
    · exact congrArg₂ (· * ·) (h0 k) (h3 k)
    · exact congrArg₂ (· * ·) (h1 _) (h4 k)
    · exact congrArg₂ (· * ·) (h2 k) (h5 k)
    · exact congrArg₂ (· * ·) (h1 _) (h6 k)
    · exact congrArg₂ (· * ·) (h1 _) (h7 k)
  · exact h8 ⟨b * 512 + k, by omega⟩
  · exact h9 ⟨b * 512 + k, by omega⟩ d

/-- The second array the run leaves, as one function of the arguments. -/
def OUT2 (c : Dev nD) : FVec Ideal ⟨2, ![8192, 2048]⟩ .bf16 := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (i 0) (i 1)

/-- The second result array of the run. -/
theorem final2 (c : Dev nD) : (dats m 0 c).arrAt 13 (cfgs 0).N = OUT2 m c := by
  refine (dats m 0 c).arrAt_eq_of_covers 13 _ (by decide +kernel) fun t _ y => ?_
  blk_simp
  rw [after0_13]; unfold_out out0_13; frame_out
  obtain ⟨r, d, rfl⟩ : ∃ (r : Fin 256) (d : Fin 2048), y = ix2 r d := ⟨y 0, y 1, eq_ix2 y⟩
  refine (body_at _ _ _ _ _ _ _ _ _ _ _ _ r d).trans ?_
  unfold OUT2 outAt accRow
  have ht : t.val < 32 := (idx t).2.2.2.2.2.2.2.2.2.2.2.2.2.2
  obtain ⟨R, hR⟩ : ∃ R : Fin 8192, (R : ℕ) = t.val * 256 + r := ⟨⟨t.val * 256 + r, by omega⟩, rfl⟩
  have e : (((View.whole main_v2_1).slice (win0_13.rect t)).emb (ix2 r d)) = ix2 R d := by blk_ext [idx t]
  rw [e]
  have h0 : ∀ k : Fin 512, iblk m c 0 t (ix2 r k) = m ((c : Thread nD τ).loc main_arg0) (ix2 R k) := fun k => by blk_ext [iblk, V, idx t]
  have h1 : ∀ k : Fin 1536, iblk m c 1 t (ix2 r k) = m ((c : Thread nD τ).loc main_arg1) (ix2 R k) := fun k => by blk_ext [iblk, V, idx t]
  have h2 : ∀ k : Fin 512, iblk m c 2 t (ix2 r k) = m ((c : Thread nD τ).loc main_arg2) (ix2 R k) := fun k => by blk_ext [iblk, V, idx t]
  have h3 : ∀ k : Fin 512, iblk m c 3 t (ix2 r k) = m ((c : Thread nD τ).loc main_arg3) (ix2 R ⟨k, by omega⟩) := fun k => by blk_ext [iblk, V, idx t]
  have h4 : ∀ k : Fin 512, iblk m c 4 t (ix2 r k) = m ((c : Thread nD τ).loc main_arg3) (ix2 R ⟨1536 + k, by omega⟩) := fun k => by blk_ext [iblk, V, idx t]
  have h5 : ∀ k : Fin 512, iblk m c 5 t (ix2 r k) = m ((c : Thread nD τ).loc main_arg3) (ix2 R ⟨3584 + k, by omega⟩) := fun k => by blk_ext [iblk, V, idx t]
  have h6 : ∀ k : Fin 512, iblk m c 6 t (ix2 r k) = m ((c : Thread nD τ).loc main_arg3) (ix2 R ⟨5632 + k, by omega⟩) := fun k => by blk_ext [iblk, V, idx t]
  have h7 : ∀ k : Fin 512, iblk m c 7 t (ix2 r k) = m ((c : Thread nD τ).loc main_arg3) (ix2 R ⟨6656 + k, by omega⟩) := fun k => by blk_ext [iblk, V, idx t]
  have h8 : ∀ k : Fin 2560, iblk m c 8 t (ix2 0 k) = m ((c : Thread nD τ).loc main_arg4) (ix1 k) := fun k => by blk_ext! [iblk, V, idx t]
  have h9 : ∀ (k : Fin 2560) (d : Fin 2048), iblk m c 9 t (ix3 0 k d) = m ((c : Thread nD τ).loc main_arg5) (ix3 0 k d) := fun k d => by blk_ext [iblk, V, idx t]
  have h10 : ∀ k : Fin 2048, iblk m c 10 t (ix2 r k) = m ((c : Thread nD τ).loc main_arg6) (ix2 R k) := fun k => by blk_ext [iblk, V, idx t]
  have h11 : ∀ k : Fin 2048, iblk m c 11 t (ix2 0 k) = m ((c : Thread nD τ).loc main_arg7) (ix1 k) := fun k => by blk_ext! [iblk, V, idx t]
  refine rowOut_congr (fun d => ?_) (fun d => h11 d) d
  refine accAt_congr (fun d => ?_) (fun b k => ?_) (fun b k => ?_) (fun b k d => ?_) d
  · exact h10 d
  · rcases b with ⟨b, hb⟩
    interval_cases b
    · exact congrArg₂ (· * ·) (h0 k) (h3 k)
    · exact congrArg₂ (· * ·) (h1 _) (h4 k)
    · exact congrArg₂ (· * ·) (h2 k) (h5 k)
    · exact congrArg₂ (· * ·) (h1 _) (h6 k)
    · exact congrArg₂ (· * ·) (h1 _) (h7 k)
  · exact h8 ⟨b * 512 + k, by omega⟩
  · exact h9 ⟨b * 512 + k, by omega⟩ d
end Cert.MidMath
-- ==== Proof.MidRef.lean ====
module

public import proofs.«01_k».proof.Proof.Gen.RefMidIdeal.Run
public import proofs.«01_k».proof.Proof.MidSpec

@[expose] public section
set_option maxRecDepth 16384
noncomputable section
open Idealize.ShloMosaic Idealize.ShloMosaic.TcCoe Idealize.SL.Sem

namespace Cert.MidMath
open Cert.RefMidIdeal Cert.RefMidIdeal.Gen
open OutMath (rowOut accAt normed invRms gated gain)

/-- The reference's gated branch outputs, side by side. -/
def refY (ya : FVec Ideal S8192x512 .f32) (yl : FVec Ideal S8192x1536 .bf16) (yc : FVec Ideal S8192x512 .bf16) (proj : FVec Ideal S8192x7168 .bf16) : FVec Ideal S8192x2560 .f32 :=
  concatenate S8192x2560 1
    [⟨S8192x512, mulf ya (extractStridedSlice S8192x512 ![0, 0] (extf .f32 proj bitsLt_bf16_f32) slices_S8192x7168_S8192x512_0_0)⟩,
     ⟨S8192x512, mulf (extractStridedSlice S8192x512 ![0, 0] (extf .f32 yl bitsLt_bf16_f32) slices_S8192x1536_S8192x512_0_0) (extractStridedSlice S8192x512 ![0, 1536] (extf .f32 proj bitsLt_bf16_f32) slices_S8192x7168_S8192x512_0_1536)⟩,
     ⟨S8192x512, mulf (extf .f32 yc bitsLt_bf16_f32) (extractStridedSlice S8192x512 ![0, 3584] (extf .f32 proj bitsLt_bf16_f32) slices_S8192x7168_S8192x512_0_3584)⟩,
     ⟨S8192x512, mulf (extractStridedSlice S8192x512 ![0, 512] (extf .f32 yl bitsLt_bf16_f32) slices_S8192x1536_S8192x512_0_512) (extractStridedSlice S8192x512 ![0, 5632] (extf .f32 proj bitsLt_bf16_f32) slices_S8192x7168_S8192x512_0_5632)⟩,
     ⟨S8192x512, mulf (extractStridedSlice S8192x512 ![0, 1024] (extf .f32 yl bitsLt_bf16_f32) slices_S8192x1536_S8192x512_0_1024) (extractStridedSlice S8192x512 ![0, 6656] (extf .f32 proj bitsLt_bf16_f32) slices_S8192x7168_S8192x512_0_6656)⟩]
    concatenates_S8192x512_S8192x512_S8192x512_S8192x512_S8192x512_S8192x2560_d1

/-- The reference's normed and weighted branches. -/
def refN (Y : FVec Ideal S8192x2560 .f32) (ng : FVec Ideal S2560 .f32) : FVec Ideal S8192x2560 .f32 :=
  shapeCast S8192x2560 (mulf (mulf (shapeCast S8192x5x512 Y shapeCasts_S8192x2560_S8192x5x512)
    (broadcastInDim S8192x5x512 ![0, 1, 2] bcast_S8192x5x1_S8192x5x512_0_1_2 (Host.rsqrt (addf (Host.divf (broadcastInDim S8192x5x1 ![0, 1] bcast_S8192x5_S8192x5x1_0_1
      (Host.reduceAdd (mulf (shapeCast S8192x5x512 Y shapeCasts_S8192x2560_S8192x5x512) (shapeCast S8192x5x512 Y shapeCasts_S8192x2560_S8192x5x512)) (constant S_ .f32 0x00000000#32) reducesTo_S8192x5x512_S8192x5_d2 h_S_))
      (broadcastInDim S8192x5x1 ![] bcast_S_S8192x5x1 (constant S_ .f32 0x44000000#32))) (broadcastInDim S8192x5x1 ![] bcast_S_S8192x5x1 (constant S_ .f32 0x358637BD#32))))))
    (broadcastInDim S8192x5x512 ![0, 1, 2] bcast_S1x5x512_S8192x5x512_0_1_2 (broadcastInDim S1x5x512 ![1, 2] bcast_S5x512_S1x5x512_1_2 (shapeCast S5x512 ng shapeCasts_S2560_S5x512)))) shapeCasts_S8192x5x512_S8192x2560

/-- The reference's residual stream after the projection. -/
def refA (x : FVec Ideal S8192x2048 .f32) (N : FVec Ideal S8192x2560 .f32) (w : FVec Ideal S2x2560x2048 .f32) : FVec Ideal S8192x2048 .f32 :=
  addf x (Host.dotGeneral dot_S8192x2560_S2560x2048_S8192x2048_1_0_0_1_n_n none N (shapeCast S2560x2048 (extractStridedSlice S1x2560x2048 ![0, 0, 0] w slices_S2x2560x2048_S1x2560x2048_0_0_0) shapeCasts_S1x2560x2048_S2560x2048))

/-- The reference's norm. -/
def refO (A : FVec Ideal S8192x2048 .f32) (pg : FVec Ideal S2048 .f32) : FVec Ideal S8192x2048 .bf16 :=
  truncf .bf16 (mulf (mulf A (broadcastInDim S8192x2048 ![0, 1] bcast_S8192x1_S8192x2048_0_1 (Host.rsqrt (addf (Host.divf (broadcastInDim S8192x1 ![0] bcast_S8192_S8192x1_0 (Host.reduceAdd (mulf A A) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 pg))) bitsLt_bf16_f32

/-- A sum over 2560 columns is the five blocks' sums. -/
theorem sum_blocks (f : Fin 2560 → EReal) : ∑ k, f k
    = ∑ b : Fin 5, ∑ k : Fin 512, f ⟨b * 512 + k, by omega⟩ := by
  rw [← Fintype.sum_prod_type']
  refine (Fintype.sum_equiv (finProdFinEquiv (m := 5) (n := 512)) _ _ fun p => congrArg f (Fin.ext ?_)).symm
  show (p.1 : ℕ) * 512 + p.2 = p.2 + 512 * p.1
  omega

/-- The norm, entry by entry. -/
theorem refO_at (A : FVec Ideal S8192x2048 .f32) (pg : FVec Ideal S2048 .f32) (r : Fin 8192) (d : Fin 2048) :
    refO A pg (ix2 r d) = rowOut (fun d => A (ix2 r d)) (fun d => pg (ix1 d)) d := by
  pointwise [refO]
  rfl

/-- The projection, entry by entry. -/
theorem refA_at (x : FVec Ideal S8192x2048 .f32) (N : FVec Ideal S8192x2560 .f32) (w : FVec Ideal S2x2560x2048 .f32) (r : Fin 8192) (d : Fin 2048) :
    refA x N w (ix2 r d) = x (ix2 r d) + ∑ k, N (ix2 r k) * w (ix3 0 k d) := by
  pointwise [refA]

/-- The branch norm, entry by entry. -/
theorem refN_at (Y : FVec Ideal S8192x2560 .f32) (ng : FVec Ideal S2560 .f32) (r : Fin 8192) (b : Fin 5) (k : Fin 512) :
    refN Y ng (ix2 r ⟨b * 512 + k, by omega⟩) = normed (fun k => Y (ix2 r ⟨b * 512 + k, by omega⟩)) (gain ng b) k := by
  pointwise [refN]
  rfl

/-- The gated branches, entry by entry. -/
theorem refY_at (ya : FVec Ideal S8192x512 .f32) (yl : FVec Ideal S8192x1536 .bf16) (yc : FVec Ideal S8192x512 .bf16) (proj : FVec Ideal S8192x7168 .bf16) (r : Fin 8192) (b : Fin 5) (k : Fin 512) :
    refY ya yl yc proj (ix2 r ⟨b * 512 + k, by omega⟩) = gated ya yl yc proj r b k := by
  rcases b with ⟨b, hb⟩
  interval_cases b <;> pointwise [refY]
  · rfl
  · rfl
  · rw [dif_neg (by omega), dif_neg (by omega), dif_pos (by omega)]
    refine congrArg₂ (· * ·) (congrArg yc (congrArg (ix2 r) (Fin.ext ?_))) (congrArg proj (congrArg (ix2 r) (Fin.ext ?_))) <;> simp only [] <;> omega
  · rw [dif_neg (by omega), dif_neg (by omega), dif_neg (by omega), dif_pos (by omega)]
    refine congrArg₂ (· * ·) (congrArg yl (congrArg (ix2 r) (Fin.ext ?_))) (congrArg proj (congrArg (ix2 r) (Fin.ext ?_))) <;> simp only [] <;> omega
  · rw [dif_neg (by omega), dif_neg (by omega), dif_neg (by omega), dif_neg (by omega)]
    refine congrArg₂ (· * ·) (congrArg yl (congrArg (ix2 r) (Fin.ext ?_))) (congrArg proj (congrArg (ix2 r) (Fin.ext ?_))) <;> simp only [] <;> omega

/-- The reference's residual stream is `accRow`. -/
theorem refA_row (ya : FVec Ideal S8192x512 .f32) (yl : FVec Ideal S8192x1536 .bf16) (yc : FVec Ideal S8192x512 .bf16) (proj : FVec Ideal S8192x7168 .bf16)
    (ng : FVec Ideal S2560 .f32) (w : FVec Ideal S2x2560x2048 .f32) (x : FVec Ideal S8192x2048 .f32) (r : Fin 8192) (d : Fin 2048) :
    refA x (refN (refY ya yl yc proj) ng) w (ix2 r d) = accRow ya yl yc proj ng w x r d := by
  have h : ∀ (b : Fin 5) (k : Fin 512), refN (refY ya yl yc proj) ng (ix2 r ⟨b * 512 + k, by omega⟩) * w (ix3 0 ⟨b * 512 + k, by omega⟩ d)
      = normed (gated ya yl yc proj r b) (gain ng b) k * weight w b k d := fun b k => by
    rw [refN_at, funext fun k => refY_at ya yl yc proj r b k]; rfl
  rw [refA_at, sum_blocks (fun k => refN (refY ya yl yc proj) ng (ix2 r k) * w (ix3 0 k d)),
    Finset.sum_congr rfl fun b _ => Finset.sum_congr rfl fun k _ => h b k, Fin.sum_univ_five]
  simp only [accRow, accAt, add_assoc]

/-- The reference's first result, entry by entry. -/
theorem resX_at (m : (ℓ : Loc nD τ sig) → Buf (Elt Ideal) ℓ) (c : Dev nD) (r : Fin 8192) (d : Fin 2048) :
    Cert.RefMidIdeal.Value.res_main_v45 m c (ix2 r d) = accRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) r d := by
  have e : Cert.RefMidIdeal.Value.res_main_v45 m c = (refA (m ((c.tc : Thread nD τ).loc main_arg6)) (refN (refY (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5))) := rfl
  rw [e]
  exact refA_row _ _ _ _ _ _ _ r d

/-- The reference's second result, entry by entry. -/
theorem resH_at (m : (ℓ : Loc nD τ sig) → Buf (Elt Ideal) ℓ) (c : Dev nD) (r : Fin 8192) (d : Fin 2048) :
    Cert.RefMidIdeal.Value.res_main_v59 m c (ix2 r d) = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) r d := by
  have e : Cert.RefMidIdeal.Value.res_main_v59 m c = refO (refA (m ((c.tc : Thread nD τ).loc main_arg6)) (refN (refY (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5))) (m ((c.tc : Thread nD τ).loc main_arg7)) := rfl
  rw [e]
  refine (refO_at _ _ r d).trans ?_
  rw [funext fun d => refA_row _ _ _ _ _ _ _ r d]
  rfl
end Cert.MidMath
-- ==== Proof.MidClaim.lean ====
/- The claims about the first layer's output projection: the frames, and that the idealized kernel's two arrays are the reference's. -/
module

public import proofs.«01_k».proof.Defs
public import proofs.«01_k».proof.Proof.Gen.Mid.Frame
public import proofs.«01_k».proof.Proof.Gen.MidIdeal.Frame
public import proofs.«01_k».proof.Proof.MidValue
public import proofs.«01_k».proof.Proof.MidRef
public import Idealize.ShloMosaic.Lib.Claim
public import Idealize.ShloMosaic.Adequacy
public import Idealize.ShloMosaic.Init

@[expose] public section
set_option maxRecDepth 16384
noncomputable section
open Idealize.ShloMosaic Idealize.SL.Sem

namespace Cert.MidMath

/-- The kernel runs, leaves its arguments and ends quiescent. -/
theorem frame_kernel : Cert.quiescent_Mid := fun m ρ _ => Cert.Mid.Gen.frame m ρ
/-- So does the idealized kernel. -/
theorem frame_ideal : Cert.quiescent_MidIdeal := fun m ρ _ => Cert.MidIdeal.Gen.frame m ρ
/-- So does the reference. -/
theorem frame_ref : Cert.quiescent_RefMidIdeal := fun m ρ _ =>
  (θ_run Cert.RefMidIdeal.defs _ _).mono (fun r h => ⟨fun c => (h c).2.2, sem_eq_zero_of_no_sems (by decide) r.2⟩) (Cert.RefMidIdeal.Value.run m ρ)
/-- No rewrite of the kernel asks anything. -/
theorem preserves : Cert.preserves_Mid_MidIdeal := trivial
/-- The idealized kernel's arrays are the reference's. -/
theorem algebraic : Cert.algebraic_MidIdeal_RefMidIdeal := by
  pair_intro
  · run_from Cert.MidIdeal.Gen.run_main m g
  · run_from Cert.RefMidIdeal.Value.run m' g'
    · funext i
      obtain ⟨r, d, rfl⟩ : ∃ (r : Fin 8192) (d : Fin 2048), i = ix2 r d := ⟨i 0, i 1, eq_ix2 i⟩
      rw [final m c]
      refine (resX_at m' c r d).trans ?_
      obtain ⟨h0, h1, h2, h3, h4, h5, h6, h7⟩ := hagree c
      rw [h0, h1, h2, h3, h4, h5, h6]
      rfl
    · funext i
      obtain ⟨r, d, rfl⟩ : ∃ (r : Fin 8192) (d : Fin 2048), i = ix2 r d := ⟨i 0, i 1, eq_ix2 i⟩
      rw [final2 m c]
      refine (resH_at m' c r d).trans ?_
      obtain ⟨h0, h1, h2, h3, h4, h5, h6, h7⟩ := hagree c
      rw [h0, h1, h2, h3, h4, h5, h6, h7]
      rfl
end Cert.MidMath
-- ==== Proof.LocalTiles.lean ====
/- What one grid point of the idealized kernel leaves in its block, over the arrays it works from: the gated rows `U`, the
   layer-normed rows `N`, the masked mixing weights `T` and the convolution's input rows `Z`. -/
module

public import proofs.«01_k».proof.Proof.Gen.LocalIdeal.Value
public import proofs.«01_k».proof.Proof.LocalSpec
public import Idealize.ShloMosaic.Lib.Pipeline.ReadBack

@[expose] public section
set_option maxRecDepth 16384
set_option maxHeartbeats 2000000
noncomputable section
open Idealize.ShloMosaic Idealize.ShloMosaic.TcCoe Idealize.SL.Sem
open Idealize.ShloMosaic.Pipeline (Dat)
namespace Cert.LocalMath
open Cert.LocalIdeal Cert.LocalIdeal.Gen

/-- A load out of a buffer of stores is a read of what the stores left. -/
theorem readCov_ld {sig : RefSig} {κ : Kind} {sp : Space} {s : Shape} {e : EltTy} {Val : EltTy → Type} [∀ e, Nonempty (Val e)] (v : View sig κ sp s e)
    (L : List (View.Piece Val s e)) (r : Rect s) : v.readCov L r.toLoadRect = View.ld (View.canon L) r :=
  (View.readCov_eq_canon' v L r.toLoadRect).trans rfl

/-- The gated rows' entries. -/
theorem u_at (x : Vec Ideal S1x512x512 .bf16) (r k : Fin 512) : k0_pay8 x (ix2 r k) = gelu (x (ix3 0 r k)) := by
  pointwise [k0_pay8, gelu]
/-- The layer-normed rows' entries. -/
theorem n_at (x : Vec Ideal S1x512x512 .bf16) (g b : Vec Ideal S1x512 .f32) (r k : Fin 512) :
    k0_pay11 (k0_pay9 x) (k0_pay10 x) g b (ix2 r k) = lnorm (fun k => gelu (x (ix3 0 r k))) (fun k => g (ix2 0 k)) (fun k => b (ix2 0 k)) k := by
  pointwise [k0_pay11, k0_pay10, k0_pay9, lnorm, mean, gelu]

/-- The masked mixing weights. -/
def tri (x8 : Vec Ideal S4x128x128 .f32) : Vec Ideal S4x128x128 .bf16 := fun i => causal (i 1) (i 2) (x8 i)

/-- The convolution's input rows of one grid point: sixteen rows of the tile before, then the tile's own. -/
def zrows (first : BitVec 32) (x3 x4 : Vec Ideal S1x512x512 .bf16) (x5 x6 : Vec Ideal S1x16x512 .bf16) : Vec Ideal S528x512 .f32 := fun i =>
  if h : (i 0).val < 16 then k0_pay40 first x5 x6 (ix2 ⟨i 0, h⟩ (i 1)) else x3 (ix3 0 ⟨i 0 - 16, by have := (i 0).isLt; change _ < 528 at this; omega⟩ (i 1)) * x4 (ix3 0 ⟨i 0 - 16, by have := (i 0).isLt; change _ < 528 at this; omega⟩ (i 1))

/-- The buffer the convolution reads holds those rows. -/
theorem canon_z (first : BitVec 32) (x3 x4 : Vec Ideal S1x512x512 .bf16) (x5 x6 : Vec Ideal S1x16x512 .bf16) : View.canon (Val := Elt Ideal)
    [⟨Rect.unit (s := S528x512) ![16, 0] ![512, 512] inb_S528x512_S512x512_16_0, k0_pay41 x3 x4⟩,
      ⟨Rect.unit (s := S528x512) ![0, 0] ![16, 512] inb_S528x512_S16x512_0_0, k0_pay40 first x5 x6⟩] = zrows first x3 x4 x5 x6 := by
  funext y
  canon_tiles x h using (View.cover_of_tiledBy _ ![16,512] (by sl_kernel_rfl) _)
  · unfold zrows
    rw [dif_neg (by omega)]
    open_payloads
    pointwise
    blk_point
  · unfold zrows
    rw [dif_pos (by omega)]
    blk_ext

/-- A choice by the signed comparison of two small numbers. -/
theorem sle_select (a b : ℕ) (ha : a < 2 ^ 31) (hb : b < 2 ^ 31) (x y : EReal) :
    Scalar.select (IntOp.cmpi CmpIPredicate.sle (BitVec.ofNat 32 a) (BitVec.ofNat 32 b)) x y = if a ≤ b then x else y := by
  rw [WordCmp.cmpi_sle_ofNat (w := 32) ha hb]
  by_cases h : a ≤ b <;> simp [Scalar.select, h]

/-- The mixing weights as the first grid point stores them. -/
theorem canon_t (x8 : Vec Ideal S4x128x128 .f32) : View.canon (Val := Elt Ideal)
    [⟨Rect.unit (s := S4x128x128) ![3, 0, 0] ![1, 128, 128] inb_S4x128x128_S1x128x128_3_0_0,
        k0_pay7 k0_pay5 (k0_pay6 (View.ld x8 (Rect.unit ![3, 0, 0] ![1, 128, 128] inb_S4x128x128_S1x128x128_3_0_0))) (FloatOps.ofBits FTy.f32 0#32)⟩,
      ⟨Rect.unit ![2, 0, 0] ![1, 128, 128] inb_S4x128x128_S1x128x128_2_0_0, k0_pay4 (View.ld x8 (Rect.unit ![2, 0, 0] ![1, 128, 128] inb_S4x128x128_S1x128x128_2_0_0))⟩,
      ⟨Rect.unit ![1, 0, 0] ![1, 128, 128] inb_S4x128x128_S1x128x128_1_0_0, k0_pay3 (View.ld x8 (Rect.unit ![1, 0, 0] ![1, 128, 128] inb_S4x128x128_S1x128x128_1_0_0))⟩,
      ⟨Rect.unit ![0, 0, 0] ![1, 128, 128] inb_S4x128x128_S1x128x128_0_0_0, k0_pay2 (View.ld x8 (Rect.unit ![0, 0, 0] ![1, 128, 128] inb_S4x128x128_S1x128x128_0_0_0))⟩] = tri x8 := by
  funext y
  canon_tiles x h
  all_goals
    open_payloads
    pointwise [tri, causal]
  all_goals
    refine Eq.trans (sle_select (x 2) (x 1) (by omega) (by omega) _ _) ?_
    rw [h1, h2]
    refine if_congr Iff.rfl ?_ rfl
    blk_ext

theorem ix2_congr {n m : ℕ} {a a' : Fin n} {b b' : Fin m} (ha : a.val = a'.val) (hb : b.val = b'.val) : ix2 a b = ix2 a' b' := by
  cases Fin.ext ha; cases Fin.ext hb; rfl
theorem ix3_congr {n m l : ℕ} {a a' : Fin n} {b b' : Fin m} {c c' : Fin l} (ha : a.val = a'.val) (hb : b.val = b'.val) (hc : c.val = c'.val) :
    ix3 a b c = ix3 a' b' c' := by
  cases Fin.ext ha; cases Fin.ext hb; cases Fin.ext hc; rfl
theorem ix4_congr {n m l p : ℕ} {a a' : Fin n} {b b' : Fin m} {c c' : Fin l} {d d' : Fin p} (ha : a.val = a'.val) (hb : b.val = b'.val)
    (hc : c.val = c'.val) (hd : d.val = d'.val) : ix4 a b c d = ix4 a' b' c' d' := by
  cases Fin.ext ha; cases Fin.ext hb; cases Fin.ext hc; cases Fin.ext hd; rfl

/-- Attention depends on its query, keys and the read column of its values only. -/
theorem attn_congr {q q' : Fin 128 → EReal} {K K' V V' : Fin 256 → Fin 128 → EReal} {d d' : Fin 128} (hq : ∀ c, q c = q' c) (hK : ∀ n c, K n c = K' n c)
    (hV : ∀ n, V n d = V' n d') : attn q K V d = attn q' K' V' d' := by
  cases (funext hq : q = q'); cases (funext fun n => funext (hK n) : K = K')
  unfold attn
  simp only [hV]

/-- One block of the result, over the arrays the point works from. -/
def tile (U : FVec Ideal S512x512 .f32) (N : FVec Ideal S512x512 .bf16) (T : FVec Ideal S4x128x128 .bf16) (Z : FVec Ideal S528x512 .f32)
    (x2 x7 : Vec Ideal S1x512x512 .bf16) (x9 : Vec Ideal S128x4 .f32) (x12 : Vec Ideal S3x512 .f32) (x13 : Vec Ideal S1x1x256x1024 .bf16) (r : Fin 512) (k : Fin 1536) : EReal :=
  if h : k.val < 512 then U (ix2 r ⟨k, h⟩) * (∑ j : Fin 128, T (ix3 ⟨k / 128, by omega⟩ ⟨r % 128, by omega⟩ j) * N (ix2 ⟨r / 128 * 128 + j, by omega⟩ ⟨k, h⟩)
      + x9 (ix2 ⟨r % 128, by omega⟩ ⟨k / 128, by omega⟩))
  else if h' : k.val < 1024 then x2 (ix3 0 r ⟨k - 512, by omega⟩) * (x12 (ix2 2 ⟨k - 512, by omega⟩) * Z (ix2 ⟨16 + r, by omega⟩ ⟨k - 512, by omega⟩)
      + x12 (ix2 0 ⟨k - 512, by omega⟩) * Z (ix2 ⟨14 + r, by omega⟩ ⟨k - 512, by omega⟩) + x12 (ix2 1 ⟨k - 512, by omega⟩) * Z (ix2 ⟨15 + r, by omega⟩ ⟨k - 512, by omega⟩))
  else attn (fun c => x7 (ix3 0 r ⟨(k - 1024) / 128 * 128 + c, by omega⟩)) (fun n c => x13 (ix4 0 0 n ⟨(k - 1024) / 128 * 128 + c, by omega⟩))
    (fun n c => x13 (ix4 0 0 n ⟨512 + ((k - 1024) / 128 * 128 + c), by omega⟩)) ⟨(k - 1024) % 128, by omega⟩

variable (m : (ℓ : Loc nD τ sig) → Buf (Elt Ideal) ℓ)

/-- What the first grid point leaves in its block. -/
theorem tile_A (c : Dev nD) (t : Fin cfg0.N) (h0 : t.val % 16 = 0) (r : Fin 512) (k : Fin 1536) (T : FVec Ideal S4x128x128 .bf16) (hT : tri (iblk m c 8 t) = T) :
    (outsAt0 m c t.val t.isLt).1 (ix3 0 r k)
    = tile (k0_pay8 (iblk m c 0 t)) (k0_pay11 (k0_pay9 (iblk m c 1 t)) (k0_pay10 (iblk m c 1 t)) (iblk m c 10 t) (iblk m c 11 t)) T
        (zrows (BitVec.ofNat 32 ↑(grid0.coords t 1)) (iblk m c 3 t) (iblk m c 4 t) (iblk m c 5 t) (iblk m c 6 t)) (iblk m c 2 t) (iblk m c 7 t) (iblk m c 9 t) (iblk m c 12 t) (iblk m c 13 t) r k := by
  rw [outsAt0_A m c t h0]
  frame_open
  frame_out
  simp only [readCov_ld]
  rw [canon_z, canon_t, hT]
  canon_tiles x h using (View.cover_of_tiledBy _ ![1,128,128] (by sl_kernel_rfl) _)
  all_goals
    change r.val = _ at h1
    change k.val = _ at h2
    open_payloads
    pointwise [tile]
  case piece4 =>
    rw [dif_neg (by omega), dif_pos (by omega)]
    refine congrArg₂ (· * ·) (congrArg _ ?_) (congrArg₂ (· + ·) (congrArg₂ (· + ·) (congrArg₂ (· * ·) (congrArg _ ?_) (congrArg _ ?_))
      (congrArg₂ (· * ·) (congrArg _ ?_) (congrArg _ ?_))) (congrArg₂ (· * ·) (congrArg _ ?_) (congrArg _ ?_)))
    · refine (eq_ix3 x).trans (ix3_congr ?_ ?_ ?_) <;> (try dsimp) <;> omega
    all_goals refine ix2_congr ?_ ?_ <;> (try dsimp) <;> omega
  case piece0 =>
    rw [dif_neg (by omega), dif_neg (by omega)]
    refine Eq.trans (b := attn (fun c_1 => iblk m c 7 t (ix3 0 (x 1) ⟨384 + c_1, by omega⟩)) (fun n c_1 => iblk m c 13 t (ix4 0 0 n ⟨384 + c_1, by omega⟩))
      (fun n c_1 => iblk m c 13 t (ix4 0 0 n ⟨896 + c_1, by omega⟩)) (x 2)) rfl (attn_congr (fun c_1 => congrArg _ ?_) (fun n c_1 => congrArg _ ?_) (fun n => congrArg _ ?_))
    · refine ix3_congr ?_ ?_ ?_ <;> (try dsimp) <;> omega
    all_goals refine ix4_congr ?_ ?_ ?_ ?_ <;> (try dsimp) <;> omega
  case piece1 =>
    rw [dif_neg (by omega), dif_neg (by omega)]
    refine Eq.trans (b := attn (fun c_1 => iblk m c 7 t (ix3 0 (x 1) ⟨256 + c_1, by omega⟩)) (fun n c_1 => iblk m c 13 t (ix4 0 0 n ⟨256 + c_1, by omega⟩))
      (fun n c_1 => iblk m c 13 t (ix4 0 0 n ⟨768 + c_1, by omega⟩)) (x 2)) rfl (attn_congr (fun c_1 => congrArg _ ?_) (fun n c_1 => congrArg _ ?_) (fun n => congrArg _ ?_))
    · refine ix3_congr ?_ ?_ ?_ <;> (try dsimp) <;> omega
    all_goals refine ix4_congr ?_ ?_ ?_ ?_ <;> (try dsimp) <;> omega
  case piece2 =>
    rw [dif_neg (by omega), dif_neg (by omega)]
    refine Eq.trans (b := attn (fun c_1 => iblk m c 7 t (ix3 0 (x 1) ⟨128 + c_1, by omega⟩)) (fun n c_1 => iblk m c 13 t (ix4 0 0 n ⟨128 + c_1, by omega⟩))
      (fun n c_1 => iblk m c 13 t (ix4 0 0 n ⟨640 + c_1, by omega⟩)) (x 2)) rfl (attn_congr (fun c_1 => congrArg _ ?_) (fun n c_1 => congrArg _ ?_) (fun n => congrArg _ ?_))
    · refine ix3_congr ?_ ?_ ?_ <;> (try dsimp) <;> omega
    all_goals refine ix4_congr ?_ ?_ ?_ ?_ <;> (try dsimp) <;> omega
  case piece3 =>
    rw [dif_neg (by omega), dif_neg (by omega)]
    refine Eq.trans (b := attn (fun c_1 => iblk m c 7 t (ix3 0 (x 1) ⟨c_1, by omega⟩)) (fun n c_1 => iblk m c 13 t (ix4 0 0 n ⟨c_1, by omega⟩))
      (fun n c_1 => iblk m c 13 t (ix4 0 0 n ⟨512 + c_1, by omega⟩)) (x 2)) rfl (attn_congr (fun c_1 => congrArg _ ?_) (fun n c_1 => congrArg _ ?_) (fun n => congrArg _ ?_))
    · refine ix3_congr ?_ ?_ ?_ <;> (try dsimp) <;> omega
    all_goals refine ix4_congr ?_ ?_ ?_ ?_ <;> (try dsimp) <;> omega
  all_goals
    rw [dif_pos (by omega)]
    refine congrArg₂ (· * ·) (congrArg _ ?_) (congrArg₂ (· + ·) (Finset.sum_congr rfl fun j _ => congrArg₂ (· * ·) (congrArg _ ?_) (congrArg _ ?_)) (congrArg _ ?_))
    · refine ix2_congr ?_ ?_ <;> (try dsimp) <;> omega
    · refine ix3_congr ?_ ?_ ?_ <;> (try dsimp) <;> omega
    · refine ix2_congr ?_ ?_ <;> (try dsimp) <;> omega
    · refine ix2_congr ?_ ?_ <;> (try dsimp) <;> omega

/-- What a later grid point leaves in its block, from the mixing weights it was handed. -/
theorem tile_B (c : Dev nD) (t : Fin cfg0.N) (h0 : ¬ t.val % 16 = 0) (r : Fin 512) (k : Fin 1536) (T : FVec Ideal S4x128x128 .bf16)
    (hT : (outsAt0 m c (t.val - 1) (by have := t.isLt; omega)).2 = T) : (outsAt0 m c t.val t.isLt).1 (ix3 0 r k)
    = tile (k0_pay8 (iblk m c 0 t)) (k0_pay11 (k0_pay9 (iblk m c 1 t)) (k0_pay10 (iblk m c 1 t)) (iblk m c 10 t) (iblk m c 11 t)) T
        (zrows (BitVec.ofNat 32 ↑(grid0.coords t 1)) (iblk m c 3 t) (iblk m c 4 t) (iblk m c 5 t) (iblk m c 6 t)) (iblk m c 2 t) (iblk m c 7 t) (iblk m c 9 t) (iblk m c 12 t) (iblk m c 13 t) r k := by
  rw [outsAt0_B m c t h0]
  frame_open
  frame_out
  simp only [readCov_ld]
  rw [canon_z, hT]
  have hrd (X : Vec Ideal S4x128x128 .bf16) (h : (Memref.whole cc0_scratch1).IsWhole) : (View.whole cc0_scratch1).read (Elt Ideal) (h.unread X) = X := h.read_unread X
  simp only [hrd]
  canon_tiles x h using (View.cover_of_tiledBy _ ![1,128,128] (by sl_kernel_rfl) _)
  all_goals
    change r.val = _ at h1
    change k.val = _ at h2
    open_payloads
    pointwise [tile]
  case piece4 =>
    rw [dif_neg (by omega), dif_pos (by omega)]
    refine congrArg₂ (· * ·) (congrArg _ ?_) (congrArg₂ (· + ·) (congrArg₂ (· + ·) (congrArg₂ (· * ·) (congrArg _ ?_) (congrArg _ ?_))
      (congrArg₂ (· * ·) (congrArg _ ?_) (congrArg _ ?_))) (congrArg₂ (· * ·) (congrArg _ ?_) (congrArg _ ?_)))
    · refine (eq_ix3 x).trans (ix3_congr ?_ ?_ ?_) <;> (try dsimp) <;> omega
    all_goals refine ix2_congr ?_ ?_ <;> (try dsimp) <;> omega
  case piece0 =>
    rw [dif_neg (by omega), dif_neg (by omega)]
    refine Eq.trans (b := attn (fun c_1 => iblk m c 7 t (ix3 0 (x 1) ⟨384 + c_1, by omega⟩)) (fun n c_1 => iblk m c 13 t (ix4 0 0 n ⟨384 + c_1, by omega⟩))
      (fun n c_1 => iblk m c 13 t (ix4 0 0 n ⟨896 + c_1, by omega⟩)) (x 2)) rfl (attn_congr (fun c_1 => congrArg _ ?_) (fun n c_1 => congrArg _ ?_) (fun n => congrArg _ ?_))
    · refine ix3_congr ?_ ?_ ?_ <;> (try dsimp) <;> omega
    all_goals refine ix4_congr ?_ ?_ ?_ ?_ <;> (try dsimp) <;> omega
  case piece1 =>
    rw [dif_neg (by omega), dif_neg (by omega)]
    refine Eq.trans (b := attn (fun c_1 => iblk m c 7 t (ix3 0 (x 1) ⟨256 + c_1, by omega⟩)) (fun n c_1 => iblk m c 13 t (ix4 0 0 n ⟨256 + c_1, by omega⟩))
      (fun n c_1 => iblk m c 13 t (ix4 0 0 n ⟨768 + c_1, by omega⟩)) (x 2)) rfl (attn_congr (fun c_1 => congrArg _ ?_) (fun n c_1 => congrArg _ ?_) (fun n => congrArg _ ?_))
    · refine ix3_congr ?_ ?_ ?_ <;> (try dsimp) <;> omega
    all_goals refine ix4_congr ?_ ?_ ?_ ?_ <;> (try dsimp) <;> omega
  case piece2 =>
    rw [dif_neg (by omega), dif_neg (by omega)]
    refine Eq.trans (b := attn (fun c_1 => iblk m c 7 t (ix3 0 (x 1) ⟨128 + c_1, by omega⟩)) (fun n c_1 => iblk m c 13 t (ix4 0 0 n ⟨128 + c_1, by omega⟩))
      (fun n c_1 => iblk m c 13 t (ix4 0 0 n ⟨640 + c_1, by omega⟩)) (x 2)) rfl (attn_congr (fun c_1 => congrArg _ ?_) (fun n c_1 => congrArg _ ?_) (fun n => congrArg _ ?_))
    · refine ix3_congr ?_ ?_ ?_ <;> (try dsimp) <;> omega
    all_goals refine ix4_congr ?_ ?_ ?_ ?_ <;> (try dsimp) <;> omega
  case piece3 =>
    rw [dif_neg (by omega), dif_neg (by omega)]
    refine Eq.trans (b := attn (fun c_1 => iblk m c 7 t (ix3 0 (x 1) ⟨c_1, by omega⟩)) (fun n c_1 => iblk m c 13 t (ix4 0 0 n ⟨c_1, by omega⟩))
      (fun n c_1 => iblk m c 13 t (ix4 0 0 n ⟨512 + c_1, by omega⟩)) (x 2)) rfl (attn_congr (fun c_1 => congrArg _ ?_) (fun n c_1 => congrArg _ ?_) (fun n => congrArg _ ?_))
    · refine ix3_congr ?_ ?_ ?_ <;> (try dsimp) <;> omega
    all_goals refine ix4_congr ?_ ?_ ?_ ?_ <;> (try dsimp) <;> omega
  all_goals
    rw [dif_pos (by omega)]
    refine congrArg₂ (· * ·) (congrArg _ ?_) (congrArg₂ (· + ·) (Finset.sum_congr rfl fun j _ => congrArg₂ (· * ·) (congrArg _ ?_) (congrArg _ ?_)) (congrArg _ ?_))
    · refine ix2_congr ?_ ?_ <;> (try dsimp) <;> omega
    · refine ix3_congr ?_ ?_ ?_ <;> (try dsimp) <;> omega
    · refine ix2_congr ?_ ?_ <;> (try dsimp) <;> omega
    · refine ix2_congr ?_ ?_ <;> (try dsimp) <;> omega

/-- The mixing weights after the first grid point. -/
theorem scr_A (c : Dev nD) (t : Fin cfg0.N) (h0 : t.val % 16 = 0) : (outsAt0 m c t.val t.isLt).2 = tri (iblk m c 8 t) := by
  rw [outsAt0_A m c t h0]
  frame_out
  exact canon_t _
/-- A later grid point hands the mixing weights on. -/
theorem scr_B (c : Dev nD) (t : Fin cfg0.N) (h0 : ¬ t.val % 16 = 0) : (outsAt0 m c t.val t.isLt).2 = (outsAt0 m c (t.val - 1) (by have := t.isLt; omega)).2 := by
  rw [outsAt0_B m c t h0]
  frame_out
  unfold sout0_B_1
  first | rfl | exact Memref.IsWhole.read_unread _ _
end Cert.LocalMath
-- ==== Proof.LocalValue.lean ====
/- The result array of the idealized kernel, entry by entry: what each grid point leaves in its block, read through the windows
   onto the arguments. -/
module

public import proofs.«01_k».proof.Proof.LocalTiles

@[expose] public section
set_option maxRecDepth 16384
set_option maxHeartbeats 2000000
noncomputable section
open Idealize.ShloMosaic Idealize.ShloMosaic.TcCoe Idealize.SL.Sem
open Idealize.ShloMosaic.Pipeline (Dat)
namespace Cert.LocalMath
open Cert.LocalIdeal Cert.LocalIdeal.Gen
variable (m : (ℓ : Loc nD τ sig) → Buf (Elt Ideal) ℓ)

/-- The windows' block indices at grid point `t`: batch `t / 8`, tile `t % 8` of its rows. -/
theorem idxA : ∀ t : Fin cfg0.N, win0_0.index t = ![t.val / 8, t.val % 8, 1] ∧ win0_1.index t = ![t.val / 8, t.val % 8, 2] ∧ win0_2.index t = ![t.val / 8, t.val % 8, 8]
  ∧ win0_3.index t = ![t.val / 8, t.val % 8, 9] ∧ win0_4.index t = ![t.val / 8, t.val % 8, 10] ∧ win0_7.index t = ![t.val / 8, t.val % 8, 12]
  ∧ win0_14.index t = ![t.val / 8, t.val % 8, 0] ∧ t.val < 16 :=
  (by decide +kernel : ∀ t : Fin grid0.N, _)
theorem idxB : ∀ t : Fin cfg0.N, win0_8.index t = ![0, 0, 0] ∧ win0_9.index t = ![0, 0] ∧ win0_10.index t = ![0, 0] ∧ win0_11.index t = ![0, 0] ∧ win0_12.index t = ![0, 0]
  ∧ win0_13.index t = ![0, t.val / 8, 0, 0] :=
  (by decide +kernel : ∀ t : Fin grid0.N, _)
/-- The sixteen rows before the tile. -/
theorem idxC : ∀ t : Fin cfg0.N, win0_5.index t = ![t.val / 8, t.val % 8 * 32 - 1, 9] ∧ win0_6.index t = ![t.val / 8, t.val % 8 * 32 - 1, 10] ∧ (grid0.coords t 1).val = t.val % 8 :=
  (by decide +kernel : ∀ t : Fin grid0.N, _)

abbrev P (c : Dev nD) : FVec Ideal ⟨3, ![2, 4096, 7168]⟩ .bf16 := m ((c : Thread nD τ).loc main_arg0)
abbrev M (c : Dev nD) : FVec Ideal ⟨4, ![2, 2, 256, 1024]⟩ .bf16 := m ((c : Thread nD τ).loc main_arg1)
abbrev W (c : Dev nD) : FVec Ideal ⟨3, ![4, 128, 128]⟩ .f32 := m ((c : Thread nD τ).loc main_arg2)
abbrev B (c : Dev nD) : FVec Ideal ⟨2, ![4, 128]⟩ .f32 := m ((c : Thread nD τ).loc main_arg3)
abbrev lg (c : Dev nD) : FVec Ideal ⟨1, ![512]⟩ .f32 := m ((c : Thread nD τ).loc main_arg4)
abbrev lb (c : Dev nD) : FVec Ideal ⟨1, ![512]⟩ .f32 := m ((c : Thread nD τ).loc main_arg5)
abbrev C (c : Dev nD) : FVec Ideal ⟨2, ![3, 512]⟩ .f32 := m ((c : Thread nD τ).loc main_arg6)

theorem x8_eq (c : Dev nD) (t : Fin cfg0.N) : iblk m c 8 t = W m c := by
  funext i
  obtain ⟨a, b, d, rfl⟩ : ∃ (a : Fin 4) (b d : Fin 128), i = ix3 a b d := ⟨i 0, i 1, i 2, eq_ix3 i⟩
  blk_ext [iblk, V, idxB t]

/-- The carried mixing weights, at every grid point. -/
theorem scr (c : Dev nD) : ∀ (n : ℕ) (hn : n < cfg0.N), (outsAt0 m c n hn).2 = tri (W m c)
  | 0, hn => (scr_A m c ⟨0, hn⟩ rfl).trans (by rw [x8_eq])
  | n + 1, hn => (scr_B m c ⟨n + 1, hn⟩ (by have : n + 1 < 16 := (idxA ⟨n + 1, hn⟩).2.2.2.2.2.2.2; change ¬ (n + 1) % 16 = 0; omega)).trans (scr c n _)

/-- One grid point's block, over the mixing weights of the arguments. -/
theorem tile_at (c : Dev nD) (t : Fin cfg0.N) (r : Fin 512) (k : Fin 1536) : (outsAt0 m c t.val t.isLt).1 (ix3 0 r k)
    = tile (k0_pay8 (iblk m c 0 t)) (k0_pay11 (k0_pay9 (iblk m c 1 t)) (k0_pay10 (iblk m c 1 t)) (iblk m c 10 t) (iblk m c 11 t)) (tri (W m c))
        (zrows (BitVec.ofNat 32 ↑(grid0.coords t 1)) (iblk m c 3 t) (iblk m c 4 t) (iblk m c 5 t) (iblk m c 6 t)) (iblk m c 2 t) (iblk m c 7 t) (iblk m c 9 t) (iblk m c 12 t) (iblk m c 13 t) r k := by
  by_cases h0 : t.val % 16 = 0
  · exact tile_A m c t h0 r k _ (by rw [x8_eq])
  · exact tile_B m c t h0 r k _ (scr m c _ _)

/-- The array the run leaves, as one function of the arguments. -/
def OUT (c : Dev nD) : FVec Ideal ⟨3, ![2, 4096, 1536]⟩ .bf16 := fun i =>
  outAt (P m c) (M m c) (W m c) (B m c) (lg m c) (lb m c) (C m c) (i 0) (i 1) (i 2)

/-- A choice by the equality of two small numbers. -/
theorem eq_select (a b : ℕ) (ha : a < 2 ^ 31) (hb : b < 2 ^ 31) (x y : EReal) :
    Scalar.select (Scalar.cmpi CmpIPredicate.eq (BitVec.ofNat 32 a) (BitVec.ofNat 32 b)) x y = if a = b then x else y := by
  have h : Scalar.cmpi CmpIPredicate.eq (BitVec.ofNat 32 a) (BitVec.ofNat 32 b) = BitVec.ofBool (decide (a = b)) := by
    refine (WordCmp.cmpi_eq_eq_toNat _ _).trans ?_
    simp only [BitVec.toNat_ofNat]
    rw [Nat.mod_eq_of_lt (by omega), Nat.mod_eq_of_lt (by omega)]
  rw [h]
  by_cases h : a = b <;> simp [Scalar.select, h]

/-- The convolution's input `n` rows before row `r` of the tile. -/
theorem z_at (c : Dev nD) (t : Fin cfg0.N) (b : Fin 2) (hb : b.val = t.val / 8) (r k : Fin 512) (s : Fin 4096) (hs : s.val = t.val % 8 * 512 + r) (n : ℕ) (hn : n ≤ 2) (q : Fin 528) (hq : q.val = 16 + r - n) :
    zrows (BitVec.ofNat 32 ↑(grid0.coords t 1)) (iblk m c 3 t) (iblk m c 4 t) (iblk m c 5 t) (iblk m c 6 t) (ix2 q k) = backAt (P m c) n b s k := by
  unfold zrows backAt
  by_cases h : q.val < 16
  · rw [dif_pos (by exact h)]
    pointwise [k0_pay40]
    rw [(idxC t).2.2]
    rw [show (0#32 : BitVec 32) = BitVec.ofNat 32 0 from rfl]
    refine Eq.trans (eq_select _ _ (by omega) (by omega) _ _) ?_
    by_cases h0 : t.val % 8 = 0
    · rw [if_pos h0, if_neg (by omega)]
    · rw [if_neg h0, if_pos (by omega)]
      refine congrArg₂ (· * ·) ?_ ?_
      · blk_ext [iblk, V, idxC t]
      · blk_ext [iblk, V, idxC t]
  · rw [dif_neg (by exact h), if_pos (by omega)]
    refine congrArg₂ (· * ·) ?_ ?_
    · blk_ext [iblk, V, idxA t]
    · blk_ext [iblk, V, idxA t]

/-- The result array of the run. -/
theorem final (c : Dev nD) : (dats m 0 c).arrAt 14 (cfgs 0).N = OUT m c := by
  refine (dats m 0 c).arrAt_eq_of_covers 14 _ (by decide +kernel) fun t _ y => ?_
  blk_simp
  rw [after0_14]
  obtain ⟨a, r, k, rfl⟩ : ∃ (a : Fin 1) (r : Fin 512) (k : Fin 1536), y = ix3 a r k := ⟨y 0, y 1, y 2, eq_ix3 y⟩
  obtain rfl : a = 0 := Subsingleton.elim _ _
  refine (tile_at m c t r k).trans ?_
  unfold OUT
  have ht : t.val < 16 := (idxA t).2.2.2.2.2.2.2
  obtain ⟨s, hs⟩ : ∃ s : Fin 4096, s.val = t.val % 8 * 512 + r := ⟨⟨t.val % 8 * 512 + r, by omega⟩, rfl⟩
  obtain ⟨b, hb⟩ : ∃ b : Fin 2, b.val = t.val / 8 := ⟨⟨t.val / 8, by omega⟩, rfl⟩
  have e : (((View.whole main_v3).slice (win0_14.rect t)).emb (ix3 0 r k)) = ix3 b s k := by blk_ext [idxA t]
  rw [e]
  change _ = outAt (P m c) (M m c) (W m c) (B m c) (lg m c) (lb m c) (C m c) b s k
  unfold tile outAt
  split
  case isTrue h =>
    unfold gateAt
    refine congrArg₂ (· * ·) ((u_at _ _ _).trans (congrArg gelu ?_)) (congrArg₂ (· + ·) (Finset.sum_congr rfl fun j _ => congrArg₂ (· * ·) ?_ ((n_at _ _ _ _ _).trans ?_)) ?_)
    · blk_ext [iblk, V, idxA t]
    · unfold tri
      have er : (r : ℕ) % 128 = (s : ℕ) % 128 := by omega
      exact congr (congrArg₂ causal (Fin.ext er) rfl) (congrArg (W m c) (ix3_congr rfl er rfl))
    · unfold vnormAt
      have e0 : (fun k : Fin 512 => gelu (iblk m c 1 t (ix3 0 ⟨r / 128 * 128 + j, by omega⟩ k)))
          = fun k : Fin 512 => gelu (P m c (ix3 b ⟨s / 128 * 128 + j, by omega⟩ ⟨1024 + k, by omega⟩)) := funext fun k => congrArg gelu (by blk_ext [iblk, V, idxA t])
      have e1 : (fun k : Fin 512 => iblk m c 10 t (ix2 0 k)) = fun k : Fin 512 => lg m c (ix1 k) := funext fun k => by blk_ext! [iblk, V, idxB t]
      have e2 : (fun k : Fin 512 => iblk m c 11 t (ix2 0 k)) = fun k : Fin 512 => lb m c (ix1 k) := funext fun k => by blk_ext! [iblk, V, idxB t]
      exact congrFun (congr (congrArg₂ lnorm e0 e1) e2) _
    · blk_ext! [iblk, V, idxB t]
  case isFalse h =>
    split
    case isTrue h' =>
      unfold convAt
      have hw (i : Fin 3) (k : Fin 512) : iblk m c 12 t (ix2 i k) = C m c (ix2 i k) := by blk_ext [iblk, V, idxB t]
      refine congrArg₂ (· * ·) ?_ (congrArg₂ (· + ·) (congrArg₂ (· + ·) (congrArg₂ (· * ·) (hw _ _) (z_at m c t b hb r _ s hs 0 (by omega) _ ?_))
        (congrArg₂ (· * ·) (hw _ _) (z_at m c t b hb r _ s hs 2 (by omega) _ ?_))) (congrArg₂ (· * ·) (hw _ _) (z_at m c t b hb r _ s hs 1 (by omega) _ ?_)))
      · blk_ext [iblk, V, idxA t]
      · exact (Nat.sub_zero _).symm
      · exact (by omega : 14 + (r : ℕ) = 16 + r - 2)
      · exact (by omega : 15 + (r : ℕ) = 16 + r - 1)
    case isFalse h' =>
      unfold crossAt
      refine attn_congr (fun c_1 => ?_) (fun n c_1 => ?_) (fun n => ?_)
      · blk_ext [iblk, V, idxA t]
      · blk_ext [iblk, V, idxB t]
      · blk_ext [iblk, V, idxB t]
end Cert.LocalMath
-- ==== Proof.LocalRef.lean ====
/- The reference's three mixers, stage by stage and entry by entry. -/
module

public import proofs.«01_k».proof.Proof.Gen.RefLocalIdeal.Run
public import proofs.«01_k».proof.Proof.LocalTiles
public import proofs.«01_k».proof.Proof.LocalSoftmax

@[expose] public section
set_option maxRecDepth 16384
set_option maxHeartbeats 2000000
noncomputable section
open Idealize.ShloMosaic Idealize.ShloMosaic.TcCoe Idealize.SL.Sem

namespace Cert.LocalMath
open Cert.RefLocalIdeal Cert.RefLocalIdeal.Gen

/-- A number repeated over the whole array. -/
abbrev bc (c : BitVec 32) : FVec Ideal S2x4096x512 .f32 := broadcastInDim S2x4096x512 ![] bcast_S_S2x4096x512 (constant S_ .f32 c)

/-- The reference's gelu. -/
def refGelu (X : FVec Ideal S2x4096x512 .f32) : FVec Ideal S2x4096x512 .f32 :=
  mulf X (mulf (bc 0x3F000000#32) (addf (bc 0x3F800000#32) (Host.tanh (mulf (bc 0x3F4C422A#32) (addf X (mulf (bc 0x3D372713#32) (mulf (mulf X X) X)))))))

/-- The rows minus their means. -/
def refDev (G : FVec Ideal S2x4096x512 .f32) : FVec Ideal S2x4096x512 .f32 :=
  subf G (broadcastInDim S2x4096x512 ![0, 1, 2] bcast_S2x4096x1_S2x4096x512_0_1_2 (Host.divf (broadcastInDim S2x4096x1 ![0, 1] bcast_S2x4096_S2x4096x1_0_1 (Host.reduceAdd G (constant S_ .f32 0x00000000#32) reducesTo_S2x4096x512_S2x4096_d2 h_S_)) (broadcastInDim S2x4096x1 ![] bcast_S_S2x4096x1 (constant S_ .f32 0x44000000#32))))

/-- The layer norm, from the rows minus their means. -/
def refVN (T : FVec Ideal S2x4096x512 .f32) (lg lb : FVec Ideal S512 .f32) : FVec Ideal S2x4096x512 .f32 :=
  addf (mulf (mulf T (broadcastInDim S2x4096x512 ![0, 1, 2] bcast_S2x4096x1_S2x4096x512_0_1_2 (Host.rsqrt (addf (Host.divf (broadcastInDim S2x4096x1 ![0, 1] bcast_S2x4096_S2x4096x1_0_1 (Host.reduceAdd (mulf T T) (constant S_ .f32 0x00000000#32) reducesTo_S2x4096x512_S2x4096_d2 h_S_)) (broadcastInDim S2x4096x1 ![] bcast_S_S2x4096x1 (constant S_ .f32 0x44000000#32))) (broadcastInDim S2x4096x1 ![] bcast_S_S2x4096x1 (constant S_ .f32 0x358637BD#32)))))) (broadcastInDim S2x4096x512 ![0, 1, 2] bcast_S1x1x512_S2x4096x512_0_1_2 (broadcastInDim S1x1x512 ![2] bcast_S512_S1x1x512_2 lg))) (broadcastInDim S2x4096x512 ![0, 1, 2] bcast_S1x1x512_S2x4096x512_0_1_2 (broadcastInDim S1x1x512 ![2] bcast_S512_S1x1x512_2 lb))

/-- The mixing weights' lower triangle. -/
def refTri (W : FVec Ideal S4x128x128 .f32) : FVec Ideal S4x128x128 .f32 :=
  mulf W (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- The chunked mixing of the normed rows. -/
def refMix (VN : FVec Ideal S2x4096x512 .f32) (T : FVec Ideal S4x128x128 .f32) (B : FVec Ideal S4x128 .f32) : FVec Ideal S2x4096x512 .f32 :=
  shapeCast S2x4096x512 (addf (transpose S2x32x128x4x128 [1, 2, 4, 0, 3] (Host.dotGeneral dot_S2x32x128x4x128_S4x128x128_S4x2x32x128x128_2_2_014_1_3_0 none (shapeCast S2x32x128x4x128 VN shapeCasts_S2x4096x512_S2x32x128x4x128) T) transposes_S4x2x32x128x128_S2x32x128x4x128_1_2_4_0_3) (broadcastInDim S2x32x128x4x128 ![0, 1, 2, 3, 4] bcast_S1x1x128x4x1_S2x32x128x4x128_0_1_2_3_4 (broadcastInDim S1x1x128x4x1 ![2, 3] bcast_S128x4_S1x1x128x4x1_2_3 (transpose S128x4 [1, 0] B transposes_S4x128_S128x4_1_0)))) shapeCasts_S2x32x128x4x128_S2x4096x512

/-- The convolution's input, two rows of zeros before it. -/
def refPad (Z : FVec Ideal S2x4096x512 .f32) : FVec Ideal S2x4098x512 .f32 :=
  pad S2x4098x512 ![0, 2, 0] ![0, 0, 0] ![0, 0, 0] Z (sitofp .f32 (constantI S_ 32 0#32)) pads_S2x4096x512_S2x4098x512_000_200_000 h_S_

/-- The three taps. -/
def refTaps (Z : FVec Ideal S2x4098x512 .f32) (C : FVec Ideal S3x512 .f32) : FVec Ideal S2x4096x512 .f32 :=
  addf (addf (addf (bc 0x00000000#32)
    (mulf (broadcastInDim S2x4096x512 ![0, 1, 2] bcast_S1x1x512_S2x4096x512_0_1_2 (broadcastInDim S1x1x512 ![2] bcast_S512_S1x1x512_2 (shapeCast S512 (extractStridedSlice S1x512 ![0, 0] C slices_S3x512_S1x512_0_0) shapeCasts_S1x512_S512))) (extractStridedSlice S2x4096x512 ![0, 0, 0] Z slices_S2x4098x512_S2x4096x512_0_0_0)))
    (mulf (broadcastInDim S2x4096x512 ![0, 1, 2] bcast_S1x1x512_S2x4096x512_0_1_2 (broadcastInDim S1x1x512 ![2] bcast_S512_S1x1x512_2 (shapeCast S512 (extractStridedSlice S1x512 ![1, 0] C slices_S3x512_S1x512_1_0) shapeCasts_S1x512_S512))) (extractStridedSlice S2x4096x512 ![0, 1, 0] Z slices_S2x4098x512_S2x4096x512_0_1_0)))
    (mulf (broadcastInDim S2x4096x512 ![0, 1, 2] bcast_S1x1x512_S2x4096x512_0_1_2 (broadcastInDim S1x1x512 ![2] bcast_S512_S1x1x512_2 (shapeCast S512 (extractStridedSlice S1x512 ![2, 0] C slices_S3x512_S1x512_2_0) shapeCasts_S1x512_S512))) (extractStridedSlice S2x4096x512 ![0, 2, 0] Z slices_S2x4098x512_S2x4096x512_0_2_0))

/-- The memory's keys and values, before they are told apart. -/
def refKV (M : FVec Ideal S2x2x256x1024 .bf16) : FVec Ideal S2x256x2x4x128 .f32 :=
  shapeCast S2x256x2x4x128 (shapeCast S2x256x1024 (extractStridedSlice S1x2x256x1024 ![0, 0, 0, 0] (extf .f32 M bitsLt_bf16_f32) slices_S2x2x256x1024_S1x2x256x1024_0_0_0_0) shapeCasts_S1x2x256x1024_S2x256x1024) shapeCasts_S2x256x1024_S2x256x2x4x128
/-- The keys. -/
def refK (M : FVec Ideal S2x2x256x1024 .bf16) : FVec Ideal S2x256x4x128 .f32 :=
  shapeCast S2x256x4x128 (extractStridedSlice S2x256x1x4x128 ![0, 0, 0, 0, 0] (refKV M) slices_S2x256x2x4x128_S2x256x1x4x128_0_0_0_0_0) shapeCasts_S2x256x1x4x128_S2x256x4x128
/-- The values. -/
def refV (M : FVec Ideal S2x2x256x1024 .bf16) : FVec Ideal S2x256x4x128 .f32 :=
  shapeCast S2x256x4x128 (extractStridedSlice S2x256x1x4x128 ![0, 0, 1, 0, 0] (refKV M) slices_S2x256x2x4x128_S2x256x1x4x128_0_0_1_0_0) shapeCasts_S2x256x1x4x128_S2x256x4x128
/-- The scaled scores. -/
def refS (Q : FVec Ideal S2x4096x512 .f32) (K : FVec Ideal S2x256x4x128 .f32) : FVec Ideal S2x4x4096x256 .f32 :=
  mulf (Host.dotGeneral dot_S2x4096x4x128_S2x256x4x128_S2x4x4096x256_3_3_1_1_02_02 none (shapeCast S2x4096x4x128 Q shapeCasts_S2x4096x512_S2x4096x4x128) K) (broadcastInDim S2x4x4096x256 ![] bcast_S_S2x4x4096x256 (constant S_ .f32 0x3DB504F3#32))
/-- Each query's largest score. -/
def refM (S : FVec Ideal S2x4x4096x256 .f32) : FVec Ideal S2x4x4096 .f32 := Host.reduce FloatOps.maximumf S (constant S_ .f32 0xFF800000#32) reducesTo_S2x4x4096x256_S2x4x4096_d3 h_S_
/-- The same, never below minus infinity. -/
def refM' (X : FVec Ideal S2x4x4096 .f32) : FVec Ideal S2x4x4096 .f32 := maximumf (broadcastInDim S2x4x4096 ![] bcast_S_S2x4x4096 (constant S_ .f32 0xFF800000#32)) X
/-- The unnormalised weights. -/
def refE (S : FVec Ideal S2x4x4096x256 .f32) (X : FVec Ideal S2x4x4096 .f32) : FVec Ideal S2x4x4096x256 .f32 :=
  Host.exp (subf S (broadcastInDim S2x4x4096x256 ![0, 1, 2, 3] bcast_S2x4x4096x1_S2x4x4096x256_0_1_2_3 (broadcastInDim S2x4x4096x1 ![0, 1, 2] bcast_S2x4x4096_S2x4x4096x1_0_1_2 X)))
/-- The weights, normalised. -/
def refN (E : FVec Ideal S2x4x4096x256 .f32) : FVec Ideal S2x4x4096x256 .f32 :=
  Host.divf E (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd E (constant S_ .f32 0x00000000#32) reducesTo_S2x4x4096x256_S2x4x4096_d3 h_S_)))
/-- The weighted values, head by head. -/
def refX (N : FVec Ideal S2x4x4096x256 .f32) (V : FVec Ideal S2x256x4x128 .f32) : FVec Ideal S2x4x128x4096 .f32 :=
  Host.dotGeneral dot_S2x256x4x128_S2x4x4096x256_S2x4x128x4096_1_3_3_2_02_01 none V N
/-- The heads side by side. -/
def refH (X : FVec Ideal S2x4x128x4096 .f32) : FVec Ideal S2x4096x512 .f32 :=
  shapeCast S2x4096x512 (transpose S2x4096x4x128 [0, 3, 1, 2] X transposes_S2x4x128x4096_S2x4096x4x128_0_3_1_2) shapeCasts_S2x4096x4x128_S2x4096x512
/-- The three side by side. -/
def refO (G D X : FVec Ideal S2x4096x512 .f32) : FVec Ideal S2x4096x1536 .bf16 :=
  truncf .bf16 (concatenate S2x4096x1536 2 [⟨S2x4096x512, G⟩, ⟨S2x4096x512, D⟩, ⟨S2x4096x512, X⟩] concatenates_S2x4096x512_S2x4096x512_S2x4096x512_S2x4096x1536_d2) bitsLt_bf16_f32

section Columns
variable (P : FVec Ideal S2x4096x7168 .bf16)
/-- The projection's columns each branch reads. -/
abbrev colU : FVec Ideal S2x4096x512 .f32 := extractStridedSlice S2x4096x512 ![0, 0, 512] (extf .f32 P bitsLt_bf16_f32) slices_S2x4096x7168_S2x4096x512_0_0_512
/-- The gating unit's second half. -/
abbrev colV : FVec Ideal S2x4096x512 .f32 := extractStridedSlice S2x4096x512 ![0, 0, 1024] (extf .f32 P bitsLt_bf16_f32) slices_S2x4096x7168_S2x4096x512_0_0_1024
/-- The convolution's outer gate. -/
abbrev colB : FVec Ideal S2x4096x512 .f32 := extractStridedSlice S2x4096x512 ![0, 0, 4096] (extf .f32 P bitsLt_bf16_f32) slices_S2x4096x7168_S2x4096x512_0_0_4096
/-- The convolution's inner gate. -/
abbrev colC : FVec Ideal S2x4096x512 .f32 := extractStridedSlice S2x4096x512 ![0, 0, 4608] (extf .f32 P bitsLt_bf16_f32) slices_S2x4096x7168_S2x4096x512_0_0_4608
/-- The convolution's input. -/
abbrev colX : FVec Ideal S2x4096x512 .f32 := extractStridedSlice S2x4096x512 ![0, 0, 5120] (extf .f32 P bitsLt_bf16_f32) slices_S2x4096x7168_S2x4096x512_0_0_5120
/-- The cross-attention's queries. -/
abbrev colQ : FVec Ideal S2x4096x512 .f32 := extractStridedSlice S2x4096x512 ![0, 0, 6144] (extf .f32 P bitsLt_bf16_f32) slices_S2x4096x7168_S2x4096x512_0_0_6144
end Columns

/-- The gelu, entry by entry. -/
theorem refGelu_at (X : FVec Ideal S2x4096x512 .f32) (b : Fin 2) (s : Fin 4096) (k : Fin 512) : refGelu X (ix3 b s k) = gelu (X (ix3 b s k)) := by
  pointwise [refGelu, gelu]
  rw [mul_assoc (X (ix3 b s k)) (X (ix3 b s k))]

/-- The layer norm, entry by entry. -/
theorem refVN_at (G : FVec Ideal S2x4096x512 .f32) (lg lb : FVec Ideal S512 .f32) (b : Fin 2) (s : Fin 4096) (k : Fin 512) :
    refVN (refDev G) lg lb (ix3 b s k) = lnorm (fun k => G (ix3 b s k)) (fun k => lg (ix1 k)) (fun k => lb (ix1 k)) k := by
  have hd (k : Fin 512) : refDev G (ix3 b s k) = G (ix3 b s k) - mean (fun k => G (ix3 b s k)) := by
    pointwise [refDev]; rfl
  pointwise [refVN]
  simp only [hd]
  rfl

/-- The lower triangle, entry by entry. -/
theorem refTri_at (W : FVec Ideal S4x128x128 .f32) (g : Fin 4) (i j : Fin 128) : refTri W (ix3 g i j) = causal i j (W (ix3 g i j)) := by
  pointwise [refTri, causal]
  rw [show IntOp.addi (BitVec.ofNat 32 i) 0#32 = BitVec.ofNat 32 i from BitVec.add_zero _, WordCmp.cmpi_sge_ofNat (w := 32) (by omega) (by omega)]
  by_cases h : j.val ≤ i.val <;> simp [Scalar.select, h]

/-- The mixing, entry by entry. -/
theorem refMix_at (VN : FVec Ideal S2x4096x512 .f32) (T : FVec Ideal S4x128x128 .f32) (B : FVec Ideal S4x128 .f32) (b : Fin 2) (s : Fin 4096) (k : Fin 512) :
    refMix VN T B (ix3 b s k) = ∑ j : Fin 128, T (ix3 ⟨k / 128, by omega⟩ ⟨s % 128, by omega⟩ j) * VN (ix3 b ⟨s / 128 * 128 + j, by omega⟩ k)
      + B (ix2 ⟨k / 128, by omega⟩ ⟨s % 128, by omega⟩) := by
  pointwise [refMix]
  exact congrArg (· + _) (Finset.sum_congr rfl fun j _ => mul_comm _ _)

/-- The taps, entry by entry. -/
theorem refTaps_at (Z : FVec Ideal S2x4096x512 .f32) (C : FVec Ideal S3x512 .f32) (b : Fin 2) (s : Fin 4096) (k : Fin 512) :
    refTaps (refPad Z) C (ix3 b s k) = C (ix2 2 k) * Z (ix3 b s k) + C (ix2 0 k) * (if h : 2 ≤ s.val then Z (ix3 b ⟨s - 2, by omega⟩ k) else 0)
      + C (ix2 1 k) * (if h : 1 ≤ s.val then Z (ix3 b ⟨s - 1, by omega⟩ k) else 0) := by
  have z0 : (FloatOps.sitofp (F := Ideal) FTy.f32 0#32 : EReal) = 0 := by simp [FloatOps.sitofp]
  pointwise [refTaps, refPad]
  rw [z0, add_comm _ (C (ix2 2 k) * _), ← add_assoc]
  refine congrArg₂ (· + ·) (congrArg (_ + ·) (congrArg (_ * ·) ?_)) (congrArg (_ * ·) ?_)
  · by_cases h : 2 ≤ s.val
    · rw [dif_pos ⟨h, by omega⟩, dif_pos h]
    · rw [dif_neg (fun e => h e.1), dif_neg h]
  · by_cases h : 1 ≤ s.val
    · rw [dif_pos ⟨by omega, by omega⟩, dif_pos h]
      exact congrArg Z (ix3_congr rfl (by show 1 + s.val - 2 = s.val - 1; omega) rfl)
    · rw [dif_neg (fun e => h (by omega)), dif_neg h]

/-- The scores, entry by entry. -/
theorem refS_at (Q : FVec Ideal S2x4096x512 .f32) (M : FVec Ideal S2x2x256x1024 .bf16) (b : Fin 2) (h : Fin 4) (s : Fin 4096) (n : Fin 256) :
    refS Q (refK M) (ix4 b h s n) = score (fun c => Q (ix3 b s ⟨h * 128 + c, by omega⟩)) (fun n c => M (ix4 0 b n ⟨h * 128 + c, by omega⟩)) n := by
  pointwise [refS, refK, refKV, score]

/-- The largest scores, entry by entry. -/
theorem refM_at (S : FVec Ideal S2x4x4096x256 .f32) (b : Fin 2) (h : Fin 4) (s : Fin 4096) :
    refM S (ix3 b h s) = Finset.univ.fold max (Ideal.ofBits .f32 0xFF800000#32) (fun n => S (ix4 b h s n)) := by
  pointwise [refM]

theorem refM'_at (X : FVec Ideal S2x4x4096 .f32) (b : Fin 2) (h : Fin 4) (s : Fin 4096) : refM' X (ix3 b h s) = max (Ideal.ofBits .f32 0xFF800000#32) (X (ix3 b h s)) := by
  pointwise [refM']

theorem refE'_at (S : FVec Ideal S2x4x4096x256 .f32) (X : FVec Ideal S2x4x4096 .f32) (b : Fin 2) (h : Fin 4) (s : Fin 4096) (n : Fin 256) :
    refE S X (ix4 b h s n) = Ideal.exp (S (ix4 b h s n) - X (ix3 b h s)) := by
  pointwise [refE]

/-- The unnormalised weights, entry by entry. -/
theorem refE_at (S : FVec Ideal S2x4x4096x256 .f32) (b : Fin 2) (h : Fin 4) (s : Fin 4096) (n : Fin 256) :
    refE S (refM' (refM S)) (ix4 b h s n) = Ideal.exp (S (ix4 b h s n) - Finset.univ.fold max (Ideal.ofBits .f32 0xFF800000#32) (fun n => S (ix4 b h s n))) := by
  rw [refE'_at, refM'_at, refM_at, max_eq_right ((Finset.le_fold_max _).mpr (Or.inl le_rfl))]

/-- The values, entry by entry. -/
theorem refV_at (M : FVec Ideal S2x2x256x1024 .bf16) (b : Fin 2) (n : Fin 256) (h : Fin 4) (d : Fin 128) :
    refV M (ix4 b n h d) = M (ix4 0 b n ⟨512 + (h * 128 + d), by omega⟩) := by
  pointwise [refV, refKV]
  exact congrArg M (ix4_congr rfl rfl rfl (by show 512 + h.val * 128 + d.val = 512 + (h.val * 128 + d.val); omega))

/-- The normalised weights, entry by entry. -/
theorem refN_at (E : FVec Ideal S2x4x4096x256 .f32) (b : Fin 2) (h : Fin 4) (s : Fin 4096) (n : Fin 256) :
    refN E (ix4 b h s n) = Ideal.div (E (ix4 b h s n)) (∑ n, E (ix4 b h s n)) := by
  pointwise [refN]

/-- The weighted values, entry by entry. -/
theorem refX_at (N : FVec Ideal S2x4x4096x256 .f32) (V : FVec Ideal S2x256x4x128 .f32) (b : Fin 2) (h : Fin 4) (d : Fin 128) (s : Fin 4096) :
    refX N V (ix4 b h d s) = ∑ n, V (ix4 b n h d) * N (ix4 b h s n) := by
  pointwise [refX]

/-- The heads side by side, entry by entry. -/
theorem refH_at (X : FVec Ideal S2x4x128x4096 .f32) (b : Fin 2) (s : Fin 4096) (k : Fin 512) :
    refH X (ix3 b s k) = X (ix4 b ⟨k / 128, by omega⟩ ⟨k % 128, by omega⟩ s) := by
  pointwise [refH]

/-- The three branches, entry by entry. -/
theorem refO_at (G D X : FVec Ideal S2x4096x512 .f32) (b : Fin 2) (s : Fin 4096) (k : Fin 1536) :
    refO G D X (ix3 b s k) = if h : k.val < 512 then G (ix3 b s ⟨k, h⟩) else if h' : k.val < 1024 then D (ix3 b s ⟨k - 512, by omega⟩) else X (ix3 b s ⟨k - 1024, by omega⟩) := by
  pointwise [refO]
  by_cases h : k.val < 512
  · rw [dif_pos h, dif_pos h]
  · rw [dif_neg h, dif_neg h]
    by_cases h' : k.val < 1024
    · rw [dif_pos (by omega), dif_pos h']
    · rw [dif_neg (by omega), dif_neg h']
      exact congrArg X (ix3_congr rfl rfl (by show k.val - 512 - 512 = k.val - 1024; omega))

variable (m : (ℓ : Loc nD τ sig) → Buf (Elt Ideal) ℓ)

/-- The reference's result is the stages in turn. -/
theorem res_eq (c : Dev nD) : Cert.RefLocalIdeal.Value.res_main_v131 m c =
    (let P := m ((c.tc : Thread nD τ).loc main_arg0); let M := m ((c.tc : Thread nD τ).loc main_arg1)
     refO (mulf (refGelu (colU P)) (refMix (refVN (refDev (refGelu (colV P))) (m ((c.tc : Thread nD τ).loc main_arg4)) (m ((c.tc : Thread nD τ).loc main_arg5))) (refTri (m ((c.tc : Thread nD τ).loc main_arg2))) (m ((c.tc : Thread nD τ).loc main_arg3))))
       (mulf (colB P) (refTaps (refPad (mulf (colC P) (colX P))) (m ((c.tc : Thread nD τ).loc main_arg6))))
       (refH (refX (refN (refE (refS (colQ P) (refK M)) (refM' (refM (refS (colQ P) (refK M)))))) (refV M)))) := rfl

/-- The gating branch, entry by entry. -/
theorem gate_at (P : FVec Ideal S2x4096x7168 .bf16) (W : FVec Ideal S4x128x128 .f32) (B : FVec Ideal S4x128 .f32) (lg lb : FVec Ideal S512 .f32) (b : Fin 2) (s : Fin 4096) (k : Fin 512) :
    mulf (refGelu (colU P)) (refMix (refVN (refDev (refGelu (colV P))) lg lb) (refTri W) B) (ix3 b s k) = gateAt P W B lg lb b s k := by
  have hu (s : Fin 4096) (k : Fin 512) : colU P (ix3 b s k) = P (ix3 b s ⟨512 + k, by omega⟩) := by pointwise []
  have hv (s : Fin 4096) (k : Fin 512) : colV P (ix3 b s k) = P (ix3 b s ⟨1024 + k, by omega⟩) := by pointwise []
  show refGelu (colU P) (ix3 b s k) * refMix _ _ B (ix3 b s k) = _
  rw [refGelu_at, hu, refMix_at]
  refine congrArg (_ * ·) (congrArg (· + _) (Finset.sum_congr rfl fun j _ => ?_))
  rw [refTri_at, refVN_at]
  exact congrArg (_ * ·) (congrArg (fun f => lnorm f _ _ k) (funext fun k => by rw [refGelu_at, hv]))

/-- The convolution branch, entry by entry. -/
theorem conv_at (P : FVec Ideal S2x4096x7168 .bf16) (C : FVec Ideal S3x512 .f32) (b : Fin 2) (s : Fin 4096) (k : Fin 512) :
    mulf (colB P) (refTaps (refPad (mulf (colC P) (colX P))) C) (ix3 b s k) = convAt P C b s k := by
  have hb : colB P (ix3 b s k) = P (ix3 b s ⟨4096 + k, by omega⟩) := by pointwise []
  have hz (s : Fin 4096) : mulf (colC P) (colX P) (ix3 b s k) = P (ix3 b s ⟨4608 + k, by omega⟩) * P (ix3 b s ⟨5120 + k, by omega⟩) := by pointwise []
  show colB P (ix3 b s k) * refTaps _ C (ix3 b s k) = _
  rw [hb, refTaps_at]
  simp only [hz]
  unfold convAt backAt
  simp only [Nat.zero_le, if_true, Nat.sub_zero]
  rfl

/-- The cross-attention branch, entry by entry, for finite queries and keys. -/
theorem cross_at (P : FVec Ideal S2x4096x7168 .bf16) (M : FVec Ideal S2x2x256x1024 .bf16) (b : Fin 2) (s : Fin 4096) (k : Fin 512)
    (hq : ∀ (b : Fin 2) (s : Fin 4096) (k : Fin 512), Fin' (P (ix3 b s ⟨6144 + k, by omega⟩))) (hk : ∀ (b : Fin 2) (n : Fin 256) (k : Fin 512), Fin' (M (ix4 0 b n ⟨k, by omega⟩))) :
    refH (refX (refN (refE (refS (colQ P) (refK M)) (refM' (refM (refS (colQ P) (refK M)))))) (refV M)) (ix3 b s k) = crossAt P M b s k := by
  have hQ (s : Fin 4096) (k : Fin 512) : colQ P (ix3 b s k) = P (ix3 b s ⟨6144 + k, by omega⟩) := by pointwise []
  have hE (h : Fin 4) (s : Fin 4096) (n : Fin 256) : refE (refS (colQ P) (refK M)) (refM' (refM (refS (colQ P) (refK M)))) (ix4 b h s n)
      = weight (fun c => P (ix3 b s ⟨6144 + (h * 128 + c), by omega⟩)) (fun n c => M (ix4 0 b n ⟨h * 128 + c, by omega⟩)) n := by
    rw [refE_at]
    simp only [refS_at, hQ]
    rfl
  rw [refH_at, refX_at]
  simp only [refN_at, hE, refV_at]
  exact attn_of_div (fun c => P (ix3 b s ⟨6144 + (k / 128 * 128 + c), by omega⟩)) (fun n c => M (ix4 0 b n ⟨k / 128 * 128 + c, by omega⟩))
    (fun n c => M (ix4 0 b n ⟨512 + (k / 128 * 128 + c), by omega⟩)) ⟨k % 128, by omega⟩ (fun c => hq b s ⟨k / 128 * 128 + c, by omega⟩) (fun n c => hk b n ⟨k / 128 * 128 + c, by omega⟩)

/-- The reference's result, entry by entry, for finite queries and keys. -/
theorem res_at (c : Dev nD) (b : Fin 2) (s : Fin 4096) (k : Fin 1536)
    (hq : ∀ (b : Fin 2) (s : Fin 4096) (k : Fin 512), Fin' ((m ((c.tc : Thread nD τ).loc main_arg0) : FVec Ideal S2x4096x7168 .bf16) (ix3 b s ⟨6144 + k, by omega⟩)))
    (hk : ∀ (b : Fin 2) (n : Fin 256) (k : Fin 512), Fin' ((m ((c.tc : Thread nD τ).loc main_arg1) : FVec Ideal S2x2x256x1024 .bf16) (ix4 0 b n ⟨k, by omega⟩))) :
    Cert.RefLocalIdeal.Value.res_main_v131 m c (ix3 b s k)
      = outAt (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) b s k := by
  rw [res_eq]
  refine (refO_at _ _ _ b s k).trans ?_
  unfold outAt
  split
  · exact gate_at _ _ _ _ _ b s _
  · split
    · exact conv_at _ _ b s _
    · exact cross_at _ _ b s _ hq hk

end Cert.LocalMath
-- ==== Proof.LocalClaim.lean ====
/- The claims about the three cheap mixers: the frames, and that the idealized kernel's array is the reference's. -/
module

public import proofs.«01_k».proof.Defs
public import proofs.«01_k».proof.Proof.Gen.Local.Frame
public import proofs.«01_k».proof.Proof.Gen.LocalIdeal.Frame
public import proofs.«01_k».proof.Proof.LocalValue
public import proofs.«01_k».proof.Proof.LocalRef
public import proofs.«01_k».proof.Proof.LocalPre
public import Idealize.ShloMosaic.Lib.Claim
public import Idealize.ShloMosaic.Adequacy
public import Idealize.ShloMosaic.Init

@[expose] public section
set_option maxRecDepth 16384
noncomputable section
open Idealize.ShloMosaic Idealize.SL.Sem

namespace Cert.LocalMath

/-- The kernel runs, leaves its arguments and ends quiescent. -/
theorem frame_kernel : Cert.quiescent_Local := fun m ρ _ => Cert.Local.Gen.frame m ρ
/-- So does the idealized kernel. -/
theorem frame_ideal : Cert.quiescent_LocalIdeal := fun m ρ _ => Cert.LocalIdeal.Gen.frame m ρ
/-- So it does under the precondition. -/
theorem frame_ideal_pre : Cert.quiescent_LocalIdeal_pre_finite_scores := fun m ρ _ => Cert.LocalIdeal.Gen.frame m ρ
/-- So does the reference. -/
theorem frame_ref : Cert.quiescent_RefLocalIdeal := fun m ρ _ =>
  (θ_run Cert.RefLocalIdeal.defs _ _).mono (fun r h => ⟨fun c => (h c).2, sem_eq_zero_of_no_sems (by decide) r.2⟩) (Cert.RefLocalIdeal.Value.run m ρ)
/-- So it does under the precondition. -/
theorem frame_ref_pre : Cert.quiescent_RefLocalIdeal_pre_finite_scores := fun m ρ _ => frame_ref m ρ trivial
/-- No rewrite of the kernel asks anything. -/
theorem preserves : Cert.preserves_Local_LocalIdeal := trivial
/-- The idealized kernel's array is the reference's, for finite queries and keys of the cross-attention. -/
theorem algebraic : Cert.algebraic_LocalIdeal_RefLocalIdeal_pre_finite_scores := by
  pair_intro
  · run_from Cert.LocalIdeal.Gen.run_main m g
  · run_from Cert.RefLocalIdeal.Value.run m' g'
    funext i
    obtain ⟨b, s, k, rfl⟩ : ∃ (b : Fin 2) (s : Fin 4096) (k : Fin 1536), i = ix3 b s k := ⟨i 0, i 1, i 2, eq_ix3 i⟩
    obtain ⟨hq, hk⟩ := finite_of _ _ _ _ _ _ _ (hpre c)
    obtain ⟨h0, h1, h2, h3, h4, h5, h6⟩ := hagree c
    rw [final m c]
    refine (res_at m' c b s k (by rw [h0]; exact hq) (by rw [h1]; exact hk)).trans ?_
    rw [h0, h1, h2, h3, h4, h5, h6]
    rfl
end Cert.LocalMath
-- ==== Proof.InIBase.lean ====
/- The input projection, its idealized form: which of its five conditionals each grid point takes, and where a result's buffer is left alone. -/
module

public import proofs.«01_k».proof.Proof.Gen.InIdeal.Frame
public import proofs.«01_k».proof.Proof.Gen.InIdeal.Launch
public import proofs.«01_k».proof.Proof.Gen.InIdeal.Skeleton
public import proofs.«01_k».proof.Proof.Gen.InIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The test of the body's conditional number 1, at grid coordinates `i`. -/
abbrev cond0_0 (i : grid0.Coords) : Prop := k0_cond1 i = 1#1
/-- That test, decided by the column step `t % 17` of the grid point. -/
theorem hcond0_0 : ∀ t : Fin cfg0.N, cond0_0 (grid0.coords t) ↔ t.val % 17 ≤ 1 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_0, k0_cond1, e0, e1]
    word_cmp
   : ∀ t : Fin grid0.N, cond0_0 (grid0.coords t) ↔ t.val % 17 ≤ 1)

/-- The test of the body's conditional number 2, at grid coordinates `i`. -/
abbrev cond0_1 (i : grid0.Coords) : Prop := k0_cond2 i = 1#1
/-- That test, decided by the column step `t % 17` of the grid point. -/
theorem hcond0_1 : ∀ t : Fin cfg0.N, cond0_1 (grid0.coords t) ↔ t.val % 17 = 2 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_1, k0_cond2, e0, e1]
    word_cmp
   : ∀ t : Fin grid0.N, cond0_1 (grid0.coords t) ↔ t.val % 17 = 2)

/-- The test of the body's conditional number 3, at grid coordinates `i`. -/
abbrev cond0_2 (i : grid0.Coords) : Prop := k0_cond3 i = 1#1
/-- That test, decided by the column step `t % 17` of the grid point. -/
theorem hcond0_2 : ∀ t : Fin cfg0.N, cond0_2 (grid0.coords t) ↔ (7 ≤ t.val % 17 ∧ t.val % 17 ≤ 8) :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_2, k0_cond3, e0, e1]
    word_cmp
   : ∀ t : Fin grid0.N, cond0_2 (grid0.coords t) ↔ (7 ≤ t.val % 17 ∧ t.val % 17 ≤ 8))

/-- The test of the body's conditional number 4, at grid coordinates `i`. -/
abbrev cond0_3 (i : grid0.Coords) : Prop := k0_cond4 i = 1#1
/-- That test, decided by the column step `t % 17` of the grid point. -/
theorem hcond0_3 : ∀ t : Fin cfg0.N, cond0_3 (grid0.coords t) ↔ (t.val % 17 = 3 ∨ t.val % 17 = 6 ∨ t.val % 17 = 10 ∨ t.val % 17 = 14 ∨ t.val % 17 = 16) :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_3, k0_cond4, e0, e1]
    word_cmp
   : ∀ t : Fin grid0.N, cond0_3 (grid0.coords t) ↔ (t.val % 17 = 3 ∨ t.val % 17 = 6 ∨ t.val % 17 = 10 ∨ t.val % 17 = 14 ∨ t.val % 17 = 16))

/-- The test of the body's conditional number 5, at grid coordinates `i`. -/
abbrev cond0_4 (i : grid0.Coords) : Prop := k0_cond5 i = 1#1
/-- That test, decided by the column step `t % 17` of the grid point. -/
theorem hcond0_4 : ∀ t : Fin cfg0.N, cond0_4 (grid0.coords t) ↔ (t.val % 17 = 4 ∨ t.val % 17 = 5 ∨ t.val % 17 = 9 ∨ t.val % 17 = 11 ∨ t.val % 17 = 12 ∨ t.val % 17 = 13 ∨ t.val % 17 = 15) :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_4, k0_cond5, e0, e1]
    word_cmp
   : ∀ t : Fin grid0.N, cond0_4 (grid0.coords t) ↔ (t.val % 17 = 4 ∨ t.val % 17 = 5 ∨ t.val % 17 = 9 ∨ t.val % 17 = 11 ∨ t.val % 17 = 12 ∨ t.val % 17 = 13 ∨ t.val % 17 = 15))

/-! ## Where the windows are left alone -/

/-- Window 0 is an input, so no point is idle for it. -/
theorem liveAt0_0 : ∀ t : Fin cfg0.N, cfg0.idle 0 (grid0.coords t) = false := fun _ => rfl
/-- Window 1 is an input, so no point is idle for it. -/
theorem liveAt0_1 : ∀ t : Fin cfg0.N, cfg0.idle 1 (grid0.coords t) = false := fun _ => rfl
/-- Window 2 is an input, so no point is idle for it. -/
theorem liveAt0_2 : ∀ t : Fin cfg0.N, cfg0.idle 2 (grid0.coords t) = false := fun _ => rfl
/-- Window 3 is an input, so no point is idle for it. -/
theorem liveAt0_3 : ∀ t : Fin cfg0.N, cfg0.idle 3 (grid0.coords t) = false := fun _ => rfl

/-- All five tests together, at a column of the queries or keys of the first group (rotated, into the 32-bit result). -/
abbrev conds0_A (i : grid0.Coords) : Prop := cond0_0 i ∧ ¬cond0_1 i ∧ ¬cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- All five tests together, at the column of the first group's values (copied, into the 32-bit result). -/
abbrev conds0_B (i : grid0.Coords) : Prop := ¬cond0_0 i ∧ cond0_1 i ∧ ¬cond0_2 i ∧ ¬cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- All five tests together, at a gate column (passed through silu, into the 16-bit result). -/
abbrev conds0_C (i : grid0.Coords) : Prop := ¬cond0_0 i ∧ ¬cond0_1 i ∧ ¬cond0_2 i ∧ cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
/-- All five tests together, at a plain column (copied, into the 16-bit result). -/
abbrev conds0_D (i : grid0.Coords) : Prop := ¬cond0_0 i ∧ ¬cond0_1 i ∧ ¬cond0_2 i ∧ ¬cond0_3 i ∧ cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- All five tests together, at a column of the queries or keys of the third group (rotated, into the 16-bit result). -/
abbrev conds0_E (i : grid0.Coords) : Prop := ¬cond0_0 i ∧ ¬cond0_1 i ∧ cond0_2 i ∧ ¬cond0_3 i ∧ ¬cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
/-- Whether the 32-bit result's buffer holds nothing stored yet, before point `n`: a table, bit `n` for position `n + 1`. -/
def freshTab0_4 : ℕ → Bool
  | 0 => true
  | n + 1 => (0x8001c000e00070003 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- Window 4 is stored into at a column of the queries or keys of the first group (rotated, into the 32-bit result). -/
theorem liveAt0_4_A : ∀ t : Fin cfg0.N, cond0_0 (grid0.coords t) → ¬cond0_1 (grid0.coords t) → ¬cond0_2 (grid0.coords t) → ¬cond0_3 (grid0.coords t) → ¬cond0_4 (grid0.coords t) → cfg0.idle 4 (grid0.coords t) = false :=
  fun t h0 h1 h2 h3 h4 => (by decide +kernel : ∀ t : Fin cfg0.N, conds0_A (grid0.coords t) → cfg0.idle 4 (grid0.coords t) = false) t ⟨h0, h1, h2, h3, h4⟩
/-- Window 4 is stored into at the column of the first group's values (copied, into the 32-bit result). -/
theorem liveAt0_4_B : ∀ t : Fin cfg0.N, ¬cond0_0 (grid0.coords t) → cond0_1 (grid0.coords t) → ¬cond0_2 (grid0.coords t) → ¬cond0_3 (grid0.coords t) → ¬cond0_4 (grid0.coords t) → cfg0.idle 4 (grid0.coords t) = false :=
  fun t h0 h1 h2 h3 h4 => (by decide +kernel : ∀ t : Fin cfg0.N, conds0_B (grid0.coords t) → cfg0.idle 4 (grid0.coords t) = false) t ⟨h0, h1, h2, h3, h4⟩
/-- Window 4 is left alone at a gate column (passed through silu, into the 16-bit result). -/
theorem idleAt0_4_C : ∀ t : Fin cfg0.N, ¬cond0_0 (grid0.coords t) → ¬cond0_1 (grid0.coords t) → ¬cond0_2 (grid0.coords t) → cond0_3 (grid0.coords t) → ¬cond0_4 (grid0.coords t) → cfg0.idle 4 (grid0.coords t) = true :=
  fun t h0 h1 h2 h3 h4 => (by decide +kernel : ∀ t : Fin cfg0.N, conds0_C (grid0.coords t) → cfg0.idle 4 (grid0.coords t) = true) t ⟨h0, h1, h2, h3, h4⟩
/-- At a gate column (passed through silu, into the 16-bit result), the 32-bit result's buffer still holds the tile stored last. -/
theorem notFresh0_4_C : ∀ t : Fin cfg0.N, ¬cond0_0 (grid0.coords t) → ¬cond0_1 (grid0.coords t) → ¬cond0_2 (grid0.coords t) → cond0_3 (grid0.coords t) → ¬cond0_4 (grid0.coords t) → cfg0.fresh 4 t.val = false :=
  fun t h0 h1 h2 h3 h4 => (by intro t; rw [fresh0_4_eq t]; revert t; decide +kernel : ∀ t : Fin cfg0.N, conds0_C (grid0.coords t) → cfg0.fresh 4 t.val = false) t ⟨h0, h1, h2, h3, h4⟩
/-- Window 4 is left alone at a plain column (copied, into the 16-bit result). -/
theorem idleAt0_4_D : ∀ t : Fin cfg0.N, ¬cond0_0 (grid0.coords t) → ¬cond0_1 (grid0.coords t) → ¬cond0_2 (grid0.coords t) → ¬cond0_3 (grid0.coords t) → cond0_4 (grid0.coords t) → cfg0.idle 4 (grid0.coords t) = true :=
  fun t h0 h1 h2 h3 h4 => (by decide +kernel : ∀ t : Fin cfg0.N, conds0_D (grid0.coords t) → cfg0.idle 4 (grid0.coords t) = true) t ⟨h0, h1, h2, h3, h4⟩
/-- At a plain column (copied, into the 16-bit result), the 32-bit result's buffer still holds the tile stored last. -/
theorem notFresh0_4_D : ∀ t : Fin cfg0.N, ¬cond0_0 (grid0.coords t) → ¬cond0_1 (grid0.coords t) → ¬cond0_2 (grid0.coords t) → ¬cond0_3 (grid0.coords t) → cond0_4 (grid0.coords t) → cfg0.fresh 4 t.val = false :=
  fun t h0 h1 h2 h3 h4 => (by intro t; rw [fresh0_4_eq t]; revert t; decide +kernel : ∀ t : Fin cfg0.N, conds0_D (grid0.coords t) → cfg0.fresh 4 t.val = false) t ⟨h0, h1, h2, h3, h4⟩
/-- Window 4 is left alone at a column of the queries or keys of the third group (rotated, into the 16-bit result). -/
theorem idleAt0_4_E : ∀ t : Fin cfg0.N, ¬cond0_0 (grid0.coords t) → ¬cond0_1 (grid0.coords t) → cond0_2 (grid0.coords t) → ¬cond0_3 (grid0.coords t) → ¬cond0_4 (grid0.coords t) → cfg0.idle 4 (grid0.coords t) = true :=
  fun t h0 h1 h2 h3 h4 => (by decide +kernel : ∀ t : Fin cfg0.N, conds0_E (grid0.coords t) → cfg0.idle 4 (grid0.coords t) = true) t ⟨h0, h1, h2, h3, h4⟩
/-- At a column of the queries or keys of the third group (rotated, into the 16-bit result), the 32-bit result's buffer still holds the tile stored last. -/
theorem notFresh0_4_E : ∀ t : Fin cfg0.N, ¬cond0_0 (grid0.coords t) → ¬cond0_1 (grid0.coords t) → cond0_2 (grid0.coords t) → ¬cond0_3 (grid0.coords t) → ¬cond0_4 (grid0.coords t) → cfg0.fresh 4 t.val = false :=
  fun t h0 h1 h2 h3 h4 => (by intro t; rw [fresh0_4_eq t]; revert t; decide +kernel : ∀ t : Fin cfg0.N, conds0_E (grid0.coords t) → cfg0.fresh 4 t.val = false) t ⟨h0, h1, h2, h3, h4⟩
/-- Window 5 is left alone at a column of the queries or keys of the first group (rotated, into the 32-bit result). -/
theorem idleAt0_5_A : ∀ t : Fin cfg0.N, cond0_0 (grid0.coords t) → ¬cond0_1 (grid0.coords t) → ¬cond0_2 (grid0.coords t) → ¬cond0_3 (grid0.coords t) → ¬cond0_4 (grid0.coords t) → cfg0.idle 5 (grid0.coords t) = true :=
  fun t h0 h1 h2 h3 h4 => (by decide +kernel : ∀ t : Fin cfg0.N, conds0_A (grid0.coords t) → cfg0.idle 5 (grid0.coords t) = true) t ⟨h0, h1, h2, h3, h4⟩
/-- At a column of the queries or keys of the first group (rotated, into the 32-bit result), the 16-bit result's block is not written back. -/
theorem noFlush0_5_A : ∀ t : Fin cfg0.N, cond0_0 (grid0.coords t) → ¬cond0_1 (grid0.coords t) → ¬cond0_2 (grid0.coords t) → ¬cond0_3 (grid0.coords t) → ¬cond0_4 (grid0.coords t) → (cfg0.win 5).flush t = false :=
  fun t h0 h1 h2 h3 h4 => (by decide +kernel : ∀ t : Fin cfg0.N, conds0_A (grid0.coords t) → (cfg0.win 5).flush t = false) t ⟨h0, h1, h2, h3, h4⟩
/-- Window 5 is left alone at the column of the first group's values (copied, into the 32-bit result). -/
theorem idleAt0_5_B : ∀ t : Fin cfg0.N, ¬cond0_0 (grid0.coords t) → cond0_1 (grid0.coords t) → ¬cond0_2 (grid0.coords t) → ¬cond0_3 (grid0.coords t) → ¬cond0_4 (grid0.coords t) → cfg0.idle 5 (grid0.coords t) = true :=
  fun t h0 h1 h2 h3 h4 => (by decide +kernel : ∀ t : Fin cfg0.N, conds0_B (grid0.coords t) → cfg0.idle 5 (grid0.coords t) = true) t ⟨h0, h1, h2, h3, h4⟩
/-- At the column of the first group's values (copied, into the 32-bit result), the 16-bit result's block is not written back. -/
theorem noFlush0_5_B : ∀ t : Fin cfg0.N, ¬cond0_0 (grid0.coords t) → cond0_1 (grid0.coords t) → ¬cond0_2 (grid0.coords t) → ¬cond0_3 (grid0.coords t) → ¬cond0_4 (grid0.coords t) → (cfg0.win 5).flush t = false :=
  fun t h0 h1 h2 h3 h4 => (by decide +kernel : ∀ t : Fin cfg0.N, conds0_B (grid0.coords t) → (cfg0.win 5).flush t = false) t ⟨h0, h1, h2, h3, h4⟩
/-- Window 5 is stored into at a gate column (passed through silu, into the 16-bit result). -/
theorem liveAt0_5_C : ∀ t : Fin cfg0.N, ¬cond0_0 (grid0.coords t) → ¬cond0_1 (grid0.coords t) → ¬cond0_2 (grid0.coords t) → cond0_3 (grid0.coords t) → ¬cond0_4 (grid0.coords t) → cfg0.idle 5 (grid0.coords t) = false :=
  fun t h0 h1 h2 h3 h4 => (by decide +kernel : ∀ t : Fin cfg0.N, conds0_C (grid0.coords t) → cfg0.idle 5 (grid0.coords t) = false) t ⟨h0, h1, h2, h3, h4⟩
/-- Window 5 is stored into at a plain column (copied, into the 16-bit result). -/
theorem liveAt0_5_D : ∀ t : Fin cfg0.N, ¬cond0_0 (grid0.coords t) → ¬cond0_1 (grid0.coords t) → ¬cond0_2 (grid0.coords t) → ¬cond0_3 (grid0.coords t) → cond0_4 (grid0.coords t) → cfg0.idle 5 (grid0.coords t) = false :=
  fun t h0 h1 h2 h3 h4 => (by decide +kernel : ∀ t : Fin cfg0.N, conds0_D (grid0.coords t) → cfg0.idle 5 (grid0.coords t) = false) t ⟨h0, h1, h2, h3, h4⟩
/-- Window 5 is stored into at a column of the queries or keys of the third group (rotated, into the 16-bit result). -/
theorem liveAt0_5_E : ∀ t : Fin cfg0.N, ¬cond0_0 (grid0.coords t) → ¬cond0_1 (grid0.coords t) → cond0_2 (grid0.coords t) → ¬cond0_3 (grid0.coords t) → ¬cond0_4 (grid0.coords t) → cfg0.idle 5 (grid0.coords t) = false :=
  fun t h0 h1 h2 h3 h4 => (by decide +kernel : ∀ t : Fin cfg0.N, conds0_E (grid0.coords t) → cfg0.idle 5 (grid0.coords t) = false) t ⟨h0, h1, h2, h3, h4⟩

/-! ## The buffers of each point -/

/-- One staging buffer of window 4, through which its contents are read. -/
abbrev VO0_4 : View sig .tc .vmem S2048x512 .f32 := (Memref.whole cc0_stg4_0 : Memref sig .tc .vmem S2048x512 .f32).view
/-- One staging buffer of window 5, through which its contents are read. -/
abbrev VO0_5 : View sig .tc .vmem S2048x512 .bf16 := (Memref.whole cc0_stg5_0 : Memref sig .tc .vmem S2048x512 .bf16).view
/-- The buffers the body is handed at point `t`, one per window, and that each is a whole buffer. -/
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .bf16 := win0_5.stage (cfg0.slots t 5)
abbrev hs0_5 (t : Fin cfg0.N) : (ms0_5 t).IsWhole := hstage0_5 ((cfg0.slots t 5).cast nbuf0_5)

end Cert.InIdeal.Hand

end
-- ==== Proof.InIRunA.lean ====
/- The input projection, its idealized form: the body run at a column of the queries or keys of the first group (rotated, into the 32-bit result). -/
module

public import proofs.«01_k».proof.Proof.InIBase

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1040000 in
/-- The body run at a column of the queries or keys of the first group (rotated, into the 32-bit result): the pieces it stores into each result's buffer, with the proof that it runs to its end, leaves the inputs as they were and the buffers with those pieces written. -/
noncomputable def kernelRun0_A (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : cond0_0 i) (hc1 : ¬cond0_1 i) (hc2 : ¬cond0_2 i) (hc3 : ¬cond0_3 i) (hc4 : ¬cond0_4 i)
    (x0 : Vec F S2048x2048 .bf16) (x1 : Vec F S1x2048x512 .f32) (x2 : Vec F S2048x128 .f32) (x3 : Vec F S2048x128 .f32) :
    Σ' (L4 : List (View.Piece (Elt F) S2048x512 .f32)), { L5 : List (View.Piece (Elt F) S2048x512 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5) -∗ K ⟨⟩))
          ⊢ wp frame (wpE (defs₀ (F := F)) Variants.none c none) E (cc0_inproj i arg2 harg2 arg3 harg3 arg4 harg4 arg5 harg5 arg6 harg6 arg7 harg7) K } := by
  refine ⟨?_, [], fun xi5 E K => ?run⟩
  case run =>
    simp only [cc0_inproj_eq_skeleton]; unfold cc0_inproj_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact H5

end Cert.InIdeal.Hand

end
-- ==== Proof.InIRunB.lean ====
/- The input projection, its idealized form: the body run at the column of the first group's values (copied, into the 32-bit result). -/
module

public import proofs.«01_k».proof.Proof.InIRunA

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run at the column of the first group's values (copied, into the 32-bit result): the pieces it stores into each result's buffer, with the proof that it runs to its end, leaves the inputs as they were and the buffers with those pieces written. -/
noncomputable def kernelRun0_B (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : cond0_1 i) (hc2 : ¬cond0_2 i) (hc3 : ¬cond0_3 i) (hc4 : ¬cond0_4 i)
    (x0 : Vec F S2048x2048 .bf16) (x1 : Vec F S1x2048x512 .f32) (x2 : Vec F S2048x128 .f32) (x3 : Vec F S2048x128 .f32) :
    Σ' (L4 : List (View.Piece (Elt F) S2048x512 .f32)), { L5 : List (View.Piece (Elt F) S2048x512 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5) -∗ K ⟨⟩))
          ⊢ wp frame (wpE (defs₀ (F := F)) Variants.none c none) E (cc0_inproj i arg2 harg2 arg3 harg3 arg4 harg4 arg5 harg5 arg6 harg6 arg7 harg7) K } := by
  refine ⟨?_, [], fun xi5 E K => ?run⟩
  case run =>
    simp only [cc0_inproj_eq_skeleton]; unfold cc0_inproj_skel
    simp only [k0_part37_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact H5

end Cert.InIdeal.Hand

end
-- ==== Proof.InIRunC.lean ====
/- The input projection, its idealized form: the body run at a gate column (passed through silu, into the 16-bit result). -/
module

public import proofs.«01_k».proof.Proof.InIRunB

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run at a gate column (passed through silu, into the 16-bit result): the pieces it stores into each result's buffer, with the proof that it runs to its end, leaves the inputs as they were and the buffers with those pieces written. -/
noncomputable def kernelRun0_C (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : ¬cond0_2 i) (hc3 : cond0_3 i) (hc4 : ¬cond0_4 i)
    (x0 : Vec F S2048x2048 .bf16) (x1 : Vec F S1x2048x512 .f32) (x2 : Vec F S2048x128 .f32) (x3 : Vec F S2048x128 .f32) (xo4 : Vec F S2048x512 .f32) :
    Σ' (L4 : List (View.Piece (Elt F) S2048x512 .f32)), { L5 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ f, arg7.view.loc (c : Thread nD τ) ↦[arg7.view.set]{fullShare} arg7.view.writes (Elt F) f L5)) -∗ K ⟨⟩))
          ⊢ wp frame (wpE (defs₀ (F := F)) Variants.none c none) E (cc0_inproj i arg2 harg2 arg3 harg3 arg4 harg4 arg5 harg5 arg6 harg6 arg7 harg7) K } := by
  refine ⟨[], ?_, fun E K => ?run⟩
  case run =>
    simp only [cc0_inproj_eq_skeleton]; unfold cc0_inproj_skel
    simp only [k0_part37_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.InIdeal.Hand

end
-- ==== Proof.InIRunD.lean ====
/- The input projection, its idealized form: the body run at a plain column (copied, into the 16-bit result). -/
module

public import proofs.«01_k».proof.Proof.InIRunC

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run at a plain column (copied, into the 16-bit result): the pieces it stores into each result's buffer, with the proof that it runs to its end, leaves the inputs as they were and the buffers with those pieces written. -/
noncomputable def kernelRun0_D (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : ¬cond0_2 i) (hc3 : ¬cond0_3 i) (hc4 : cond0_4 i)
    (x0 : Vec F S2048x2048 .bf16) (x1 : Vec F S1x2048x512 .f32) (x2 : Vec F S2048x128 .f32) (x3 : Vec F S2048x128 .f32) (xo4 : Vec F S2048x512 .f32) :
    Σ' (L4 : List (View.Piece (Elt F) S2048x512 .f32)), { L5 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ f, arg7.view.loc (c : Thread nD τ) ↦[arg7.view.set]{fullShare} arg7.view.writes (Elt F) f L5)) -∗ K ⟨⟩))
          ⊢ wp frame (wpE (defs₀ (F := F)) Variants.none c none) E (cc0_inproj i arg2 harg2 arg3 harg3 arg4 harg4 arg5 harg5 arg6 harg6 arg7 harg7) K } := by
  refine ⟨[], ?_, fun E K => ?run⟩
  case run =>
    simp only [cc0_inproj_eq_skeleton]; unfold cc0_inproj_skel
    simp only [k0_part37_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.InIdeal.Hand

end
-- ==== Proof.InIRunE.lean ====
/- The input projection, its idealized form: the body run at a column of the queries or keys of the third group (rotated, into the 16-bit result). -/
module

public import proofs.«01_k».proof.Proof.InIRunD

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1044000 in
/-- The body run at a column of the queries or keys of the third group (rotated, into the 16-bit result): the pieces it stores into each result's buffer, with the proof that it runs to its end, leaves the inputs as they were and the buffers with those pieces written. -/
noncomputable def kernelRun0_E (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : cond0_2 i) (hc3 : ¬cond0_3 i) (hc4 : ¬cond0_4 i)
    (x0 : Vec F S2048x2048 .bf16) (x1 : Vec F S1x2048x512 .f32) (x2 : Vec F S2048x128 .f32) (x3 : Vec F S2048x128 .f32) (xo4 : Vec F S2048x512 .f32) :
    Σ' (L4 : List (View.Piece (Elt F) S2048x512 .f32)), { L5 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ f, arg7.view.loc (c : Thread nD τ) ↦[arg7.view.set]{fullShare} arg7.view.writes (Elt F) f L5)) -∗ K ⟨⟩))
          ⊢ wp frame (wpE (defs₀ (F := F)) Variants.none c none) E (cc0_inproj i arg2 harg2 arg3 harg3 arg4 harg4 arg5 harg5 arg6 harg6 arg7 harg7) K } := by
  refine ⟨[], ?_, fun E K => ?run⟩
  case run =>
    simp only [cc0_inproj_eq_skeleton]; unfold cc0_inproj_skel
    simp only [k0_part37_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.InIdeal.Hand

end
-- ==== Proof.InIFrame.lean ====
/- The input projection, its idealized form: what the results' buffers hold at each grid point, the body at every point, the run of the program and its frame. -/
module

public import proofs.«01_k».proof.Proof.InIRunE
public import Idealize.ShloMosaic.Lib.Claim

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a column of the queries or keys of the first group (rotated, into the 32-bit result), the stores tile the block of window 4. -/
theorem cover0_A_4 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : cond0_0 i) (hc1 : ¬cond0_1 i) (hc2 : ¬cond0_2 i) (hc3 : ¬cond0_3 i) (hc4 : ¬cond0_4 i)
    (x0 : Vec F S2048x2048 .bf16) (x1 : Vec F S1x2048x512 .f32) (x2 : Vec F S2048x128 .f32) (x3 : Vec F S2048x128 .f32) (y : S2048x512.Idx) :
    ∃ pc ∈ (kernelRun0_A c i arg2 harg2 arg3 harg3 arg4 harg4 arg5 harg5 arg6 harg6 arg7 harg7 hc0 hc1 hc2 hc3 hc4 x0 x1 x2 x3).1, y ∈ pc.1.set :=
  View.cover_of_tiledL (kernelRun0_A c i arg2 harg2 arg3 harg3 arg4 harg4 arg5 harg5 arg6 harg6 arg7 harg7 hc0 hc1 hc2 hc3 hc4 x0 x1 x2 x3).1 S128x128.size (by sl_kernel_rfl) y

/-- What the buffer of window 4 holds after the body at a column of the queries or keys of the first group (rotated, into the 32-bit result). -/
def out0_A_4 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : cond0_0 i) (hc1 : ¬cond0_1 i) (hc2 : ¬cond0_2 i) (hc3 : ¬cond0_3 i) (hc4 : ¬cond0_4 i)
    (x0 : Vec F S2048x2048 .bf16) (x1 : Vec F S1x2048x512 .f32) (x2 : Vec F S2048x128 .f32) (x3 : Vec F S2048x128 .f32) : Vec F S2048x512 .f32 :=
  VO0_4.read (Elt F) (VO0_4.writes (Elt F) VO0_4.junk (kernelRun0_A c i arg2 harg2 arg3 harg3 arg4 harg4 arg5 harg5 arg6 harg6 arg7 harg7 hc0 hc1 hc2 hc3 hc4 x0 x1 x2 x3).1)

/-- What the buffer of window 5 holds after the body at a column of the queries or keys of the first group (rotated, into the 32-bit result). -/
def out0_A_5 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : cond0_0 i) (hc1 : ¬cond0_1 i) (hc2 : ¬cond0_2 i) (hc3 : ¬cond0_3 i) (hc4 : ¬cond0_4 i)
    (x0 : Vec F S2048x2048 .bf16) (x1 : Vec F S1x2048x512 .f32) (x2 : Vec F S2048x128 .f32) (x3 : Vec F S2048x128 .f32) : Vec F S2048x512 .bf16 :=
  VO0_5.read (Elt F) (VO0_5.writes (Elt F) VO0_5.junk (kernelRun0_A c i arg2 harg2 arg3 harg3 arg4 harg4 arg5 harg5 arg6 harg6 arg7 harg7 hc0 hc1 hc2 hc3 hc4 x0 x1 x2 x3).2.1)

/-- At the column of the first group's values (copied, into the 32-bit result), the stores tile the block of window 4. -/
theorem cover0_B_4 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : cond0_1 i) (hc2 : ¬cond0_2 i) (hc3 : ¬cond0_3 i) (hc4 : ¬cond0_4 i)
    (x0 : Vec F S2048x2048 .bf16) (x1 : Vec F S1x2048x512 .f32) (x2 : Vec F S2048x128 .f32) (x3 : Vec F S2048x128 .f32) (y : S2048x512.Idx) :
    ∃ pc ∈ (kernelRun0_B c i arg2 harg2 arg3 harg3 arg4 harg4 arg5 harg5 arg6 harg6 arg7 harg7 hc0 hc1 hc2 hc3 hc4 x0 x1 x2 x3).1, y ∈ pc.1.set :=
  View.cover_of_tiledL (kernelRun0_B c i arg2 harg2 arg3 harg3 arg4 harg4 arg5 harg5 arg6 harg6 arg7 harg7 hc0 hc1 hc2 hc3 hc4 x0 x1 x2 x3).1 S128x512.size (by sl_kernel_rfl) y

/-- What the buffer of window 4 holds after the body at the column of the first group's values (copied, into the 32-bit result). -/
def out0_B_4 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : cond0_1 i) (hc2 : ¬cond0_2 i) (hc3 : ¬cond0_3 i) (hc4 : ¬cond0_4 i)
    (x0 : Vec F S2048x2048 .bf16) (x1 : Vec F S1x2048x512 .f32) (x2 : Vec F S2048x128 .f32) (x3 : Vec F S2048x128 .f32) : Vec F S2048x512 .f32 :=
  VO0_4.read (Elt F) (VO0_4.writes (Elt F) VO0_4.junk (kernelRun0_B c i arg2 harg2 arg3 harg3 arg4 harg4 arg5 harg5 arg6 harg6 arg7 harg7 hc0 hc1 hc2 hc3 hc4 x0 x1 x2 x3).1)

/-- What the buffer of window 5 holds after the body at the column of the first group's values (copied, into the 32-bit result). -/
def out0_B_5 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : cond0_1 i) (hc2 : ¬cond0_2 i) (hc3 : ¬cond0_3 i) (hc4 : ¬cond0_4 i)
    (x0 : Vec F S2048x2048 .bf16) (x1 : Vec F S1x2048x512 .f32) (x2 : Vec F S2048x128 .f32) (x3 : Vec F S2048x128 .f32) : Vec F S2048x512 .bf16 :=
  VO0_5.read (Elt F) (VO0_5.writes (Elt F) VO0_5.junk (kernelRun0_B c i arg2 harg2 arg3 harg3 arg4 harg4 arg5 harg5 arg6 harg6 arg7 harg7 hc0 hc1 hc2 hc3 hc4 x0 x1 x2 x3).2.1)

/-- What the buffer of window 4 holds after the body at a gate column (passed through silu, into the 16-bit result). -/
def out0_C_4 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : ¬cond0_2 i) (hc3 : cond0_3 i) (hc4 : ¬cond0_4 i)
    (x0 : Vec F S2048x2048 .bf16) (x1 : Vec F S1x2048x512 .f32) (x2 : Vec F S2048x128 .f32) (x3 : Vec F S2048x128 .f32) (xo4 : Vec F S2048x512 .f32) : Vec F S2048x512 .f32 := xo4

/-- At a gate column (passed through silu, into the 16-bit result), the stores tile the block of window 5. -/
theorem cover0_C_5 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : ¬cond0_2 i) (hc3 : cond0_3 i) (hc4 : ¬cond0_4 i)
    (x0 : Vec F S2048x2048 .bf16) (x1 : Vec F S1x2048x512 .f32) (x2 : Vec F S2048x128 .f32) (x3 : Vec F S2048x128 .f32) (xo4 : Vec F S2048x512 .f32) (y : S2048x512.Idx) :
    ∃ pc ∈ (kernelRun0_C c i arg2 harg2 arg3 harg3 arg4 harg4 arg5 harg5 arg6 harg6 arg7 harg7 hc0 hc1 hc2 hc3 hc4 x0 x1 x2 x3 xo4).2.1, y ∈ pc.1.set :=
  View.cover_of_tiledL (kernelRun0_C c i arg2 harg2 arg3 harg3 arg4 harg4 arg5 harg5 arg6 harg6 arg7 harg7 hc0 hc1 hc2 hc3 hc4 x0 x1 x2 x3 xo4).2.1 S128x512.size (by sl_kernel_rfl) y

/-- What the buffer of window 5 holds after the body at a gate column (passed through silu, into the 16-bit result). -/
def out0_C_5 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : ¬cond0_2 i) (hc3 : cond0_3 i) (hc4 : ¬cond0_4 i)
    (x0 : Vec F S2048x2048 .bf16) (x1 : Vec F S1x2048x512 .f32) (x2 : Vec F S2048x128 .f32) (x3 : Vec F S2048x128 .f32) (xo4 : Vec F S2048x512 .f32) : Vec F S2048x512 .bf16 :=
  VO0_5.read (Elt F) (VO0_5.writes (Elt F) VO0_5.junk (kernelRun0_C c i arg2 harg2 arg3 harg3 arg4 harg4 arg5 harg5 arg6 harg6 arg7 harg7 hc0 hc1 hc2 hc3 hc4 x0 x1 x2 x3 xo4).2.1)

/-- What the buffer of window 4 holds after the body at a plain column (copied, into the 16-bit result). -/
def out0_D_4 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : ¬cond0_2 i) (hc3 : ¬cond0_3 i) (hc4 : cond0_4 i)
    (x0 : Vec F S2048x2048 .bf16) (x1 : Vec F S1x2048x512 .f32) (x2 : Vec F S2048x128 .f32) (x3 : Vec F S2048x128 .f32) (xo4 : Vec F S2048x512 .f32) : Vec F S2048x512 .f32 := xo4

/-- At a plain column (copied, into the 16-bit result), the stores tile the block of window 5. -/
theorem cover0_D_5 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : ¬cond0_2 i) (hc3 : ¬cond0_3 i) (hc4 : cond0_4 i)
    (x0 : Vec F S2048x2048 .bf16) (x1 : Vec F S1x2048x512 .f32) (x2 : Vec F S2048x128 .f32) (x3 : Vec F S2048x128 .f32) (xo4 : Vec F S2048x512 .f32) (y : S2048x512.Idx) :
    ∃ pc ∈ (kernelRun0_D c i arg2 harg2 arg3 harg3 arg4 harg4 arg5 harg5 arg6 harg6 arg7 harg7 hc0 hc1 hc2 hc3 hc4 x0 x1 x2 x3 xo4).2.1, y ∈ pc.1.set :=
  View.cover_of_tiledL (kernelRun0_D c i arg2 harg2 arg3 harg3 arg4 harg4 arg5 harg5 arg6 harg6 arg7 harg7 hc0 hc1 hc2 hc3 hc4 x0 x1 x2 x3 xo4).2.1 S128x512.size (by sl_kernel_rfl) y

/-- What the buffer of window 5 holds after the body at a plain column (copied, into the 16-bit result). -/
def out0_D_5 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : ¬cond0_2 i) (hc3 : ¬cond0_3 i) (hc4 : cond0_4 i)
    (x0 : Vec F S2048x2048 .bf16) (x1 : Vec F S1x2048x512 .f32) (x2 : Vec F S2048x128 .f32) (x3 : Vec F S2048x128 .f32) (xo4 : Vec F S2048x512 .f32) : Vec F S2048x512 .bf16 :=
  VO0_5.read (Elt F) (VO0_5.writes (Elt F) VO0_5.junk (kernelRun0_D c i arg2 harg2 arg3 harg3 arg4 harg4 arg5 harg5 arg6 harg6 arg7 harg7 hc0 hc1 hc2 hc3 hc4 x0 x1 x2 x3 xo4).2.1)

/-- What the buffer of window 4 holds after the body at a column of the queries or keys of the third group (rotated, into the 16-bit result). -/
def out0_E_4 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : cond0_2 i) (hc3 : ¬cond0_3 i) (hc4 : ¬cond0_4 i)
    (x0 : Vec F S2048x2048 .bf16) (x1 : Vec F S1x2048x512 .f32) (x2 : Vec F S2048x128 .f32) (x3 : Vec F S2048x128 .f32) (xo4 : Vec F S2048x512 .f32) : Vec F S2048x512 .f32 := xo4

/-- At a column of the queries or keys of the third group (rotated, into the 16-bit result), the stores tile the block of window 5. -/
theorem cover0_E_5 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : cond0_2 i) (hc3 : ¬cond0_3 i) (hc4 : ¬cond0_4 i)
    (x0 : Vec F S2048x2048 .bf16) (x1 : Vec F S1x2048x512 .f32) (x2 : Vec F S2048x128 .f32) (x3 : Vec F S2048x128 .f32) (xo4 : Vec F S2048x512 .f32) (y : S2048x512.Idx) :
    ∃ pc ∈ (kernelRun0_E c i arg2 harg2 arg3 harg3 arg4 harg4 arg5 harg5 arg6 harg6 arg7 harg7 hc0 hc1 hc2 hc3 hc4 x0 x1 x2 x3 xo4).2.1, y ∈ pc.1.set :=
  View.cover_of_tiledL (kernelRun0_E c i arg2 harg2 arg3 harg3 arg4 harg4 arg5 harg5 arg6 harg6 arg7 harg7 hc0 hc1 hc2 hc3 hc4 x0 x1 x2 x3 xo4).2.1 S128x128.size (by sl_kernel_rfl) y

/-- What the buffer of window 5 holds after the body at a column of the queries or keys of the third group (rotated, into the 16-bit result). -/
def out0_E_5 (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .bf16) (harg7 : arg7.IsWhole) (hc0 : ¬cond0_0 i) (hc1 : ¬cond0_1 i) (hc2 : cond0_2 i) (hc3 : ¬cond0_3 i) (hc4 : ¬cond0_4 i)
    (x0 : Vec F S2048x2048 .bf16) (x1 : Vec F S1x2048x512 .f32) (x2 : Vec F S2048x128 .f32) (x3 : Vec F S2048x128 .f32) (xo4 : Vec F S2048x512 .f32) : Vec F S2048x512 .bf16 :=
  VO0_5.read (Elt F) (VO0_5.writes (Elt F) VO0_5.junk (kernelRun0_E c i arg2 harg2 arg3 harg3 arg4 harg4 arg5 harg5 arg6 harg6 arg7 harg7 hc0 hc1 hc2 hc3 hc4 x0 x1 x2 x3 xo4).2.1)

/-! ## What the outputs hold after each point -/

/-- What the two results' buffers hold after the body at position `n`: the tile just computed, or for the buffer left alone what the position before left. -/
def outsAt0 (c : Dev nD) : (n : ℕ) → n < cfg0.N → Vec F S2048x512 .f32 × Vec F S2048x512 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (by (try dsimp only) <;> omega)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (by (try dsimp only) <;> omega)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 17 ≤ 1 then
      if h1 : (n + 1) % 17 = 2 then
        False.elim (by have hN : n + 1 < 68 := lt_of_lt_of_eq hn (show cfg0.N = 68 from N_0); omega)
      else
        if h2 : (7 ≤ (n + 1) % 17 ∧ (n + 1) % 17 ≤ 8) then
          False.elim (by have hN : n + 1 < 68 := lt_of_lt_of_eq hn (show cfg0.N = 68 from N_0); omega)
        else
          if h3 : ((n + 1) % 17 = 3 ∨ (n + 1) % 17 = 6 ∨ (n + 1) % 17 = 10 ∨ (n + 1) % 17 = 14 ∨ (n + 1) % 17 = 16) then
            False.elim (by have hN : n + 1 < 68 := lt_of_lt_of_eq hn (show cfg0.N = 68 from N_0); omega)
          else
            if h4 : ((n + 1) % 17 = 4 ∨ (n + 1) % 17 = 5 ∨ (n + 1) % 17 = 9 ∨ (n + 1) % 17 = 11 ∨ (n + 1) % 17 = 12 ∨ (n + 1) % 17 = 13 ∨ (n + 1) % 17 = 15) then
              False.elim (by have hN : n + 1 < 68 := lt_of_lt_of_eq hn (show cfg0.N = 68 from N_0); omega)
            else
              (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 17 = 2 then
        if h2 : (7 ≤ (n + 1) % 17 ∧ (n + 1) % 17 ≤ 8) then
          False.elim (by have hN : n + 1 < 68 := lt_of_lt_of_eq hn (show cfg0.N = 68 from N_0); omega)
        else
          if h3 : ((n + 1) % 17 = 3 ∨ (n + 1) % 17 = 6 ∨ (n + 1) % 17 = 10 ∨ (n + 1) % 17 = 14 ∨ (n + 1) % 17 = 16) then
            False.elim (by have hN : n + 1 < 68 := lt_of_lt_of_eq hn (show cfg0.N = 68 from N_0); omega)
          else
            if h4 : ((n + 1) % 17 = 4 ∨ (n + 1) % 17 = 5 ∨ (n + 1) % 17 = 9 ∨ (n + 1) % 17 = 11 ∨ (n + 1) % 17 = 12 ∨ (n + 1) % 17 = 13 ∨ (n + 1) % 17 = 15) then
              False.elim (by have hN : n + 1 < 68 := lt_of_lt_of_eq hn (show cfg0.N = 68 from N_0); omega)
            else
              (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩))
      else
        if h2 : (7 ≤ (n + 1) % 17 ∧ (n + 1) % 17 ≤ 8) then
          if h3 : ((n + 1) % 17 = 3 ∨ (n + 1) % 17 = 6 ∨ (n + 1) % 17 = 10 ∨ (n + 1) % 17 = 14 ∨ (n + 1) % 17 = 16) then
            False.elim (by have hN : n + 1 < 68 := lt_of_lt_of_eq hn (show cfg0.N = 68 from N_0); omega)
          else
            if h4 : ((n + 1) % 17 = 4 ∨ (n + 1) % 17 = 5 ∨ (n + 1) % 17 = 9 ∨ (n + 1) % 17 = 11 ∨ (n + 1) % 17 = 12 ∨ (n + 1) % 17 = 13 ∨ (n + 1) % 17 = 15) then
              False.elim (by have hN : n + 1 < 68 := lt_of_lt_of_eq hn (show cfg0.N = 68 from N_0); omega)
            else
              (out0_E_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1, out0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1)
        else
          if h3 : ((n + 1) % 17 = 3 ∨ (n + 1) % 17 = 6 ∨ (n + 1) % 17 = 10 ∨ (n + 1) % 17 = 14 ∨ (n + 1) % 17 = 16) then
            if h4 : ((n + 1) % 17 = 4 ∨ (n + 1) % 17 = 5 ∨ (n + 1) % 17 = 9 ∨ (n + 1) % 17 = 11 ∨ (n + 1) % 17 = 12 ∨ (n + 1) % 17 = 13 ∨ (n + 1) % 17 = 15) then
              False.elim (by have hN : n + 1 < 68 := lt_of_lt_of_eq hn (show cfg0.N = 68 from N_0); omega)
            else
              (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1)
          else
            if h4 : ((n + 1) % 17 = 4 ∨ (n + 1) % 17 = 5 ∨ (n + 1) % 17 = 9 ∨ (n + 1) % 17 = 11 ∨ (n + 1) % 17 = 12 ∨ (n + 1) % 17 = 13 ∨ (n + 1) % 17 = 15) then
              (out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1, out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1)
            else
              False.elim (by have hN : n + 1 < 68 := lt_of_lt_of_eq hn (show cfg0.N = 68 from N_0); omega)

/-- The same, at a column of the queries or keys of the first group (rotated, into the 32-bit result). -/
theorem outsAt0_A (c : Dev nD) (t : Fin cfg0.N) (h0 : t.val % 17 ≤ 1) (h1 : ¬t.val % 17 = 2) (h2 : ¬(7 ≤ t.val % 17 ∧ t.val % 17 ≤ 8)) (h3 : ¬(t.val % 17 = 3 ∨ t.val % 17 = 6 ∨ t.val % 17 = 10 ∨ t.val % 17 = 14 ∨ t.val % 17 = 16)) (h4 : ¬(t.val % 17 = 4 ∨ t.val % 17 = 5 ∨ t.val % 17 = 9 ∨ t.val % 17 = 11 ∨ t.val % 17 = 12 ∨ t.val % 17 = 13 ∨ t.val % 17 = 15)) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (fun h => h2 ((hcond0_2 t).mp h)) (fun h => h3 ((hcond0_3 t).mp h)) (fun h => h4 ((hcond0_4 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (fun h => h2 ((hcond0_2 t).mp h)) (fun h => h3 ((hcond0_3 t).mp h)) (fun h => h4 ((hcond0_4 t).mp h)) (iblk m c 0 t) (iblk m c 1 t) (iblk m c 2 t) (iblk m c 3 t)) := by
  obtain ⟨n, hn⟩ := t
  cases n with
  | zero => exact rfl
  | succ n => exact (dif_pos h0).trans ((dif_neg h1).trans ((dif_neg h2).trans ((dif_neg h3).trans ((dif_neg h4).trans rfl))))

/-- The same, at the column of the first group's values (copied, into the 32-bit result). -/
theorem outsAt0_B (c : Dev nD) (t : Fin cfg0.N) (h0 : ¬t.val % 17 ≤ 1) (h1 : t.val % 17 = 2) (h2 : ¬(7 ≤ t.val % 17 ∧ t.val % 17 ≤ 8)) (h3 : ¬(t.val % 17 = 3 ∨ t.val % 17 = 6 ∨ t.val % 17 = 10 ∨ t.val % 17 = 14 ∨ t.val % 17 = 16)) (h4 : ¬(t.val % 17 = 4 ∨ t.val % 17 = 5 ∨ t.val % 17 = 9 ∨ t.val % 17 = 11 ∨ t.val % 17 = 12 ∨ t.val % 17 = 13 ∨ t.val % 17 = 15)) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t)) := by
  obtain ⟨n, hn⟩ := t
  cases n with
  | zero => exact (by exfalso; (try dsimp only at h0); exact by omega)
  | succ n => exact (dif_neg h0).trans ((dif_pos h1).trans ((dif_neg h2).trans ((dif_neg h3).trans ((dif_neg h4).trans rfl))))

/-- The same, at a gate column (passed through silu, into the 16-bit result). -/
theorem outsAt0_C (c : Dev nD) (t : Fin cfg0.N) (h0 : ¬t.val % 17 ≤ 1) (h1 : ¬t.val % 17 = 2) (h2 : ¬(7 ≤ t.val % 17 ∧ t.val % 17 ≤ 8)) (h3 : (t.val % 17 = 3 ∨ t.val % 17 = 6 ∨ t.val % 17 = 10 ∨ t.val % 17 = 14 ∨ t.val % 17 = 16)) (h4 : ¬(t.val % 17 = 4 ∨ t.val % 17 = 5 ∨ t.val % 17 = 9 ∨ t.val % 17 = 11 ∨ t.val % 17 = 12 ∨ t.val % 17 = 13 ∨ t.val % 17 = 15)) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).1, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).1) := by
  obtain ⟨n, hn⟩ := t
  cases n with
  | zero => exact (by exfalso; (try dsimp only at h0); exact by omega)
  | succ n => exact (dif_neg h0).trans ((dif_neg h1).trans ((dif_neg h2).trans ((dif_pos h3).trans ((dif_neg h4).trans rfl))))

/-- The same, at a plain column (copied, into the 16-bit result). -/
theorem outsAt0_D (c : Dev nD) (t : Fin cfg0.N) (h0 : ¬t.val % 17 ≤ 1) (h1 : ¬t.val % 17 = 2) (h2 : ¬(7 ≤ t.val % 17 ∧ t.val % 17 ≤ 8)) (h3 : ¬(t.val % 17 = 3 ∨ t.val % 17 = 6 ∨ t.val % 17 = 10 ∨ t.val % 17 = 14 ∨ t.val % 17 = 16)) (h4 : (t.val % 17 = 4 ∨ t.val % 17 = 5 ∨ t.val % 17 = 9 ∨ t.val % 17 = 11 ∨ t.val % 17 = 12 ∨ t.val % 17 = 13 ∨ t.val % 17 = 15)) :
    outsAt0 m c t.val t.isLt = (out0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).1, out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (outsAt0 m c (t.val - 1) (Nat.lt_of_le_of_lt (Nat.sub_le _ _) t.isLt)).1) := by
  obtain ⟨n, hn⟩ := t
  cases n with
  | zero => exact (by exfalso; (try dsimp only at h0); exact by omega)
  | succ n => exact (dif_neg h0).trans ((dif_neg h1).trans ((dif_neg h2).trans ((dif_neg h3).trans ((dif_pos h4).trans rfl))))

/-- The same, at a column of the queries or keys of the third group (rotated, into the 16-bit result). -/
theorem outsAt0_E (c : Dev nD) (t : Fin cfg0.N) (h0 : ¬t.val % 17 ≤ 1) (h1 : ¬t.val % 17 = 2) (h2 : (7 ≤ t.val % 17 ∧ t.val % 17 ≤ 8)) (h3 : ¬(t.val % 17 = 3 ∨ t.val % 17 = 6 ∨ t.val % 17 = 10 ∨ t.val % 17 = 14 ∨ t.val % 17 = 16)) (h4 : ¬(t.val % 17 = 4 ∨ t.val % 17 = 5 ∨ t.val % 17 = 9 ∨ t.val % 17 = 11 ∨ t.val % 17 = 12 ∨ t.val % 17 = 13 ∨ t.val % 17 = 15)) :
    outsAt0 m c t.val t.isLt = (out0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).1, out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).1) := by
  obtain ⟨n, hn⟩ := t
  cases n with
  | zero => exact (by exfalso; (try dsimp only at h0); exact by omega)
  | succ n => exact (dif_neg h0).trans ((dif_neg h1).trans ((dif_pos h2).trans ((dif_neg h3).trans ((dif_neg h4).trans rfl))))

/-! ## The data of the pipelined run -/

/-- The data of the pipelined run on core `c`: the arrays as they are on entry, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.ΦA spec0 c
  q _ := fullShare
  owed _ := 0

/-- The arrays of that data are the arrays on entry. -/
theorem A_eq (c : Dev nD) (w : Fin cfg0.W) : (dats m 0 c).A w = V m c (Pipeline.arrRef spec0 w) := by
  dsimp only [dats]

/-- What each buffer holds after point `t`, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2 := by dsimp only [dats]

/-- Each input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point that leaves the 32-bit result alone, its buffer holds what it held after the point before. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 68 := lt_of_lt_of_eq t.isLt (show cfg0.N = 68 from N_0)
  rw [after0_4, after0_4]
  by_cases h0 : t.val % 17 ≤ 1
  · by_cases h1 : t.val % 17 = 2
    · exfalso; omega
    · by_cases h2 : (7 ≤ t.val % 17 ∧ t.val % 17 ≤ 8)
      · exfalso; omega
      · by_cases h3 : (t.val % 17 = 3 ∨ t.val % 17 = 6 ∨ t.val % 17 = 10 ∨ t.val % 17 = 14 ∨ t.val % 17 = 16)
        · exfalso; omega
        · by_cases h4 : (t.val % 17 = 4 ∨ t.val % 17 = 5 ∨ t.val % 17 = 9 ∨ t.val % 17 = 11 ∨ t.val % 17 = 12 ∨ t.val % 17 = 13 ∨ t.val % 17 = 15)
          · exfalso; omega
          · rw [liveAt0_4_A t ((hcond0_0 t).mpr h0) (fun h => h1 ((hcond0_1 t).mp h)) (fun h => h2 ((hcond0_2 t).mp h)) (fun h => h3 ((hcond0_3 t).mp h)) (fun h => h4 ((hcond0_4 t).mp h))] at hi
            exact absurd hi Bool.false_ne_true
  · by_cases h1 : t.val % 17 = 2
    · by_cases h2 : (7 ≤ t.val % 17 ∧ t.val % 17 ≤ 8)
      · exfalso; omega
      · by_cases h3 : (t.val % 17 = 3 ∨ t.val % 17 = 6 ∨ t.val % 17 = 10 ∨ t.val % 17 = 14 ∨ t.val % 17 = 16)
        · exfalso; omega
        · by_cases h4 : (t.val % 17 = 4 ∨ t.val % 17 = 5 ∨ t.val % 17 = 9 ∨ t.val % 17 = 11 ∨ t.val % 17 = 12 ∨ t.val % 17 = 13 ∨ t.val % 17 = 15)
          · exfalso; omega
          · rw [liveAt0_4_B t (fun h => h0 ((hcond0_0 t).mp h)) ((hcond0_1 t).mpr h1) (fun h => h2 ((hcond0_2 t).mp h)) (fun h => h3 ((hcond0_3 t).mp h)) (fun h => h4 ((hcond0_4 t).mp h))] at hi
            exact absurd hi Bool.false_ne_true
    · by_cases h2 : (7 ≤ t.val % 17 ∧ t.val % 17 ≤ 8)
      · by_cases h3 : (t.val % 17 = 3 ∨ t.val % 17 = 6 ∨ t.val % 17 = 10 ∨ t.val % 17 = 14 ∨ t.val % 17 = 16)
        · exfalso; omega
        · by_cases h4 : (t.val % 17 = 4 ∨ t.val % 17 = 5 ∨ t.val % 17 = 9 ∨ t.val % 17 = 11 ∨ t.val % 17 = 12 ∨ t.val % 17 = 13 ∨ t.val % 17 = 15)
          · exfalso; omega
          · rw [outsAt0_E m c t h0 h1 h2 h3 h4]; rfl
      · by_cases h3 : (t.val % 17 = 3 ∨ t.val % 17 = 6 ∨ t.val % 17 = 10 ∨ t.val % 17 = 14 ∨ t.val % 17 = 16)
        · by_cases h4 : (t.val % 17 = 4 ∨ t.val % 17 = 5 ∨ t.val % 17 = 9 ∨ t.val % 17 = 11 ∨ t.val % 17 = 12 ∨ t.val % 17 = 13 ∨ t.val % 17 = 15)
          · exfalso; omega
          · rw [outsAt0_C m c t h0 h1 h2 h3 h4]; rfl
        · by_cases h4 : (t.val % 17 = 4 ∨ t.val % 17 = 5 ∨ t.val % 17 = 9 ∨ t.val % 17 = 11 ∨ t.val % 17 = 12 ∨ t.val % 17 = 13 ∨ t.val % 17 = 15)
          · rw [outsAt0_D m c t h0 h1 h2 h3 h4]; rfl
          · exfalso; omega
/-- At a gate column (passed through silu, into the 16-bit result), the body finds in the 32-bit result's buffer what the point before left. -/
theorem before0_4_C (c : Dev nD) (t : Fin cfg0.N) (h0 : ¬t.val % 17 ≤ 1) (h1 : ¬t.val % 17 = 2) (h2 : ¬(7 ≤ t.val % 17 ∧ t.val % 17 ≤ 8)) (h3 : (t.val % 17 = 3 ∨ t.val % 17 = 6 ∨ t.val % 17 = 10 ∨ t.val % 17 = 14 ∨ t.val % 17 = 16)) (h4 : ¬(t.val % 17 = 4 ∨ t.val % 17 = 5 ∨ t.val % 17 = 9 ∨ t.val % 17 = 11 ∨ t.val % 17 = 12 ∨ t.val % 17 = 13 ∨ t.val % 17 = 15)) (d) :
    (dats m 0 c).before 4 t d = (outsAt0 m c (t.val - 1) (Nat.lt_of_le_of_lt (Nat.sub_le _ _) t.isLt)).1 := by
  rw [Dat.before_out_traj _ 4 rfl (fun _ _ => rfl) (hcarry0_4 m c) t.val t rfl d,
    if_neg (by rw [notFresh0_4_C t (fun h => h0 ((hcond0_0 t).mp h)) (fun h => h1 ((hcond0_1 t).mp h)) (fun h => h2 ((hcond0_2 t).mp h)) ((hcond0_3 t).mpr h3) (fun h => h4 ((hcond0_4 t).mp h))]; exact Bool.false_ne_true)]
  dsimp only [dats]
/-- At a plain column (copied, into the 16-bit result), the body finds in the 32-bit result's buffer what the point before left. -/
theorem before0_4_D (c : Dev nD) (t : Fin cfg0.N) (h0 : ¬t.val % 17 ≤ 1) (h1 : ¬t.val % 17 = 2) (h2 : ¬(7 ≤ t.val % 17 ∧ t.val % 17 ≤ 8)) (h3 : ¬(t.val % 17 = 3 ∨ t.val % 17 = 6 ∨ t.val % 17 = 10 ∨ t.val % 17 = 14 ∨ t.val % 17 = 16)) (h4 : (t.val % 17 = 4 ∨ t.val % 17 = 5 ∨ t.val % 17 = 9 ∨ t.val % 17 = 11 ∨ t.val % 17 = 12 ∨ t.val % 17 = 13 ∨ t.val % 17 = 15)) (d) :
    (dats m 0 c).before 4 t d = (outsAt0 m c (t.val - 1) (Nat.lt_of_le_of_lt (Nat.sub_le _ _) t.isLt)).1 := by
  rw [Dat.before_out_traj _ 4 rfl (fun _ _ => rfl) (hcarry0_4 m c) t.val t rfl d,
    if_neg (by rw [notFresh0_4_D t (fun h => h0 ((hcond0_0 t).mp h)) (fun h => h1 ((hcond0_1 t).mp h)) (fun h => h2 ((hcond0_2 t).mp h)) (fun h => h3 ((hcond0_3 t).mp h)) ((hcond0_4 t).mpr h4)]; exact Bool.false_ne_true)]
  dsimp only [dats]
/-- At a column of the queries or keys of the third group (rotated, into the 16-bit result), the body finds in the 32-bit result's buffer what the point before left. -/
theorem before0_4_E (c : Dev nD) (t : Fin cfg0.N) (h0 : ¬t.val % 17 ≤ 1) (h1 : ¬t.val % 17 = 2) (h2 : (7 ≤ t.val % 17 ∧ t.val % 17 ≤ 8)) (h3 : ¬(t.val % 17 = 3 ∨ t.val % 17 = 6 ∨ t.val % 17 = 10 ∨ t.val % 17 = 14 ∨ t.val % 17 = 16)) (h4 : ¬(t.val % 17 = 4 ∨ t.val % 17 = 5 ∨ t.val % 17 = 9 ∨ t.val % 17 = 11 ∨ t.val % 17 = 12 ∨ t.val % 17 = 13 ∨ t.val % 17 = 15)) (d) :
    (dats m 0 c).before 4 t d = (outsAt0 m c (t.val - 1) (Nat.lt_of_le_of_lt (Nat.sub_le _ _) t.isLt)).1 := by
  rw [Dat.before_out_traj _ 4 rfl (fun _ _ => rfl) (hcarry0_4 m c) t.val t rfl d,
    if_neg (by rw [notFresh0_4_E t (fun h => h0 ((hcond0_0 t).mp h)) (fun h => h1 ((hcond0_1 t).mp h)) ((hcond0_2 t).mpr h2) (fun h => h3 ((hcond0_3 t).mp h)) (fun h => h4 ((hcond0_4 t).mp h))]; exact Bool.false_ne_true)]
  dsimp only [dats]

/-- A statement that does not name what exists is the same with and without it. -/
theorem exists_const {M : Type _} [URA M] {α : Sort _} (P : sProp M) (a : α) : iprop(∃ _ : α, P) = P := by
  refine Idealize.SL.BI.Entails.antisymm (show iprop(∃ _ : α, P) ⊢ P from ?_) (show P ⊢ iprop(∃ _ : α, P) from ?_)
  · iintro ⟨%_, H⟩
    iexact H
  · iintro H
    iexists a
    iexact H

/-- At a gate column (passed through silu, into the 16-bit result), the body hands the 32-bit result's buffer back as it found it, whether or not its block is written back there. -/
theorem leaves0_4_C (c : Dev nD) (t : Fin cfg0.N) (h0 : ¬t.val % 17 ≤ 1) (h1 : ¬t.val % 17 = 2) (h2 : ¬(7 ≤ t.val % 17 ∧ t.val % 17 ≤ 8)) (h3 : (t.val % 17 = 3 ∨ t.val % 17 = 6 ∨ t.val % 17 = 10 ∨ t.val % 17 = 14 ∨ t.val % 17 = 16)) (h4 : ¬(t.val % 17 = 4 ∨ t.val % 17 = 5 ∨ t.val % 17 = 9 ∨ t.val % 17 = 11 ∨ t.val % 17 = 12 ∨ t.val % 17 = 13 ∨ t.val % 17 = 15)) :
    (dats m 0 c).leavesExact 4 t = owns (c : Thread nD τ) (ms0_4 t) fullShare (outsAt0 m c t.val t.isLt).1 := by
  have hb : ∀ d, (dats m 0 c).before 4 t d = (outsAt0 m c t.val t.isLt).1 := fun d => by
    rw [before0_4_C m c t h0 h1 h2 h3 h4, outsAt0_C m c t h0 h1 h2 h3 h4]; rfl
  unfold Dat.leavesExact
  rw [idleAt0_4_C t (fun h => h0 ((hcond0_0 t).mp h)) (fun h => h1 ((hcond0_1 t).mp h)) (fun h => h2 ((hcond0_2 t).mp h)) ((hcond0_3 t).mpr h3) (fun h => h4 ((hcond0_4 t).mp h))]
  cases hf : (cfg0.win 4).flush t
  · simp only [hb]
    exact exists_const _ (outsAt0 m c t.val t.isLt).1
  · show owns (c : Thread nD τ) (ms0_4 t) fullShare ((dats m 0 c).after 4 t) = _
    rw [after0_4]

/-- At a plain column (copied, into the 16-bit result), the body hands the 32-bit result's buffer back as it found it, whether or not its block is written back there. -/
theorem leaves0_4_D (c : Dev nD) (t : Fin cfg0.N) (h0 : ¬t.val % 17 ≤ 1) (h1 : ¬t.val % 17 = 2) (h2 : ¬(7 ≤ t.val % 17 ∧ t.val % 17 ≤ 8)) (h3 : ¬(t.val % 17 = 3 ∨ t.val % 17 = 6 ∨ t.val % 17 = 10 ∨ t.val % 17 = 14 ∨ t.val % 17 = 16)) (h4 : (t.val % 17 = 4 ∨ t.val % 17 = 5 ∨ t.val % 17 = 9 ∨ t.val % 17 = 11 ∨ t.val % 17 = 12 ∨ t.val % 17 = 13 ∨ t.val % 17 = 15)) :
    (dats m 0 c).leavesExact 4 t = owns (c : Thread nD τ) (ms0_4 t) fullShare (outsAt0 m c t.val t.isLt).1 := by
  have hb : ∀ d, (dats m 0 c).before 4 t d = (outsAt0 m c t.val t.isLt).1 := fun d => by
    rw [before0_4_D m c t h0 h1 h2 h3 h4, outsAt0_D m c t h0 h1 h2 h3 h4]; rfl
  unfold Dat.leavesExact
  rw [idleAt0_4_D t (fun h => h0 ((hcond0_0 t).mp h)) (fun h => h1 ((hcond0_1 t).mp h)) (fun h => h2 ((hcond0_2 t).mp h)) (fun h => h3 ((hcond0_3 t).mp h)) ((hcond0_4 t).mpr h4)]
  cases hf : (cfg0.win 4).flush t
  · simp only [hb]
    exact exists_const _ (outsAt0 m c t.val t.isLt).1
  · show owns (c : Thread nD τ) (ms0_4 t) fullShare ((dats m 0 c).after 4 t) = _
    rw [after0_4]

/-- At a column of the queries or keys of the third group (rotated, into the 16-bit result), the body hands the 32-bit result's buffer back as it found it, whether or not its block is written back there. -/
theorem leaves0_4_E (c : Dev nD) (t : Fin cfg0.N) (h0 : ¬t.val % 17 ≤ 1) (h1 : ¬t.val % 17 = 2) (h2 : (7 ≤ t.val % 17 ∧ t.val % 17 ≤ 8)) (h3 : ¬(t.val % 17 = 3 ∨ t.val % 17 = 6 ∨ t.val % 17 = 10 ∨ t.val % 17 = 14 ∨ t.val % 17 = 16)) (h4 : ¬(t.val % 17 = 4 ∨ t.val % 17 = 5 ∨ t.val % 17 = 9 ∨ t.val % 17 = 11 ∨ t.val % 17 = 12 ∨ t.val % 17 = 13 ∨ t.val % 17 = 15)) :
    (dats m 0 c).leavesExact 4 t = owns (c : Thread nD τ) (ms0_4 t) fullShare (outsAt0 m c t.val t.isLt).1 := by
  have hb : ∀ d, (dats m 0 c).before 4 t d = (outsAt0 m c t.val t.isLt).1 := fun d => by
    rw [before0_4_E m c t h0 h1 h2 h3 h4, outsAt0_E m c t h0 h1 h2 h3 h4]; rfl
  unfold Dat.leavesExact
  rw [idleAt0_4_E t (fun h => h0 ((hcond0_0 t).mp h)) (fun h => h1 ((hcond0_1 t).mp h)) ((hcond0_2 t).mpr h2) (fun h => h3 ((hcond0_3 t).mp h)) (fun h => h4 ((hcond0_4 t).mp h))]
  cases hf : (cfg0.win 4).flush t
  · simp only [hb]
    exact exists_const _ (outsAt0 m c t.val t.isLt).1
  · show owns (c : Thread nD τ) (ms0_4 t) fullShare ((dats m 0 c).after 4 t) = _
    rw [after0_4]

/-! ## The body at every point -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2000000 in
/-- The body's triple at every point, case by case of the column step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 68 := lt_of_lt_of_eq t.isLt (show cfg0.N = 68 from N_0)
  by_cases h0 : t.val % 17 ≤ 1
  · by_cases h1 : t.val % 17 = 2
    · exfalso; omega
    · by_cases h2 : (7 ≤ t.val % 17 ∧ t.val % 17 ≤ 8)
      · exfalso; omega
      · by_cases h3 : (t.val % 17 = 3 ∨ t.val % 17 = 6 ∨ t.val % 17 = 10 ∨ t.val % 17 = 14 ∨ t.val % 17 = 16)
        · exfalso; omega
        · by_cases h4 : (t.val % 17 = 4 ∨ t.val % 17 = 5 ∨ t.val % 17 = 9 ∨ t.val % 17 = 11 ∨ t.val % 17 = 12 ∨ t.val % 17 = 13 ∨ t.val % 17 = 15)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h)) (fun h => h2 ((hcond0_2 t).mp h)) (fun h => h3 ((hcond0_3 t).mp h)) (fun h => h4 ((hcond0_4 t).mp h))], after0_4]
            rw [Dat.leavesExact_idle (dats m 0 c) 5 t (idleAt0_5_A t ((hcond0_0 t).mpr h0) (fun h => h1 ((hcond0_1 t).mp h)) (fun h => h2 ((hcond0_2 t).mp h)) (fun h => h3 ((hcond0_3 t).mp h)) (fun h => h4 ((hcond0_4 t).mp h))) (noFlush0_5_A t ((hcond0_0 t).mpr h0) (fun h => h1 ((hcond0_1 t).mp h)) (fun h => h2 ((hcond0_2 t).mp h)) (fun h => h3 ((hcond0_3 t).mp h)) (fun h => h4 ((hcond0_4 t).mp h)))]
            rw [outsAt0_A m c t h0 h1 h2 h3 h4]
            unfold out0_A_4; (try dsimp only)
            iintro ⟨HΦ, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (iblk m c 0 t) (iblk m c 1 t) (iblk m c 2 t) (iblk m c 3 t)).2.2 _ Set.univ _)
            isplitl [H0]; · iexact H0
            isplitl [H1]; · iexact H1
            isplitl [H2]; · iexact H2
            isplitl [H3]; · iexact H3
            isplitl [H4]; · iexists _; iexact H4
            isplitl [H5]; · iexact H5
            iintro ⟨H0, H1, H2, H3, ⟨%e4, H4⟩, H5⟩
            isplitl [HΦ]; · iexact HΦ
            isplitl [Ho]; · iexact Ho
            isplitl [H0]; · iexact H0
            isplitl [H1]; · iexact H1
            isplitl [H2]; · iexact H2
            isplitl [H3]; · iexact H3
            isplitl [H4]
            · unfold owns; iexists _; isplitr
              swap; · iexact H4
              ipureintro; exact View.read_writes_of_cover _ _ _ _ _ (cover0_A_4 c _ _ _ _ _ _ _ _ _ _ _ _ _ _ _ _ _ _ _ _ _ _)
            iexists _; iexact H5
  · by_cases h1 : t.val % 17 = 2
    · by_cases h2 : (7 ≤ t.val % 17 ∧ t.val % 17 ≤ 8)
      · exfalso; omega
      · by_cases h3 : (t.val % 17 = 3 ∨ t.val % 17 = 6 ∨ t.val % 17 = 10 ∨ t.val % 17 = 14 ∨ t.val % 17 = 16)
        · exfalso; omega
        · by_cases h4 : (t.val % 17 = 4 ∨ t.val % 17 = 5 ∨ t.val % 17 = 9 ∨ t.val % 17 = 11 ∨ t.val % 17 = 12 ∨ t.val % 17 = 13 ∨ t.val % 17 = 15)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1) (fun h => h2 ((hcond0_2 t).mp h)) (fun h => h3 ((hcond0_3 t).mp h)) (fun h => h4 ((hcond0_4 t).mp h))], after0_4]
            rw [Dat.leavesExact_idle (dats m 0 c) 5 t (idleAt0_5_B t (fun h => h0 ((hcond0_0 t).mp h)) ((hcond0_1 t).mpr h1) (fun h => h2 ((hcond0_2 t).mp h)) (fun h => h3 ((hcond0_3 t).mp h)) (fun h => h4 ((hcond0_4 t).mp h))) (noFlush0_5_B t (fun h => h0 ((hcond0_0 t).mp h)) ((hcond0_1 t).mpr h1) (fun h => h2 ((hcond0_2 t).mp h)) (fun h => h3 ((hcond0_3 t).mp h)) (fun h => h4 ((hcond0_4 t).mp h)))]
            rw [outsAt0_B m c t h0 h1 h2 h3 h4]
            unfold out0_B_4; (try dsimp only)
            iintro ⟨HΦ, Ho, ⟨%d0, H0⟩, ⟨%d1, H1⟩, ⟨%d2, H2⟩, ⟨%d3, H3⟩, ⟨%d4, H4⟩, ⟨%d5, H5⟩⟩
            iapply ((kernelRun0_B c (grid0.coords t) _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t)).2.2 _ Set.univ _)
            isplitl [H0]; · iexact H0
            isplitl [H1]; · iexact H1
            isplitl [H2]; · iexact H2
            isplitl [H3]; · iexact H3
            isplitl [H4]; · iexists _; iexact H4
            isplitl [H5]; · iexact H5
            iintro ⟨H0, H1, H2, H3, ⟨%e4, H4⟩, H5⟩
            isplitl [HΦ]; · iexact HΦ
            isplitl [Ho]; · iexact Ho
            isplitl [H0]; · iexact H0
            isplitl [H1]; · iexact H1
            isplitl [H2]; · iexact H2
            isplitl [H3]; · iexact H3
            isplitl [H4]
            · unfold owns; iexists _; isplitr
              swap; · iexact H4
              ipureintro; exact View.read_writes_of_cover _ _ _ _ _ (cover0_B_4 c _ _ _ _ _ _ _ _ _ _ _ _ _ _ _ _ _ _ _ _ _ _)
            iexists _; iexact H5
    · by_cases h2 : (7 ≤ t.val % 17 ∧ t.val % 17 ≤ 8)
      · by_cases h3 : (t.val % 17 = 3 ∨ t.val % 17 = 6 ∨ t.val % 17 = 10 ∨ t.val % 17 = 14 ∨ t.val % 17 = 16)
        · exfalso; omega
        · by_cases h4 : (t.val % 17 = 4 ∨ t.val % 17 = 5 ∨ t.val % 17 = 9 ∨ t.val % 17 = 11 ∨ t.val % 17 = 12 ∨ t.val % 17 = 13 ∨ t.val % 17 = 15)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [leaves0_4_E m c t h0 h1 h2 h3 h4]
            rw [show (dats m 0 c).leavesExact 5 t = owns (c : Thread nD τ) (ms0_5 t) fullShare ((dats m 0 c).after 5 t) from by
      unfold Dat.leavesExact; rw [liveAt0_5_E t (fun h => h0 ((hcond0_0 t).mp h)) (fun h => h1 ((hcond0_1 t).mp h)) ((hcond0_2 t).mpr h2) (fun h => h3 ((hcond0_3 t).mp h)) (fun h => h4 ((hcond0_4 t).mp h))], after0_5]
            rw [outsAt0_E m c t h0 h1 h2 h3 h4]
            simp only [before0_4_E m c t h0 h1 h2 h3 h4]
            unfold out0_E_4 out0_E_5; (try dsimp only)
            iintro ⟨HΦ, Ho, ⟨%d0, H0⟩, ⟨%d1, H1⟩, ⟨%d2, H2⟩, ⟨%d3, H3⟩, ⟨%d4, H4⟩, ⟨%d5, H5⟩⟩
            iapply ((kernelRun0_E c (grid0.coords t) _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) _).2.2 Set.univ _)
            isplitl [H0]; · iexact H0
            isplitl [H1]; · iexact H1
            isplitl [H2]; · iexact H2
            isplitl [H3]; · iexact H3
            isplitl [H4]; · iexact H4
            isplitl [H5]; · iexists _; iexact H5
            iintro ⟨H0, H1, H2, H3, H4, ⟨%e5, H5⟩⟩
            isplitl [HΦ]; · iexact HΦ
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_E_5 c _ _ _ _ _ _ _ _ _ _ _ _ _ _ _ _ _ _ _ _ _ _ _)
      · by_cases h3 : (t.val % 17 = 3 ∨ t.val % 17 = 6 ∨ t.val % 17 = 10 ∨ t.val % 17 = 14 ∨ t.val % 17 = 16)
        · by_cases h4 : (t.val % 17 = 4 ∨ t.val % 17 = 5 ∨ t.val % 17 = 9 ∨ t.val % 17 = 11 ∨ t.val % 17 = 12 ∨ t.val % 17 = 13 ∨ t.val % 17 = 15)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [leaves0_4_C m c t h0 h1 h2 h3 h4]
            rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) (fun h => h2 ((hcond0_2 t).mp h)) ((hcond0_3 t).mpr h3) (fun h => h4 ((hcond0_4 t).mp h))], after0_5]
            rw [outsAt0_C m c t h0 h1 h2 h3 h4]
            simp only [before0_4_C m c t h0 h1 h2 h3 h4]
            unfold out0_C_4 out0_C_5; (try dsimp only)
            iintro ⟨HΦ, Ho, ⟨%d0, H0⟩, ⟨%d1, H1⟩, ⟨%d2, H2⟩, ⟨%d3, H3⟩, ⟨%d4, H4⟩, ⟨%d5, H5⟩⟩
            iapply ((kernelRun0_C c (grid0.coords t) _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) _).2.2 Set.univ _)
            isplitl [H0]; · iexact H0
            isplitl [H1]; · iexact H1
            isplitl [H2]; · iexact H2
            isplitl [H3]; · iexact H3
            isplitl [H4]; · iexact H4
            isplitl [H5]; · iexists _; iexact H5
            iintro ⟨H0, H1, H2, H3, H4, ⟨%e5, H5⟩⟩
            isplitl [HΦ]; · iexact HΦ
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_C_5 c _ _ _ _ _ _ _ _ _ _ _ _ _ _ _ _ _ _ _ _ _ _ _)
        · by_cases h4 : (t.val % 17 = 4 ∨ t.val % 17 = 5 ∨ t.val % 17 = 9 ∨ t.val % 17 = 11 ∨ t.val % 17 = 12 ∨ t.val % 17 = 13 ∨ t.val % 17 = 15)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [leaves0_4_D m c t h0 h1 h2 h3 h4]
            rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) (fun h => h2 ((hcond0_2 t).mp h)) (fun h => h3 ((hcond0_3 t).mp h)) ((hcond0_4 t).mpr h4)], after0_5]
            rw [outsAt0_D m c t h0 h1 h2 h3 h4]
            simp only [before0_4_D m c t h0 h1 h2 h3 h4]
            unfold out0_D_4 out0_D_5; (try dsimp only)
            iintro ⟨HΦ, Ho, ⟨%d0, H0⟩, ⟨%d1, H1⟩, ⟨%d2, H2⟩, ⟨%d3, H3⟩, ⟨%d4, H4⟩, ⟨%d5, H5⟩⟩
            iapply ((kernelRun0_D c (grid0.coords t) _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) _).2.2 Set.univ _)
            isplitl [H0]; · iexact H0
            isplitl [H1]; · iexact H1
            isplitl [H2]; · iexact H2
            isplitl [H3]; · iexact H3
            isplitl [H4]; · iexact H4
            isplitl [H5]; · iexists _; iexact H5
            iintro ⟨H0, H1, H2, H3, H4, ⟨%e5, H5⟩⟩
            isplitl [HΦ]; · iexact HΦ
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_D_5 c _ _ _ _ _ _ _ _ _ _ _ _ _ _ _ _ _ _ _ _ _ _ _)
          · exfalso; omega

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body's triple in the form the pipelined run asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the whole program, and that every counter is zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the whole program: every array ends as the pipeline's data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, for any float interpretation. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.InIdeal.Hand

end
-- ==== Proof.InSpec.lean ====
/- The input projection entry by entry: the normed rows against the projection's columns, the columns of two of the attention calls
   turned by the rows' angles, the gates through silu. -/
module

public import Idealize.ShloMosaic.PureOps
public import Idealize.ShloMosaic.PureOps.Ideal
public import Idealize.ShloMosaic.Lib.Pointwise

@[expose] public section
noncomputable section
open Idealize.ShloMosaic

namespace Cert.InMath

/-- Row `r` of the normed rows against column `j` of the first layer's projection. -/
def projAt (h : FVec Ideal ⟨2, ![8192, 2048]⟩ .bf16) (w : FVec Ideal ⟨3, ![2, 2048, 8704]⟩ .f32) (r : Fin 8192) (j : Fin 8704) : EReal :=
  ∑ d : Fin 2048, h (ix2 r d) * w (ix3 0 d j)

/-- The gates' function. -/
def silu (x : EReal) : EReal := x * Ideal.logistic x

/-- Columns are turned in pairs 64 apart within a head of 128, by the angle of the row's position: the rows are two sequences of 4096. -/
def turnedAt (p : Fin 8192 → Fin 8704 → EReal) (cos sin : FVec Ideal ⟨2, ![4096, 64]⟩ .f32) (r : Fin 8192) (j : Fin 8704) : EReal :=
  if h : j.val % 128 < 64 then
    p r j * cos (ix2 ⟨r.val % 4096, by omega⟩ ⟨j.val % 64, by omega⟩) - p r ⟨j.val + 64, by omega⟩ * sin (ix2 ⟨r.val % 4096, by omega⟩ ⟨j.val % 64, by omega⟩)
  else
    p r j * cos (ix2 ⟨r.val % 4096, by omega⟩ ⟨j.val % 64, by omega⟩) + p r ⟨j.val - 64, by omega⟩ * sin (ix2 ⟨r.val % 4096, by omega⟩ ⟨j.val % 64, by omega⟩)

/-- The columns that are turned: queries and keys of the dilated and of the local attention. -/
def isTurned (j : Fin 8704) : Prop := j.val < 1024 ∨ 3584 ≤ j.val ∧ j.val < 4608

/-- The columns of the five gates. -/
def isGate (j : Fin 8704) : Prop :=
  1536 ≤ j.val ∧ j.val < 2048 ∨ 3072 ≤ j.val ∧ j.val < 3584 ∨ 5120 ≤ j.val ∧ j.val < 5632 ∨ 7168 ≤ j.val ∧ j.val < 7680 ∨ 8192 ≤ j.val

instance (j : Fin 8704) : Decidable (isTurned j) := by unfold isTurned; infer_instance
instance (j : Fin 8704) : Decidable (isGate j) := by unfold isGate; infer_instance

/-- One entry of the projection's 8704 columns. -/
def entryAt (p : Fin 8192 → Fin 8704 → EReal) (cos sin : FVec Ideal ⟨2, ![4096, 64]⟩ .f32) (r : Fin 8192) (j : Fin 8704) : EReal :=
  if isTurned j then turnedAt p cos sin r j else if isGate j then silu (p r j) else p r j

end Cert.InMath
-- ==== Proof.InTiles.lean ====
/- What the body leaves in the results' buffers at one grid point, entry by entry: the projection of the point's rows onto its
   512 columns, as it is, through silu, or rotated. -/
module

public import proofs.«01_k».proof.Proof.InIFrame
public import proofs.«01_k».proof.Proof.InSpec
public import Idealize.ShloMosaic.Lib.Pointwise
public import Idealize.ShloMosaic.Lib.Pipeline.ValueKit

@[expose] public section
set_option maxRecDepth 16384
set_option maxHeartbeats 2000000
noncomputable section
open Idealize.ShloMosaic Idealize.ShloMosaic.TcCoe Idealize.SL.Sem
open Idealize.ShloMosaic.Pipeline (Dat)
namespace Cert.InMath
open Cert.InIdeal Cert.InIdeal.Gen Cert.InIdeal.Hand

/-- Row `r` of the block of rows against column `k` of the block of columns. -/
def blockDot (x0 : Vec Ideal S2048x2048 .bf16) (x1 : Vec Ideal S1x2048x512 .f32) (r : Fin 2048) (k : Fin 512) : EReal :=
  ∑ d : Fin 2048, x0 (ix2 r d) * x1 (ix3 0 d k)

/-- The column half a head away from column `k`, within the same head of 128. -/
def partner (k : Fin 512) : Fin 512 := ⟨128 * (k.val / 128) + (k.val % 128 + 64) % 128, by omega⟩

/-- The place of column `k` in its head. -/
def inHead (k : Fin 512) : Fin 128 := ⟨k.val % 128, by omega⟩

/-- The projection's entry turned by the row's angle: cosine times the entry, plus the signed sine times its partner. -/
def turned (x0 : Vec Ideal S2048x2048 .bf16) (x1 : Vec Ideal S1x2048x512 .f32) (x2 x3 : Vec Ideal S2048x128 .f32) (r : Fin 2048) (k : Fin 512) :
    EReal :=
  blockDot x0 x1 r k * x2 (ix2 r (inHead k)) + blockDot x0 x1 r (partner k) * x3 (ix2 r (inHead k))

/-- An entry of the projection depends on the values of its coordinates only. -/
theorem dot_eq (x0 : Vec Ideal S2048x2048 .bf16) (x1 : Vec Ideal S1x2048x512 .f32) {r r' : Fin 2048} {k k' : Fin 512} (hr : r.val = r'.val)
    (hk : k.val = k'.val) : ∑ d : Fin 2048, x0 (ix2 r' d) * x1 (ix3 0 d k') = blockDot x0 x1 r k := by
  cases Fin.ext hr; cases Fin.ext hk; rfl

/-- A turned entry by the values of its coordinates. -/
theorem turned_eq (x0 : Vec Ideal S2048x2048 .bf16) (x1 : Vec Ideal S1x2048x512 .f32) (x2 x3 : Vec Ideal S2048x128 .f32) {r r' : Fin 2048}
    {k k' p : Fin 512} {j : Fin 128} (hr : r.val = r'.val) (hk : k.val = k'.val) (hj : j.val = k.val % 128)
    (hp : p.val = 128 * (k.val / 128) + (k.val % 128 + 64) % 128) :
    (∑ d : Fin 2048, x0 (ix2 r' d) * x1 (ix3 0 d k')) * x2 (ix2 r' j) + (∑ d : Fin 2048, x0 (ix2 r' d) * x1 (ix3 0 d p)) * x3 (ix2 r' j) =
      turned x0 x1 x2 x3 r k := by
  cases Fin.ext hr; cases Fin.ext hk
  cases (Fin.ext hj : j = inHead k); cases (Fin.ext hp : p = partner k); rfl

variable (m : (ℓ : Loc nD τ sig) → Buf (Elt Ideal) ℓ)

/-- The third column step leaves the projection itself. -/
theorem tile_B (c : Dev nD) (t : Fin cfg0.N) (a0 : ¬t.val % 17 ≤ 1) (a1 : t.val % 17 = 2) (a2 : ¬(7 ≤ t.val % 17 ∧ t.val % 17 ≤ 8)) (a3 : ¬(t.val % 17 = 3 ∨ t.val % 17 = 6 ∨ t.val % 17 = 10 ∨ t.val % 17 = 14 ∨ t.val % 17 = 16)) (a4 : ¬(t.val % 17 = 4 ∨ t.val % 17 = 5 ∨ t.val % 17 = 9 ∨ t.val % 17 = 11 ∨ t.val % 17 = 12 ∨ t.val % 17 = 13 ∨ t.val % 17 = 15))
    (r : Fin 2048) (k : Fin 512) :
    (outsAt0 m c t.val t.isLt).1 (ix2 r k) = blockDot (iblk m c 0 t) (iblk m c 1 t) r k := by
  rw [outsAt0_B m c t a0 a1 a2 a3 a4]
  frame_open
  frame_out
  canon_tiles x h using (View.cover_of_tiledBy _ ![128,512] (by sl_kernel_rfl) _)
  all_goals
    have g0 : r.val = _ := h0
    have g1 : k.val = _ := h1
    open_payloads
    pointwise []
    exact dot_eq _ _ g0 g1

/-- At the other column steps of the 16-bit result it gets the projection itself. -/
theorem tile_D (c : Dev nD) (t : Fin cfg0.N) (a0 : ¬t.val % 17 ≤ 1) (a1 : ¬t.val % 17 = 2) (a2 : ¬(7 ≤ t.val % 17 ∧ t.val % 17 ≤ 8)) (a3 : ¬(t.val % 17 = 3 ∨ t.val % 17 = 6 ∨ t.val % 17 = 10 ∨ t.val % 17 = 14 ∨ t.val % 17 = 16)) (a4 : (t.val % 17 = 4 ∨ t.val % 17 = 5 ∨ t.val % 17 = 9 ∨ t.val % 17 = 11 ∨ t.val % 17 = 12 ∨ t.val % 17 = 13 ∨ t.val % 17 = 15))
    (r : Fin 2048) (k : Fin 512) :
    (outsAt0 m c t.val t.isLt).2 (ix2 r k) = blockDot (iblk m c 0 t) (iblk m c 1 t) r k := by
  rw [outsAt0_D m c t a0 a1 a2 a3 a4]
  frame_open
  frame_out
  canon_tiles x h using (View.cover_of_tiledBy _ ![128,512] (by sl_kernel_rfl) _)
  all_goals
    have g0 : r.val = _ := h0
    have g1 : k.val = _ := h1
    open_payloads
    pointwise []
    exact dot_eq _ _ g0 g1

/-- At a gate's column step the 16-bit result gets silu of the projection. -/
theorem tile_C (c : Dev nD) (t : Fin cfg0.N) (a0 : ¬t.val % 17 ≤ 1) (a1 : ¬t.val % 17 = 2) (a2 : ¬(7 ≤ t.val % 17 ∧ t.val % 17 ≤ 8)) (a3 : (t.val % 17 = 3 ∨ t.val % 17 = 6 ∨ t.val % 17 = 10 ∨ t.val % 17 = 14 ∨ t.val % 17 = 16)) (a4 : ¬(t.val % 17 = 4 ∨ t.val % 17 = 5 ∨ t.val % 17 = 9 ∨ t.val % 17 = 11 ∨ t.val % 17 = 12 ∨ t.val % 17 = 13 ∨ t.val % 17 = 15))
    (r : Fin 2048) (k : Fin 512) :
    (outsAt0 m c t.val t.isLt).2 (ix2 r k) = silu (blockDot (iblk m c 0 t) (iblk m c 1 t) r k) := by
  rw [outsAt0_C m c t a0 a1 a2 a3 a4]
  frame_open
  frame_out
  canon_tiles x h using (View.cover_of_tiledBy _ ![128,512] (by sl_kernel_rfl) _)
  all_goals
    have g0 : r.val = _ := h0
    have g1 : k.val = _ := h1
    open_payloads
    pointwise []
    exact congrArg silu (dot_eq _ _ g0 g1)

end Cert.InMath
-- ==== Proof.InTurned.lean ====
/- The rotated tiles of the 32-bit result at one grid point: every head of every chunk of rows is the projection turned by the rows' angles. -/
module

public import proofs.«01_k».proof.Proof.InTiles

@[expose] public section
set_option maxRecDepth 16384
set_option maxHeartbeats 16000000
noncomputable section
open Idealize.ShloMosaic Idealize.ShloMosaic.TcCoe Idealize.SL.Sem
open Idealize.ShloMosaic.Pipeline (Dat)
namespace Cert.InMath
open Cert.InIdeal Cert.InIdeal.Gen Cert.InIdeal.Hand

variable (m : (ℓ : Loc nD τ sig) → Buf (Elt Ideal) ℓ)

/-- The first two column steps leave the rotated heads. -/
theorem tile_A (c : Dev nD) (t : Fin cfg0.N) (a0 : t.val % 17 ≤ 1) (a1 : ¬t.val % 17 = 2) (a2 : ¬(7 ≤ t.val % 17 ∧ t.val % 17 ≤ 8)) (a3 : ¬(t.val % 17 = 3 ∨ t.val % 17 = 6 ∨ t.val % 17 = 10 ∨ t.val % 17 = 14 ∨ t.val % 17 = 16)) (a4 : ¬(t.val % 17 = 4 ∨ t.val % 17 = 5 ∨ t.val % 17 = 9 ∨ t.val % 17 = 11 ∨ t.val % 17 = 12 ∨ t.val % 17 = 13 ∨ t.val % 17 = 15))
    (r : Fin 2048) (k : Fin 512) :
    (outsAt0 m c t.val t.isLt).1 (ix2 r k) = turned (iblk m c 0 t) (iblk m c 1 t) (iblk m c 2 t) (iblk m c 3 t) r k := by
  rw [outsAt0_A m c t a0 a1 a2 a3 a4]
  frame_open
  frame_out
  canon_tiles x h using (View.cover_of_tiledBy _ ![128,128] (by sl_kernel_rfl) _)
  all_goals
    clear a0 a1 a2 a3 a4
    have g0 : r.val = _ := h0
    have g1 : k.val = _ := h1
    clear h0 h1
    open_payloads
    pointwise []
    refine turned_eq _ _ _ _ g0 g1 ?_ ?_ <;> (try dsimp only) <;> omega

end Cert.InMath
-- ==== Proof.InTurnedB.lean ====
/- The rotated tiles of the 16-bit result at one grid point: every head of every chunk of rows is the projection turned by the rows' angles. -/
module

public import proofs.«01_k».proof.Proof.InTiles

@[expose] public section
set_option maxRecDepth 16384
set_option maxHeartbeats 16000000
noncomputable section
open Idealize.ShloMosaic Idealize.ShloMosaic.TcCoe Idealize.SL.Sem
open Idealize.ShloMosaic.Pipeline (Dat)
namespace Cert.InMath
open Cert.InIdeal Cert.InIdeal.Gen Cert.InIdeal.Hand

variable (m : (ℓ : Loc nD τ sig) → Buf (Elt Ideal) ℓ)

/-- At the two rotated column steps of the 16-bit result it gets the rotated heads. -/
theorem tile_E (c : Dev nD) (t : Fin cfg0.N) (a0 : ¬t.val % 17 ≤ 1) (a1 : ¬t.val % 17 = 2) (a2 : (7 ≤ t.val % 17 ∧ t.val % 17 ≤ 8)) (a3 : ¬(t.val % 17 = 3 ∨ t.val % 17 = 6 ∨ t.val % 17 = 10 ∨ t.val % 17 = 14 ∨ t.val % 17 = 16)) (a4 : ¬(t.val % 17 = 4 ∨ t.val % 17 = 5 ∨ t.val % 17 = 9 ∨ t.val % 17 = 11 ∨ t.val % 17 = 12 ∨ t.val % 17 = 13 ∨ t.val % 17 = 15))
    (r : Fin 2048) (k : Fin 512) :
    (outsAt0 m c t.val t.isLt).2 (ix2 r k) = turned (iblk m c 0 t) (iblk m c 1 t) (iblk m c 2 t) (iblk m c 3 t) r k := by
  rw [outsAt0_E m c t a0 a1 a2 a3 a4]
  frame_open
  frame_out
  canon_tiles x h using (View.cover_of_tiledBy _ ![128,128] (by sl_kernel_rfl) _)
  all_goals
    clear a0 a1 a2 a3 a4
    have g0 : r.val = _ := h0
    have g1 : k.val = _ := h1
    clear h0 h1
    open_payloads
    pointwise []
    refine turned_eq _ _ _ _ g0 g1 ?_ ?_ <;> (try dsimp only) <;> omega

end Cert.InMath
-- ==== Proof.InValue.lean ====
/- The idealized kernel's two result arrays: at every index what `InMath.entryAt` says. A row of the grid computes 2048 rows, a column step
   512 columns; the first three column steps fill the 32-bit result, the others the 16-bit one. -/
module

public import proofs.«01_k».proof.Proof.InTurned
public import proofs.«01_k».proof.Proof.InTurnedB
public import Idealize.ShloMosaic.Lib.Claim
public import proofs.«01_k».proof.Proof.InSpec

@[expose] public section
set_option maxRecDepth 16384
set_option maxHeartbeats 2000000
noncomputable section
open Idealize.ShloMosaic Idealize.ShloMosaic.TcCoe Idealize.SL.Sem
open Idealize.ShloMosaic.Pipeline (Dat)
namespace Cert.InMath
open Cert.InIdeal Cert.InIdeal.Gen Cert.InIdeal.Hand

variable (m : (ℓ : Loc nD τ sig) → Buf (Elt Ideal) ℓ)

/-- The windows' block indices at grid point `t`. -/
theorem idx : ∀ t : Fin cfg0.N, win0_0.index t = ![t.val / 17, 0] ∧ win0_1.index t = ![0, 0, t.val % 17] ∧ win0_2.index t = ![t.val / 17 % 2, 0]
  ∧ win0_3.index t = ![t.val / 17 % 2, 0] ∧ win0_4.index t = ![t.val / 17, min (t.val % 17) 2] ∧ win0_5.index t = ![t.val / 17, t.val % 17 - 3] ∧ t.val < 68 :=
  (by decide +kernel : ∀ t : Fin grid0.N, _)

/-- The result's row of a block's row. -/
def rowOf (t : Fin cfg0.N) (r : Fin 2048) : Fin 8192 := ⟨2048 * (t.val / 17) + r.val, by have := (idx t).2.2.2.2.2.2; omega⟩

/-- The result's column of a block's column. -/
def colOf (t : Fin cfg0.N) (k : Fin 512) : Fin 8704 := ⟨512 * (t.val % 17) + k.val, by omega⟩

/-- The projection of the run's arguments. -/
def P (c : Dev nD) : Fin 8192 → Fin 8704 → EReal := projAt (m ((c : Thread nD τ).loc main_arg0)) (m ((c : Thread nD τ).loc main_arg1))

/-- A block's product is the projection's entry. -/
theorem dot_at (c : Dev nD) (t : Fin cfg0.N) (r : Fin 2048) (k : Fin 512) :
    blockDot (iblk m c 0 t) (iblk m c 1 t) r k = P m c (rowOf t r) (colOf t k) := by
  unfold blockDot P projAt rowOf colOf
  blk_point [iblk, V, idx t]

/-- Two indices with the same coordinates are one. -/
theorem ix2_congr {n m : ℕ} {a a' : Fin n} {b b' : Fin m} (ha : a.val = a'.val) (hb : b.val = b'.val) : ix2 a b = ix2 a' b' := by
  cases Fin.ext ha; cases Fin.ext hb; rfl

/-- The cosines the region finds: twice side by side. -/
theorem cos_host (c : Dev nD) (q : Fin 4096) (j : Fin 128) :
    V m c main_v0 (ix2 q j) = m ((c : Thread nD τ).loc main_arg2) (ix2 q ⟨j.val % 64, by omega⟩) := by
  entry_read
  pointwise
  by_cases h : j.val < 64
  · rw [dif_pos h]; exact congrArg _ (ix2_congr rfl (Nat.mod_eq_of_lt h).symm)
  · rw [dif_neg h]; exact congrArg _ (ix2_congr rfl (by dsimp only; omega))

/-- The sine of a place in a head, with the sign of its half. -/
def signed (s : FVec Ideal ⟨2, ![4096, 64]⟩ .f32) (q : Fin 4096) (j : Fin 128) : EReal :=
  if j.val < 64 then -s (ix2 q ⟨j.val % 64, by omega⟩) else s (ix2 q ⟨j.val % 64, by omega⟩)

/-- The sines the region finds: negated, then plain. -/
theorem sin_host (c : Dev nD) (q : Fin 4096) (j : Fin 128) : V m c main_v2 (ix2 q j) = signed (m ((c : Thread nD τ).loc main_arg3)) q j := by
  entry_read
  unfold signed
  pointwise
  by_cases h : j.val < 64
  · rw [dif_pos h, if_pos h]
    exact congrArg (fun x : EReal => -x) (congrArg (m ((c : Thread nD τ).loc main_arg3)) (ix2_congr rfl (Nat.mod_eq_of_lt h).symm))
  · rw [dif_neg h, if_neg h]; exact congrArg _ (ix2_congr rfl (by dsimp only; omega))

/-- The position of a block's row in its sequence. -/
def posOf (t : Fin cfg0.N) (r : Fin 2048) : Fin 4096 := ⟨2048 * (t.val / 17 % 2) + r.val, by omega⟩

/-- The block of cosines a grid point reads. -/
theorem cos_at (c : Dev nD) (t : Fin cfg0.N) (r : Fin 2048) (j : Fin 128) : iblk m c 2 t (ix2 r j) = V m c main_v0 (ix2 (posOf t r) j) := by
  unfold posOf
  blk_ext [iblk, idx t]

/-- The block of sines a grid point reads. -/
theorem sin_at (c : Dev nD) (t : Fin cfg0.N) (r : Fin 2048) (j : Fin 128) : iblk m c 3 t (ix2 r j) = V m c main_v2 (ix2 (posOf t r) j) := by
  unfold posOf
  blk_ext [iblk, idx t]

/-- A turned entry of a block is a turned entry of the projection. -/
theorem turned_at (c : Dev nD) (t : Fin cfg0.N) (r : Fin 2048) (k : Fin 512) :
    turned (iblk m c 0 t) (iblk m c 1 t) (iblk m c 2 t) (iblk m c 3 t) r k
      = turnedAt (P m c) (m ((c : Thread nD τ).loc main_arg2)) (m ((c : Thread nD τ).loc main_arg3)) (rowOf t r) (colOf t k) := by
  unfold turned
  rw [dot_at, dot_at, cos_at, sin_at, cos_host, sin_host]
  have hq : posOf t r = ⟨(rowOf t r).val % 4096, by omega⟩ := Fin.ext (by simp only [posOf, rowOf]; omega)
  have hj : (⟨(inHead k).val % 64, by omega⟩ : Fin 64) = ⟨(colOf t k).val % 64, by omega⟩ := Fin.ext (by simp only [inHead, colOf]; omega)
  have hc : (inHead k).val = (colOf t k).val % 128 := by simp only [inHead, colOf]; omega
  unfold turnedAt signed
  rw [hq, hj, hc]
  by_cases h : (colOf t k).val % 128 < 64
  · have hp : colOf t (partner k) = ⟨(colOf t k).val + 64, by omega⟩ := Fin.ext (by simp only [partner, colOf] at h ⊢; omega)
    rw [dif_pos h, if_pos h, hp, sub_eq_add_neg, mul_neg]
  · have hp : colOf t (partner k) = ⟨(colOf t k).val - 64, by omega⟩ := Fin.ext (by simp only [partner, colOf] at h ⊢; omega)
    rw [dif_neg h, if_neg h, hp]

/-- The entry of the projection that column `j` of row `r` shows. -/
def E (c : Dev nD) (r : Fin 8192) (j : Fin 8704) : EReal :=
  entryAt (P m c) (m ((c : Thread nD τ).loc main_arg2)) (m ((c : Thread nD τ).loc main_arg3)) r j

/-- The 32-bit result's buffer after one of the first three column steps. -/
theorem first_at (c : Dev nD) (t : Fin cfg0.N) (h : t.val % 17 ≤ 2) (r : Fin 2048) (k : Fin 512) :
    (outsAt0 m c t.val t.isLt).1 (ix2 r k) = E m c (rowOf t r) (colOf t k) := by
  by_cases h0 : t.val % 17 ≤ 1
  · rw [tile_A m c t h0 (by omega) (by omega) (by omega) (by omega), turned_at, E, entryAt, if_pos]
    simp only [isTurned, colOf]; omega
  · rw [tile_B m c t h0 (by omega) (by omega) (by omega) (by omega), dot_at, E, entryAt, if_neg, if_neg]
    · simp only [isGate, colOf]; omega
    · simp only [isTurned, colOf]; omega

/-- A later column step leaves the 32-bit result's buffer as it found it. -/
theorem first_kept (c : Dev nD) (t : Fin cfg0.N) (h : 3 ≤ t.val % 17) :
    (outsAt0 m c t.val t.isLt).1 = (outsAt0 m c (t.val - 1) (by omega)).1 := by
  by_cases h2 : 7 ≤ t.val % 17 ∧ t.val % 17 ≤ 8
  · rw [outsAt0_E m c t (by omega) (by omega) h2 (by omega) (by omega)]; rfl
  by_cases h3 : t.val % 17 = 3 ∨ t.val % 17 = 6 ∨ t.val % 17 = 10 ∨ t.val % 17 = 14 ∨ t.val % 17 = 16
  · rw [outsAt0_C m c t (by omega) (by omega) h2 h3 (by omega)]; rfl
  · rw [outsAt0_D m c t (by omega) (by omega) h2 h3 (by omega)]; rfl

/-- So from the third column step on it holds the third column step's tile. -/
theorem first_rest (c : Dev nD) (i d : ℕ) (hd : d ≤ 14) (hn : 17 * i + 2 + d < cfg0.N) :
    (outsAt0 m c (17 * i + 2 + d) hn).1 = (outsAt0 m c (17 * i + 2) (by omega)).1 := by
  induction d with
  | zero => rfl
  | succ d ih =>
    refine (first_kept m c ⟨17 * i + 2 + (d + 1), hn⟩ (by dsimp only; omega)).trans ?_
    exact ih (by omega) (by omega)

/-- The 32-bit result's buffer after any column step: the tile of that step, or of the third one. -/
theorem first_any (c : Dev nD) (t : Fin cfg0.N) (r : Fin 2048) (k : Fin 512) (R : Fin 8192) (J : Fin 8704)
    (hR : R.val = 2048 * (t.val / 17) + r.val) (hJ : J.val = 512 * min (t.val % 17) 2 + k.val) :
    (outsAt0 m c t.val t.isLt).1 (ix2 r k) = E m c R J := by
  by_cases h : t.val % 17 ≤ 2
  · rw [first_at m c t h, show R = rowOf t r from Fin.ext hR, show J = colOf t k from Fin.ext (by simp only [colOf]; omega)]
  · obtain ⟨n, hn⟩ := t
    dsimp only at h hR hJ ⊢
    have hlt : 17 * (n / 17) + 2 < cfg0.N := by omega
    have e := first_rest m c (n / 17) (n % 17 - 2) (by omega) (by omega)
    have en : 17 * (n / 17) + 2 + (n % 17 - 2) = n := by omega
    simp only [en] at e
    rw [e, first_at m c ⟨17 * (n / 17) + 2, hlt⟩ (by dsimp only; omega)]
    congr 1 <;> refine Fin.ext ?_ <;> simp only [rowOf, colOf] <;> omega

/-- The 16-bit result's buffer after one of its column steps. -/
theorem second_at (c : Dev nD) (t : Fin cfg0.N) (h : 3 ≤ t.val % 17) (r : Fin 2048) (k : Fin 512) :
    (outsAt0 m c t.val t.isLt).2 (ix2 r k) = E m c (rowOf t r) (colOf t k) := by
  by_cases h2 : 7 ≤ t.val % 17 ∧ t.val % 17 ≤ 8
  · rw [tile_E m c t (by omega) (by omega) h2 (by omega) (by omega), turned_at, E, entryAt, if_pos]
    simp only [isTurned, colOf]; omega
  by_cases h3 : t.val % 17 = 3 ∨ t.val % 17 = 6 ∨ t.val % 17 = 10 ∨ t.val % 17 = 14 ∨ t.val % 17 = 16
  · rw [tile_C m c t (by omega) (by omega) h2 h3 (by omega), dot_at, E, entryAt, if_neg, if_pos]
    · simp only [isGate, colOf]; omega
    · simp only [isTurned, colOf]; omega
  · rw [tile_D m c t (by omega) (by omega) h2 h3 (by omega), dot_at, E, entryAt, if_neg, if_neg]
    · simp only [isGate, colOf]; omega
    · simp only [isTurned, colOf]; omega

/-- The 32-bit array the run leaves: the first 1536 columns. -/
def OF (c : Dev nD) : FVec Ideal ⟨2, ![8192, 1536]⟩ .f32 := fun i => E m c (i 0) ⟨(i 1).val, lt_trans (i 1).isLt (by decide)⟩

/-- The 16-bit array the run leaves: the other columns. -/
def OB (c : Dev nD) : FVec Ideal ⟨2, ![8192, 7168]⟩ .bf16 :=
  fun i => E m c (i 0) ⟨(i 1).val + 1536, by have : (i 1).val < 7168 := (i 1).isLt; omega⟩

/-- Every block of the 32-bit result written back is its block of `OF`. -/
theorem final4 (c : Dev nD) : (dats m 0 c).arrAt 4 (cfgs 0).N = OF m c := by
  refine (dats m 0 c).arrAt_eq_of_covers 4 _ (by decide +kernel) fun t _ y => ?_
  blk_simp
  rw [after0_4]
  obtain ⟨r, k, rfl⟩ : ∃ (r : Fin 2048) (k : Fin 512), y = ix2 r k := ⟨y 0, y 1, eq_ix2 y⟩
  have e : (win0_4.blk t).view.emb (ix2 r k) = ix2 (rowOf t r) (⟨512 * min (t.val % 17) 2 + k.val, by omega⟩ : Fin 1536) := by
    unfold rowOf
    blk_ext [idx t]
  rw [e]
  exact first_any m c t r k _ _ rfl rfl

/-- The 16-bit result is written back at its own column steps only. -/
theorem flush5 : ∀ t : Fin cfg0.N, (cfg0.win 5).flush t = true → 3 ≤ t.val % 17 := (by decide +kernel : ∀ t : Fin grid0.N, _)

/-- Every block of the 16-bit result written back is its block of `OB`. -/
theorem final5 (c : Dev nD) : (dats m 0 c).arrAt 5 (cfgs 0).N = OB m c := by
  refine (dats m 0 c).arrAt_eq_of_covers 5 _ (by decide +kernel) fun t hf y => ?_
  have h3 := flush5 t hf
  blk_simp
  rw [after0_5]
  obtain ⟨r, k, rfl⟩ : ∃ (r : Fin 2048) (k : Fin 512), y = ix2 r k := ⟨y 0, y 1, eq_ix2 y⟩
  have e : (win0_5.blk t).view.emb (ix2 r k) = ix2 (rowOf t r) (⟨512 * (t.val % 17 - 3) + k.val, by omega⟩ : Fin 7168) := by
    unfold rowOf
    blk_ext [idx t]
  rw [second_at m c t h3, e]
  exact congrArg (E m c (rowOf t r)) (Fin.ext (by simp only [colOf, ix2]; omega))

end Cert.InMath
-- ==== Proof.InRef.lean ====
/- The reference's two results: entry by entry the turned columns, the gates and the plain columns of the projection. -/
module

public import proofs.«01_k».proof.Proof.Gen.RefInIdeal.Run
public import proofs.«01_k».proof.Proof.InSpec

@[expose] public section
set_option maxRecDepth 16384
set_option maxHeartbeats 2000000
noncomputable section
open Idealize.ShloMosaic Idealize.ShloMosaic.TcCoe Idealize.SL.Sem

namespace Cert.InMath
open Cert.RefInIdeal Cert.RefInIdeal.Gen

/-- The reference's projection. -/
def refP (h : FVec Ideal S8192x2048 .bf16) (w : FVec Ideal S2x2048x8704 .f32) : FVec Ideal S8192x8704 .f32 :=
  Host.dotGeneral dot_S8192x2048_S2048x8704_S8192x8704_1_0_0_1_n_n none (extf .f32 h bitsLt_bf16_f32)
    (shapeCast S2048x8704 (extractStridedSlice S1x2048x8704 ![0, 0, 0] w slices_S2x2048x8704_S1x2048x8704_0_0_0) shapeCasts_S1x2048x8704_S2048x8704)

/-- The reference's rotation of eight heads. -/
def refRot (T : FVec Ideal S8192x1024 .f32) (cs sn : FVec Ideal S4096x64 .f32) : FVec Ideal S8192x1024 .f32 :=
  (shapeCast S8192x1024 (concatenate S2x4096x8x128 3 [⟨S2x4096x8x64, (subf (mulf (extractStridedSlice S2x4096x8x64 ![0, 0, 0, 0] (shapeCast S2x4096x8x128 T shapeCasts_S8192x1024_S2x4096x8x128) slices_S2x4096x8x128_S2x4096x8x64_0_0_0_0) (broadcastInDim S2x4096x8x64 ![0, 1, 2, 3] bcast_S1x4096x1x64_S2x4096x8x64_0_1_2_3 (broadcastInDim S1x4096x1x64 ![1, 3] bcast_S4096x64_S1x4096x1x64_1_3 cs))) (mulf (extractStridedSlice S2x4096x8x64 ![0, 0, 0, 64] (shapeCast S2x4096x8x128 T shapeCasts_S8192x1024_S2x4096x8x128) slices_S2x4096x8x128_S2x4096x8x64_0_0_0_64) (broadcastInDim S2x4096x8x64 ![0, 1, 2, 3] bcast_S1x4096x1x64_S2x4096x8x64_0_1_2_3 (broadcastInDim S1x4096x1x64 ![1, 3] bcast_S4096x64_S1x4096x1x64_1_3 sn))))⟩, ⟨S2x4096x8x64, (addf (mulf (extractStridedSlice S2x4096x8x64 ![0, 0, 0, 64] (shapeCast S2x4096x8x128 T shapeCasts_S8192x1024_S2x4096x8x128) slices_S2x4096x8x128_S2x4096x8x64_0_0_0_64) (broadcastInDim S2x4096x8x64 ![0, 1, 2, 3] bcast_S1x4096x1x64_S2x4096x8x64_0_1_2_3 (broadcastInDim S1x4096x1x64 ![1, 3] bcast_S4096x64_S1x4096x1x64_1_3 cs))) (mulf (extractStridedSlice S2x4096x8x64 ![0, 0, 0, 0] (shapeCast S2x4096x8x128 T shapeCasts_S8192x1024_S2x4096x8x128) slices_S2x4096x8x128_S2x4096x8x64_0_0_0_0) (broadcastInDim S2x4096x8x64 ![0, 1, 2, 3] bcast_S1x4096x1x64_S2x4096x8x64_0_1_2_3 (broadcastInDim S1x4096x1x64 ![1, 3] bcast_S4096x64_S1x4096x1x64_1_3 sn))))⟩] concatenates_S2x4096x8x64_S2x4096x8x64_S2x4096x8x128_d3) shapeCasts_S2x4096x8x128_S8192x1024)

/-- The reference's gate function. -/
def refSilu (T : FVec Ideal S8192x512 .f32) : FVec Ideal S8192x512 .f32 :=
  mulf T (Host.divf (broadcastInDim S8192x512 ![] bcast_S_S8192x512 (constant S_ .f32 0x3F800000#32)) (addf (broadcastInDim S8192x512 ![] bcast_S_S8192x512 (constant S_ .f32 0x3F800000#32)) (Host.exp (Host.negf T))))

/-- The reference's 32-bit result over its projection. -/
def refF (P : FVec Ideal S8192x8704 .f32) (cs sn : FVec Ideal S4096x64 .f32) : FVec Ideal S8192x1536 .f32 :=
  concatenate S8192x1536 1 [⟨S8192x1024, (refRot (extractStridedSlice S8192x1024 ![0, 0] P slices_S8192x8704_S8192x1024_0_0) cs sn)⟩, ⟨S8192x512, (extractStridedSlice S8192x512 ![0, 1024] P slices_S8192x8704_S8192x512_0_1024)⟩] concatenates_S8192x1024_S8192x512_S8192x1536_d1

/-- The reference's 16-bit result over its projection. -/
def refB (P : FVec Ideal S8192x8704 .f32) (cs sn : FVec Ideal S4096x64 .f32) : FVec Ideal S8192x7168 .bf16 :=
  truncf .bf16 ((concatenate S8192x7168 1
    [⟨S8192x512, ((refSilu (extractStridedSlice S8192x512 ![0, 1536] P slices_S8192x8704_S8192x512_0_1536)))⟩,
     ⟨S8192x1024, ((extractStridedSlice S8192x1024 ![0, 2048] P slices_S8192x8704_S8192x1024_0_2048))⟩,
     ⟨S8192x512, ((refSilu (extractStridedSlice S8192x512 ![0, 3072] P slices_S8192x8704_S8192x512_0_3072)))⟩,
     ⟨S8192x1024, ((refRot (extractStridedSlice S8192x1024 ![0, 3584] P slices_S8192x8704_S8192x1024_0_3584) cs sn))⟩,
     ⟨S8192x512, ((extractStridedSlice S8192x512 ![0, 4608] P slices_S8192x8704_S8192x512_0_4608))⟩,
     ⟨S8192x512, ((refSilu (extractStridedSlice S8192x512 ![0, 5120] P slices_S8192x8704_S8192x512_0_5120)))⟩,
     ⟨S8192x1536, ((extractStridedSlice S8192x1536 ![0, 5632] P slices_S8192x8704_S8192x1536_0_5632))⟩,
     ⟨S8192x512, ((refSilu (extractStridedSlice S8192x512 ![0, 7168] P slices_S8192x8704_S8192x512_0_7168)))⟩,
     ⟨S8192x512, ((extractStridedSlice S8192x512 ![0, 7680] P slices_S8192x8704_S8192x512_0_7680))⟩,
     ⟨S8192x512, ((refSilu (extractStridedSlice S8192x512 ![0, 8192] P slices_S8192x8704_S8192x512_0_8192)))⟩] concatenates_S8192x512_S8192x1024_S8192x512_S8192x1024_S8192x512_S8192x512_S8192x1536_S8192x512_S8192x512_S8192x512_S8192x7168_d1)) bitsLt_bf16_f32

/-- Two indices with the same coordinates are one. -/
theorem ix2_ext {n m : ℕ} {a a' : Fin n} {b b' : Fin m} (ha : a.val = a'.val) (hb : b.val = b'.val) : ix2 a b = ix2 a' b' := by
  cases Fin.ext ha; cases Fin.ext hb; rfl

variable (m : (ℓ : Loc nD τ sig) → Buf (Elt Ideal) ℓ)

/-- The reference's 32-bit array, over its arguments. -/
def RF (c : Dev nD) : FVec Ideal S8192x1536 .f32 := refF (refP (m ((c.tc : Thread nD τ).loc main_arg0)) (m ((c.tc : Thread nD τ).loc main_arg1))) (m ((c.tc : Thread nD τ).loc main_arg2)) (m ((c.tc : Thread nD τ).loc main_arg3))

/-- The reference's 16-bit array, over its arguments. -/
def RB (c : Dev nD) : FVec Ideal S8192x7168 .bf16 := refB (refP (m ((c.tc : Thread nD τ).loc main_arg0)) (m ((c.tc : Thread nD τ).loc main_arg1))) (m ((c.tc : Thread nD τ).loc main_arg2)) (m ((c.tc : Thread nD τ).loc main_arg3))

/-- The reference's run, its two results as the stages in turn. -/
theorem run_ref (ρ : Dev nD → PrngReg) : θ_run defs (onTc (τ := τ) (main (F := Ideal))) ⟨m, fun _ => 0, ρ⟩ fun r => ∀ c : Dev nD,
      r.2.mem ((c.tc : Thread nD τ).loc main_v33) = RF m c
      ∧ r.2.mem ((c.tc : Thread nD τ).loc main_v55) = RB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1, (h c).2.1, (h c).2.2⟩) (Cert.RefInIdeal.Value.run m ρ)

/-- The reference's projection, entry by entry. -/
theorem refP_at (h : FVec Ideal S8192x2048 .bf16) (w : FVec Ideal S2x2048x8704 .f32) (r : Fin 8192) (j : Fin 8704) :
    refP h w (ix2 r j) = projAt h w r j := by
  pointwise [refP, projAt]

/-- The reference's gate function, entry by entry. -/
theorem refSilu_at (T : FVec Ideal S8192x512 .f32) (r : Fin 8192) (j : Fin 512) : refSilu T (ix2 r j) = silu (T (ix2 r j)) := by
  pointwise [refSilu, silu]
  rfl

/-- The reference's rotation, entry by entry. -/
theorem refRot_at (T : FVec Ideal S8192x1024 .f32) (cs sn : FVec Ideal S4096x64 .f32) (r : Fin 8192) (j : Fin 1024) :
    refRot T cs sn (ix2 r j) = if h : j.val % 128 < 64 then
      T (ix2 r j) * cs (ix2 ⟨r.val % 4096, by omega⟩ ⟨j.val % 64, by omega⟩) - T (ix2 r ⟨j.val + 64, by omega⟩) * sn (ix2 ⟨r.val % 4096, by omega⟩ ⟨j.val % 64, by omega⟩)
    else
      T (ix2 r j) * cs (ix2 ⟨r.val % 4096, by omega⟩ ⟨j.val % 64, by omega⟩) + T (ix2 r ⟨j.val - 64, by omega⟩) * sn (ix2 ⟨r.val % 4096, by omega⟩ ⟨j.val % 64, by omega⟩) := by
  pointwise [refRot]
  by_cases h : j.val % 128 < 64
  · rw [dif_pos h, dif_pos h]
    exact congrArg₂ (fun a b : EReal => a - b)
      (congrArg₂ (fun a b : EReal => a * b) rfl (congrArg cs (ix2_ext rfl (by dsimp only; omega))))
      (congrArg₂ (fun a b : EReal => a * b) (congrArg T (ix2_ext rfl (by dsimp only; omega))) (congrArg sn (ix2_ext rfl (by dsimp only; omega))))
  · rw [dif_neg h, dif_neg h]
    exact congrArg₂ (fun a b : EReal => a + b)
      (congrArg₂ (fun a b : EReal => a * b) (congrArg T (ix2_ext rfl (by dsimp only; omega))) (congrArg cs (ix2_ext rfl (by dsimp only; omega))))
      (congrArg₂ (fun a b : EReal => a * b) (congrArg T (ix2_ext rfl (by dsimp only; omega))) (congrArg sn (ix2_ext rfl (by dsimp only; omega))))

/-- A plain column. -/
theorem plain_case (h : FVec Ideal S8192x2048 .bf16) (w : FVec Ideal S2x2048x8704 .f32) (cs sn : FVec Ideal S4096x64 .f32) (r : Fin 8192) {j J : Fin 8704}
    (hj : j.val = J.val) (ht : ¬isTurned J) (hg : ¬isGate J) : refP h w (ix2 r j) = entryAt (projAt h w) cs sn r J := by
  cases Fin.ext hj
  rw [refP_at, entryAt, if_neg ht, if_neg hg]

/-- A gate's column. -/
theorem silu_case (h : FVec Ideal S8192x2048 .bf16) (w : FVec Ideal S2x2048x8704 .f32) (cs sn : FVec Ideal S4096x64 .f32) (r : Fin 8192)
    (T : FVec Ideal S8192x512 .f32) (q : Fin 512) {j J : Fin 8704} (hT : T (ix2 r q) = refP h w (ix2 r j)) (hj : j.val = J.val) (ht : ¬isTurned J) (hg : isGate J) :
    refSilu T (ix2 r q) = entryAt (projAt h w) cs sn r J := by
  cases Fin.ext hj
  rw [refSilu_at, hT, refP_at, entryAt, if_neg ht, if_pos hg]

/-- A turned column: the slice begins at a head. -/
theorem rot_case (h : FVec Ideal S8192x2048 .bf16) (w : FVec Ideal S2x2048x8704 .f32) (cs sn : FVec Ideal S4096x64 .f32) (r : Fin 8192)
    (T : FVec Ideal S8192x1024 .f32) (o : ℕ) (ho : o % 128 = 0) (hb : o + 1024 ≤ 8704) (hT : ∀ q : Fin 1024, T (ix2 r q) = refP h w (ix2 r ⟨o + q.val, by omega⟩))
    (q : Fin 1024) {J : Fin 8704} (hj : o + q.val = J.val) (ht : isTurned J) :
    refRot T cs sn (ix2 r q) = entryAt (projAt h w) cs sn r J := by
  obtain ⟨J, hJ⟩ := J
  dsimp only at hj
  subst hj
  rw [refRot_at, entryAt, if_pos ht, turnedAt]
  have e : q.val % 64 = (o + q.val) % 64 := by omega
  by_cases hq : q.val % 128 < 64
  · rw [dif_pos hq, dif_pos (by dsimp only; omega), hT, hT, refP_at, refP_at]
    exact congrArg₂ (fun a b : EReal => a - b) (congrArg₂ (fun a b : EReal => a * b) rfl (congrArg cs (ix2_ext rfl e)))
      (congrArg₂ (fun a b : EReal => a * b) rfl (congrArg sn (ix2_ext rfl e)))
  · rw [dif_neg hq, dif_neg (by dsimp only; omega), hT, hT, refP_at, refP_at]
    exact congrArg₂ (fun a b : EReal => a + b) (congrArg₂ (fun a b : EReal => a * b) rfl (congrArg cs (ix2_ext rfl e)))
      (congrArg₂ (fun a b : EReal => a * b) (congrArg (projAt h w r) (Fin.ext (by dsimp only; omega))) (congrArg sn (ix2_ext rfl e)))

/-- The reference's 32-bit result, entry by entry. -/
theorem refF_at (h : FVec Ideal S8192x2048 .bf16) (w : FVec Ideal S2x2048x8704 .f32) (cs sn : FVec Ideal S4096x64 .f32) (r : Fin 8192) (j : Fin 1536) :
    refF (refP h w) cs sn (ix2 r j) = entryAt (projAt h w) cs sn r ⟨j.val, by omega⟩ := by
  pointwise [refF]
  by_cases h1 : j.val < 1024
  · rw [dif_pos h1]
    refine rot_case h w cs sn r _ 0 (by omega) (by omega) (fun q => by pointwise <;> exact congrArg _ (congrArg _ (Fin.ext (by dsimp only; omega)))) _ (by dsimp only; omega) ?_
    simp only [isTurned]; omega
  · rw [dif_neg h1]
    refine plain_case h w cs sn r (by dsimp only; omega) ?_ ?_
    · simp only [isTurned]; omega
    · simp only [isGate]; omega

/-- The reference's 16-bit result, entry by entry. -/
theorem refB_at (h : FVec Ideal S8192x2048 .bf16) (w : FVec Ideal S2x2048x8704 .f32) (cs sn : FVec Ideal S4096x64 .f32) (r : Fin 8192) (j : Fin 7168) :
    refB (refP h w) cs sn (ix2 r j) = entryAt (projAt h w) cs sn r ⟨j.val + 1536, by omega⟩ := by
  pointwise [refB]
  by_cases h1 : j.val < 512
  · rw [dif_pos h1]
    refine silu_case h w cs sn r _ _ (j := ⟨1536 + (j.val), by omega⟩) (by pointwise) (by dsimp only; omega) ?_ ?_
    · simp only [isTurned]; omega
    · simp only [isGate]; omega
  by_cases h2 : j.val - 512 < 1024
  · rw [dif_neg h1, dif_pos h2]
    refine plain_case h w cs sn r (by dsimp only; omega) ?_ ?_
    · simp only [isTurned]; omega
    · simp only [isGate]; omega
  by_cases h3 : j.val - 512 - 1024 < 512
  · rw [dif_neg h1, dif_neg h2, dif_pos h3]
    refine silu_case h w cs sn r _ _ (j := ⟨3072 + (j.val - 512 - 1024), by omega⟩) (by pointwise) (by dsimp only; omega) ?_ ?_
    · simp only [isTurned]; omega
    · simp only [isGate]; omega
  by_cases h4 : j.val - 512 - 1024 - 512 < 1024
  · rw [dif_neg h1, dif_neg h2, dif_neg h3, dif_pos h4]
    refine rot_case h w cs sn r _ 3584 (by omega) (by omega) (fun q => by pointwise) _ (by dsimp only; omega) ?_
    simp only [isTurned]; omega
  by_cases h5 : j.val - 512 - 1024 - 512 - 1024 < 512
  · rw [dif_neg h1, dif_neg h2, dif_neg h3, dif_neg h4, dif_pos h5]
    refine plain_case h w cs sn r (by dsimp only; omega) ?_ ?_
    · simp only [isTurned]; omega
    · simp only [isGate]; omega
  by_cases h6 : j.val - 512 - 1024 - 512 - 1024 - 512 < 512
  · rw [dif_neg h1, dif_neg h2, dif_neg h3, dif_neg h4, dif_neg h5, dif_pos h6]
    refine silu_case h w cs sn r _ _ (j := ⟨5120 + (j.val - 512 - 1024 - 512 - 1024 - 512), by omega⟩) (by pointwise) (by dsimp only; omega) ?_ ?_
    · simp only [isTurned]; omega
    · simp only [isGate]; omega
  by_cases h7 : j.val - 512 - 1024 - 512 - 1024 - 512 - 512 < 1536
  · rw [dif_neg h1, dif_neg h2, dif_neg h3, dif_neg h4, dif_neg h5, dif_neg h6, dif_pos h7]
    refine plain_case h w cs sn r (by dsimp only; omega) ?_ ?_
    · simp only [isTurned]; omega
    · simp only [isGate]; omega
  by_cases h8 : j.val - 512 - 1024 - 512 - 1024 - 512 - 512 - 1536 < 512
  · rw [dif_neg h1, dif_neg h2, dif_neg h3, dif_neg h4, dif_neg h5, dif_neg h6, dif_neg h7, dif_pos h8]
    refine silu_case h w cs sn r _ _ (j := ⟨7168 + (j.val - 512 - 1024 - 512 - 1024 - 512 - 512 - 1536), by omega⟩) (by pointwise) (by dsimp only; omega) ?_ ?_
    · simp only [isTurned]; omega
    · simp only [isGate]; omega
  by_cases h9 : j.val - 512 - 1024 - 512 - 1024 - 512 - 512 - 1536 - 512 < 512
  · rw [dif_neg h1, dif_neg h2, dif_neg h3, dif_neg h4, dif_neg h5, dif_neg h6, dif_neg h7, dif_neg h8, dif_pos h9]
    refine plain_case h w cs sn r (by dsimp only; omega) ?_ ?_
    · simp only [isTurned]; omega
    · simp only [isGate]; omega
  · rw [dif_neg h1, dif_neg h2, dif_neg h3, dif_neg h4, dif_neg h5, dif_neg h6, dif_neg h7, dif_neg h8, dif_neg h9]
    refine silu_case h w cs sn r _ _ (j := ⟨8192 + (j.val - 512 - 1024 - 512 - 1024 - 512 - 512 - 1536 - 512 - 512), by omega⟩) (by pointwise) (by dsimp only; omega) ?_ ?_
    · simp only [isTurned]; omega
    · simp only [isGate]; omega

end Cert.InMath
-- ==== Proof.InClaim.lean ====
/- The claims about the input projection: the frames, and that the idealized kernel's two arrays are the reference's. -/
module

public import proofs.«01_k».proof.Defs
public import proofs.«01_k».proof.Proof.InKFrame
public import proofs.«01_k».proof.Proof.InValue
public import proofs.«01_k».proof.Proof.InRef
public import Idealize.ShloMosaic.Lib.Claim
public import Idealize.ShloMosaic.Adequacy
public import Idealize.ShloMosaic.Init

@[expose] public section
set_option maxRecDepth 16384
noncomputable section
open Idealize.ShloMosaic Idealize.SL.Sem

namespace Cert.InMath

/-- The kernel runs, leaves its arguments and ends quiescent. -/
theorem frame_kernel : Cert.quiescent_In := fun m ρ _ => Cert.In.Hand.frame m ρ
/-- So does the idealized kernel. -/
theorem frame_ideal : Cert.quiescent_InIdeal := fun m ρ _ => Cert.InIdeal.Hand.frame m ρ
/-- So does the reference. -/
theorem frame_ref : Cert.quiescent_RefInIdeal := fun m ρ _ =>
  (θ_run Cert.RefInIdeal.defs _ _).mono (fun r h => ⟨fun c => (h c).2.2, sem_eq_zero_of_no_sems (by decide) r.2⟩) (Cert.RefInIdeal.Value.run m ρ)
/-- No rewrite of the kernel asks anything. -/
theorem preserves : Cert.preserves_In_InIdeal := trivial
/-- The idealized kernel's two arrays are the reference's. -/
theorem algebraic : Cert.algebraic_InIdeal_RefInIdeal := by
  pair_intro
  · run_from Cert.InIdeal.Hand.run_main m g
  · run_from run_ref m' g'
    · funext i
      obtain ⟨r, j, rfl⟩ : ∃ (r : Fin 8192) (j : Fin 1536), i = ix2 r j := ⟨i 0, i 1, eq_ix2 i⟩
      rw [final4 m c]
      refine (refF_at _ _ _ _ r j).trans ?_
      obtain ⟨h0, h1, h2, h3⟩ := hagree c
      rw [h0, h1, h2, h3]
      rfl
    · funext i
      obtain ⟨r, j, rfl⟩ : ∃ (r : Fin 8192) (j : Fin 7168), i = ix2 r j := ⟨i 0, i 1, eq_ix2 i⟩
      rw [final5 m c]
      refine (refB_at _ _ _ _ r j).trans ?_
      obtain ⟨h0, h1, h2, h3⟩ := hagree c
      rw [h0, h1, h2, h3]
      rfl
end Cert.InMath
-- ==== Proof.OutValue.lean ====
/- The idealized kernel's result array: at every index what `OutMath.outAt` says. One grid point computes 256 rows. -/
module

public import proofs.«01_k».proof.Proof.Gen.OutIdeal.Value
public import proofs.«01_k».proof.Proof.OutSpec

@[expose] public section
set_option maxRecDepth 16384
set_option maxHeartbeats 2000000
noncomputable section
open Idealize.ShloMosaic Idealize.ShloMosaic.TcCoe Idealize.SL.Sem
open Idealize.ShloMosaic.Pipeline (Dat)
namespace Cert.OutMath
open Cert.OutIdeal Cert.OutIdeal.Gen

/-- The body's store at row `r`, column `d` of its block, over the blocks it loads. -/
theorem body_at (x0 : Vec Ideal S256x512 .f32) (x1 : Vec Ideal S256x1536 .bf16) (x2 x3 x4 x5 x6 x7 : Vec Ideal S256x512 .bf16)
    (x8 : Vec Ideal S1x2560 .f32) (x9 : Vec Ideal S1x2560x2048 .f32) (x10 : Vec Ideal S256x2048 .f32) (x11 : Vec Ideal S1x2048 .f32) (r : Fin 256) (d : Fin 2048) :
    k0_pay1
      (k0_pay6
        (k0_pay5
          (k0_pay2 x10 x0 x3 (View.ld x8 r0_2) (View.ld x9 r0_3))
          (k0_pay3 (View.ld x1 r0_4) x4) (k0_pay4 (View.ld x1 r0_4) x4)
          (View.ld x8 r0_5) (View.ld x9 r0_6) x2 x5 (View.ld x8 r0_7) (View.ld x9 r0_8))
        (View.ld x1 r0_9) x6 (View.ld x8 r0_10) (View.ld x9 r0_11))
      (k0_pay7 (View.ld x1 r0_12) x7) (View.ld x8 r0_13) (View.ld x9 r0_14) x11 (ix2 r d)
    = rowOut (accAt (fun d => x10 (ix2 r d))
        (fun b k => match b with
          | 0 => x0 (ix2 r k) * x3 (ix2 r k)
          | 1 => x1 (ix2 r ⟨k, by omega⟩) * x4 (ix2 r k)
          | 2 => x2 (ix2 r k) * x5 (ix2 r k)
          | 3 => x1 (ix2 r ⟨512 + k, by omega⟩) * x6 (ix2 r k)
          | 4 => x1 (ix2 r ⟨1024 + k, by omega⟩) * x7 (ix2 r k))
        (fun b k => x8 (ix2 0 ⟨b * 512 + k, by omega⟩)) (fun b k d => x9 (ix3 0 ⟨b * 512 + k, by omega⟩ d)))
        (fun d => x11 (ix2 0 d)) d := by
  pointwise [k0_pay1, k0_pay2, k0_pay3, k0_pay4, k0_pay5, k0_pay6, k0_pay7, r0_2, r0_3, r0_4, r0_5, r0_6, r0_7, r0_8, r0_9, r0_10, r0_11, r0_12, r0_13, r0_14]
  simp only [rowOut, accAt, normed, invRms, Fin.val_zero, mul_zero, zero_add, Nat.zero_add]
  rfl

variable (m : (ℓ : Loc nD τ sig) → Buf (Elt Ideal) ℓ)

/-- The windows' block indices at grid point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 3]
  ∧ win0_5.index t = ![t.val, 7] ∧ win0_6.index t = ![t.val, 11] ∧ win0_7.index t = ![t.val, 13] ∧ win0_8.index t = ![0, 0] ∧ win0_9.index t = ![1, 0, 0] ∧ win0_10.index t = ![t.val, 0] ∧ win0_11.index t = ![0, 0]  ∧ win0_12.index t = ![t.val, 0] ∧ t.val < 32 :=
  (by decide +kernel : ∀ t : Fin grid0.N, _)

/-- The array the run leaves, as one function of the arguments. -/
def OUT (c : Dev nD) : FVec Ideal ⟨2, ![8192, 2048]⟩ .f32 := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (i 0) (i 1)

/-- The result array of the run. -/
theorem final (c : Dev nD) : (dats m 0 c).arrAt 12 (cfgs 0).N = OUT m c := by
  refine (dats m 0 c).arrAt_eq_of_covers 12 _ (by decide +kernel) fun t _ y => ?_
  blk_simp
  rw [after0_12]; frame_out
  obtain ⟨r, d, rfl⟩ : ∃ (r : Fin 256) (d : Fin 2048), y = ix2 r d := ⟨y 0, y 1, eq_ix2 y⟩
  refine (body_at _ _ _ _ _ _ _ _ _ _ _ _ r d).trans ?_
  unfold OUT outAt accRow
  have ht : t.val < 32 := (idx t).2.2.2.2.2.2.2.2.2.2.2.2.2
  obtain ⟨R, hR⟩ : ∃ R : Fin 8192, (R : ℕ) = t.val * 256 + r := ⟨⟨t.val * 256 + r, by omega⟩, rfl⟩
  have e : (((View.whole main_v2).slice (win0_12.rect t)).emb (ix2 r d)) = ix2 R d := by blk_ext [idx t]
  rw [e]
  have h0 : ∀ k : Fin 512, iblk m c 0 t (ix2 r k) = m ((c : Thread nD τ).loc main_arg0) (ix2 R k) := fun k => by blk_ext [iblk, V, idx t]
  have h1 : ∀ k : Fin 1536, iblk m c 1 t (ix2 r k) = m ((c : Thread nD τ).loc main_arg1) (ix2 R k) := fun k => by blk_ext [iblk, V, idx t]
  have h2 : ∀ k : Fin 512, iblk m c 2 t (ix2 r k) = m ((c : Thread nD τ).loc main_arg2) (ix2 R k) := fun k => by blk_ext [iblk, V, idx t]
  have h3 : ∀ k : Fin 512, iblk m c 3 t (ix2 r k) = m ((c : Thread nD τ).loc main_arg3) (ix2 R ⟨k, by omega⟩) := fun k => by blk_ext [iblk, V, idx t]
  have h4 : ∀ k : Fin 512, iblk m c 4 t (ix2 r k) = m ((c : Thread nD τ).loc main_arg3) (ix2 R ⟨1536 + k, by omega⟩) := fun k => by blk_ext [iblk, V, idx t]
  have h5 : ∀ k : Fin 512, iblk m c 5 t (ix2 r k) = m ((c : Thread nD τ).loc main_arg3) (ix2 R ⟨3584 + k, by omega⟩) := fun k => by blk_ext [iblk, V, idx t]
  have h6 : ∀ k : Fin 512, iblk m c 6 t (ix2 r k) = m ((c : Thread nD τ).loc main_arg3) (ix2 R ⟨5632 + k, by omega⟩) := fun k => by blk_ext [iblk, V, idx t]
  have h7 : ∀ k : Fin 512, iblk m c 7 t (ix2 r k) = m ((c : Thread nD τ).loc main_arg3) (ix2 R ⟨6656 + k, by omega⟩) := fun k => by blk_ext [iblk, V, idx t]
  have h8 : ∀ k : Fin 2560, iblk m c 8 t (ix2 0 k) = m ((c : Thread nD τ).loc main_arg4) (ix1 k) := fun k => by blk_ext! [iblk, V, idx t]
  have h9 : ∀ (k : Fin 2560) (d : Fin 2048), iblk m c 9 t (ix3 0 k d) = m ((c : Thread nD τ).loc main_arg5) (ix3 1 k d) := fun k d => by blk_ext [iblk, V, idx t]
  have h10 : ∀ k : Fin 2048, iblk m c 10 t (ix2 r k) = m ((c : Thread nD τ).loc main_arg6) (ix2 R k) := fun k => by blk_ext [iblk, V, idx t]
  have h11 : ∀ k : Fin 2048, iblk m c 11 t (ix2 0 k) = m ((c : Thread nD τ).loc main_arg7) (ix1 k) := fun k => by blk_ext! [iblk, V, idx t]
  refine rowOut_congr (fun d => accAt_congr (fun d => h10 d) (fun b k => ?_) (fun b k => h8 _) (fun b k d => h9 _ _) d) (fun d => h11 d) d
  rcases b with ⟨b, hb⟩
  interval_cases b
  · exact congrArg₂ (· * ·) (h0 k) (h3 k)
  · exact congrArg₂ (· * ·) (h1 _) (h4 k)
  · exact congrArg₂ (· * ·) (h2 k) (h5 k)
  · exact congrArg₂ (· * ·) (h1 _) (h6 k)
  · exact congrArg₂ (· * ·) (h1 _) (h7 k)
end Cert.OutMath
-- ==== Proof.OutRef.lean ====
module

public import proofs.«01_k».proof.Proof.Gen.RefOutIdeal.Run
public import proofs.«01_k».proof.Proof.OutSpec

@[expose] public section
set_option maxRecDepth 16384
noncomputable section
open Idealize.ShloMosaic Idealize.ShloMosaic.TcCoe Idealize.SL.Sem

namespace Cert.OutMath
open Cert.RefOutIdeal Cert.RefOutIdeal.Gen

/-- The reference's gated branch outputs, side by side. -/
def refY (ya : FVec Ideal S8192x512 .f32) (yl : FVec Ideal S8192x1536 .bf16) (yc : FVec Ideal S8192x512 .bf16) (proj : FVec Ideal S8192x7168 .bf16) : FVec Ideal S8192x2560 .f32 :=
  concatenate S8192x2560 1
    [⟨S8192x512, mulf ya (extractStridedSlice S8192x512 ![0, 0] (extf .f32 proj bitsLt_bf16_f32) slices_S8192x7168_S8192x512_0_0)⟩,
     ⟨S8192x512, mulf (extractStridedSlice S8192x512 ![0, 0] (extf .f32 yl bitsLt_bf16_f32) slices_S8192x1536_S8192x512_0_0) (extractStridedSlice S8192x512 ![0, 1536] (extf .f32 proj bitsLt_bf16_f32) slices_S8192x7168_S8192x512_0_1536)⟩,
     ⟨S8192x512, mulf (extf .f32 yc bitsLt_bf16_f32) (extractStridedSlice S8192x512 ![0, 3584] (extf .f32 proj bitsLt_bf16_f32) slices_S8192x7168_S8192x512_0_3584)⟩,
     ⟨S8192x512, mulf (extractStridedSlice S8192x512 ![0, 512] (extf .f32 yl bitsLt_bf16_f32) slices_S8192x1536_S8192x512_0_512) (extractStridedSlice S8192x512 ![0, 5632] (extf .f32 proj bitsLt_bf16_f32) slices_S8192x7168_S8192x512_0_5632)⟩,
     ⟨S8192x512, mulf (extractStridedSlice S8192x512 ![0, 1024] (extf .f32 yl bitsLt_bf16_f32) slices_S8192x1536_S8192x512_0_1024) (extractStridedSlice S8192x512 ![0, 6656] (extf .f32 proj bitsLt_bf16_f32) slices_S8192x7168_S8192x512_0_6656)⟩]
    concatenates_S8192x512_S8192x512_S8192x512_S8192x512_S8192x512_S8192x2560_d1

/-- The reference's normed and weighted branches. -/
def refN (Y : FVec Ideal S8192x2560 .f32) (ng : FVec Ideal S2560 .f32) : FVec Ideal S8192x2560 .f32 :=
  shapeCast S8192x2560 (mulf (mulf (shapeCast S8192x5x512 Y shapeCasts_S8192x2560_S8192x5x512)
    (broadcastInDim S8192x5x512 ![0, 1, 2] bcast_S8192x5x1_S8192x5x512_0_1_2 (Host.rsqrt (addf (Host.divf (broadcastInDim S8192x5x1 ![0, 1] bcast_S8192x5_S8192x5x1_0_1
      (Host.reduceAdd (mulf (shapeCast S8192x5x512 Y shapeCasts_S8192x2560_S8192x5x512) (shapeCast S8192x5x512 Y shapeCasts_S8192x2560_S8192x5x512)) (constant S_ .f32 0x00000000#32) reducesTo_S8192x5x512_S8192x5_d2 h_S_))
      (broadcastInDim S8192x5x1 ![] bcast_S_S8192x5x1 (constant S_ .f32 0x44000000#32))) (broadcastInDim S8192x5x1 ![] bcast_S_S8192x5x1 (constant S_ .f32 0x358637BD#32))))))
    (broadcastInDim S8192x5x512 ![0, 1, 2] bcast_S1x5x512_S8192x5x512_0_1_2 (broadcastInDim S1x5x512 ![1, 2] bcast_S5x512_S1x5x512_1_2 (shapeCast S5x512 ng shapeCasts_S2560_S5x512)))) shapeCasts_S8192x5x512_S8192x2560

/-- The reference's residual stream after the projection. -/
def refA (x : FVec Ideal S8192x2048 .f32) (N : FVec Ideal S8192x2560 .f32) (w : FVec Ideal S2x2560x2048 .f32) : FVec Ideal S8192x2048 .f32 :=
  addf x (Host.dotGeneral dot_S8192x2560_S2560x2048_S8192x2048_1_0_0_1_n_n none N (shapeCast S2560x2048 (extractStridedSlice S1x2560x2048 ![1, 0, 0] w slices_S2x2560x2048_S1x2560x2048_1_0_0) shapeCasts_S1x2560x2048_S2560x2048))

/-- The reference's final norm. -/
def refO (A : FVec Ideal S8192x2048 .f32) (pg : FVec Ideal S2048 .f32) : FVec Ideal S8192x2048 .f32 :=
  mulf (mulf A (broadcastInDim S8192x2048 ![0, 1] bcast_S8192x1_S8192x2048_0_1 (Host.rsqrt (addf (Host.divf (broadcastInDim S8192x1 ![0] bcast_S8192_S8192x1_0 (Host.reduceAdd (mulf A A) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 pg))

/-- A sum over 2560 columns is the five blocks' sums. -/
theorem sum_blocks (f : Fin 2560 → EReal) : ∑ k, f k
    = ∑ b : Fin 5, ∑ k : Fin 512, f ⟨b * 512 + k, by omega⟩ := by
  rw [← Fintype.sum_prod_type']
  refine (Fintype.sum_equiv (finProdFinEquiv (m := 5) (n := 512)) _ _ fun p => congrArg f (Fin.ext ?_)).symm
  show (p.1 : ℕ) * 512 + p.2 = p.2 + 512 * p.1
  omega

variable (m : (ℓ : Loc nD τ sig) → Buf (Elt Ideal) ℓ)

/-- The reference's result is the four stages in turn. -/
theorem res_eq (c : Dev nD) : Cert.RefOutIdeal.Value.res_main_v58 m c
    = refO (refA (m ((c.tc : Thread nD τ).loc main_arg6)) (refN (refY (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5))) (m ((c.tc : Thread nD τ).loc main_arg7)) := rfl

/-- The final norm, entry by entry. -/
theorem refO_at (A : FVec Ideal S8192x2048 .f32) (pg : FVec Ideal S2048 .f32) (r : Fin 8192) (d : Fin 2048) :
    refO A pg (ix2 r d) = rowOut (fun d => A (ix2 r d)) (fun d => pg (ix1 d)) d := by
  pointwise [refO]
  rfl

/-- The projection, entry by entry. -/
theorem refA_at (x : FVec Ideal S8192x2048 .f32) (N : FVec Ideal S8192x2560 .f32) (w : FVec Ideal S2x2560x2048 .f32) (r : Fin 8192) (d : Fin 2048) :
    refA x N w (ix2 r d) = x (ix2 r d) + ∑ k, N (ix2 r k) * w (ix3 1 k d) := by
  pointwise [refA]

/-- The branch norm, entry by entry. -/
theorem refN_at (Y : FVec Ideal S8192x2560 .f32) (ng : FVec Ideal S2560 .f32) (r : Fin 8192) (b : Fin 5) (k : Fin 512) :
    refN Y ng (ix2 r ⟨b * 512 + k, by omega⟩) = normed (fun k => Y (ix2 r ⟨b * 512 + k, by omega⟩)) (gain ng b) k := by
  pointwise [refN]
  rfl

/-- The gated branches, entry by entry. -/
theorem refY_at (ya : FVec Ideal S8192x512 .f32) (yl : FVec Ideal S8192x1536 .bf16) (yc : FVec Ideal S8192x512 .bf16) (proj : FVec Ideal S8192x7168 .bf16) (r : Fin 8192) (b : Fin 5) (k : Fin 512) :
    refY ya yl yc proj (ix2 r ⟨b * 512 + k, by omega⟩) = gated ya yl yc proj r b k := by
  rcases b with ⟨b, hb⟩
  interval_cases b <;> pointwise [refY]
  · rfl
  · rfl
  · rw [dif_neg (by omega), dif_neg (by omega), dif_pos (by omega)]
    refine congrArg₂ (· * ·) (congrArg yc (congrArg (ix2 r) (Fin.ext ?_))) (congrArg proj (congrArg (ix2 r) (Fin.ext ?_))) <;> simp only [] <;> omega
  · rw [dif_neg (by omega), dif_neg (by omega), dif_neg (by omega), dif_pos (by omega)]
    refine congrArg₂ (· * ·) (congrArg yl (congrArg (ix2 r) (Fin.ext ?_))) (congrArg proj (congrArg (ix2 r) (Fin.ext ?_))) <;> simp only [] <;> omega
  · rw [dif_neg (by omega), dif_neg (by omega), dif_neg (by omega), dif_neg (by omega)]
    refine congrArg₂ (· * ·) (congrArg yl (congrArg (ix2 r) (Fin.ext ?_))) (congrArg proj (congrArg (ix2 r) (Fin.ext ?_))) <;> simp only [] <;> omega

/-- The reference's residual stream is `accRow`. -/
theorem refA_row (ya : FVec Ideal S8192x512 .f32) (yl : FVec Ideal S8192x1536 .bf16) (yc : FVec Ideal S8192x512 .bf16) (proj : FVec Ideal S8192x7168 .bf16)
    (ng : FVec Ideal S2560 .f32) (w : FVec Ideal S2x2560x2048 .f32) (x : FVec Ideal S8192x2048 .f32) (r : Fin 8192) (d : Fin 2048) :
    refA x (refN (refY ya yl yc proj) ng) w (ix2 r d) = accRow ya yl yc proj ng w x r d := by
  have h : ∀ (b : Fin 5) (k : Fin 512), refN (refY ya yl yc proj) ng (ix2 r ⟨b * 512 + k, by omega⟩) * w (ix3 1 ⟨b * 512 + k, by omega⟩ d)
      = normed (gated ya yl yc proj r b) (gain ng b) k * weight w b k d := fun b k => by
    rw [refN_at, funext fun k => refY_at ya yl yc proj r b k]; rfl
  rw [refA_at, sum_blocks (fun k => refN (refY ya yl yc proj) ng (ix2 r k) * w (ix3 1 k d)),
    Finset.sum_congr rfl fun b _ => Finset.sum_congr rfl fun k _ => h b k, Fin.sum_univ_five]
  simp only [accRow, accAt, add_assoc]

/-- The reference's result, entry by entry. -/
theorem res_at (c : Dev nD) (r : Fin 8192) (d : Fin 2048) : Cert.RefOutIdeal.Value.res_main_v58 m c (ix2 r d)
    = outAt (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) r d := by
  rw [res_eq]
  refine (refO_at _ _ r d).trans ?_
  rw [funext fun d => refA_row _ _ _ _ _ _ _ r d]
  rfl
end Cert.OutMath
-- ==== Proof.OutClaim.lean ====
/- The claims about the output projection: the frames, and that the idealized kernel's array is the reference's. -/
module

public import proofs.«01_k».proof.Defs
public import proofs.«01_k».proof.Proof.Gen.Out.Frame
public import proofs.«01_k».proof.Proof.Gen.OutIdeal.Frame
public import proofs.«01_k».proof.Proof.OutValue
public import proofs.«01_k».proof.Proof.OutRef
public import Idealize.ShloMosaic.Lib.Claim
public import Idealize.ShloMosaic.Adequacy
public import Idealize.ShloMosaic.Init

@[expose] public section
set_option maxRecDepth 16384
noncomputable section
open Idealize.ShloMosaic Idealize.SL.Sem

namespace Cert.OutMath

/-- The kernel runs, leaves its arguments and ends quiescent. -/
theorem frame_kernel : Cert.quiescent_Out := fun m ρ _ => Cert.Out.Gen.frame m ρ
/-- So does the idealized kernel. -/
theorem frame_ideal : Cert.quiescent_OutIdeal := fun m ρ _ => Cert.OutIdeal.Gen.frame m ρ
/-- So does the reference. -/
theorem frame_ref : Cert.quiescent_RefOutIdeal := fun m ρ _ =>
  (θ_run Cert.RefOutIdeal.defs _ _).mono (fun r h => ⟨fun c => (h c).2, sem_eq_zero_of_no_sems (by decide) r.2⟩) (Cert.RefOutIdeal.Value.run m ρ)
/-- No rewrite of the kernel asks anything. -/
theorem preserves : Cert.preserves_Out_OutIdeal := trivial
/-- The idealized kernel's array is the reference's. -/
theorem algebraic : Cert.algebraic_OutIdeal_RefOutIdeal := by
  pair_intro
  · run_from Cert.OutIdeal.Gen.run_main m g
  · run_from Cert.RefOutIdeal.Value.run m' g'
    funext i
    obtain ⟨r, d, rfl⟩ : ∃ (r : Fin 8192) (d : Fin 2048), i = ix2 r d := ⟨i 0, i 1, eq_ix2 i⟩
    rw [final m c]
    refine (res_at m' c r d).trans ?_
    obtain ⟨h0, h1, h2, h3, h4, h5, h6, h7⟩ := hagree c
    rw [h0, h1, h2, h3, h4, h5, h6, h7]
    rfl
end Cert.OutMath
-- ==== Proof.lean ====
/- The certificate: the claims about the seven kernels, put together. -/
module

public import proofs.«01_k».proof.Defs
public import proofs.«01_k».proof.Proof.Gen.Local
public import proofs.«01_k».proof.Proof.Gen.LocalIdeal
public import proofs.«01_k».proof.Proof.Gen.RefLocalIdeal
public import proofs.«01_k».proof.Proof.Gen.In
public import proofs.«01_k».proof.Proof.Gen.InIdeal
public import proofs.«01_k».proof.Proof.Gen.RefInIdeal
public import proofs.«01_k».proof.Proof.Gen.Out
public import proofs.«01_k».proof.Proof.Gen.OutIdeal
public import proofs.«01_k».proof.Proof.Gen.RefOutIdeal
public import proofs.«01_k».proof.Proof.Gen.LocalIdeal.Value
public import proofs.«01_k».proof.Proof.Gen.OutIdeal.Value
public import proofs.«01_k».proof.Proof.Gen.RefLocalIdeal.Run
public import proofs.«01_k».proof.Proof.Gen.RefInIdeal.Run
public import proofs.«01_k».proof.Proof.Gen.RefOutIdeal.Run
public import proofs.«01_k».proof.Proof.Gen.Pre_finite_scores
public import proofs.«01_k».proof.Proof.Gen.Pre_finite_proj
public import proofs.«01_k».proof.Proof.Gen.Mid
public import proofs.«01_k».proof.Proof.Gen.MidIdeal
public import proofs.«01_k».proof.Proof.Gen.RefMidIdeal
public import proofs.«01_k».proof.Proof.Gen.MidIdeal.Value
public import proofs.«01_k».proof.Proof.Gen.RefMidIdeal.Run
public import proofs.«01_k».proof.Proof.Gen.Norm
public import proofs.«01_k».proof.Proof.Gen.NormIdeal
public import proofs.«01_k».proof.Proof.Gen.RefNormIdeal
public import proofs.«01_k».proof.Proof.Gen.NormIdeal.Value
public import proofs.«01_k».proof.Proof.Gen.RefNormIdeal.Run
public import proofs.«01_k».proof.Proof.Gen.MemKv
public import proofs.«01_k».proof.Proof.Gen.MemKvIdeal
public import proofs.«01_k».proof.Proof.Gen.RefMemKvIdeal
public import proofs.«01_k».proof.Proof.Gen.MemKvIdeal.Value
public import proofs.«01_k».proof.Proof.Gen.RefMemKvIdeal.Run
public import proofs.«01_k».proof.Proof.Gen.Dil
public import proofs.«01_k».proof.Proof.Gen.DilIdeal
public import proofs.«01_k».proof.Proof.Gen.RefDilIdeal
public import proofs.«01_k».proof.Proof.Gen.RefDilIdeal.Run
public import proofs.«01_k».proof.Proof.DilClaim
public import proofs.«01_k».proof.Proof.NormClaim
public import proofs.«01_k».proof.Proof.MemKvClaim
public import proofs.«01_k».proof.Proof.MidClaim
public import proofs.«01_k».proof.Proof.LocalClaim
public import proofs.«01_k».proof.Proof.InClaim
public import proofs.«01_k».proof.Proof.OutClaim

@[expose] public section

noncomputable section

namespace Cert.Proof

/-- Every claim of the certificate. -/
theorem claim : Cert.Claim :=
  ⟨Cert.Norm.Gen.facts, Cert.NormIdeal.Gen.facts, Cert.RefNormIdeal.Gen.facts,
    Cert.MemKv.Gen.facts, Cert.MemKvIdeal.Gen.facts, Cert.RefMemKvIdeal.Gen.facts,
    Cert.In.Gen.facts, Cert.InIdeal.Gen.facts, Cert.RefInIdeal.Gen.facts,
    Cert.Local.Gen.facts, Cert.LocalIdeal.Gen.facts, Cert.RefLocalIdeal.Gen.facts,
    Cert.Mid.Gen.facts, Cert.MidIdeal.Gen.facts, Cert.RefMidIdeal.Gen.facts,
    Cert.Out.Gen.facts, Cert.OutIdeal.Gen.facts, Cert.RefOutIdeal.Gen.facts,
    Cert.Dil.Gen.facts, Cert.DilIdeal.Gen.facts, Cert.RefDilIdeal.Gen.facts, Cert.Pre_finite_scores.Gen.facts, Cert.Pre_finite_proj.Gen.facts,
    NormMath.frame_kernel, NormMath.frame_ideal, NormMath.frame_ref,
    MemKvMath.frame_kernel, MemKvMath.frame_ideal, MemKvMath.frame_ref,
    InMath.frame_kernel, InMath.frame_ideal, InMath.frame_ref,
    LocalMath.frame_kernel, LocalMath.frame_ideal, LocalMath.frame_ideal_pre, LocalMath.frame_ref, LocalMath.frame_ref_pre,
    MidMath.frame_kernel, MidMath.frame_ideal, MidMath.frame_ref,
    OutMath.frame_kernel, OutMath.frame_ideal, OutMath.frame_ref,
    DilMath.frame_kernel, DilMath.frame_ideal, DilMath.frame_ideal_pre, DilMath.frame_ref, DilMath.frame_ref_pre,
    NormMath.preserves, NormMath.algebraic,
    MemKvMath.preserves, MemKvMath.algebraic,
    InMath.preserves, InMath.algebraic,
    LocalMath.preserves, LocalMath.algebraic,
    MidMath.preserves, MidMath.algebraic,
    OutMath.preserves, OutMath.algebraic,
    DilMath.preserves, DilMath.algebraic⟩

end Cert.Proof

end
